-- ==== Defs.lean ====
def Pre_Kernel [hPre_indices : Cert.Pre_indices.Facts] (m : (ℓ : Loc Cert.Kernel.nD Cert.Kernel.τ Cert.Kernel.sig) → Buf (Elt Bits) ℓ) : Prop :=
  ∀ c : Dev Cert.Kernel.nD,
    (Cert.Pre_indices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_indices : Cert.Pre_indices.Facts] (m : (ℓ : Loc Cert.KernelIdeal.nD Cert.KernelIdeal.τ Cert.KernelIdeal.sig) → Buf (Elt Ideal) ℓ) : Prop :=
  ∀ c : Dev Cert.KernelIdeal.nD,
    (Cert.Pre_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_indices : Cert.Pre_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_indices : Cert.Pre_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_indices : Cert.Pre_indices.Facts) (hPre_ranges : Cert.Pre_ranges.Facts),
    quiescent_Kernel (hKernel := hKernel) (hPre_indices := hPre_indices)
    ∧ quiescent_KernelIdeal (hKernelIdeal := hKernelIdeal) (hPre_indices := hPre_indices)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_indices.lean ====
abbrev S1024x200 : Shape := ⟨2, ![1024, 200]⟩
abbrev S1024 : Shape := ⟨1, ![1024]⟩
abbrev S100000x128 : Shape := ⟨2, ![100000, 128]⟩
abbrev S6x128 : Shape := ⟨2, ![6, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S1024x200 32) (main_arg1 : IVec S1024x200 32) (main_arg2 : IVec S1024 32) (main_arg3 : FVec F S100000x128 .f32) (main_arg4 : FVec F S100000x128 .f32) (main_arg5 : FVec F S6x128 .f32) (main_arg6 : FVec F S128x256 .f32) (main_arg7 : FVec F S128 .f32) (main_arg8 : FVec F S128x128 .f32) (main_arg9 : FVec F S128 .f32) (main_arg10 : FVec F S128x256 .f32) (main_arg11 : FVec F S128 .f32) (main_arg12 : FVec F S128x256 .f32) (main_arg13 : FVec F S128 .f32) (main_arg14 : FVec F S1x128 .f32) (main_arg15 : FVec F S1 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg2 main_v6
  let main_c_3 : IVec S_ 32 := constantI S_ 32 100000#32
  let main_v8 : IVec S1024 32 := broadcastInDim S1024 ![] bcast_S_S1024 main_c_3
  let main_v9 : IVec S1024 1 := cmpi .slt main_arg2 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  main_v12
-- ==== Pre_ranges.lean ====
abbrev S1024x200 : Shape := ⟨2, ![1024, 200]⟩
abbrev S1024 : Shape := ⟨1, ![1024]⟩
abbrev S100000x128 : Shape := ⟨2, ![100000, 128]⟩
abbrev S6x128 : Shape := ⟨2, ![6, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S1024 : S_.BroadcastsInDim S1024 (![] : Fin 0 → Fin S1024.rank)
  reducesTo_S1024_S_d0 : S1024.ReducesTo [0] S_
  bcast_S_S100000x128 : S_.BroadcastsInDim S100000x128 (![] : Fin 0 → Fin S100000x128.rank)
  reducesTo_S100000x128_S_d0_1 : S100000x128.ReducesTo [0, 1] S_
  bcast_S_S6x128 : S_.BroadcastsInDim S6x128 (![] : Fin 0 → Fin S6x128.rank)
  reducesTo_S6x128_S_d0_1 : S6x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x128 .f32) (main_arg15 : FVec F S1 .f32) (main_v49 : IVec S_ 1) (main_v50 : FVec F S128 .f32) : IVec S_ 1 :=
  let main_cst_19 : FVec F S_ .f32 := constant S_ .f32 0x7F800000#32
  let main_v51 : FVec F S128 .f32 := broadcastInDim S128 ![] bcast_S_S128 main_cst_19
  let main_v52 : IVec S128 1 := cmpf .olt main_v50 main_v51
  let main_c_20 : IVec S_ 1 := constantI S_ 1 1#1
  let main_v53 : IVec S_ 1 := (fun x v => Host.reduce IntOp.andi x v reducesTo_S128_S_d0 h_S_) main_v52 main_c_20
  let main_v54 : IVec S_ 1 := andi main_v49 main_v53
  let main_v55 : FVec F S1x128 .f32 := Host.absf main_arg14
  let main_cst_21 : FVec F S_ .f32 := constant S_ .f32 0x7F800000#32
  let main_v56 : FVec F S1x128 .f32 := broadcastInDim S1x128 ![] bcast_S_S1x128 main_cst_21
  let main_v57 : IVec S1x128 1 := cmpf .olt main_v55 main_v56
  let main_c_22 : IVec S_ 1 := constantI S_ 1 1#1
  let main_v58 : IVec S_ 1 := (fun x v => Host.reduce IntOp.andi x v reducesTo_S1x128_S_d0_1 h_S_) main_v57 main_c_22
  let main_v59 : IVec S_ 1 := andi main_v54 main_v58
  let main_v60 : FVec F S1 .f32 := Host.absf main_arg15
  let main_cst_23 : FVec F S_ .f32 := constant S_ .f32 0x7F800000#32
  let main_v61 : FVec F S1 .f32 := broadcastInDim S1 ![] bcast_S_S1 main_cst_23
  let main_v62 : IVec S1 1 := cmpf .olt main_v60 main_v61
  let main_c_24 : IVec S_ 1 := constantI S_ 1 1#1
  let main_v63 : IVec S_ 1 := (fun x v => Host.reduce IntOp.andi x v reducesTo_S1_S_d0 h_S_) main_v62 main_c_24
  let main_v64 : IVec S_ 1 := andi main_v59 main_v63
  main_v64

def fn_part2 {F : FTy → Type} [FloatOps F] (main_arg6 : FVec F S128x256 .f32) (main_arg7 : FVec F S128 .f32) (main_arg12 : FVec F S128x256 .f32) (main_arg13 : FVec F S128 .f32) (main_arg14 : FVec F S1x128 .f32) (main_arg15 : FVec F S1 .f32) (main_v29 : IVec S_ 1) (main_v32 : IVec S6x128 1) (main_c_12 : IVec S_ 1) : IVec S_ 1 :=
  let main_v33 : IVec S_ 1 := (fun x v => Host.reduce IntOp.andi x v reducesTo_S6x128_S_d0_1 h_S_) main_v32 main_c_12
  let main_v34 : IVec S_ 1 := andi main_v29 main_v33
  let main_v35 : FVec F S128x256 .f32 := Host.absf main_arg6
  let main_cst_13 : FVec F S_ .f32 := constant S_ .f32 0x7F800000#32
  let main_v36 : FVec F S128x256 .f32 := broadcastInDim S128x256 ![] bcast_S_S128x256 main_cst_13
  let main_v37 : IVec S128x256 1 := cmpf .olt main_v35 main_v36
  let main_c_14 : IVec S_ 1 := constantI S_ 1 1#1
  let main_v38 : IVec S_ 1 := (fun x v => Host.reduce IntOp.andi x v reducesTo_S128x256_S_d0_1 h_S_) main_v37 main_c_14
  let main_v39 : IVec S_ 1 := andi main_v34 main_v38
  let main_v40 : FVec F S128 .f32 := Host.absf main_arg7
  let main_cst_15 : FVec F S_ .f32 := constant S_ .f32 0x7F800000#32
  let main_v41 : FVec F S128 .f32 := broadcastInDim S128 ![] bcast_S_S128 main_cst_15
  let main_v42 : IVec S128 1 := cmpf .olt main_v40 main_v41
  let main_c_16 : IVec S_ 1 := constantI S_ 1 1#1
  let main_v43 : IVec S_ 1 := (fun x v => Host.reduce IntOp.andi x v reducesTo_S128_S_d0 h_S_) main_v42 main_c_16
  let main_v44 : IVec S_ 1 := andi main_v39 main_v43
  let main_v45 : FVec F S128x256 .f32 := Host.absf main_arg12
  let main_cst_17 : FVec F S_ .f32 := constant S_ .f32 0x7F800000#32
  let main_v46 : FVec F S128x256 .f32 := broadcastInDim S128x256 ![] bcast_S_S128x256 main_cst_17
  let main_v47 : IVec S128x256 1 := cmpf .olt main_v45 main_v46
  let main_c_18 : IVec S_ 1 := constantI S_ 1 1#1
  let main_v48 : IVec S_ 1 := (fun x v => Host.reduce IntOp.andi x v reducesTo_S128x256_S_d0_1 h_S_) main_v47 main_c_18
  let main_v49 : IVec S_ 1 := andi main_v44 main_v48
  let main_v50 : FVec F S128 .f32 := Host.absf main_arg13
  fn_part3 (F := F) main_arg14 main_arg15 main_v49 main_v50

def fn_part1 {F : FTy → Type} [FloatOps F] (main_arg2 : IVec S1024 32) (main_arg3 : FVec F S100000x128 .f32) (main_arg4 : FVec F S100000x128 .f32) (main_arg5 : FVec F S6x128 .f32) (main_arg6 : FVec F S128x256 .f32) (main_arg7 : FVec F S128 .f32) (main_arg12 : FVec F S128x256 .f32) (main_arg13 : FVec F S128 .f32) (main_arg14 : FVec F S1x128 .f32) (main_arg15 : FVec F S1 .f32) (main_v12 : IVec S_ 1) (main_v14 : IVec S1024 1) (main_v15 : IVec S1024 32) : IVec S_ 1 :=
  let main_v16 : IVec S1024 1 := cmpi .slt main_arg2 main_v15
  let main_v17 : IVec S1024 1 := andi main_v14 main_v16
  let main_c_7 : IVec S_ 1 := constantI S_ 1 1#1
  let main_v18 : IVec S_ 1 := (fun x v => Host.reduce IntOp.andi x v reducesTo_S1024_S_d0 h_S_) main_v17 main_c_7
  let main_v19 : IVec S_ 1 := andi main_v12 main_v18
  let main_v20 : FVec F S100000x128 .f32 := Host.absf main_arg3
  let main_cst : FVec F S_ .f32 := constant S_ .f32 0x7F800000#32
  let main_v21 : FVec F S100000x128 .f32 := broadcastInDim S100000x128 ![] bcast_S_S100000x128 main_cst
  let main_v22 : IVec S100000x128 1 := cmpf .olt main_v20 main_v21
  let main_c_8 : IVec S_ 1 := constantI S_ 1 1#1
  let main_v23 : IVec S_ 1 := (fun x v => Host.reduce IntOp.andi x v reducesTo_S100000x128_S_d0_1 h_S_) main_v22 main_c_8
  let main_v24 : IVec S_ 1 := andi main_v19 main_v23
  let main_v25 : FVec F S100000x128 .f32 := Host.absf main_arg4
  let main_cst_9 : FVec F S_ .f32 := constant S_ .f32 0x7F800000#32
  let main_v26 : FVec F S100000x128 .f32 := broadcastInDim S100000x128 ![] bcast_S_S100000x128 main_cst_9
  let main_v27 : IVec S100000x128 1 := cmpf .olt main_v25 main_v26
  let main_c_10 : IVec S_ 1 := constantI S_ 1 1#1
  let main_v28 : IVec S_ 1 := (fun x v => Host.reduce IntOp.andi x v reducesTo_S100000x128_S_d0_1 h_S_) main_v27 main_c_10
  let main_v29 : IVec S_ 1 := andi main_v24 main_v28
  let main_v30 : FVec F S6x128 .f32 := Host.absf main_arg5
  let main_cst_11 : FVec F S_ .f32 := constant S_ .f32 0x7F800000#32
  let main_v31 : FVec F S6x128 .f32 := broadcastInDim S6x128 ![] bcast_S_S6x128 main_cst_11
  let main_v32 : IVec S6x128 1 := cmpf .olt main_v30 main_v31
  let main_c_12 : IVec S_ 1 := constantI S_ 1 1#1
  fn_part2 (F := F) main_arg6 main_arg7 main_arg12 main_arg13 main_arg14 main_arg15 main_v29 main_v32 main_c_12

def fn {F : FTy → Type} [FloatOps F] (main_arg0 : IVec S1024x200 32) (main_arg1 : IVec S1024x200 32) (main_arg2 : IVec S1024 32) (main_arg3 : FVec F S100000x128 .f32) (main_arg4 : FVec F S100000x128 .f32) (main_arg5 : FVec F S6x128 .f32) (main_arg6 : FVec F S128x256 .f32) (main_arg7 : FVec F S128 .f32) (main_arg8 : FVec F S128x128 .f32) (main_arg9 : FVec F S128 .f32) (main_arg10 : FVec F S128x256 .f32) (main_arg11 : FVec F S128 .f32) (main_arg12 : FVec F S128x256 .f32) (main_arg13 : FVec F S128 .f32) (main_arg14 : FVec F S1x128 .f32) (main_arg15 : FVec F S1 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 6#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_c_5 : IVec S_ 32 := constantI S_ 32 0#32
  let main_v13 : IVec S1024 32 := broadcastInDim S1024 ![] bcast_S_S1024 main_c_5
  let main_v14 : IVec S1024 1 := cmpi .sge main_arg2 main_v13
  let main_c_6 : IVec S_ 32 := constantI S_ 32 100000#32
  let main_v15 : IVec S1024 32 := broadcastInDim S1024 ![] bcast_S_S1024 main_c_6
  fn_part1 (F := F) main_arg2 main_arg3 main_arg4 main_arg5 main_arg6 main_arg7 main_arg12 main_arg13 main_arg14 main_arg15 main_v12 main_v14 main_v15
-- ==== Kernel.lean ====
abbrev S1024x200 : Shape := ⟨2, ![1024, 200]⟩
abbrev S1024 : Shape := ⟨1, ![1024]⟩
abbrev S100000x128 : Shape := ⟨2, ![100000, 128]⟩
abbrev S6x128 : Shape := ⟨2, ![6, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x204800 : Shape := ⟨2, ![1, 204800]⟩
abbrev S256x200 : Shape := ⟨2, ![256, 200]⟩
abbrev S256 : Shape := ⟨1, ![256]⟩
abbrev S32x25x64 : Shape := ⟨3, ![32, 25, 64]⟩
abbrev S4x1x64 : Shape := ⟨3, ![4, 1, 64]⟩
abbrev S51200x128 : Shape := ⟨2, ![51200, 128]⟩
abbrev S256x128 : Shape := ⟨2, ![256, 128]⟩
abbrev S25x64 : Shape := ⟨2, ![25, 64]⟩
abbrev S64x128 : Shape := ⟨2, ![64, 128]⟩
abbrev S_ : Shape := ⟨0, ![]⟩
abbrev S1x64 : Shape := ⟨2, ![1, 64]⟩
abbrev S1x25x64 : Shape := ⟨3, ![1, 25, 64]⟩
abbrev S1x1x64 : Shape := ⟨3, ![1, 1, 64]⟩
abbrev S64 : Shape := ⟨1, ![64]⟩
abbrev S1x51200 : Shape := ⟨2, ![1, 51200]⟩
abbrev S1x1 : Shape := ⟨2, ![1, 1]⟩
abbrev S12800x128 : Shape := ⟨2, ![12800, 128]⟩
abbrev S1x12800 : Shape := ⟨2, ![1, 12800]⟩
abbrev S2x128 : Shape := ⟨2, ![2, 128]⟩
abbrev S8x128 : Shape := ⟨2, ![8, 128]⟩
abbrev S8x1 : Shape := ⟨2, ![8, 1]⟩
abbrev S8x12800 : Shape := ⟨2, ![8, 12800]⟩
abbrev S64x200x128 : Shape := ⟨3, ![64, 200, 128]⟩
abbrev S64x1x128 : Shape := ⟨3, ![64, 1, 128]⟩
abbrev S1x1x12800 : Shape := ⟨3, ![1, 1, 12800]⟩
abbrev S1x1x1 : Shape := ⟨3, ![1, 1, 1]⟩
abbrev S64x1 : Shape := ⟨2, ![64, 1]⟩
abbrev S64x12800 : Shape := ⟨2, ![64, 12800]⟩
abbrev S1024x128 : Shape := ⟨2, ![1024, 128]⟩

abbrev nBuf : Table → Nat
  | .hbm => 90
  | .local .tc .vmem => 76
  | .local .scVector .vmem => 32
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1024, .i32⟩
  | .hbm, ⟨3, _⟩ => ⟨S100000x128, .f32⟩
  | .hbm, ⟨4, _⟩ => ⟨S100000x128, .f32⟩
  | .hbm, ⟨5, _⟩ => ⟨S6x128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S1x204800, .i32⟩
  | .hbm, ⟨17, _⟩ => ⟨S256x200, .i32⟩
  | .hbm, ⟨18, _⟩ => ⟨S256, .i32⟩
  | .hbm, ⟨19, _⟩ => ⟨S32x25x64, .i32⟩
  | .hbm, ⟨20, _⟩ => ⟨S4x1x64, .i32⟩
  | .hbm, ⟨21, _⟩ => ⟨S51200x128, .f32⟩
  | .hbm, ⟨22, _⟩ => ⟨S256x128, .f32⟩
  | .hbm, ⟨23, _⟩ => ⟨S1x51200, .i32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x1, .f32⟩
  | .hbm, ⟨34, _⟩ => ⟨S256x128, .f32⟩
  | .hbm, ⟨35, _⟩ => ⟨S256x200, .i32⟩
  | .hbm, ⟨36, _⟩ => ⟨S256, .i32⟩
  | .hbm, ⟨37, _⟩ => ⟨S32x25x64, .i32⟩
  | .hbm, ⟨38, _⟩ => ⟨S4x1x64, .i32⟩
  | .hbm, ⟨39, _⟩ => ⟨S51200x128, .f32⟩
  | .hbm, ⟨40, _⟩ => ⟨S256x128, .f32⟩
  | .hbm, ⟨41, _⟩ => ⟨S1x51200, .i32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x1, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x1, .f32⟩
  | .hbm, ⟨52, _⟩ => ⟨S256x128, .f32⟩
  | .hbm, ⟨53, _⟩ => ⟨S256x200, .i32⟩
  | .hbm, ⟨54, _⟩ => ⟨S256, .i32⟩
  | .hbm, ⟨55, _⟩ => ⟨S32x25x64, .i32⟩
  | .hbm, ⟨56, _⟩ => ⟨S4x1x64, .i32⟩
  | .hbm, ⟨57, _⟩ => ⟨S51200x128, .f32⟩
  | .hbm, ⟨58, _⟩ => ⟨S256x128, .f32⟩
  | .hbm, ⟨59, _⟩ => ⟨S1x51200, .i32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x1, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x1, .f32⟩
  | .hbm, ⟨70, _⟩ => ⟨S256x128, .f32⟩
  | .hbm, ⟨71, _⟩ => ⟨S256x200, .i32⟩
  | .hbm, ⟨72, _⟩ => ⟨S256, .i32⟩
  | .hbm, ⟨73, _⟩ => ⟨S32x25x64, .i32⟩
  | .hbm, ⟨74, _⟩ => ⟨S4x1x64, .i32⟩
  | .hbm, ⟨75, _⟩ => ⟨S51200x128, .f32⟩
  | .hbm, ⟨76, _⟩ => ⟨S256x128, .f32⟩
  | .hbm, ⟨77, _⟩ => ⟨S1x51200, .i32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x1, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x1, .f32⟩
  | .hbm, ⟨88, _⟩ => ⟨S256x128, .f32⟩
  | .hbm, ⟨89, _⟩ => ⟨S1024x128, .f32⟩
  | .local .tc .vmem, ⟨0, _⟩ => ⟨S12800x128, .f32⟩
  | .local .tc .vmem, ⟨1, _⟩ => ⟨S12800x128, .f32⟩
  | .local .tc .vmem, ⟨2, _⟩ => ⟨S1x12800, .i32⟩
  | .local .tc .vmem, ⟨3, _⟩ => ⟨S1x12800, .i32⟩
  | .local .tc .vmem, ⟨4, _⟩ => ⟨S64x128, .f32⟩
  | .local .tc .vmem, ⟨5, _⟩ => ⟨S64x128, .f32⟩
  | .local .tc .vmem, ⟨6, _⟩ => ⟨S128x256, .f32⟩
  | .local .tc .vmem, ⟨7, _⟩ => ⟨S1x128, .f32⟩
  | .local .tc .vmem, ⟨8, _⟩ => ⟨S128x128, .f32⟩
  | .local .tc .vmem, ⟨9, _⟩ => ⟨S1x128, .f32⟩
  | .local .tc .vmem, ⟨10, _⟩ => ⟨S128x256, .f32⟩
  | .local .tc .vmem, ⟨11, _⟩ => ⟨S1x128, .f32⟩
  | .local .tc .vmem, ⟨12, _⟩ => ⟨S128x256, .f32⟩
  | .local .tc .vmem, ⟨13, _⟩ => ⟨S1x128, .f32⟩
  | .local .tc .vmem, ⟨14, _⟩ => ⟨S1x128, .f32⟩
  | .local .tc .vmem, ⟨15, _⟩ => ⟨S1x1, .f32⟩
  | .local .tc .vmem, ⟨16, _⟩ => ⟨S6x128, .f32⟩
  | .local .tc .vmem, ⟨17, _⟩ => ⟨S64x128, .f32⟩
  | .local .tc .vmem, ⟨18, _⟩ => ⟨S64x128, .f32⟩
  | .local .tc .vmem, ⟨19, _⟩ => ⟨S12800x128, .f32⟩
  | .local .tc .vmem, ⟨20, _⟩ => ⟨S12800x128, .f32⟩
  | .local .tc .vmem, ⟨21, _⟩ => ⟨S1x12800, .i32⟩
  | .local .tc .vmem, ⟨22, _⟩ => ⟨S1x12800, .i32⟩
  | .local .tc .vmem, ⟨23, _⟩ => ⟨S64x128, .f32⟩
  | .local .tc .vmem, ⟨24, _⟩ => ⟨S64x128, .f32⟩
  | .local .tc .vmem, ⟨25, _⟩ => ⟨S128x256, .f32⟩
  | .local .tc .vmem, ⟨26, _⟩ => ⟨S1x128, .f32⟩
  | .local .tc .vmem, ⟨27, _⟩ => ⟨S128x128, .f32⟩
  | .local .tc .vmem, ⟨28, _⟩ => ⟨S1x128, .f32⟩
  | .local .tc .vmem, ⟨29, _⟩ => ⟨S128x256, .f32⟩
  | .local .tc .vmem, ⟨30, _⟩ => ⟨S1x128, .f32⟩
  | .local .tc .vmem, ⟨31, _⟩ => ⟨S128x256, .f32⟩
  | .local .tc .vmem, ⟨32, _⟩ => ⟨S1x128, .f32⟩
  | .local .tc .vmem, ⟨33, _⟩ => ⟨S1x128, .f32⟩
  | .local .tc .vmem, ⟨34, _⟩ => ⟨S1x1, .f32⟩
  | .local .tc .vmem, ⟨35, _⟩ => ⟨S6x128, .f32⟩
  | .local .tc .vmem, ⟨36, _⟩ => ⟨S64x128, .f32⟩
  | .local .tc .vmem, ⟨37, _⟩ => ⟨S64x128, .f32⟩
  | .local .tc .vmem, ⟨38, _⟩ => ⟨S12800x128, .f32⟩
  | .local .tc .vmem, ⟨39, _⟩ => ⟨S12800x128, .f32⟩
  | .local .tc .vmem, ⟨40, _⟩ => ⟨S1x12800, .i32⟩
  | .local .tc .vmem, ⟨41, _⟩ => ⟨S1x12800, .i32⟩
  | .local .tc .vmem, ⟨42, _⟩ => ⟨S64x128, .f32⟩
  | .local .tc .vmem, ⟨43, _⟩ => ⟨S64x128, .f32⟩
  | .local .tc .vmem, ⟨44, _⟩ => ⟨S128x256, .f32⟩
  | .local .tc .vmem, ⟨45, _⟩ => ⟨S1x128, .f32⟩
  | .local .tc .vmem, ⟨46, _⟩ => ⟨S128x128, .f32⟩
  | .local .tc .vmem, ⟨47, _⟩ => ⟨S1x128, .f32⟩
  | .local .tc .vmem, ⟨48, _⟩ => ⟨S128x256, .f32⟩
  | .local .tc .vmem, ⟨49, _⟩ => ⟨S1x128, .f32⟩
  | .local .tc .vmem, ⟨50, _⟩ => ⟨S128x256, .f32⟩
  | .local .tc .vmem, ⟨51, _⟩ => ⟨S1x128, .f32⟩
  | .local .tc .vmem, ⟨52, _⟩ => ⟨S1x128, .f32⟩
  | .local .tc .vmem, ⟨53, _⟩ => ⟨S1x1, .f32⟩
  | .local .tc .vmem, ⟨54, _⟩ => ⟨S6x128, .f32⟩
  | .local .tc .vmem, ⟨55, _⟩ => ⟨S64x128, .f32⟩
  | .local .tc .vmem, ⟨56, _⟩ => ⟨S64x128, .f32⟩
  | .local .tc .vmem, ⟨57, _⟩ => ⟨S12800x128, .f32⟩
  | .local .tc .vmem, ⟨58, _⟩ => ⟨S12800x128, .f32⟩
  | .local .tc .vmem, ⟨59, _⟩ => ⟨S1x12800, .i32⟩
  | .local .tc .vmem, ⟨60, _⟩ => ⟨S1x12800, .i32⟩
  | .local .tc .vmem, ⟨61, _⟩ => ⟨S64x128, .f32⟩
  | .local .tc .vmem, ⟨62, _⟩ => ⟨S64x128, .f32⟩
  | .local .tc .vmem, ⟨63, _⟩ => ⟨S128x256, .f32⟩
  | .local .tc .vmem, ⟨64, _⟩ => ⟨S1x128, .f32⟩
  | .local .tc .vmem, ⟨65, _⟩ => ⟨S128x128, .f32⟩
  | .local .tc .vmem, ⟨66, _⟩ => ⟨S1x128, .f32⟩
  | .local .tc .vmem, ⟨67, _⟩ => ⟨S128x256, .f32⟩
  | .local .tc .vmem, ⟨68, _⟩ => ⟨S1x128, .f32⟩
  | .local .tc .vmem, ⟨69, _⟩ => ⟨S128x256, .f32⟩
  | .local .tc .vmem, ⟨70, _⟩ => ⟨S1x128, .f32⟩
  | .local .tc .vmem, ⟨71, _⟩ => ⟨S1x128, .f32⟩
  | .local .tc .vmem, ⟨72, _⟩ => ⟨S1x1, .f32⟩
  | .local .tc .vmem, ⟨73, _⟩ => ⟨S6x128, .f32⟩
  | .local .tc .vmem, ⟨74, _⟩ => ⟨S64x128, .f32⟩
  | .local .tc .vmem, ⟨75, _⟩ => ⟨S64x128, .f32⟩
  | .local .scVector .vmem, ⟨0, _⟩ => ⟨S25x64, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S1x64, .i32⟩
  | .local .scVector .vmem, ⟨7, _⟩ => ⟨S64x128, .f32⟩
  | .local .scVector .vmem, ⟨8, _⟩ => ⟨S25x64, .i32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S64x128, .f32⟩
  | .local .scVector .vmem, ⟨13, _⟩ => ⟨S64x128, .f32⟩
  | .local .scVector .vmem, ⟨14, _⟩ => ⟨S1x64, .i32⟩
  | .local .scVector .vmem, ⟨15, _⟩ => ⟨S64x128, .f32⟩
  | .local .scVector .vmem, ⟨16, _⟩ => ⟨S25x64, .i32⟩
  | .local .scVector .vmem, ⟨17, _⟩ => ⟨S64x128, .f32⟩
  | .local .scVector .vmem, ⟨18, _⟩ => ⟨S64x128, .f32⟩
  | .local .scVector .vmem, ⟨19, _⟩ => ⟨S64x128, .f32⟩
  | .local .scVector .vmem, ⟨20, _⟩ => ⟨S64x128, .f32⟩
  | .local .scVector .vmem, ⟨21, _⟩ => ⟨S64x128, .f32⟩
  | .local .scVector .vmem, ⟨22, _⟩ => ⟨S1x64, .i32⟩
  | .local .scVector .vmem, ⟨23, _⟩ => ⟨S64x128, .f32⟩
  | .local .scVector .vmem, ⟨24, _⟩ => ⟨S25x64, .i32⟩
  | .local .scVector .vmem, ⟨25, _⟩ => ⟨S64x128, .f32⟩
  | .local .scVector .vmem, ⟨26, _⟩ => ⟨S64x128, .f32⟩
  | .local .scVector .vmem, ⟨27, _⟩ => ⟨S64x128, .f32⟩
  | .local .scVector .vmem, ⟨28, _⟩ => ⟨S64x128, .f32⟩
  | .local .scVector .vmem, ⟨29, _⟩ => ⟨S64x128, .f32⟩
  | .local .scVector .vmem, ⟨30, _⟩ => ⟨S1x64, .i32⟩
  | .local .scVector .vmem, ⟨31, _⟩ => ⟨S64x128, .f32⟩
  | _, _ => ⟨S1024x200, .i32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => false
  | 34 => false
  | 35 => false
  | 36 => false
  | 37 => false
  | 38 => false
  | 39 => false
  | 40 => false
  | 41 => false
  | 42 => false
  | 43 => false
  | 44 => false
  | 45 => false
  | 46 => false
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => false
  | 67 => false
  | 68 => false
  | 69 => false
  | 70 => false
  | 71 => false
  | 72 => false
  | 73 => false
  | 74 => false
  | 75 => false
  | 76 => false
  | 77 => false
  | 78 => false
  | 79 => false
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => false
  | 100 => false
  | 101 => false
  | 102 => false
  | 103 => false
  | 104 => false
  | 105 => false
  | 106 => false
  | 107 => false
  | 108 => false
  | 109 => false
  | 110 => false
  | 111 => false
  | 112 => false
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 132 → Bool
  | ⟨i, _⟩ => dmaSemScopedAt i

abbrev sig : RefSig :=
  ofTables nBuf rfl bufTy 4 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56_0 : Ref sig .tc := ⟨.hbm, 75, rfl⟩
abbrev main_v56_1 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v3_scv : Ref sig .scVector := ⟨.hbm, 19, rfl⟩
abbrev main_v4_scv : Ref sig .scVector := ⟨.hbm, 20, rfl⟩
abbrev main_arg3_scv : Ref sig .scVector := ⟨.hbm, 3, rfl⟩
abbrev main_arg4_scv : Ref sig .scVector := ⟨.hbm, 4, rfl⟩
abbrev main_v5_0_scv : Ref sig .scVector := ⟨.hbm, 21, rfl⟩
abbrev main_v5_1_scv : Ref sig .scVector := ⟨.hbm, 22, rfl⟩
abbrev main_v20_scv : Ref sig .scVector := ⟨.hbm, 37, rfl⟩
abbrev main_v21_scv : Ref sig .scVector := ⟨.hbm, 38, rfl⟩
abbrev main_v22_0_scv : Ref sig .scVector := ⟨.hbm, 39, rfl⟩
abbrev main_v22_1_scv : Ref sig .scVector := ⟨.hbm, 40, rfl⟩
abbrev main_v37_scv : Ref sig .scVector := ⟨.hbm, 55, rfl⟩
abbrev main_v38_scv : Ref sig .scVector := ⟨.hbm, 56, rfl⟩
abbrev main_v39_0_scv : Ref sig .scVector := ⟨.hbm, 57, rfl⟩
abbrev main_v39_1_scv : Ref sig .scVector := ⟨.hbm, 58, rfl⟩
abbrev main_v54_scv : Ref sig .scVector := ⟨.hbm, 73, rfl⟩
abbrev main_v55_scv : Ref sig .scVector := ⟨.hbm, 74, rfl⟩
abbrev main_v56_0_scv : Ref sig .scVector := ⟨.hbm, 75, rfl⟩
abbrev main_v56_1_scv : Ref sig .scVector := ⟨.hbm, 76, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg14_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_stg14_0 : Ref sig .tc := ⟨.vmem, 36, rfl⟩
abbrev cc3_stg14_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg8_0 : Ref sig .tc := ⟨.vmem, 49, rfl⟩
abbrev cc5_stg9_0 : Ref sig .tc := ⟨.vmem, 50, rfl⟩
abbrev cc5_stg10_0 : Ref sig .tc := ⟨.vmem, 51, rfl⟩
abbrev cc5_stg11_0 : Ref sig .tc := ⟨.vmem, 52, rfl⟩
abbrev cc5_stg12_0 : Ref sig .tc := ⟨.vmem, 53, rfl⟩
abbrev cc5_stg13_0 : Ref sig .tc := ⟨.vmem, 54, rfl⟩
abbrev cc5_stg14_0 : Ref sig .tc := ⟨.vmem, 55, rfl⟩
abbrev cc5_stg14_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg7_0 : Ref sig .tc := ⟨.vmem, 67, rfl⟩
abbrev cc7_stg8_0 : Ref sig .tc := ⟨.vmem, 68, rfl⟩
abbrev cc7_stg9_0 : Ref sig .tc := ⟨.vmem, 69, rfl⟩
abbrev cc7_stg10_0 : Ref sig .tc := ⟨.vmem, 70, rfl⟩
abbrev cc7_stg11_0 : Ref sig .tc := ⟨.vmem, 71, rfl⟩
abbrev cc7_stg12_0 : Ref sig .tc := ⟨.vmem, 72, rfl⟩
abbrev cc7_stg13_0 : Ref sig .tc := ⟨.vmem, 73, rfl⟩
abbrev cc7_stg14_0 : Ref sig .tc := ⟨.vmem, 74, rfl⟩
abbrev cc7_stg14_1 : Ref sig .tc := ⟨.vmem, 75, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch7 : Ref sig .scVector := ⟨.vmem, 6, rfl⟩
abbrev cc0_scratch8 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc2_scratch3 : Ref sig .scVector := ⟨.vmem, 11, rfl⟩
abbrev cc2_scratch4 : Ref sig .scVector := ⟨.vmem, 12, rfl⟩
abbrev cc2_scratch5 : Ref sig .scVector := ⟨.vmem, 13, rfl⟩
abbrev cc2_scratch7 : Ref sig .scVector := ⟨.vmem, 14, rfl⟩
abbrev cc2_scratch8 : Ref sig .scVector := ⟨.vmem, 15, rfl⟩
abbrev cc4_scratch0 : Ref sig .scVector := ⟨.vmem, 16, rfl⟩
abbrev cc4_scratch1 : Ref sig .scVector := ⟨.vmem, 17, rfl⟩
abbrev cc4_scratch2 : Ref sig .scVector := ⟨.vmem, 18, rfl⟩
abbrev cc4_scratch3 : Ref sig .scVector := ⟨.vmem, 19, rfl⟩
abbrev cc4_scratch4 : Ref sig .scVector := ⟨.vmem, 20, rfl⟩
abbrev cc4_scratch5 : Ref sig .scVector := ⟨.vmem, 21, rfl⟩
abbrev cc4_scratch7 : Ref sig .scVector := ⟨.vmem, 22, rfl⟩
abbrev cc4_scratch8 : Ref sig .scVector := ⟨.vmem, 23, rfl⟩
abbrev cc6_scratch0 : Ref sig .scVector := ⟨.vmem, 24, rfl⟩
abbrev cc6_scratch1 : Ref sig .scVector := ⟨.vmem, 25, rfl⟩
abbrev cc6_scratch2 : Ref sig .scVector := ⟨.vmem, 26, rfl⟩
abbrev cc6_scratch3 : Ref sig .scVector := ⟨.vmem, 27, rfl⟩
abbrev cc6_scratch4 : Ref sig .scVector := ⟨.vmem, 28, rfl⟩
abbrev cc6_scratch5 : Ref sig .scVector := ⟨.vmem, 29, rfl⟩
abbrev cc6_scratch7 : Ref sig .scVector := ⟨.vmem, 30, rfl⟩
abbrev cc6_scratch8 : Ref sig .scVector := ⟨.vmem, 31, rfl⟩
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem14_1 : DmaSem sig := 32
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem2_1 : DmaSem sig := 52
abbrev cc3_sem3_0 : DmaSem sig := 53
abbrev cc3_sem4_0 : DmaSem sig := 54
abbrev cc3_sem5_0 : DmaSem sig := 55
abbrev cc3_sem6_0 : DmaSem sig := 56
abbrev cc3_sem7_0 : DmaSem sig := 57
abbrev cc3_sem8_0 : DmaSem sig := 58
abbrev cc3_sem9_0 : DmaSem sig := 59
abbrev cc3_sem10_0 : DmaSem sig := 60
abbrev cc3_sem11_0 : DmaSem sig := 61
abbrev cc3_sem12_0 : DmaSem sig := 62
abbrev cc3_sem13_0 : DmaSem sig := 63
abbrev cc3_sem14_0 : DmaSem sig := 64
abbrev cc3_sem14_1 : DmaSem sig := 65
abbrev cc5_sem0_0 : DmaSem sig := 80
abbrev cc5_sem0_1 : DmaSem sig := 81
abbrev cc5_sem1_0 : DmaSem sig := 82
abbrev cc5_sem1_1 : DmaSem sig := 83
abbrev cc5_sem2_0 : DmaSem sig := 84
abbrev cc5_sem2_1 : DmaSem sig := 85
abbrev cc5_sem3_0 : DmaSem sig := 86
abbrev cc5_sem4_0 : DmaSem sig := 87
abbrev cc5_sem5_0 : DmaSem sig := 88
abbrev cc5_sem6_0 : DmaSem sig := 89
abbrev cc5_sem7_0 : DmaSem sig := 90
abbrev cc5_sem8_0 : DmaSem sig := 91
abbrev cc5_sem9_0 : DmaSem sig := 92
abbrev cc5_sem10_0 : DmaSem sig := 93
abbrev cc5_sem11_0 : DmaSem sig := 94
abbrev cc5_sem12_0 : DmaSem sig := 95
abbrev cc5_sem13_0 : DmaSem sig := 96
abbrev cc5_sem14_0 : DmaSem sig := 97
abbrev cc5_sem14_1 : DmaSem sig := 98
abbrev cc7_sem0_0 : DmaSem sig := 113
abbrev cc7_sem0_1 : DmaSem sig := 114
abbrev cc7_sem1_0 : DmaSem sig := 115
abbrev cc7_sem1_1 : DmaSem sig := 116
abbrev cc7_sem2_0 : DmaSem sig := 117
abbrev cc7_sem2_1 : DmaSem sig := 118
abbrev cc7_sem3_0 : DmaSem sig := 119
abbrev cc7_sem4_0 : DmaSem sig := 120
abbrev cc7_sem5_0 : DmaSem sig := 121
abbrev cc7_sem6_0 : DmaSem sig := 122
abbrev cc7_sem7_0 : DmaSem sig := 123
abbrev cc7_sem8_0 : DmaSem sig := 124
abbrev cc7_sem9_0 : DmaSem sig := 125
abbrev cc7_sem10_0 : DmaSem sig := 126
abbrev cc7_sem11_0 : DmaSem sig := 127
abbrev cc7_sem12_0 : DmaSem sig := 128
abbrev cc7_sem13_0 : DmaSem sig := 129
abbrev cc7_sem14_0 : DmaSem sig := 130
abbrev cc7_sem14_1 : DmaSem sig := 131
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_32_r0 : BitVec 32 := 0#32
  let c0_i32_33_r0 : BitVec 32 := 0#32
  ![v1.toNat, 0, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 1 := Scalar.cmpi .slt v1 c4_i32
  let v4 : BitVec 32 := Scalar.extui v3
  let c0_i32 : BitVec 32 := 0#32
  let v5 : BitVec 1 := Scalar.cmpi .ne v4 c0_i32
  v5

def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r1 : BitVec 32 := 0#32
  let c0_i32_41_r1 : BitVec 32 := 0#32
  ![v1.toNat, 0, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v43 : BitVec 32 := Scalar.muli v1 c64_i32
  let c0_i32_40_r2 : BitVec 32 := 0#32
  ![v43.toNat, 0]
@[reducible] def k0_t1_loop : Scf.Loop 32 :=
  let c0_i32_19 : BitVec 32 := 0#32
  let c5_i32 : BitVec 32 := 5#32
  let v21 : BitVec 32 := Scalar.addi c0_i32_19 c5_i32
  let c1_i32_20 : BitVec 32 := 1#32
  ⟨c0_i32_19, v21, c1_i32_20⟩
def k0_off4 (i : grid0.Coords) (k0_t1 : Fin k0_t1_loop.trips) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let v38 : BitVec 32 := Scalar.addi v37 c0_i32_33
  let c64_i32 : BitVec 32 := 64#32
  let v42 : BitVec 32 := Scalar.muli v38 c64_i32
  let v43 : BitVec 32 := Scalar.addi v2 v42
  let c0_i32_38 : BitVec 32 := 0#32
  ![v43.toNat, 0]
def k0_cond2 (k0_t1 : Fin k0_t1_loop.trips) : BitVec 1 :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c0_i32_41 : BitVec 32 := 0#32
  let v47 : BitVec 1 := Scalar.cmpi .sge v46 c0_i32_41
  let c5_i32_42 : BitVec 32 := 5#32
  let v48 : BitVec 32 := Scalar.addi v46 c5_i32_42
  let c24_i32 : BitVec 32 := 24#32
  let v49 : BitVec 1 := Scalar.cmpi .sle v48 c24_i32
  let v50 : BitVec 1 := Scalar.andi v47 v49
  let v51 : BitVec 32 := Scalar.extui v50
  let c0_i32_43 : BitVec 32 := 0#32
  let v52 : BitVec 1 := Scalar.cmpi .ne v51 c0_i32_43
  v52

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c64_i32_96 : BitVec 32 := 64#32
  let v113 : BitVec 32 := Scalar.muli v46 c64_i32_96
  let v114 : BitVec 32 := Scalar.addi v2 v113
  let c0_i32_97 : BitVec 32 := 0#32
  ![v114.toNat, 0]
def k0_off6 (k0_t1 : Fin k0_t1_loop.trips) : Fin 2 → Nat :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c5_i32_99 : BitVec 32 := 5#32
  let v117 : BitVec 32 := Scalar.addi v46 c5_i32_99
  let c0_i32_100 : BitVec 32 := 0#32
  ![v117.toNat, 0]
def k0_cond3 (k0_t1 : Fin k0_t1_loop.trips) : BitVec 1 :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c0_i32_53 : BitVec 32 := 0#32
  let v62 : BitVec 1 := Scalar.cmpi .sge v61 c0_i32_53
  let c5_i32_54 : BitVec 32 := 5#32
  let v63 : BitVec 32 := Scalar.addi v61 c5_i32_54
  let c24_i32_55 : BitVec 32 := 24#32
  let v64 : BitVec 1 := Scalar.cmpi .sle v63 c24_i32_55
  let v65 : BitVec 1 := Scalar.andi v62 v64
  let v66 : BitVec 32 := Scalar.extui v65
  let c0_i32_56 : BitVec 32 := 0#32
  let v67 : BitVec 1 := Scalar.cmpi .ne v66 c0_i32_56
  v67

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c64_i32_96 : BitVec 32 := 64#32
  let v113 : BitVec 32 := Scalar.muli v61 c64_i32_96
  let v114 : BitVec 32 := Scalar.addi v2 v113
  let c0_i32_97 : BitVec 32 := 0#32
  ![v114.toNat, 0]
def k0_off8 (k0_t1 : Fin k0_t1_loop.trips) : Fin 2 → Nat :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c5_i32_99 : BitVec 32 := 5#32
  let v117 : BitVec 32 := Scalar.addi v61 c5_i32_99
  let c0_i32_100 : BitVec 32 := 0#32
  ![v117.toNat, 0]
def k0_cond4 (k0_t1 : Fin k0_t1_loop.trips) : BitVec 1 :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c0_i32_66 : BitVec 32 := 0#32
  let v77 : BitVec 1 := Scalar.cmpi .sge v76 c0_i32_66
  let c5_i32_67 : BitVec 32 := 5#32
  let v78 : BitVec 32 := Scalar.addi v76 c5_i32_67
  let c24_i32_68 : BitVec 32 := 24#32
  let v79 : BitVec 1 := Scalar.cmpi .sle v78 c24_i32_68
  let v80 : BitVec 1 := Scalar.andi v77 v79
  let v81 : BitVec 32 := Scalar.extui v80
  let c0_i32_69 : BitVec 32 := 0#32
  let v82 : BitVec 1 := Scalar.cmpi .ne v81 c0_i32_69
  v82

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c64_i32_96 : BitVec 32 := 64#32
  let v113 : BitVec 32 := Scalar.muli v76 c64_i32_96
  let v114 : BitVec 32 := Scalar.addi v2 v113
  let c0_i32_97 : BitVec 32 := 0#32
  ![v114.toNat, 0]
def k0_off10 (k0_t1 : Fin k0_t1_loop.trips) : Fin 2 → Nat :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c5_i32_99 : BitVec 32 := 5#32
  let v117 : BitVec 32 := Scalar.addi v76 c5_i32_99
  let c0_i32_100 : BitVec 32 := 0#32
  ![v117.toNat, 0]
def k0_cond5 (k0_t1 : Fin k0_t1_loop.trips) : BitVec 1 :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c0_i32_79 : BitVec 32 := 0#32
  let v92 : BitVec 1 := Scalar.cmpi .sge v91 c0_i32_79
  let c5_i32_80 : BitVec 32 := 5#32
  let v93 : BitVec 32 := Scalar.addi v91 c5_i32_80
  let c24_i32_81 : BitVec 32 := 24#32
  let v94 : BitVec 1 := Scalar.cmpi .sle v93 c24_i32_81
  let v95 : BitVec 1 := Scalar.andi v92 v94
  let v96 : BitVec 32 := Scalar.extui v95
  let c0_i32_82 : BitVec 32 := 0#32
  let v97 : BitVec 1 := Scalar.cmpi .ne v96 c0_i32_82
  v97

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c64_i32_96 : BitVec 32 := 64#32
  let v113 : BitVec 32 := Scalar.muli v91 c64_i32_96
  let v114 : BitVec 32 := Scalar.addi v2 v113
  let c0_i32_97 : BitVec 32 := 0#32
  ![v114.toNat, 0]
def k0_off12 (k0_t1 : Fin k0_t1_loop.trips) : Fin 2 → Nat :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c5_i32_99 : BitVec 32 := 5#32
  let v117 : BitVec 32 := Scalar.addi v91 c5_i32_99
  let c0_i32_100 : BitVec 32 := 0#32
  ![v117.toNat, 0]
def k0_cond6 (k0_t1 : Fin k0_t1_loop.trips) : BitVec 1 :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c0_i32_92 : BitVec 32 := 0#32
  let v107 : BitVec 1 := Scalar.cmpi .sge v106 c0_i32_92
  let c5_i32_93 : BitVec 32 := 5#32
  let v108 : BitVec 32 := Scalar.addi v106 c5_i32_93
  let c24_i32_94 : BitVec 32 := 24#32
  let v109 : BitVec 1 := Scalar.cmpi .sle v108 c24_i32_94
  let v110 : BitVec 1 := Scalar.andi v107 v109
  let v111 : BitVec 32 := Scalar.extui v110
  let c0_i32_95 : BitVec 32 := 0#32
  let v112 : BitVec 1 := Scalar.cmpi .ne v111 c0_i32_95
  v112

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c64_i32_96 : BitVec 32 := 64#32
  let v113 : BitVec 32 := Scalar.muli v106 c64_i32_96
  let v114 : BitVec 32 := Scalar.addi v2 v113
  let c0_i32_97 : BitVec 32 := 0#32
  ![v114.toNat, 0]
def k0_off14 (k0_t1 : Fin k0_t1_loop.trips) : Fin 2 → Nat :=
  let c0_i32_19 : BitVec 32 := 0#32
  let c1_i32_20 : BitVec 32 := 1#32
  let arg27 : BitVec 32 := Scf.iv c0_i32_19 c1_i32_20 k0_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c5_i32_99 : BitVec 32 := 5#32
  let v117 : BitVec 32 := Scalar.addi v106 c5_i32_99
  let c0_i32_100 : BitVec 32 := 0#32
  ![v117.toNat, 0]
def k0_off15 (i : grid0.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v22 : BitVec 32 := Scalar.addi v2 c1280_i32
  let c0_i32_22 : BitVec 32 := 0#32
  ![v22.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x12800 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S6x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S64x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_32_r0 : BitVec 32 := 0#32
  let c0_i32_33_r0 : BitVec 32 := 0#32
  ![v1.toNat, 0, 0]
def k2_cond1 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 1 := Scalar.cmpi .slt v1 c4_i32
  let v4 : BitVec 32 := Scalar.extui v3
  let c0_i32 : BitVec 32 := 0#32
  let v5 : BitVec 1 := Scalar.cmpi .ne v4 c0_i32
  v5

def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r1 : BitVec 32 := 0#32
  let c0_i32_41_r1 : BitVec 32 := 0#32
  ![v1.toNat, 0, 0]
def k2_off3 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v43 : BitVec 32 := Scalar.muli v1 c64_i32
  let c0_i32_40_r2 : BitVec 32 := 0#32
  ![v43.toNat, 0]
@[reducible] def k2_t1_loop : Scf.Loop 32 :=
  let c0_i32_19 : BitVec 32 := 0#32
  let c5_i32 : BitVec 32 := 5#32
  let v21 : BitVec 32 := Scalar.addi c0_i32_19 c5_i32
  let c1_i32_20 : BitVec 32 := 1#32
  ⟨c0_i32_19, v21, c1_i32_20⟩
def k2_off4 (i : grid2.Coords) (k2_t1 : Fin k2_t1_loop.trips) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let v38 : BitVec 32 := Scalar.addi v37 c0_i32_33
  let c64_i32 : BitVec 32 := 64#32
  let v42 : BitVec 32 := Scalar.muli v38 c64_i32
  let v43 : BitVec 32 := Scalar.addi v2 v42
  let c0_i32_38 : BitVec 32 := 0#32
  ![v43.toNat, 0]
def k2_cond2 (k2_t1 : Fin k2_t1_loop.trips) : BitVec 1 :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c0_i32_41 : BitVec 32 := 0#32
  let v47 : BitVec 1 := Scalar.cmpi .sge v46 c0_i32_41
  let c5_i32_42 : BitVec 32 := 5#32
  let v48 : BitVec 32 := Scalar.addi v46 c5_i32_42
  let c24_i32 : BitVec 32 := 24#32
  let v49 : BitVec 1 := Scalar.cmpi .sle v48 c24_i32
  let v50 : BitVec 1 := Scalar.andi v47 v49
  let v51 : BitVec 32 := Scalar.extui v50
  let c0_i32_43 : BitVec 32 := 0#32
  let v52 : BitVec 1 := Scalar.cmpi .ne v51 c0_i32_43
  v52

def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c64_i32_96 : BitVec 32 := 64#32
  let v113 : BitVec 32 := Scalar.muli v46 c64_i32_96
  let v114 : BitVec 32 := Scalar.addi v2 v113
  let c0_i32_97 : BitVec 32 := 0#32
  ![v114.toNat, 0]
def k2_off6 (k2_t1 : Fin k2_t1_loop.trips) : Fin 2 → Nat :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c5_i32_99 : BitVec 32 := 5#32
  let v117 : BitVec 32 := Scalar.addi v46 c5_i32_99
  let c0_i32_100 : BitVec 32 := 0#32
  ![v117.toNat, 0]
def k2_cond3 (k2_t1 : Fin k2_t1_loop.trips) : BitVec 1 :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c0_i32_53 : BitVec 32 := 0#32
  let v62 : BitVec 1 := Scalar.cmpi .sge v61 c0_i32_53
  let c5_i32_54 : BitVec 32 := 5#32
  let v63 : BitVec 32 := Scalar.addi v61 c5_i32_54
  let c24_i32_55 : BitVec 32 := 24#32
  let v64 : BitVec 1 := Scalar.cmpi .sle v63 c24_i32_55
  let v65 : BitVec 1 := Scalar.andi v62 v64
  let v66 : BitVec 32 := Scalar.extui v65
  let c0_i32_56 : BitVec 32 := 0#32
  let v67 : BitVec 1 := Scalar.cmpi .ne v66 c0_i32_56
  v67

def k2_off7 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c64_i32_96 : BitVec 32 := 64#32
  let v113 : BitVec 32 := Scalar.muli v61 c64_i32_96
  let v114 : BitVec 32 := Scalar.addi v2 v113
  let c0_i32_97 : BitVec 32 := 0#32
  ![v114.toNat, 0]
def k2_off8 (k2_t1 : Fin k2_t1_loop.trips) : Fin 2 → Nat :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c5_i32_99 : BitVec 32 := 5#32
  let v117 : BitVec 32 := Scalar.addi v61 c5_i32_99
  let c0_i32_100 : BitVec 32 := 0#32
  ![v117.toNat, 0]
def k2_cond4 (k2_t1 : Fin k2_t1_loop.trips) : BitVec 1 :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c0_i32_66 : BitVec 32 := 0#32
  let v77 : BitVec 1 := Scalar.cmpi .sge v76 c0_i32_66
  let c5_i32_67 : BitVec 32 := 5#32
  let v78 : BitVec 32 := Scalar.addi v76 c5_i32_67
  let c24_i32_68 : BitVec 32 := 24#32
  let v79 : BitVec 1 := Scalar.cmpi .sle v78 c24_i32_68
  let v80 : BitVec 1 := Scalar.andi v77 v79
  let v81 : BitVec 32 := Scalar.extui v80
  let c0_i32_69 : BitVec 32 := 0#32
  let v82 : BitVec 1 := Scalar.cmpi .ne v81 c0_i32_69
  v82

def k2_off9 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c64_i32_96 : BitVec 32 := 64#32
  let v113 : BitVec 32 := Scalar.muli v76 c64_i32_96
  let v114 : BitVec 32 := Scalar.addi v2 v113
  let c0_i32_97 : BitVec 32 := 0#32
  ![v114.toNat, 0]
def k2_off10 (k2_t1 : Fin k2_t1_loop.trips) : Fin 2 → Nat :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c5_i32_99 : BitVec 32 := 5#32
  let v117 : BitVec 32 := Scalar.addi v76 c5_i32_99
  let c0_i32_100 : BitVec 32 := 0#32
  ![v117.toNat, 0]
def k2_cond5 (k2_t1 : Fin k2_t1_loop.trips) : BitVec 1 :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c0_i32_79 : BitVec 32 := 0#32
  let v92 : BitVec 1 := Scalar.cmpi .sge v91 c0_i32_79
  let c5_i32_80 : BitVec 32 := 5#32
  let v93 : BitVec 32 := Scalar.addi v91 c5_i32_80
  let c24_i32_81 : BitVec 32 := 24#32
  let v94 : BitVec 1 := Scalar.cmpi .sle v93 c24_i32_81
  let v95 : BitVec 1 := Scalar.andi v92 v94
  let v96 : BitVec 32 := Scalar.extui v95
  let c0_i32_82 : BitVec 32 := 0#32
  let v97 : BitVec 1 := Scalar.cmpi .ne v96 c0_i32_82
  v97

def k2_off11 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c64_i32_96 : BitVec 32 := 64#32
  let v113 : BitVec 32 := Scalar.muli v91 c64_i32_96
  let v114 : BitVec 32 := Scalar.addi v2 v113
  let c0_i32_97 : BitVec 32 := 0#32
  ![v114.toNat, 0]
def k2_off12 (k2_t1 : Fin k2_t1_loop.trips) : Fin 2 → Nat :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c5_i32_99 : BitVec 32 := 5#32
  let v117 : BitVec 32 := Scalar.addi v91 c5_i32_99
  let c0_i32_100 : BitVec 32 := 0#32
  ![v117.toNat, 0]
def k2_cond6 (k2_t1 : Fin k2_t1_loop.trips) : BitVec 1 :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c0_i32_92 : BitVec 32 := 0#32
  let v107 : BitVec 1 := Scalar.cmpi .sge v106 c0_i32_92
  let c5_i32_93 : BitVec 32 := 5#32
  let v108 : BitVec 32 := Scalar.addi v106 c5_i32_93
  let c24_i32_94 : BitVec 32 := 24#32
  let v109 : BitVec 1 := Scalar.cmpi .sle v108 c24_i32_94
  let v110 : BitVec 1 := Scalar.andi v107 v109
  let v111 : BitVec 32 := Scalar.extui v110
  let c0_i32_95 : BitVec 32 := 0#32
  let v112 : BitVec 1 := Scalar.cmpi .ne v111 c0_i32_95
  v112

def k2_off13 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c64_i32_96 : BitVec 32 := 64#32
  let v113 : BitVec 32 := Scalar.muli v106 c64_i32_96
  let v114 : BitVec 32 := Scalar.addi v2 v113
  let c0_i32_97 : BitVec 32 := 0#32
  ![v114.toNat, 0]
def k2_off14 (k2_t1 : Fin k2_t1_loop.trips) : Fin 2 → Nat :=
  let c0_i32_19 : BitVec 32 := 0#32
  let c1_i32_20 : BitVec 32 := 1#32
  let arg27 : BitVec 32 := Scf.iv c0_i32_19 c1_i32_20 k2_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c5_i32_99 : BitVec 32 := 5#32
  let v117 : BitVec 32 := Scalar.addi v106 c5_i32_99
  let c0_i32_100 : BitVec 32 := 0#32
  ![v117.toNat, 0]
def k2_off15 (i : grid2.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v22 : BitVec 32 := Scalar.addi v2 c1280_i32
  let c0_i32_22 : BitVec 32 := 0#32
  ![v22.toNat, 0]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12800x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x12800 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S6x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S64x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_32_r0 : BitVec 32 := 0#32
  let c0_i32_33_r0 : BitVec 32 := 0#32
  ![v1.toNat, 0, 0]
def k4_cond1 (i : grid4.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 1 := Scalar.cmpi .slt v1 c4_i32
  let v4 : BitVec 32 := Scalar.extui v3
  let c0_i32 : BitVec 32 := 0#32
  let v5 : BitVec 1 := Scalar.cmpi .ne v4 c0_i32
  v5

def k4_off2 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r1 : BitVec 32 := 0#32
  let c0_i32_41_r1 : BitVec 32 := 0#32
  ![v1.toNat, 0, 0]
def k4_off3 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v43 : BitVec 32 := Scalar.muli v1 c64_i32
  let c0_i32_40_r2 : BitVec 32 := 0#32
  ![v43.toNat, 0]
@[reducible] def k4_t1_loop : Scf.Loop 32 :=
  let c0_i32_19 : BitVec 32 := 0#32
  let c5_i32 : BitVec 32 := 5#32
  let v21 : BitVec 32 := Scalar.addi c0_i32_19 c5_i32
  let c1_i32_20 : BitVec 32 := 1#32
  ⟨c0_i32_19, v21, c1_i32_20⟩
def k4_off4 (i : grid4.Coords) (k4_t1 : Fin k4_t1_loop.trips) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let v38 : BitVec 32 := Scalar.addi v37 c0_i32_33
  let c64_i32 : BitVec 32 := 64#32
  let v42 : BitVec 32 := Scalar.muli v38 c64_i32
  let v43 : BitVec 32 := Scalar.addi v2 v42
  let c0_i32_38 : BitVec 32 := 0#32
  ![v43.toNat, 0]
def k4_cond2 (k4_t1 : Fin k4_t1_loop.trips) : BitVec 1 :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c0_i32_41 : BitVec 32 := 0#32
  let v47 : BitVec 1 := Scalar.cmpi .sge v46 c0_i32_41
  let c5_i32_42 : BitVec 32 := 5#32
  let v48 : BitVec 32 := Scalar.addi v46 c5_i32_42
  let c24_i32 : BitVec 32 := 24#32
  let v49 : BitVec 1 := Scalar.cmpi .sle v48 c24_i32
  let v50 : BitVec 1 := Scalar.andi v47 v49
  let v51 : BitVec 32 := Scalar.extui v50
  let c0_i32_43 : BitVec 32 := 0#32
  let v52 : BitVec 1 := Scalar.cmpi .ne v51 c0_i32_43
  v52

def k4_off5 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c64_i32_96 : BitVec 32 := 64#32
  let v113 : BitVec 32 := Scalar.muli v46 c64_i32_96
  let v114 : BitVec 32 := Scalar.addi v2 v113
  let c0_i32_97 : BitVec 32 := 0#32
  ![v114.toNat, 0]
def k4_off6 (k4_t1 : Fin k4_t1_loop.trips) : Fin 2 → Nat :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c5_i32_99 : BitVec 32 := 5#32
  let v117 : BitVec 32 := Scalar.addi v46 c5_i32_99
  let c0_i32_100 : BitVec 32 := 0#32
  ![v117.toNat, 0]
def k4_cond3 (k4_t1 : Fin k4_t1_loop.trips) : BitVec 1 :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c0_i32_53 : BitVec 32 := 0#32
  let v62 : BitVec 1 := Scalar.cmpi .sge v61 c0_i32_53
  let c5_i32_54 : BitVec 32 := 5#32
  let v63 : BitVec 32 := Scalar.addi v61 c5_i32_54
  let c24_i32_55 : BitVec 32 := 24#32
  let v64 : BitVec 1 := Scalar.cmpi .sle v63 c24_i32_55
  let v65 : BitVec 1 := Scalar.andi v62 v64
  let v66 : BitVec 32 := Scalar.extui v65
  let c0_i32_56 : BitVec 32 := 0#32
  let v67 : BitVec 1 := Scalar.cmpi .ne v66 c0_i32_56
  v67

def k4_off7 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c64_i32_96 : BitVec 32 := 64#32
  let v113 : BitVec 32 := Scalar.muli v61 c64_i32_96
  let v114 : BitVec 32 := Scalar.addi v2 v113
  let c0_i32_97 : BitVec 32 := 0#32
  ![v114.toNat, 0]
def k4_off8 (k4_t1 : Fin k4_t1_loop.trips) : Fin 2 → Nat :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c5_i32_99 : BitVec 32 := 5#32
  let v117 : BitVec 32 := Scalar.addi v61 c5_i32_99
  let c0_i32_100 : BitVec 32 := 0#32
  ![v117.toNat, 0]
def k4_cond4 (k4_t1 : Fin k4_t1_loop.trips) : BitVec 1 :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c0_i32_66 : BitVec 32 := 0#32
  let v77 : BitVec 1 := Scalar.cmpi .sge v76 c0_i32_66
  let c5_i32_67 : BitVec 32 := 5#32
  let v78 : BitVec 32 := Scalar.addi v76 c5_i32_67
  let c24_i32_68 : BitVec 32 := 24#32
  let v79 : BitVec 1 := Scalar.cmpi .sle v78 c24_i32_68
  let v80 : BitVec 1 := Scalar.andi v77 v79
  let v81 : BitVec 32 := Scalar.extui v80
  let c0_i32_69 : BitVec 32 := 0#32
  let v82 : BitVec 1 := Scalar.cmpi .ne v81 c0_i32_69
  v82

def k4_off9 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c64_i32_96 : BitVec 32 := 64#32
  let v113 : BitVec 32 := Scalar.muli v76 c64_i32_96
  let v114 : BitVec 32 := Scalar.addi v2 v113
  let c0_i32_97 : BitVec 32 := 0#32
  ![v114.toNat, 0]
def k4_off10 (k4_t1 : Fin k4_t1_loop.trips) : Fin 2 → Nat :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c5_i32_99 : BitVec 32 := 5#32
  let v117 : BitVec 32 := Scalar.addi v76 c5_i32_99
  let c0_i32_100 : BitVec 32 := 0#32
  ![v117.toNat, 0]
def k4_cond5 (k4_t1 : Fin k4_t1_loop.trips) : BitVec 1 :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c0_i32_79 : BitVec 32 := 0#32
  let v92 : BitVec 1 := Scalar.cmpi .sge v91 c0_i32_79
  let c5_i32_80 : BitVec 32 := 5#32
  let v93 : BitVec 32 := Scalar.addi v91 c5_i32_80
  let c24_i32_81 : BitVec 32 := 24#32
  let v94 : BitVec 1 := Scalar.cmpi .sle v93 c24_i32_81
  let v95 : BitVec 1 := Scalar.andi v92 v94
  let v96 : BitVec 32 := Scalar.extui v95
  let c0_i32_82 : BitVec 32 := 0#32
  let v97 : BitVec 1 := Scalar.cmpi .ne v96 c0_i32_82
  v97

def k4_off11 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c64_i32_96 : BitVec 32 := 64#32
  let v113 : BitVec 32 := Scalar.muli v91 c64_i32_96
  let v114 : BitVec 32 := Scalar.addi v2 v113
  let c0_i32_97 : BitVec 32 := 0#32
  ![v114.toNat, 0]
def k4_off12 (k4_t1 : Fin k4_t1_loop.trips) : Fin 2 → Nat :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c5_i32_99 : BitVec 32 := 5#32
  let v117 : BitVec 32 := Scalar.addi v91 c5_i32_99
  let c0_i32_100 : BitVec 32 := 0#32
  ![v117.toNat, 0]
def k4_cond6 (k4_t1 : Fin k4_t1_loop.trips) : BitVec 1 :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c0_i32_92 : BitVec 32 := 0#32
  let v107 : BitVec 1 := Scalar.cmpi .sge v106 c0_i32_92
  let c5_i32_93 : BitVec 32 := 5#32
  let v108 : BitVec 32 := Scalar.addi v106 c5_i32_93
  let c24_i32_94 : BitVec 32 := 24#32
  let v109 : BitVec 1 := Scalar.cmpi .sle v108 c24_i32_94
  let v110 : BitVec 1 := Scalar.andi v107 v109
  let v111 : BitVec 32 := Scalar.extui v110
  let c0_i32_95 : BitVec 32 := 0#32
  let v112 : BitVec 1 := Scalar.cmpi .ne v111 c0_i32_95
  v112

def k4_off13 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c64_i32_96 : BitVec 32 := 64#32
  let v113 : BitVec 32 := Scalar.muli v106 c64_i32_96
  let v114 : BitVec 32 := Scalar.addi v2 v113
  let c0_i32_97 : BitVec 32 := 0#32
  ![v114.toNat, 0]
def k4_off14 (k4_t1 : Fin k4_t1_loop.trips) : Fin 2 → Nat :=
  let c0_i32_19 : BitVec 32 := 0#32
  let c1_i32_20 : BitVec 32 := 1#32
  let arg27 : BitVec 32 := Scf.iv c0_i32_19 c1_i32_20 k4_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c5_i32_99 : BitVec 32 := 5#32
  let v117 : BitVec 32 := Scalar.addi v106 c5_i32_99
  let c0_i32_100 : BitVec 32 := 0#32
  ![v117.toNat, 0]
def k4_off15 (i : grid4.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v22 : BitVec 32 := Scalar.addi v2 c1280_i32
  let c0_i32_22 : BitVec 32 := 0#32
  ![v22.toNat, 0]
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12800x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x12800 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S64x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x256 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x1 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S6x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S64x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev grid6 : Pipeline.Grid := ⟨2, ![2, 16], ![false, false]⟩

def k6_off1 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_32_r0 : BitVec 32 := 0#32
  let c0_i32_33_r0 : BitVec 32 := 0#32
  ![v1.toNat, 0, 0]
def k6_cond1 (i : grid6.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 1 := Scalar.cmpi .slt v1 c4_i32
  let v4 : BitVec 32 := Scalar.extui v3
  let c0_i32 : BitVec 32 := 0#32
  let v5 : BitVec 1 := Scalar.cmpi .ne v4 c0_i32
  v5

def k6_off2 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r1 : BitVec 32 := 0#32
  let c0_i32_41_r1 : BitVec 32 := 0#32
  ![v1.toNat, 0, 0]
def k6_off3 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v43 : BitVec 32 := Scalar.muli v1 c64_i32
  let c0_i32_40_r2 : BitVec 32 := 0#32
  ![v43.toNat, 0]
@[reducible] def k6_t1_loop : Scf.Loop 32 :=
  let c0_i32_19 : BitVec 32 := 0#32
  let c5_i32 : BitVec 32 := 5#32
  let v21 : BitVec 32 := Scalar.addi c0_i32_19 c5_i32
  let c1_i32_20 : BitVec 32 := 1#32
  ⟨c0_i32_19, v21, c1_i32_20⟩
def k6_off4 (i : grid6.Coords) (k6_t1 : Fin k6_t1_loop.trips) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let v38 : BitVec 32 := Scalar.addi v37 c0_i32_33
  let c64_i32 : BitVec 32 := 64#32
  let v42 : BitVec 32 := Scalar.muli v38 c64_i32
  let v43 : BitVec 32 := Scalar.addi v2 v42
  let c0_i32_38 : BitVec 32 := 0#32
  ![v43.toNat, 0]
def k6_cond2 (k6_t1 : Fin k6_t1_loop.trips) : BitVec 1 :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c0_i32_41 : BitVec 32 := 0#32
  let v47 : BitVec 1 := Scalar.cmpi .sge v46 c0_i32_41
  let c5_i32_42 : BitVec 32 := 5#32
  let v48 : BitVec 32 := Scalar.addi v46 c5_i32_42
  let c24_i32 : BitVec 32 := 24#32
  let v49 : BitVec 1 := Scalar.cmpi .sle v48 c24_i32
  let v50 : BitVec 1 := Scalar.andi v47 v49
  let v51 : BitVec 32 := Scalar.extui v50
  let c0_i32_43 : BitVec 32 := 0#32
  let v52 : BitVec 1 := Scalar.cmpi .ne v51 c0_i32_43
  v52

def k6_off5 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c64_i32_96 : BitVec 32 := 64#32
  let v113 : BitVec 32 := Scalar.muli v46 c64_i32_96
  let v114 : BitVec 32 := Scalar.addi v2 v113
  let c0_i32_97 : BitVec 32 := 0#32
  ![v114.toNat, 0]
def k6_off6 (k6_t1 : Fin k6_t1_loop.trips) : Fin 2 → Nat :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c0_i32_33 : BitVec 32 := 0#32
  let v38 : BitVec 32 := Scalar.addi v37 c0_i32_33
  let c2_i32_40 : BitVec 32 := 2#32
  let v46 : BitVec 32 := Scalar.subi v38 c2_i32_40
  let c5_i32_99 : BitVec 32 := 5#32
  let v117 : BitVec 32 := Scalar.addi v46 c5_i32_99
  let c0_i32_100 : BitVec 32 := 0#32
  ![v117.toNat, 0]
def k6_cond3 (k6_t1 : Fin k6_t1_loop.trips) : BitVec 1 :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c0_i32_53 : BitVec 32 := 0#32
  let v62 : BitVec 1 := Scalar.cmpi .sge v61 c0_i32_53
  let c5_i32_54 : BitVec 32 := 5#32
  let v63 : BitVec 32 := Scalar.addi v61 c5_i32_54
  let c24_i32_55 : BitVec 32 := 24#32
  let v64 : BitVec 1 := Scalar.cmpi .sle v63 c24_i32_55
  let v65 : BitVec 1 := Scalar.andi v62 v64
  let v66 : BitVec 32 := Scalar.extui v65
  let c0_i32_56 : BitVec 32 := 0#32
  let v67 : BitVec 1 := Scalar.cmpi .ne v66 c0_i32_56
  v67

def k6_off7 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c64_i32_96 : BitVec 32 := 64#32
  let v113 : BitVec 32 := Scalar.muli v61 c64_i32_96
  let v114 : BitVec 32 := Scalar.addi v2 v113
  let c0_i32_97 : BitVec 32 := 0#32
  ![v114.toNat, 0]
def k6_off8 (k6_t1 : Fin k6_t1_loop.trips) : Fin 2 → Nat :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c1_i32_44 : BitVec 32 := 1#32
  let v53 : BitVec 32 := Scalar.addi v37 c1_i32_44
  let c2_i32_52 : BitVec 32 := 2#32
  let v61 : BitVec 32 := Scalar.subi v53 c2_i32_52
  let c5_i32_99 : BitVec 32 := 5#32
  let v117 : BitVec 32 := Scalar.addi v61 c5_i32_99
  let c0_i32_100 : BitVec 32 := 0#32
  ![v117.toNat, 0]
def k6_cond4 (k6_t1 : Fin k6_t1_loop.trips) : BitVec 1 :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c0_i32_66 : BitVec 32 := 0#32
  let v77 : BitVec 1 := Scalar.cmpi .sge v76 c0_i32_66
  let c5_i32_67 : BitVec 32 := 5#32
  let v78 : BitVec 32 := Scalar.addi v76 c5_i32_67
  let c24_i32_68 : BitVec 32 := 24#32
  let v79 : BitVec 1 := Scalar.cmpi .sle v78 c24_i32_68
  let v80 : BitVec 1 := Scalar.andi v77 v79
  let v81 : BitVec 32 := Scalar.extui v80
  let c0_i32_69 : BitVec 32 := 0#32
  let v82 : BitVec 1 := Scalar.cmpi .ne v81 c0_i32_69
  v82

def k6_off9 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c64_i32_96 : BitVec 32 := 64#32
  let v113 : BitVec 32 := Scalar.muli v76 c64_i32_96
  let v114 : BitVec 32 := Scalar.addi v2 v113
  let c0_i32_97 : BitVec 32 := 0#32
  ![v114.toNat, 0]
def k6_off10 (k6_t1 : Fin k6_t1_loop.trips) : Fin 2 → Nat :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c2_i32_57 : BitVec 32 := 2#32
  let v68 : BitVec 32 := Scalar.addi v37 c2_i32_57
  let c2_i32_65 : BitVec 32 := 2#32
  let v76 : BitVec 32 := Scalar.subi v68 c2_i32_65
  let c5_i32_99 : BitVec 32 := 5#32
  let v117 : BitVec 32 := Scalar.addi v76 c5_i32_99
  let c0_i32_100 : BitVec 32 := 0#32
  ![v117.toNat, 0]
def k6_cond5 (k6_t1 : Fin k6_t1_loop.trips) : BitVec 1 :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c0_i32_79 : BitVec 32 := 0#32
  let v92 : BitVec 1 := Scalar.cmpi .sge v91 c0_i32_79
  let c5_i32_80 : BitVec 32 := 5#32
  let v93 : BitVec 32 := Scalar.addi v91 c5_i32_80
  let c24_i32_81 : BitVec 32 := 24#32
  let v94 : BitVec 1 := Scalar.cmpi .sle v93 c24_i32_81
  let v95 : BitVec 1 := Scalar.andi v92 v94
  let v96 : BitVec 32 := Scalar.extui v95
  let c0_i32_82 : BitVec 32 := 0#32
  let v97 : BitVec 1 := Scalar.cmpi .ne v96 c0_i32_82
  v97

def k6_off11 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c64_i32_96 : BitVec 32 := 64#32
  let v113 : BitVec 32 := Scalar.muli v91 c64_i32_96
  let v114 : BitVec 32 := Scalar.addi v2 v113
  let c0_i32_97 : BitVec 32 := 0#32
  ![v114.toNat, 0]
def k6_off12 (k6_t1 : Fin k6_t1_loop.trips) : Fin 2 → Nat :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c3_i32_70 : BitVec 32 := 3#32
  let v83 : BitVec 32 := Scalar.addi v37 c3_i32_70
  let c2_i32_78 : BitVec 32 := 2#32
  let v91 : BitVec 32 := Scalar.subi v83 c2_i32_78
  let c5_i32_99 : BitVec 32 := 5#32
  let v117 : BitVec 32 := Scalar.addi v91 c5_i32_99
  let c0_i32_100 : BitVec 32 := 0#32
  ![v117.toNat, 0]
def k6_cond6 (k6_t1 : Fin k6_t1_loop.trips) : BitVec 1 :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c0_i32_92 : BitVec 32 := 0#32
  let v107 : BitVec 1 := Scalar.cmpi .sge v106 c0_i32_92
  let c5_i32_93 : BitVec 32 := 5#32
  let v108 : BitVec 32 := Scalar.addi v106 c5_i32_93
  let c24_i32_94 : BitVec 32 := 24#32
  let v109 : BitVec 1 := Scalar.cmpi .sle v108 c24_i32_94
  let v110 : BitVec 1 := Scalar.andi v107 v109
  let v111 : BitVec 32 := Scalar.extui v110
  let c0_i32_95 : BitVec 32 := 0#32
  let v112 : BitVec 1 := Scalar.cmpi .ne v111 c0_i32_95
  v112

def k6_off13 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c64_i32_96 : BitVec 32 := 64#32
  let v113 : BitVec 32 := Scalar.muli v106 c64_i32_96
  let v114 : BitVec 32 := Scalar.addi v2 v113
  let c0_i32_97 : BitVec 32 := 0#32
  ![v114.toNat, 0]
def k6_off14 (k6_t1 : Fin k6_t1_loop.trips) : Fin 2 → Nat :=
  let c0_i32_19 : BitVec 32 := 0#32
  let c1_i32_20 : BitVec 32 := 1#32
  let arg27 : BitVec 32 := Scf.iv c0_i32_19 c1_i32_20 k6_t1
  let c5_i32_32 : BitVec 32 := 5#32
  let v37 : BitVec 32 := Scalar.muli arg27 c5_i32_32
  let c4_i32_83 : BitVec 32 := 4#32
  let v98 : BitVec 32 := Scalar.addi v37 c4_i32_83
  let c2_i32_91 : BitVec 32 := 2#32
  let v106 : BitVec 32 := Scalar.subi v98 c2_i32_91
  let c5_i32_99 : BitVec 32 := 5#32
  let v117 : BitVec 32 := Scalar.addi v106 c5_i32_99
  let c0_i32_100 : BitVec 32 := 0#32
  ![v117.toNat, 0]
def k6_off15 (i : grid6.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v22 : BitVec 32 := Scalar.addi v2 c1280_i32
  let c0_i32_22 : BitVec 32 := 0#32
  ![v22.toNat, 0]
abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S12800x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x12800 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S64x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128x256 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x1 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S6x128 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 2 → Memref sig .tc .vmem S64x128 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S1024x200 : Shape := ⟨2, ![1024, 200]⟩
abbrev S1024 : Shape := ⟨1, ![1024]⟩
abbrev S100000x128 : Shape := ⟨2, ![100000, 128]⟩
abbrev S6x128 : Shape := ⟨2, ![6, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S1024x200x1 : Shape := ⟨3, ![1024, 200, 1]⟩
abbrev S1x1x1 : Shape := ⟨3, ![1, 1, 1]⟩
abbrev S1024x200x128 : Shape := ⟨3, ![1024, 200, 128]⟩
abbrev S1024x200x256 : Shape := ⟨3, ![1024, 200, 256]⟩
abbrev S256x128 : Shape := ⟨2, ![256, 128]⟩
abbrev S1x1x128 : Shape := ⟨3, ![1, 1, 128]⟩
abbrev S1024x1 : Shape := ⟨2, ![1024, 1]⟩
abbrev S1x1 : Shape := ⟨2, ![1, 1]⟩
abbrev S1024x128 : Shape := ⟨2, ![1024, 128]⟩
abbrev S1024x1x128 : Shape := ⟨3, ![1024, 1, 128]⟩
abbrev S128x1 : Shape := ⟨2, ![128, 1]⟩
abbrev S1024x1x1 : Shape := ⟨3, ![1024, 1, 1]⟩
abbrev S1024x256 : Shape := ⟨2, ![1024, 256]⟩

abbrev nBuf : Space → Nat
  | .hbm => 145
  | .vmem => 0
  | .smem => 0
  | _ => 0

abbrev hbmTy0_0 (i : Nat) : BufTy := match i % 128 with
  | 0 => ⟨S1024x200, .i32⟩
  | 1 => ⟨S1024x200, .i32⟩
  | 2 => ⟨S1024, .i32⟩
  | 3 => ⟨S100000x128, .f32⟩
  | 4 => ⟨S100000x128, .f32⟩
  | 5 => ⟨S6x128, .f32⟩
  | 6 => ⟨S128x256, .f32⟩
  | 7 => ⟨S128, .f32⟩
  | 8 => ⟨S128x128, .f32⟩
  | 9 => ⟨S128, .f32⟩
  | 10 => ⟨S128x256, .f32⟩
  | 11 => ⟨S128, .f32⟩
  | 12 => ⟨S128x256, .f32⟩
  | 13 => ⟨S128, .f32⟩
  | 14 => ⟨S1x128, .f32⟩
  | 15 => ⟨S1, .f32⟩
  | 16 => ⟨S_, .i32⟩
  | 17 => ⟨S1024x200, .i32⟩
  | 18 => ⟨S1024x200, .i1⟩
  | 19 => ⟨S_, .i32⟩
  | 20 => ⟨S1024x200, .i32⟩
  | 21 => ⟨S1024x200, .i32⟩
  | 22 => ⟨S1024x200, .i32⟩
  | 23 => ⟨S1024x200x1, .i32⟩
  | 24 => ⟨S1, .i32⟩
  | 25 => ⟨S_, .i32⟩
  | 26 => ⟨S1024x200x1, .i32⟩
  | 27 => ⟨S1024x200x1, .i1⟩
  | 28 => ⟨S1x1x1, .i32⟩
  | 29 => ⟨S1024x200x1, .i32⟩
  | 30 => ⟨S1024x200x1, .i1⟩
  | 31 => ⟨S1024x200x1, .i1⟩
  | 32 => ⟨S_, .i1⟩
  | 33 => ⟨S1024x200, .i1⟩
  | 34 => ⟨S1024x200x128, .f32⟩
  | 35 => ⟨S1024x200x128, .i1⟩
  | 36 => ⟨S_, .f32⟩
  | 37 => ⟨S1024x200x128, .f32⟩
  | 38 => ⟨S1024x200x128, .f32⟩
  | 39 => ⟨S_, .i32⟩
  | 40 => ⟨S1024x200, .i32⟩
  | 41 => ⟨S1024x200, .i1⟩
  | 42 => ⟨S_, .i32⟩
  | 43 => ⟨S1024x200, .i32⟩
  | 44 => ⟨S1024x200, .i32⟩
  | 45 => ⟨S1024x200, .i32⟩
  | 46 => ⟨S1024x200x1, .i32⟩
  | 47 => ⟨S1, .i32⟩
  | 48 => ⟨S_, .i32⟩
  | 49 => ⟨S1024x200x1, .i32⟩
  | 50 => ⟨S1024x200x1, .i1⟩
  | 51 => ⟨S1x1x1, .i32⟩
  | 52 => ⟨S1024x200x1, .i32⟩
  | 53 => ⟨S1024x200x1, .i1⟩
  | 54 => ⟨S1024x200x1, .i1⟩
  | 55 => ⟨S_, .i1⟩
  | 56 => ⟨S1024x200, .i1⟩
  | 57 => ⟨S1024x200x128, .f32⟩
  | 58 => ⟨S1024x200x128, .i1⟩
  | 59 => ⟨S_, .f32⟩
  | 60 => ⟨S1024x200x128, .f32⟩
  | 61 => ⟨S1024x200x128, .f32⟩
  | 62 => ⟨S1024x200x256, .f32⟩
  | 63 => ⟨S256x128, .f32⟩
  | 64 => ⟨S1024x200x128, .f32⟩
  | 65 => ⟨S1x1x128, .f32⟩
  | 66 => ⟨S1024x200x128, .f32⟩
  | 67 => ⟨S1024x200x128, .f32⟩
  | 68 => ⟨S_, .f32⟩
  | 69 => ⟨S1024x200x128, .f32⟩
  | 70 => ⟨S1024x200x128, .f32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1, .i32⟩
  | 80 => ⟨S_, .i32⟩
  | 81 => ⟨S1024x1, .i32⟩
  | 82 => ⟨S1024x1, .i1⟩
  | 83 => ⟨S1x1, .i32⟩
  | 84 => ⟨S1024x1, .i32⟩
  | 85 => ⟨S1024x1, .i1⟩
  | 86 => ⟨S1024x1, .i1⟩
  | 87 => ⟨S_, .i1⟩
  | 88 => ⟨S1024, .i1⟩
  | 89 => ⟨S1024x128, .f32⟩
  | 90 => ⟨S1024x128, .i1⟩
  | 91 => ⟨S_, .f32⟩
  | 92 => ⟨S1024x128, .f32⟩
  | 93 => ⟨S1024x128, .f32⟩
  | 94 => ⟨S1024x1x128, .f32⟩
  | 95 => ⟨S1024x200x128, .f32⟩
  | 96 => ⟨S1024x200x256, .f32⟩
  | 97 => ⟨S256x128, .f32⟩
  | 98 => ⟨S1024x200x128, .f32⟩
  | 99 => ⟨S1x1x128, .f32⟩
  | 100 => ⟨S1024x200x128, .f32⟩
  | 101 => ⟨S1024x200x128, .f32⟩
  | 102 => ⟨S_, .f32⟩
  | 103 => ⟨S1024x200x128, .f32⟩
  | 104 => ⟨S1024x200x128, .f32⟩
  | 105 => ⟨S128x1, .f32⟩
  | 106 => ⟨S1024x200x1, .f32⟩
  | 107 => ⟨S1x1x1, .f32⟩
  | 108 => ⟨S1024x200x1, .f32⟩
  | 109 => ⟨S1024x200x1, .f32⟩
  | 110 => ⟨S_, .f32⟩
  | 111 => ⟨S1024x1, .f32⟩
  | 112 => ⟨S_, .f32⟩
  | 113 => ⟨S1024x1, .f32⟩
  | 114 => ⟨S1024x1, .f32⟩
  | 115 => ⟨S1024x1x1, .f32⟩
  | 116 => ⟨S1024x200x1, .f32⟩
  | 117 => ⟨S1024x200x1, .f32⟩
  | 118 => ⟨S1024x200x1, .f32⟩
  | 119 => ⟨S_, .f32⟩
  | 120 => ⟨S1024x1, .f32⟩
  | 121 => ⟨S1024x1x1, .f32⟩
  | 122 => ⟨S1024x200x1, .f32⟩
  | 123 => ⟨S1024x200x1, .f32⟩
  | 124 => ⟨S1024x200x128, .f32⟩
  | 125 => ⟨S1024x200x128, .f32⟩
  | 126 => ⟨S_, .f32⟩
  | 127 => ⟨S1024x128, .f32⟩
  | _ => ⟨S1024x200, .i32⟩

abbrev hbmTy0_1 (i : Nat) : BufTy := match i % 128 with
  | 0 => ⟨S128x128, .f32⟩
  | 1 => ⟨S1024x128, .f32⟩
  | 2 => ⟨S1x128, .f32⟩
  | 3 => ⟨S1024x128, .f32⟩
  | 4 => ⟨S1024x128, .f32⟩
  | 5 => ⟨S_, .f32⟩
  | 6 => ⟨S1024x128, .f32⟩
  | 7 => ⟨S1024x128, .f32⟩
  | 8 => ⟨S1024x256, .f32⟩
  | 9 => ⟨S256x128, .f32⟩
  | 10 => ⟨S1024x128, .f32⟩
  | 11 => ⟨S1x128, .f32⟩
  | 12 => ⟨S1024x128, .f32⟩
  | 13 => ⟨S1024x128, .f32⟩
  | 14 => ⟨S_, .f32⟩
  | 15 => ⟨S1024x128, .f32⟩
  | 16 => ⟨S1024x128, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_call2_cst : Ref sig .tc := ⟨.hbm, 68, rfl⟩
abbrev main_call2_v0 : Ref sig .tc := ⟨.hbm, 69, rfl⟩
abbrev main_v8 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_call4_cst : Ref sig .tc := ⟨.hbm, 102, rfl⟩
abbrev main_call4_v0 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_cst : Ref sig .tc := ⟨.hbm, 110, rfl⟩
abbrev main_v24 : Ref sig .tc := ⟨.hbm, 111, rfl⟩
abbrev main_cst_0 : Ref sig .tc := ⟨.hbm, 112, rfl⟩
abbrev main_v25 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_cst_1 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_cst_2 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_call5_cst : Ref sig .tc := ⟨.hbm, 133, rfl⟩
abbrev main_call5_v0 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_call6_cst : Ref sig .tc := ⟨.hbm, 142, rfl⟩
abbrev main_call6_v0 : Ref sig .tc := ⟨.hbm, 143, rfl⟩
abbrev main_v50 : Ref sig .tc := ⟨.hbm, 144, rfl⟩

abbrev nD : Nat := 1
abbrev τ : Topo := Topo.v7x

variable {F : FTy → Type} [FloatOps F]
-- ==== Proof.Setup.lean ====
/-
  The program as the launch theorem for SparseCore kernels sees it: its configuration, the facts of it, and the
  resource algebra the proof runs in. Four SparseCore calls and four TensorCore calls stand in one `@main`, so the
  algebra has three parts: the launches' handshakes, the TensorCore calls' staging cells, the transfers' counters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels below the SparseCore launches: the TensorCore calls' pipelines. -/
abbrev ΛP : Labels := Pipeline.Sig Λ₀ (Fin 4) fun p => (pcfgs (F := F) p).Adm
/-- The four SparseCore launches. -/
abbrev K : SparseCore.Cfg τ sig (ΛP (F := F)) 4 := sc (F := F)
/-- The programs the labels name. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four, none of them scoped, and no buffer is shared between a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- The machine's resource algebra of this proof. -/
abbrev MM (F : FTy → Type) : Type := MT nD τ sig (HIx 4) (Elt F) ℕ UU ℕ

/-- Where the handshakes' rounds live in it, -/
abbrev EH : Emb UH (MM F) := embL
/-- and where the TensorCore calls' staging rounds do. -/
abbrev EP : Emb UP (MM F) := (Emb.inl : Emb UP (UP × Counters)).trans embR

instance EP_landsIn : (EP (F := F)).LandsIn (upEmb : UEmb _ (MM F)) := by unfold EP; infer_instance

end Cert.Proof
-- ==== Proof.TcBody.lean ====
/-
  The kernel of the dense part, run once: from the fifteen staging buffers it reads the first fourteen
  and leaves in the last a block that is a function of the blocks read.
-/
module

public import proofs.«01_k».proof.Proof.Setup
public import proofs.«01_k».proof.Proof.Gen.KernelIdeal
public import Idealize.ShloMosaic.Lib.Pipeline.FrameBody
public import Idealize.ShloMosaic.Lib.Pipeline.ValueKit.Basic
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

/-- The block the kernel leaves, from the blocks it reads. -/
def outBlk (x0 : S12800x128.Idx → Elt F .f32) (x1 : S1x12800.Idx → Elt F .i32) (x2 : S64x128.Idx → Elt F .f32) (x3 : S128x256.Idx → Elt F .f32) (x4 : S1x128.Idx → Elt F .f32) (x5 : S128x128.Idx → Elt F .f32) (x6 : S1x128.Idx → Elt F .f32) (x7 : S128x256.Idx → Elt F .f32) (x8 : S1x128.Idx → Elt F .f32) (x9 : S128x256.Idx → Elt F .f32) (x10 : S1x128.Idx → Elt F .f32) (x11 : S1x128.Idx → Elt F .f32) (x13 : S6x128.Idx → Elt F .f32) : S64x128.Idx → Elt F .f32 :=
  have f := k1_pay3 x0 x1 x3 x13 x4
  k1_pay1 (k1_pay2 x2) f k1_pay6 (Scalar.ofBits .f32 0x00000000#32)
    (k1_pay7 f (k1_pay4 x2 x9 x10) (k1_pay5 x9) (constant S12800x128 .f32 0x00000000#32) x11) x5 x6 x7 x8

/-- The contents of a memref's buffer on the TensorCore, and the buffer held whole at them. -/
abbrev Bf (d : Dev nD) {sp : Space} {S : Shape} {e : EltTy} (M : Memref sig .tc sp S e) : Type :=
  Buf (Elt F) (M.view.loc (SparseCore.T d : Thread nD τ))
abbrev bt (d : Dev nD) {sp : Space} {S : Shape} {e : EltTy} (M : Memref sig .tc sp S e) (f : Bf (F := F) d M) : sProp 𝕄 :=
  M.view.loc (SparseCore.T d : Thread nD τ) ↦{fullShare} f

set_option maxHeartbeats 4000000 in
/-- The kernel from its buffers held whole: what it leaves in the last, and its run. -/
def bodyRun (d : Dev nD) (i : grid1.Coords) (M0 : Memref sig .tc .vmem S12800x128 .f32) (h0 : M0.IsWhole) (M1 : Memref sig .tc .vmem S1x12800 .i32) (h1 : M1.IsWhole) (M2 : Memref sig .tc .vmem S64x128 .f32) (h2 : M2.IsWhole) (M3 : Memref sig .tc .vmem S128x256 .f32) (h3 : M3.IsWhole) (M4 : Memref sig .tc .vmem S1x128 .f32) (h4 : M4.IsWhole) (M5 : Memref sig .tc .vmem S128x128 .f32) (h5 : M5.IsWhole) (M6 : Memref sig .tc .vmem S1x128 .f32) (h6 : M6.IsWhole) (M7 : Memref sig .tc .vmem S128x256 .f32) (h7 : M7.IsWhole) (M8 : Memref sig .tc .vmem S1x128 .f32) (h8 : M8.IsWhole) (M9 : Memref sig .tc .vmem S128x256 .f32) (h9 : M9.IsWhole) (M10 : Memref sig .tc .vmem S1x128 .f32) (h10 : M10.IsWhole) (M11 : Memref sig .tc .vmem S1x128 .f32) (h11 : M11.IsWhole) (M12 : Memref sig .tc .vmem S1x1 .f32) (h12 : M12.IsWhole) (M13 : Memref sig .tc .vmem S6x128 .f32) (h13 : M13.IsWhole) (M14 : Memref sig .tc .vmem S64x128 .f32) (h14 : M14.IsWhole)
    (f0 : Bf (F := F) d M0) (f1 : Bf (F := F) d M1) (f2 : Bf (F := F) d M2) (f3 : Bf (F := F) d M3) (f4 : Bf (F := F) d M4) (f5 : Bf (F := F) d M5) (f6 : Bf (F := F) d M6) (f7 : Bf (F := F) d M7) (f8 : Bf (F := F) d M8) (f9 : Bf (F := F) d M9) (f10 : Bf (F := F) d M10) (f11 : Bf (F := F) d M11) (f12 : Bf (F := F) d M12) (f13 : Bf (F := F) d M13) :
    { W : Bf (F := F) d M14 // ∀ (f14 : Bf (F := F) d M14) (E : Set ℕ) (Q : PUnit → sProp 𝕄),
        iprop(bt d M0 f0 ∗ bt d M1 f1 ∗ bt d M2 f2 ∗ bt d M3 f3 ∗ bt d M4 f4 ∗ bt d M5 f5 ∗ bt d M6 f6 ∗ bt d M7 f7 ∗ bt d M8 f8 ∗ bt d M9 f9 ∗ bt d M10 f10 ∗ bt d M11 f11 ∗ bt d M12 f12 ∗ bt d M13 f13 ∗ bt d M14 f14 ∗ (iprop(bt d M0 f0 ∗ bt d M1 f1 ∗ bt d M2 f2 ∗ bt d M3 f3 ∗ bt d M4 f4 ∗ bt d M5 f5 ∗ bt d M6 f6 ∗ bt d M7 f7 ∗ bt d M8 f8 ∗ bt d M9 f9 ∗ bt d M10 f10 ∗ bt d M11 f11 ∗ bt d M12 f12 ∗ bt d M13 f13 ∗ bt d M14 W) -∗ Q ⟨⟩))
          ⊢ wp frame (wpE (defs₀ (F := F)) Variants.none (SparseCore.T d) none) E (cc1__tc_body i M0 h0 M1 h1 M2 h2 M3 h3 M4 h4 M5 h5 M6 h6 M7 h7 M8 h8 M9 h9 M10 h10 M11 h11 M12 h12 M13 h13 M14 h14) Q } := by
  refine ⟨?_, fun f14 E Q => ?run⟩
  case run =>
    rw [cc1__tc_body_eq_skeleton]
    unfold cc1__tc_body_skel
    rw [k1_part1_eq_skeleton, k1_part2_eq_skeleton]
    unfold k1_part1_skel k1_part2_skel
    iintro ⟨H0, H1, H2, H3, H4, H5, H6, H7, H8, H9, H10, H11, H12, H13, H14, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- A load of a whole memref reads it. -/
theorem readAt_all {sp : Space} {S : Shape} {e : EltTy} (M : Memref sig .tc sp S e) (d : Dev nD) {off : Fin S.rank → Nat}
    (z : ∀ a, off a = 0) (inb : ∀ a, off a + S.size a ≤ S.size a) (f : Bf (F := F) d M) :
    View.readAt (Elt F) M.view (Rect.unit off S.size inb).toLoadRect f = M.view.read (Elt F) f := by
  rw [View.readAt_eq_ld, View.ld_unit_lit _ _ z]

set_option maxHeartbeats 4000000 in
/-- The block it leaves. -/
theorem bodyRun_read (d : Dev nD) (i : grid1.Coords) (M0 : Memref sig .tc .vmem S12800x128 .f32) (h0 : M0.IsWhole) (M1 : Memref sig .tc .vmem S1x12800 .i32) (h1 : M1.IsWhole) (M2 : Memref sig .tc .vmem S64x128 .f32) (h2 : M2.IsWhole) (M3 : Memref sig .tc .vmem S128x256 .f32) (h3 : M3.IsWhole) (M4 : Memref sig .tc .vmem S1x128 .f32) (h4 : M4.IsWhole) (M5 : Memref sig .tc .vmem S128x128 .f32) (h5 : M5.IsWhole) (M6 : Memref sig .tc .vmem S1x128 .f32) (h6 : M6.IsWhole) (M7 : Memref sig .tc .vmem S128x256 .f32) (h7 : M7.IsWhole) (M8 : Memref sig .tc .vmem S1x128 .f32) (h8 : M8.IsWhole) (M9 : Memref sig .tc .vmem S128x256 .f32) (h9 : M9.IsWhole) (M10 : Memref sig .tc .vmem S1x128 .f32) (h10 : M10.IsWhole) (M11 : Memref sig .tc .vmem S1x128 .f32) (h11 : M11.IsWhole) (M12 : Memref sig .tc .vmem S1x1 .f32) (h12 : M12.IsWhole) (M13 : Memref sig .tc .vmem S6x128 .f32) (h13 : M13.IsWhole) (M14 : Memref sig .tc .vmem S64x128 .f32) (h14 : M14.IsWhole)
    (f0 : Bf (F := F) d M0) (f1 : Bf (F := F) d M1) (f2 : Bf (F := F) d M2) (f3 : Bf (F := F) d M3) (f4 : Bf (F := F) d M4) (f5 : Bf (F := F) d M5) (f6 : Bf (F := F) d M6) (f7 : Bf (F := F) d M7) (f8 : Bf (F := F) d M8) (f9 : Bf (F := F) d M9) (f10 : Bf (F := F) d M10) (f11 : Bf (F := F) d M11) (f12 : Bf (F := F) d M12) (f13 : Bf (F := F) d M13) :
    M14.view.read (Elt F) (bodyRun d i M0 h0 M1 h1 M2 h2 M3 h3 M4 h4 M5 h5 M6 h6 M7 h7 M8 h8 M9 h9 M10 h10 M11 h11 M12 h12 M13 h13 M14 h14 f0 f1 f2 f3 f4 f5 f6 f7 f8 f9 f10 f11 f12 f13).1
      = outBlk (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M13.view.read (Elt F) f13) := by
  unfold bodyRun
  dsimp only
  rw [View.read_writes_junk_eq_canon]
  unfold bodyRun.sl.H14_1
  have z : ∀ a : Fin 2, (![0, 0] : Fin 2 → Nat) a = 0 := by decide
  rw [View.canon_cons_unit_lit _ _ _ z]
  rw [readAt_all M0 d z inb_S12800x128_S12800x128_0_0 f0, readAt_all M1 d z inb_S1x12800_S1x12800_0_0 f1, readAt_all M2 d z inb_S64x128_S64x128_0_0 f2, readAt_all M3 d z inb_S128x256_S128x256_0_0 f3, readAt_all M4 d z inb_S1x128_S1x128_0_0 f4, readAt_all M5 d z inb_S128x128_S128x128_0_0 f5, readAt_all M6 d z inb_S1x128_S1x128_0_0 f6, readAt_all M7 d z inb_S128x256_S128x256_0_0 f7, readAt_all M8 d z inb_S1x128_S1x128_0_0 f8, readAt_all M9 d z inb_S128x256_S128x256_0_0 f9, readAt_all M10 d z inb_S1x128_S1x128_0_0 f10, readAt_all M11 d z inb_S1x128_S1x128_0_0 f11, readAt_all M13 d z inb_S6x128_S6x128_0_0 f13]
  rfl

/-- A whole memref owned is its buffer held whole at contents that read so. -/
theorem owns_bt (d : Dev nD) {sp : Space} {S : Shape} {e : EltTy} (M : Memref sig .tc sp S e) (h : M.IsWhole) (X : S.Idx → Elt F e) :
    (owns (SparseCore.T d : Thread nD τ) M fullShare X : sProp 𝕄) = iprop(∃ f : Bf (F := F) d M, ⌜M.view.read (Elt F) f = X⌝ ∗ bt d M f) := by
  unfold owns
  rw [h.set_eq_univ]

set_option maxHeartbeats 4000000 in
/-- The kernel over its memrefs owned at the blocks they read. -/
theorem body_owns (d : Dev nD) (i : grid1.Coords) (M0 : Memref sig .tc .vmem S12800x128 .f32) (h0 : M0.IsWhole) (M1 : Memref sig .tc .vmem S1x12800 .i32) (h1 : M1.IsWhole) (M2 : Memref sig .tc .vmem S64x128 .f32) (h2 : M2.IsWhole) (M3 : Memref sig .tc .vmem S128x256 .f32) (h3 : M3.IsWhole) (M4 : Memref sig .tc .vmem S1x128 .f32) (h4 : M4.IsWhole) (M5 : Memref sig .tc .vmem S128x128 .f32) (h5 : M5.IsWhole) (M6 : Memref sig .tc .vmem S1x128 .f32) (h6 : M6.IsWhole) (M7 : Memref sig .tc .vmem S128x256 .f32) (h7 : M7.IsWhole) (M8 : Memref sig .tc .vmem S1x128 .f32) (h8 : M8.IsWhole) (M9 : Memref sig .tc .vmem S128x256 .f32) (h9 : M9.IsWhole) (M10 : Memref sig .tc .vmem S1x128 .f32) (h10 : M10.IsWhole) (M11 : Memref sig .tc .vmem S1x128 .f32) (h11 : M11.IsWhole) (M12 : Memref sig .tc .vmem S1x1 .f32) (h12 : M12.IsWhole) (M13 : Memref sig .tc .vmem S6x128 .f32) (h13 : M13.IsWhole) (M14 : Memref sig .tc .vmem S64x128 .f32) (h14 : M14.IsWhole)
    (x0 : S12800x128.Idx → Elt F .f32) (x1 : S1x12800.Idx → Elt F .i32) (x2 : S64x128.Idx → Elt F .f32) (x3 : S128x256.Idx → Elt F .f32) (x4 : S1x128.Idx → Elt F .f32) (x5 : S128x128.Idx → Elt F .f32) (x6 : S1x128.Idx → Elt F .f32) (x7 : S128x256.Idx → Elt F .f32) (x8 : S1x128.Idx → Elt F .f32) (x9 : S128x256.Idx → Elt F .f32) (x10 : S1x128.Idx → Elt F .f32) (x11 : S1x128.Idx → Elt F .f32) (x12 : S1x1.Idx → Elt F .f32) (x13 : S6x128.Idx → Elt F .f32) (x14 : S64x128.Idx → Elt F .f32) (Q : PUnit → sProp 𝕄) :
    iprop(owns (SparseCore.T d : Thread nD τ) M0 fullShare x0 ∗ owns (SparseCore.T d : Thread nD τ) M1 fullShare x1 ∗ owns (SparseCore.T d : Thread nD τ) M2 fullShare x2 ∗ owns (SparseCore.T d : Thread nD τ) M3 fullShare x3 ∗ owns (SparseCore.T d : Thread nD τ) M4 fullShare x4 ∗ owns (SparseCore.T d : Thread nD τ) M5 fullShare x5 ∗ owns (SparseCore.T d : Thread nD τ) M6 fullShare x6 ∗ owns (SparseCore.T d : Thread nD τ) M7 fullShare x7 ∗ owns (SparseCore.T d : Thread nD τ) M8 fullShare x8 ∗ owns (SparseCore.T d : Thread nD τ) M9 fullShare x9 ∗ owns (SparseCore.T d : Thread nD τ) M10 fullShare x10 ∗ owns (SparseCore.T d : Thread nD τ) M11 fullShare x11 ∗ owns (SparseCore.T d : Thread nD τ) M12 fullShare x12 ∗ owns (SparseCore.T d : Thread nD τ) M13 fullShare x13 ∗ owns (SparseCore.T d : Thread nD τ) M14 fullShare x14
        ∗ (iprop(owns (SparseCore.T d : Thread nD τ) M0 fullShare x0 ∗ owns (SparseCore.T d : Thread nD τ) M1 fullShare x1 ∗ owns (SparseCore.T d : Thread nD τ) M2 fullShare x2 ∗ owns (SparseCore.T d : Thread nD τ) M3 fullShare x3 ∗ owns (SparseCore.T d : Thread nD τ) M4 fullShare x4 ∗ owns (SparseCore.T d : Thread nD τ) M5 fullShare x5 ∗ owns (SparseCore.T d : Thread nD τ) M6 fullShare x6 ∗ owns (SparseCore.T d : Thread nD τ) M7 fullShare x7 ∗ owns (SparseCore.T d : Thread nD τ) M8 fullShare x8 ∗ owns (SparseCore.T d : Thread nD τ) M9 fullShare x9 ∗ owns (SparseCore.T d : Thread nD τ) M10 fullShare x10 ∗ owns (SparseCore.T d : Thread nD τ) M11 fullShare x11 ∗ owns (SparseCore.T d : Thread nD τ) M12 fullShare x12 ∗ owns (SparseCore.T d : Thread nD τ) M13 fullShare x13
            ∗ owns (SparseCore.T d : Thread nD τ) M14 fullShare (outBlk x0 x1 x2 x3 x4 x5 x6 x7 x8 x9 x10 x11 x13)) -∗ Q ⟨⟩))
      ⊢ wp frame (wpE (defs₀ (F := F)) Variants.none (SparseCore.T d) none) Set.univ (cc1__tc_body i M0 h0 M1 h1 M2 h2 M3 h3 M4 h4 M5 h5 M6 h6 M7 h7 M8 h8 M9 h9 M10 h10 M11 h11 M12 h12 M13 h13 M14 h14) Q := by
  rw [owns_bt d M0 h0, owns_bt d M1 h1, owns_bt d M2 h2, owns_bt d M3 h3, owns_bt d M4 h4, owns_bt d M5 h5, owns_bt d M6 h6, owns_bt d M7 h7, owns_bt d M8 h8, owns_bt d M9 h9, owns_bt d M10 h10, owns_bt d M11 h11, owns_bt d M12 h12, owns_bt d M13 h13]
  rw [owns_bt d M14 h14, owns_bt d M14 h14]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  iapply ((bodyRun d i M0 h0 M1 h1 M2 h2 M3 h3 M4 h4 M5 h5 M6 h6 M7 h7 M8 h8 M9 h9 M10 h10 M11 h11 M12 h12 M13 h13 M14 h14 f0 f1 f2 f3 f4 f5 f6 f7 f8 f9 f10 f11 f12 f13).2 f14 Set.univ Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]
  · iexists f0
    isplitr; swap
    · iexact H0
    ipureintro; exact e0
  isplitl [H1]
  · iexists f1
    isplitr; swap
    · iexact H1
    ipureintro; exact e1
  isplitl [H2]
  · iexists f2
    isplitr; swap
    · iexact H2
    ipureintro; exact e2
  isplitl [H3]
  · iexists f3
    isplitr; swap
    · iexact H3
    ipureintro; exact e3
  isplitl [H4]
  · iexists f4
    isplitr; swap
    · iexact H4
    ipureintro; exact e4
  isplitl [H5]
  · iexists f5
    isplitr; swap
    · iexact H5
    ipureintro; exact e5
  isplitl [H6]
  · iexists f6
    isplitr; swap
    · iexact H6
    ipureintro; exact e6
  isplitl [H7]
  · iexists f7
    isplitr; swap
    · iexact H7
    ipureintro; exact e7
  isplitl [H8]
  · iexists f8
    isplitr; swap
    · iexact H8
    ipureintro; exact e8
  isplitl [H9]
  · iexists f9
    isplitr; swap
    · iexact H9
    ipureintro; exact e9
  isplitl [H10]
  · iexists f10
    isplitr; swap
    · iexact H10
    ipureintro; exact e10
  isplitl [H11]
  · iexists f11
    isplitr; swap
    · iexact H11
    ipureintro; exact e11
  isplitl [H12]
  · iexists f12
    isplitr; swap
    · iexact H12
    ipureintro; exact e12
  isplitl [H13]
  · iexists f13
    isplitr; swap
    · iexact H13
    ipureintro; exact e13
  iexists _
  isplitr; swap
  · iexact H14
  ipureintro
  rw [bodyRun_read, e0, e1, e2, e3, e4, e5, e6, e7, e8, e9, e10, e11, e13]

end Cert.Proof

end
-- ==== Proof.Region.lean ====
/-
  The four calls of the dense part as regions of the program: what each leaves of its arrays, and its run.
-/
module

public import proofs.«01_k».proof.Proof.TcBody
public import proofs.«01_k».proof.Proof.Gen.KernelIdeal.Launch
public import proofs.«01_k».proof.Proof.Gen.KernelIdeal.Points
public import Idealize.ShloMosaic.Lib.Pipeline.RegionArrays

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

open Idealize.ShloMosaic.Pipeline (Dat Cfg Window BodyObligation cellOf arrRef)

abbrev VV (F : FTy → Type) : Type := Valuation τ sig (Elt F)

/-- The pairs a wait may have recorded before call `n`. -/
def below (d : Dev nD) (n : ℕ) : Set (SemLoc sig × HIx 4) := {q | (K (F := F)).lev (SparseCore.T d, q.1) q.2 ≤ 8 * n}

/-! ### Call 1 -/

/-- The block a window reads at a point. -/
def ib1 (V : VV F) (w : Fin 15) (t : Fin cfg1.N) : ((cfg1.win w).xblock (cfg1.grid.coords t)).Idx → Elt F (cfg1.win w).elt :=
  ((cfg1.win w).blk t).view.read (Elt F) (V (Proc.devRef .tc (arrRef spec1 w)))

/-- The block the kernel leaves at a point. -/
def ob1 (V : VV F) (t : Fin cfg1.N) : S64x128.Idx → Elt F .f32 :=
  outBlk (ib1 V 0 t) (ib1 V 1 t) (ib1 V 2 t) (ib1 V 3 t) (ib1 V 4 t) (ib1 V 5 t) (ib1 V 6 t) (ib1 V 7 t) (ib1 V 8 t) (ib1 V 9 t) (ib1 V 10 t) (ib1 V 11 t) (ib1 V 13 t)

/-- The call's data, entered at `V`. -/
def dat1 (V : VV F) (d : Dev nD) : Dat τ (Elt F) (HIx 4) ℕ UU ℕ cfg1 d where
  A w := V (Proc.devRef .tc (arrRef spec1 w))
  after w t := match w with
    | ⟨0, _⟩ => ib1 V 0 t
    | ⟨1, _⟩ => ib1 V 1 t
    | ⟨2, _⟩ => ib1 V 2 t
    | ⟨3, _⟩ => ib1 V 3 t
    | ⟨4, _⟩ => ib1 V 4 t
    | ⟨5, _⟩ => ib1 V 5 t
    | ⟨6, _⟩ => ib1 V 6 t
    | ⟨7, _⟩ => ib1 V 7 t
    | ⟨8, _⟩ => ib1 V 8 t
    | ⟨9, _⟩ => ib1 V 9 t
    | ⟨10, _⟩ => ib1 V 10 t
    | ⟨11, _⟩ => ib1 V 11 t
    | ⟨12, _⟩ => ib1 V 12 t
    | ⟨13, _⟩ => ib1 V 13 t
    | ⟨14, _⟩ => ob1 V t
  Φ _ := Pipeline.scopedRest spec1 d
  q _ := fullShare
  owed _ := (K (F := F)).Otc d 1
  recorded _ := below (F := F) d 1

theorem before1_0 (V : VV F) (d : Dev nD) (t : Fin cfg1.N) (x : (cfg1.win 0).block.Idx → Elt F (cfg1.win 0).elt) :
    (dat1 V d).before 0 t x = ib1 V 0 t :=
  (dat1 V d).before_in_eq_fetched 0 rfl (fun _ => rfl) (fun _ _ _ => rfl) (fun _ => rfl) t x

theorem before1_1 (V : VV F) (d : Dev nD) (t : Fin cfg1.N) (x : (cfg1.win 1).block.Idx → Elt F (cfg1.win 1).elt) :
    (dat1 V d).before 1 t x = ib1 V 1 t :=
  (dat1 V d).before_in_eq_fetched 1 rfl (fun _ => rfl) (fun _ _ _ => rfl) (fun _ => rfl) t x

theorem before1_2 (V : VV F) (d : Dev nD) (t : Fin cfg1.N) (x : (cfg1.win 2).block.Idx → Elt F (cfg1.win 2).elt) :
    (dat1 V d).before 2 t x = ib1 V 2 t :=
  (dat1 V d).before_in_eq_fetched 2 rfl (fun _ => rfl) (fun _ _ _ => rfl) (fun _ => rfl) t x

theorem before1_3 (V : VV F) (d : Dev nD) (t : Fin cfg1.N) (x : (cfg1.win 3).block.Idx → Elt F (cfg1.win 3).elt) :
    (dat1 V d).before 3 t x = ib1 V 3 t :=
  (dat1 V d).before_in_eq_fetched 3 rfl (fun _ => rfl) (fun _ _ _ => rfl) (fun _ => rfl) t x

theorem before1_4 (V : VV F) (d : Dev nD) (t : Fin cfg1.N) (x : (cfg1.win 4).block.Idx → Elt F (cfg1.win 4).elt) :
    (dat1 V d).before 4 t x = ib1 V 4 t :=
  (dat1 V d).before_in_eq_fetched 4 rfl (fun _ => rfl) (fun _ _ _ => rfl) (fun _ => rfl) t x

theorem before1_5 (V : VV F) (d : Dev nD) (t : Fin cfg1.N) (x : (cfg1.win 5).block.Idx → Elt F (cfg1.win 5).elt) :
    (dat1 V d).before 5 t x = ib1 V 5 t :=
  (dat1 V d).before_in_eq_fetched 5 rfl (fun _ => rfl) (fun _ _ _ => rfl) (fun _ => rfl) t x

theorem before1_6 (V : VV F) (d : Dev nD) (t : Fin cfg1.N) (x : (cfg1.win 6).block.Idx → Elt F (cfg1.win 6).elt) :
    (dat1 V d).before 6 t x = ib1 V 6 t :=
  (dat1 V d).before_in_eq_fetched 6 rfl (fun _ => rfl) (fun _ _ _ => rfl) (fun _ => rfl) t x

theorem before1_7 (V : VV F) (d : Dev nD) (t : Fin cfg1.N) (x : (cfg1.win 7).block.Idx → Elt F (cfg1.win 7).elt) :
    (dat1 V d).before 7 t x = ib1 V 7 t :=
  (dat1 V d).before_in_eq_fetched 7 rfl (fun _ => rfl) (fun _ _ _ => rfl) (fun _ => rfl) t x

theorem before1_8 (V : VV F) (d : Dev nD) (t : Fin cfg1.N) (x : (cfg1.win 8).block.Idx → Elt F (cfg1.win 8).elt) :
    (dat1 V d).before 8 t x = ib1 V 8 t :=
  (dat1 V d).before_in_eq_fetched 8 rfl (fun _ => rfl) (fun _ _ _ => rfl) (fun _ => rfl) t x

theorem before1_9 (V : VV F) (d : Dev nD) (t : Fin cfg1.N) (x : (cfg1.win 9).block.Idx → Elt F (cfg1.win 9).elt) :
    (dat1 V d).before 9 t x = ib1 V 9 t :=
  (dat1 V d).before_in_eq_fetched 9 rfl (fun _ => rfl) (fun _ _ _ => rfl) (fun _ => rfl) t x

theorem before1_10 (V : VV F) (d : Dev nD) (t : Fin cfg1.N) (x : (cfg1.win 10).block.Idx → Elt F (cfg1.win 10).elt) :
    (dat1 V d).before 10 t x = ib1 V 10 t :=
  (dat1 V d).before_in_eq_fetched 10 rfl (fun _ => rfl) (fun _ _ _ => rfl) (fun _ => rfl) t x

theorem before1_11 (V : VV F) (d : Dev nD) (t : Fin cfg1.N) (x : (cfg1.win 11).block.Idx → Elt F (cfg1.win 11).elt) :
    (dat1 V d).before 11 t x = ib1 V 11 t :=
  (dat1 V d).before_in_eq_fetched 11 rfl (fun _ => rfl) (fun _ _ _ => rfl) (fun _ => rfl) t x

theorem before1_12 (V : VV F) (d : Dev nD) (t : Fin cfg1.N) (x : (cfg1.win 12).block.Idx → Elt F (cfg1.win 12).elt) :
    (dat1 V d).before 12 t x = ib1 V 12 t :=
  (dat1 V d).before_in_eq_fetched 12 rfl (fun _ => rfl) (fun _ _ _ => rfl) (fun _ => rfl) t x

theorem before1_13 (V : VV F) (d : Dev nD) (t : Fin cfg1.N) (x : (cfg1.win 13).block.Idx → Elt F (cfg1.win 13).elt) :
    (dat1 V d).before 13 t x = ib1 V 13 t :=
  (dat1 V d).before_in_eq_fetched 13 rfl (fun _ => rfl) (fun _ _ _ => rfl) (fun _ => rfl) t x

set_option maxHeartbeats 4000000 in
/-- The kernel at every point. -/
theorem body1_obl (V : VV F) (d : Dev nD) : BodyObligation (dat1 V d) (defs₀ (F := F)) 𝒱₀ none Set.univ := fun t => by
  rw [bigSep_W1, bigSep_W1]
  rw [show (dat1 V d).Φ t.castSucc = Pipeline.scopedRest spec1 d from rfl, show (dat1 V d).Φ t.succ = Pipeline.scopedRest spec1 d from rfl,
    show (dat1 V d).owesAt none t.succ = (dat1 V d).owesAt none t.castSucc from rfl]
  dsimp only
  simp only [before1_0 V d t, before1_1 V d t, before1_2 V d t, before1_3 V d t, before1_4 V d t, before1_5 V d t, before1_6 V d t, before1_7 V d t, before1_8 V d t, before1_9 V d t, before1_10 V d t, before1_11 V d t, before1_12 V d t, before1_13 V d t]
  rw [show defs₀ (F := F) .tc 1 (t, cfg1.slots t) = cc1__tc_body (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_owns d (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (ib1 V 0 t) (ib1 V 1 t) (ib1 V 2 t) (ib1 V 3 t) (ib1 V 4 t) (ib1 V 5 t) (ib1 V 6 t) (ib1 V 7 t) (ib1 V 8 t) (ib1 V 9 t) (ib1 V 10 t) (ib1 V 11 t) (ib1 V 12 t) (ib1 V 13 t) ((dat1 V d).before 14 t d14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ### Call 3 -/

/-- The block a window reads at a point. -/
def ib3 (V : VV F) (w : Fin 15) (t : Fin cfg3.N) : ((cfg3.win w).xblock (cfg3.grid.coords t)).Idx → Elt F (cfg3.win w).elt :=
  ((cfg3.win w).blk t).view.read (Elt F) (V (Proc.devRef .tc (arrRef spec3 w)))

/-- The block the kernel leaves at a point. -/
def ob3 (V : VV F) (t : Fin cfg3.N) : S64x128.Idx → Elt F .f32 :=
  outBlk (ib3 V 0 t) (ib3 V 1 t) (ib3 V 2 t) (ib3 V 3 t) (ib3 V 4 t) (ib3 V 5 t) (ib3 V 6 t) (ib3 V 7 t) (ib3 V 8 t) (ib3 V 9 t) (ib3 V 10 t) (ib3 V 11 t) (ib3 V 13 t)

/-- The call's data, entered at `V`. -/
def dat3 (V : VV F) (d : Dev nD) : Dat τ (Elt F) (HIx 4) ℕ UU ℕ cfg3 d where
  A w := V (Proc.devRef .tc (arrRef spec3 w))
  after w t := match w with
    | ⟨0, _⟩ => ib3 V 0 t
    | ⟨1, _⟩ => ib3 V 1 t
    | ⟨2, _⟩ => ib3 V 2 t
    | ⟨3, _⟩ => ib3 V 3 t
    | ⟨4, _⟩ => ib3 V 4 t
    | ⟨5, _⟩ => ib3 V 5 t
    | ⟨6, _⟩ => ib3 V 6 t
    | ⟨7, _⟩ => ib3 V 7 t
    | ⟨8, _⟩ => ib3 V 8 t
    | ⟨9, _⟩ => ib3 V 9 t
    | ⟨10, _⟩ => ib3 V 10 t
    | ⟨11, _⟩ => ib3 V 11 t
    | ⟨12, _⟩ => ib3 V 12 t
    | ⟨13, _⟩ => ib3 V 13 t
    | ⟨14, _⟩ => ob3 V t
  Φ _ := Pipeline.scopedRest spec3 d
  q _ := fullShare
  owed _ := (K (F := F)).Otc d 2
  recorded _ := below (F := F) d 2

theorem before3_0 (V : VV F) (d : Dev nD) (t : Fin cfg3.N) (x : (cfg3.win 0).block.Idx → Elt F (cfg3.win 0).elt) :
    (dat3 V d).before 0 t x = ib3 V 0 t :=
  (dat3 V d).before_in_eq_fetched 0 rfl (fun _ => rfl) (fun _ _ _ => rfl) (fun _ => rfl) t x

theorem before3_1 (V : VV F) (d : Dev nD) (t : Fin cfg3.N) (x : (cfg3.win 1).block.Idx → Elt F (cfg3.win 1).elt) :
    (dat3 V d).before 1 t x = ib3 V 1 t :=
  (dat3 V d).before_in_eq_fetched 1 rfl (fun _ => rfl) (fun _ _ _ => rfl) (fun _ => rfl) t x

theorem before3_2 (V : VV F) (d : Dev nD) (t : Fin cfg3.N) (x : (cfg3.win 2).block.Idx → Elt F (cfg3.win 2).elt) :
    (dat3 V d).before 2 t x = ib3 V 2 t :=
  (dat3 V d).before_in_eq_fetched 2 rfl (fun _ => rfl) (fun _ _ _ => rfl) (fun _ => rfl) t x

theorem before3_3 (V : VV F) (d : Dev nD) (t : Fin cfg3.N) (x : (cfg3.win 3).block.Idx → Elt F (cfg3.win 3).elt) :
    (dat3 V d).before 3 t x = ib3 V 3 t :=
  (dat3 V d).before_in_eq_fetched 3 rfl (fun _ => rfl) (fun _ _ _ => rfl) (fun _ => rfl) t x

theorem before3_4 (V : VV F) (d : Dev nD) (t : Fin cfg3.N) (x : (cfg3.win 4).block.Idx → Elt F (cfg3.win 4).elt) :
    (dat3 V d).before 4 t x = ib3 V 4 t :=
  (dat3 V d).before_in_eq_fetched 4 rfl (fun _ => rfl) (fun _ _ _ => rfl) (fun _ => rfl) t x

theorem before3_5 (V : VV F) (d : Dev nD) (t : Fin cfg3.N) (x : (cfg3.win 5).block.Idx → Elt F (cfg3.win 5).elt) :
    (dat3 V d).before 5 t x = ib3 V 5 t :=
  (dat3 V d).before_in_eq_fetched 5 rfl (fun _ => rfl) (fun _ _ _ => rfl) (fun _ => rfl) t x

theorem before3_6 (V : VV F) (d : Dev nD) (t : Fin cfg3.N) (x : (cfg3.win 6).block.Idx → Elt F (cfg3.win 6).elt) :
    (dat3 V d).before 6 t x = ib3 V 6 t :=
  (dat3 V d).before_in_eq_fetched 6 rfl (fun _ => rfl) (fun _ _ _ => rfl) (fun _ => rfl) t x

theorem before3_7 (V : VV F) (d : Dev nD) (t : Fin cfg3.N) (x : (cfg3.win 7).block.Idx → Elt F (cfg3.win 7).elt) :
    (dat3 V d).before 7 t x = ib3 V 7 t :=
  (dat3 V d).before_in_eq_fetched 7 rfl (fun _ => rfl) (fun _ _ _ => rfl) (fun _ => rfl) t x

theorem before3_8 (V : VV F) (d : Dev nD) (t : Fin cfg3.N) (x : (cfg3.win 8).block.Idx → Elt F (cfg3.win 8).elt) :
    (dat3 V d).before 8 t x = ib3 V 8 t :=
  (dat3 V d).before_in_eq_fetched 8 rfl (fun _ => rfl) (fun _ _ _ => rfl) (fun _ => rfl) t x

theorem before3_9 (V : VV F) (d : Dev nD) (t : Fin cfg3.N) (x : (cfg3.win 9).block.Idx → Elt F (cfg3.win 9).elt) :
    (dat3 V d).before 9 t x = ib3 V 9 t :=
  (dat3 V d).before_in_eq_fetched 9 rfl (fun _ => rfl) (fun _ _ _ => rfl) (fun _ => rfl) t x

theorem before3_10 (V : VV F) (d : Dev nD) (t : Fin cfg3.N) (x : (cfg3.win 10).block.Idx → Elt F (cfg3.win 10).elt) :
    (dat3 V d).before 10 t x = ib3 V 10 t :=
  (dat3 V d).before_in_eq_fetched 10 rfl (fun _ => rfl) (fun _ _ _ => rfl) (fun _ => rfl) t x

theorem before3_11 (V : VV F) (d : Dev nD) (t : Fin cfg3.N) (x : (cfg3.win 11).block.Idx → Elt F (cfg3.win 11).elt) :
    (dat3 V d).before 11 t x = ib3 V 11 t :=
  (dat3 V d).before_in_eq_fetched 11 rfl (fun _ => rfl) (fun _ _ _ => rfl) (fun _ => rfl) t x

theorem before3_12 (V : VV F) (d : Dev nD) (t : Fin cfg3.N) (x : (cfg3.win 12).block.Idx → Elt F (cfg3.win 12).elt) :
    (dat3 V d).before 12 t x = ib3 V 12 t :=
  (dat3 V d).before_in_eq_fetched 12 rfl (fun _ => rfl) (fun _ _ _ => rfl) (fun _ => rfl) t x

theorem before3_13 (V : VV F) (d : Dev nD) (t : Fin cfg3.N) (x : (cfg3.win 13).block.Idx → Elt F (cfg3.win 13).elt) :
    (dat3 V d).before 13 t x = ib3 V 13 t :=
  (dat3 V d).before_in_eq_fetched 13 rfl (fun _ => rfl) (fun _ _ _ => rfl) (fun _ => rfl) t x

set_option maxHeartbeats 4000000 in
/-- The kernel at every point. -/
theorem body3_obl (V : VV F) (d : Dev nD) : BodyObligation (dat3 V d) (defs₀ (F := F)) 𝒱₀ none Set.univ := fun t => by
  rw [bigSep_W3, bigSep_W3]
  rw [show (dat3 V d).Φ t.castSucc = Pipeline.scopedRest spec3 d from rfl, show (dat3 V d).Φ t.succ = Pipeline.scopedRest spec3 d from rfl,
    show (dat3 V d).owesAt none t.succ = (dat3 V d).owesAt none t.castSucc from rfl]
  dsimp only
  simp only [before3_0 V d t, before3_1 V d t, before3_2 V d t, before3_3 V d t, before3_4 V d t, before3_5 V d t, before3_6 V d t, before3_7 V d t, before3_8 V d t, before3_9 V d t, before3_10 V d t, before3_11 V d t, before3_12 V d t, before3_13 V d t]
  rw [show defs₀ (F := F) .tc 3 (t, cfg3.slots t) = cc1__tc_body (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7)) (st3_8 t) (hstage3_8 ((cfg3.slots t 8).cast nbuf3_8)) (st3_9 t) (hstage3_9 ((cfg3.slots t 9).cast nbuf3_9)) (st3_10 t) (hstage3_10 ((cfg3.slots t 10).cast nbuf3_10)) (st3_11 t) (hstage3_11 ((cfg3.slots t 11).cast nbuf3_11)) (st3_12 t) (hstage3_12 ((cfg3.slots t 12).cast nbuf3_12)) (st3_13 t) (hstage3_13 ((cfg3.slots t 13).cast nbuf3_13)) (st3_14 t) (hstage3_14 ((cfg3.slots t 14).cast nbuf3_14)) from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_owns d (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7)) (st3_8 t) (hstage3_8 ((cfg3.slots t 8).cast nbuf3_8)) (st3_9 t) (hstage3_9 ((cfg3.slots t 9).cast nbuf3_9)) (st3_10 t) (hstage3_10 ((cfg3.slots t 10).cast nbuf3_10)) (st3_11 t) (hstage3_11 ((cfg3.slots t 11).cast nbuf3_11)) (st3_12 t) (hstage3_12 ((cfg3.slots t 12).cast nbuf3_12)) (st3_13 t) (hstage3_13 ((cfg3.slots t 13).cast nbuf3_13)) (st3_14 t) (hstage3_14 ((cfg3.slots t 14).cast nbuf3_14)) (ib3 V 0 t) (ib3 V 1 t) (ib3 V 2 t) (ib3 V 3 t) (ib3 V 4 t) (ib3 V 5 t) (ib3 V 6 t) (ib3 V 7 t) (ib3 V 8 t) (ib3 V 9 t) (ib3 V 10 t) (ib3 V 11 t) (ib3 V 12 t) (ib3 V 13 t) ((dat3 V d).before 14 t d14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ### Call 5 -/

/-- The block a window reads at a point. -/
def ib5 (V : VV F) (w : Fin 15) (t : Fin cfg5.N) : ((cfg5.win w).xblock (cfg5.grid.coords t)).Idx → Elt F (cfg5.win w).elt :=
  ((cfg5.win w).blk t).view.read (Elt F) (V (Proc.devRef .tc (arrRef spec5 w)))

/-- The block the kernel leaves at a point. -/
def ob5 (V : VV F) (t : Fin cfg5.N) : S64x128.Idx → Elt F .f32 :=
  outBlk (ib5 V 0 t) (ib5 V 1 t) (ib5 V 2 t) (ib5 V 3 t) (ib5 V 4 t) (ib5 V 5 t) (ib5 V 6 t) (ib5 V 7 t) (ib5 V 8 t) (ib5 V 9 t) (ib5 V 10 t) (ib5 V 11 t) (ib5 V 13 t)

/-- The call's data, entered at `V`. -/
def dat5 (V : VV F) (d : Dev nD) : Dat τ (Elt F) (HIx 4) ℕ UU ℕ cfg5 d where
  A w := V (Proc.devRef .tc (arrRef spec5 w))
  after w t := match w with
    | ⟨0, _⟩ => ib5 V 0 t
    | ⟨1, _⟩ => ib5 V 1 t
    | ⟨2, _⟩ => ib5 V 2 t
    | ⟨3, _⟩ => ib5 V 3 t
    | ⟨4, _⟩ => ib5 V 4 t
    | ⟨5, _⟩ => ib5 V 5 t
    | ⟨6, _⟩ => ib5 V 6 t
    | ⟨7, _⟩ => ib5 V 7 t
    | ⟨8, _⟩ => ib5 V 8 t
    | ⟨9, _⟩ => ib5 V 9 t
    | ⟨10, _⟩ => ib5 V 10 t
    | ⟨11, _⟩ => ib5 V 11 t
    | ⟨12, _⟩ => ib5 V 12 t
    | ⟨13, _⟩ => ib5 V 13 t
    | ⟨14, _⟩ => ob5 V t
  Φ _ := Pipeline.scopedRest spec5 d
  q _ := fullShare
  owed _ := (K (F := F)).Otc d 3
  recorded _ := below (F := F) d 3

theorem before5_0 (V : VV F) (d : Dev nD) (t : Fin cfg5.N) (x : (cfg5.win 0).block.Idx → Elt F (cfg5.win 0).elt) :
    (dat5 V d).before 0 t x = ib5 V 0 t :=
  (dat5 V d).before_in_eq_fetched 0 rfl (fun _ => rfl) (fun _ _ _ => rfl) (fun _ => rfl) t x

theorem before5_1 (V : VV F) (d : Dev nD) (t : Fin cfg5.N) (x : (cfg5.win 1).block.Idx → Elt F (cfg5.win 1).elt) :
    (dat5 V d).before 1 t x = ib5 V 1 t :=
  (dat5 V d).before_in_eq_fetched 1 rfl (fun _ => rfl) (fun _ _ _ => rfl) (fun _ => rfl) t x

theorem before5_2 (V : VV F) (d : Dev nD) (t : Fin cfg5.N) (x : (cfg5.win 2).block.Idx → Elt F (cfg5.win 2).elt) :
    (dat5 V d).before 2 t x = ib5 V 2 t :=
  (dat5 V d).before_in_eq_fetched 2 rfl (fun _ => rfl) (fun _ _ _ => rfl) (fun _ => rfl) t x

theorem before5_3 (V : VV F) (d : Dev nD) (t : Fin cfg5.N) (x : (cfg5.win 3).block.Idx → Elt F (cfg5.win 3).elt) :
    (dat5 V d).before 3 t x = ib5 V 3 t :=
  (dat5 V d).before_in_eq_fetched 3 rfl (fun _ => rfl) (fun _ _ _ => rfl) (fun _ => rfl) t x

theorem before5_4 (V : VV F) (d : Dev nD) (t : Fin cfg5.N) (x : (cfg5.win 4).block.Idx → Elt F (cfg5.win 4).elt) :
    (dat5 V d).before 4 t x = ib5 V 4 t :=
  (dat5 V d).before_in_eq_fetched 4 rfl (fun _ => rfl) (fun _ _ _ => rfl) (fun _ => rfl) t x

theorem before5_5 (V : VV F) (d : Dev nD) (t : Fin cfg5.N) (x : (cfg5.win 5).block.Idx → Elt F (cfg5.win 5).elt) :
    (dat5 V d).before 5 t x = ib5 V 5 t :=
  (dat5 V d).before_in_eq_fetched 5 rfl (fun _ => rfl) (fun _ _ _ => rfl) (fun _ => rfl) t x

theorem before5_6 (V : VV F) (d : Dev nD) (t : Fin cfg5.N) (x : (cfg5.win 6).block.Idx → Elt F (cfg5.win 6).elt) :
    (dat5 V d).before 6 t x = ib5 V 6 t :=
  (dat5 V d).before_in_eq_fetched 6 rfl (fun _ => rfl) (fun _ _ _ => rfl) (fun _ => rfl) t x

theorem before5_7 (V : VV F) (d : Dev nD) (t : Fin cfg5.N) (x : (cfg5.win 7).block.Idx → Elt F (cfg5.win 7).elt) :
    (dat5 V d).before 7 t x = ib5 V 7 t :=
  (dat5 V d).before_in_eq_fetched 7 rfl (fun _ => rfl) (fun _ _ _ => rfl) (fun _ => rfl) t x

theorem before5_8 (V : VV F) (d : Dev nD) (t : Fin cfg5.N) (x : (cfg5.win 8).block.Idx → Elt F (cfg5.win 8).elt) :
    (dat5 V d).before 8 t x = ib5 V 8 t :=
  (dat5 V d).before_in_eq_fetched 8 rfl (fun _ => rfl) (fun _ _ _ => rfl) (fun _ => rfl) t x

theorem before5_9 (V : VV F) (d : Dev nD) (t : Fin cfg5.N) (x : (cfg5.win 9).block.Idx → Elt F (cfg5.win 9).elt) :
    (dat5 V d).before 9 t x = ib5 V 9 t :=
  (dat5 V d).before_in_eq_fetched 9 rfl (fun _ => rfl) (fun _ _ _ => rfl) (fun _ => rfl) t x

theorem before5_10 (V : VV F) (d : Dev nD) (t : Fin cfg5.N) (x : (cfg5.win 10).block.Idx → Elt F (cfg5.win 10).elt) :
    (dat5 V d).before 10 t x = ib5 V 10 t :=
  (dat5 V d).before_in_eq_fetched 10 rfl (fun _ => rfl) (fun _ _ _ => rfl) (fun _ => rfl) t x

theorem before5_11 (V : VV F) (d : Dev nD) (t : Fin cfg5.N) (x : (cfg5.win 11).block.Idx → Elt F (cfg5.win 11).elt) :
    (dat5 V d).before 11 t x = ib5 V 11 t :=
  (dat5 V d).before_in_eq_fetched 11 rfl (fun _ => rfl) (fun _ _ _ => rfl) (fun _ => rfl) t x

theorem before5_12 (V : VV F) (d : Dev nD) (t : Fin cfg5.N) (x : (cfg5.win 12).block.Idx → Elt F (cfg5.win 12).elt) :
    (dat5 V d).before 12 t x = ib5 V 12 t :=
  (dat5 V d).before_in_eq_fetched 12 rfl (fun _ => rfl) (fun _ _ _ => rfl) (fun _ => rfl) t x

theorem before5_13 (V : VV F) (d : Dev nD) (t : Fin cfg5.N) (x : (cfg5.win 13).block.Idx → Elt F (cfg5.win 13).elt) :
    (dat5 V d).before 13 t x = ib5 V 13 t :=
  (dat5 V d).before_in_eq_fetched 13 rfl (fun _ => rfl) (fun _ _ _ => rfl) (fun _ => rfl) t x

set_option maxHeartbeats 4000000 in
/-- The kernel at every point. -/
theorem body5_obl (V : VV F) (d : Dev nD) : BodyObligation (dat5 V d) (defs₀ (F := F)) 𝒱₀ none Set.univ := fun t => by
  rw [bigSep_W5, bigSep_W5]
  rw [show (dat5 V d).Φ t.castSucc = Pipeline.scopedRest spec5 d from rfl, show (dat5 V d).Φ t.succ = Pipeline.scopedRest spec5 d from rfl,
    show (dat5 V d).owesAt none t.succ = (dat5 V d).owesAt none t.castSucc from rfl]
  dsimp only
  simp only [before5_0 V d t, before5_1 V d t, before5_2 V d t, before5_3 V d t, before5_4 V d t, before5_5 V d t, before5_6 V d t, before5_7 V d t, before5_8 V d t, before5_9 V d t, before5_10 V d t, before5_11 V d t, before5_12 V d t, before5_13 V d t]
  rw [show defs₀ (F := F) .tc 5 (t, cfg5.slots t) = cc1__tc_body (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3)) (st5_4 t) (hstage5_4 ((cfg5.slots t 4).cast nbuf5_4)) (st5_5 t) (hstage5_5 ((cfg5.slots t 5).cast nbuf5_5)) (st5_6 t) (hstage5_6 ((cfg5.slots t 6).cast nbuf5_6)) (st5_7 t) (hstage5_7 ((cfg5.slots t 7).cast nbuf5_7)) (st5_8 t) (hstage5_8 ((cfg5.slots t 8).cast nbuf5_8)) (st5_9 t) (hstage5_9 ((cfg5.slots t 9).cast nbuf5_9)) (st5_10 t) (hstage5_10 ((cfg5.slots t 10).cast nbuf5_10)) (st5_11 t) (hstage5_11 ((cfg5.slots t 11).cast nbuf5_11)) (st5_12 t) (hstage5_12 ((cfg5.slots t 12).cast nbuf5_12)) (st5_13 t) (hstage5_13 ((cfg5.slots t 13).cast nbuf5_13)) (st5_14 t) (hstage5_14 ((cfg5.slots t 14).cast nbuf5_14)) from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_owns d (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3)) (st5_4 t) (hstage5_4 ((cfg5.slots t 4).cast nbuf5_4)) (st5_5 t) (hstage5_5 ((cfg5.slots t 5).cast nbuf5_5)) (st5_6 t) (hstage5_6 ((cfg5.slots t 6).cast nbuf5_6)) (st5_7 t) (hstage5_7 ((cfg5.slots t 7).cast nbuf5_7)) (st5_8 t) (hstage5_8 ((cfg5.slots t 8).cast nbuf5_8)) (st5_9 t) (hstage5_9 ((cfg5.slots t 9).cast nbuf5_9)) (st5_10 t) (hstage5_10 ((cfg5.slots t 10).cast nbuf5_10)) (st5_11 t) (hstage5_11 ((cfg5.slots t 11).cast nbuf5_11)) (st5_12 t) (hstage5_12 ((cfg5.slots t 12).cast nbuf5_12)) (st5_13 t) (hstage5_13 ((cfg5.slots t 13).cast nbuf5_13)) (st5_14 t) (hstage5_14 ((cfg5.slots t 14).cast nbuf5_14)) (ib5 V 0 t) (ib5 V 1 t) (ib5 V 2 t) (ib5 V 3 t) (ib5 V 4 t) (ib5 V 5 t) (ib5 V 6 t) (ib5 V 7 t) (ib5 V 8 t) (ib5 V 9 t) (ib5 V 10 t) (ib5 V 11 t) (ib5 V 12 t) (ib5 V 13 t) ((dat5 V d).before 14 t d14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ### Call 7 -/

/-- The block a window reads at a point. -/
def ib7 (V : VV F) (w : Fin 15) (t : Fin cfg7.N) : ((cfg7.win w).xblock (cfg7.grid.coords t)).Idx → Elt F (cfg7.win w).elt :=
  ((cfg7.win w).blk t).view.read (Elt F) (V (Proc.devRef .tc (arrRef spec7 w)))

/-- The block the kernel leaves at a point. -/
def ob7 (V : VV F) (t : Fin cfg7.N) : S64x128.Idx → Elt F .f32 :=
  outBlk (ib7 V 0 t) (ib7 V 1 t) (ib7 V 2 t) (ib7 V 3 t) (ib7 V 4 t) (ib7 V 5 t) (ib7 V 6 t) (ib7 V 7 t) (ib7 V 8 t) (ib7 V 9 t) (ib7 V 10 t) (ib7 V 11 t) (ib7 V 13 t)

/-- The call's data, entered at `V`. -/
def dat7 (V : VV F) (d : Dev nD) : Dat τ (Elt F) (HIx 4) ℕ UU ℕ cfg7 d where
  A w := V (Proc.devRef .tc (arrRef spec7 w))
  after w t := match w with
    | ⟨0, _⟩ => ib7 V 0 t
    | ⟨1, _⟩ => ib7 V 1 t
    | ⟨2, _⟩ => ib7 V 2 t
    | ⟨3, _⟩ => ib7 V 3 t
    | ⟨4, _⟩ => ib7 V 4 t
    | ⟨5, _⟩ => ib7 V 5 t
    | ⟨6, _⟩ => ib7 V 6 t
    | ⟨7, _⟩ => ib7 V 7 t
    | ⟨8, _⟩ => ib7 V 8 t
    | ⟨9, _⟩ => ib7 V 9 t
    | ⟨10, _⟩ => ib7 V 10 t
    | ⟨11, _⟩ => ib7 V 11 t
    | ⟨12, _⟩ => ib7 V 12 t
    | ⟨13, _⟩ => ib7 V 13 t
    | ⟨14, _⟩ => ob7 V t
  Φ _ := Pipeline.scopedRest spec7 d
  q _ := fullShare
  owed _ := (K (F := F)).Otc d 4
  recorded _ := below (F := F) d 4

theorem before7_0 (V : VV F) (d : Dev nD) (t : Fin cfg7.N) (x : (cfg7.win 0).block.Idx → Elt F (cfg7.win 0).elt) :
    (dat7 V d).before 0 t x = ib7 V 0 t :=
  (dat7 V d).before_in_eq_fetched 0 rfl (fun _ => rfl) (fun _ _ _ => rfl) (fun _ => rfl) t x

theorem before7_1 (V : VV F) (d : Dev nD) (t : Fin cfg7.N) (x : (cfg7.win 1).block.Idx → Elt F (cfg7.win 1).elt) :
    (dat7 V d).before 1 t x = ib7 V 1 t :=
  (dat7 V d).before_in_eq_fetched 1 rfl (fun _ => rfl) (fun _ _ _ => rfl) (fun _ => rfl) t x

theorem before7_2 (V : VV F) (d : Dev nD) (t : Fin cfg7.N) (x : (cfg7.win 2).block.Idx → Elt F (cfg7.win 2).elt) :
    (dat7 V d).before 2 t x = ib7 V 2 t :=
  (dat7 V d).before_in_eq_fetched 2 rfl (fun _ => rfl) (fun _ _ _ => rfl) (fun _ => rfl) t x

theorem before7_3 (V : VV F) (d : Dev nD) (t : Fin cfg7.N) (x : (cfg7.win 3).block.Idx → Elt F (cfg7.win 3).elt) :
    (dat7 V d).before 3 t x = ib7 V 3 t :=
  (dat7 V d).before_in_eq_fetched 3 rfl (fun _ => rfl) (fun _ _ _ => rfl) (fun _ => rfl) t x

theorem before7_4 (V : VV F) (d : Dev nD) (t : Fin cfg7.N) (x : (cfg7.win 4).block.Idx → Elt F (cfg7.win 4).elt) :
    (dat7 V d).before 4 t x = ib7 V 4 t :=
  (dat7 V d).before_in_eq_fetched 4 rfl (fun _ => rfl) (fun _ _ _ => rfl) (fun _ => rfl) t x

theorem before7_5 (V : VV F) (d : Dev nD) (t : Fin cfg7.N) (x : (cfg7.win 5).block.Idx → Elt F (cfg7.win 5).elt) :
    (dat7 V d).before 5 t x = ib7 V 5 t :=
  (dat7 V d).before_in_eq_fetched 5 rfl (fun _ => rfl) (fun _ _ _ => rfl) (fun _ => rfl) t x

theorem before7_6 (V : VV F) (d : Dev nD) (t : Fin cfg7.N) (x : (cfg7.win 6).block.Idx → Elt F (cfg7.win 6).elt) :
    (dat7 V d).before 6 t x = ib7 V 6 t :=
  (dat7 V d).before_in_eq_fetched 6 rfl (fun _ => rfl) (fun _ _ _ => rfl) (fun _ => rfl) t x

theorem before7_7 (V : VV F) (d : Dev nD) (t : Fin cfg7.N) (x : (cfg7.win 7).block.Idx → Elt F (cfg7.win 7).elt) :
    (dat7 V d).before 7 t x = ib7 V 7 t :=
  (dat7 V d).before_in_eq_fetched 7 rfl (fun _ => rfl) (fun _ _ _ => rfl) (fun _ => rfl) t x

theorem before7_8 (V : VV F) (d : Dev nD) (t : Fin cfg7.N) (x : (cfg7.win 8).block.Idx → Elt F (cfg7.win 8).elt) :
    (dat7 V d).before 8 t x = ib7 V 8 t :=
  (dat7 V d).before_in_eq_fetched 8 rfl (fun _ => rfl) (fun _ _ _ => rfl) (fun _ => rfl) t x

theorem before7_9 (V : VV F) (d : Dev nD) (t : Fin cfg7.N) (x : (cfg7.win 9).block.Idx → Elt F (cfg7.win 9).elt) :
    (dat7 V d).before 9 t x = ib7 V 9 t :=
  (dat7 V d).before_in_eq_fetched 9 rfl (fun _ => rfl) (fun _ _ _ => rfl) (fun _ => rfl) t x

theorem before7_10 (V : VV F) (d : Dev nD) (t : Fin cfg7.N) (x : (cfg7.win 10).block.Idx → Elt F (cfg7.win 10).elt) :
    (dat7 V d).before 10 t x = ib7 V 10 t :=
  (dat7 V d).before_in_eq_fetched 10 rfl (fun _ => rfl) (fun _ _ _ => rfl) (fun _ => rfl) t x

theorem before7_11 (V : VV F) (d : Dev nD) (t : Fin cfg7.N) (x : (cfg7.win 11).block.Idx → Elt F (cfg7.win 11).elt) :
    (dat7 V d).before 11 t x = ib7 V 11 t :=
  (dat7 V d).before_in_eq_fetched 11 rfl (fun _ => rfl) (fun _ _ _ => rfl) (fun _ => rfl) t x

theorem before7_12 (V : VV F) (d : Dev nD) (t : Fin cfg7.N) (x : (cfg7.win 12).block.Idx → Elt F (cfg7.win 12).elt) :
    (dat7 V d).before 12 t x = ib7 V 12 t :=
  (dat7 V d).before_in_eq_fetched 12 rfl (fun _ => rfl) (fun _ _ _ => rfl) (fun _ => rfl) t x

theorem before7_13 (V : VV F) (d : Dev nD) (t : Fin cfg7.N) (x : (cfg7.win 13).block.Idx → Elt F (cfg7.win 13).elt) :
    (dat7 V d).before 13 t x = ib7 V 13 t :=
  (dat7 V d).before_in_eq_fetched 13 rfl (fun _ => rfl) (fun _ _ _ => rfl) (fun _ => rfl) t x

set_option maxHeartbeats 4000000 in
/-- The kernel at every point. -/
theorem body7_obl (V : VV F) (d : Dev nD) : BodyObligation (dat7 V d) (defs₀ (F := F)) 𝒱₀ none Set.univ := fun t => by
  rw [bigSep_W7, bigSep_W7]
  rw [show (dat7 V d).Φ t.castSucc = Pipeline.scopedRest spec7 d from rfl, show (dat7 V d).Φ t.succ = Pipeline.scopedRest spec7 d from rfl,
    show (dat7 V d).owesAt none t.succ = (dat7 V d).owesAt none t.castSucc from rfl]
  dsimp only
  simp only [before7_0 V d t, before7_1 V d t, before7_2 V d t, before7_3 V d t, before7_4 V d t, before7_5 V d t, before7_6 V d t, before7_7 V d t, before7_8 V d t, before7_9 V d t, before7_10 V d t, before7_11 V d t, before7_12 V d t, before7_13 V d t]
  rw [show defs₀ (F := F) .tc 7 (t, cfg7.slots t) = cc1__tc_body (grid7.coords t) (st7_0 t) (hstage7_0 ((cfg7.slots t 0).cast nbuf7_0)) (st7_1 t) (hstage7_1 ((cfg7.slots t 1).cast nbuf7_1)) (st7_2 t) (hstage7_2 ((cfg7.slots t 2).cast nbuf7_2)) (st7_3 t) (hstage7_3 ((cfg7.slots t 3).cast nbuf7_3)) (st7_4 t) (hstage7_4 ((cfg7.slots t 4).cast nbuf7_4)) (st7_5 t) (hstage7_5 ((cfg7.slots t 5).cast nbuf7_5)) (st7_6 t) (hstage7_6 ((cfg7.slots t 6).cast nbuf7_6)) (st7_7 t) (hstage7_7 ((cfg7.slots t 7).cast nbuf7_7)) (st7_8 t) (hstage7_8 ((cfg7.slots t 8).cast nbuf7_8)) (st7_9 t) (hstage7_9 ((cfg7.slots t 9).cast nbuf7_9)) (st7_10 t) (hstage7_10 ((cfg7.slots t 10).cast nbuf7_10)) (st7_11 t) (hstage7_11 ((cfg7.slots t 11).cast nbuf7_11)) (st7_12 t) (hstage7_12 ((cfg7.slots t 12).cast nbuf7_12)) (st7_13 t) (hstage7_13 ((cfg7.slots t 13).cast nbuf7_13)) (st7_14 t) (hstage7_14 ((cfg7.slots t 14).cast nbuf7_14)) from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_owns d (grid7.coords t) (st7_0 t) (hstage7_0 ((cfg7.slots t 0).cast nbuf7_0)) (st7_1 t) (hstage7_1 ((cfg7.slots t 1).cast nbuf7_1)) (st7_2 t) (hstage7_2 ((cfg7.slots t 2).cast nbuf7_2)) (st7_3 t) (hstage7_3 ((cfg7.slots t 3).cast nbuf7_3)) (st7_4 t) (hstage7_4 ((cfg7.slots t 4).cast nbuf7_4)) (st7_5 t) (hstage7_5 ((cfg7.slots t 5).cast nbuf7_5)) (st7_6 t) (hstage7_6 ((cfg7.slots t 6).cast nbuf7_6)) (st7_7 t) (hstage7_7 ((cfg7.slots t 7).cast nbuf7_7)) (st7_8 t) (hstage7_8 ((cfg7.slots t 8).cast nbuf7_8)) (st7_9 t) (hstage7_9 ((cfg7.slots t 9).cast nbuf7_9)) (st7_10 t) (hstage7_10 ((cfg7.slots t 10).cast nbuf7_10)) (st7_11 t) (hstage7_11 ((cfg7.slots t 11).cast nbuf7_11)) (st7_12 t) (hstage7_12 ((cfg7.slots t 12).cast nbuf7_12)) (st7_13 t) (hstage7_13 ((cfg7.slots t 13).cast nbuf7_13)) (st7_14 t) (hstage7_14 ((cfg7.slots t 14).cast nbuf7_14)) (ib7 V 0 t) (ib7 V 1 t) (ib7 V 2 t) (ib7 V 3 t) (ib7 V 4 t) (ib7 V 5 t) (ib7 V 6 t) (ib7 V 7 t) (ib7 V 8 t) (ib7 V 9 t) (ib7 V 10 t) (ib7 V 11 t) (ib7 V 12 t) (ib7 V 13 t) ((dat7 V d).before 14 t d14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof

end
-- ==== Proof.Steps.lean ====
/-
  The four steps a tile of the SparseCore kernel takes with one of its row buffers, each stated once for any buffer,
  any two semaphores and any chunk: start a gather of sixty-four rows into it, wait for it, start the copy of the
  buffer out to its chunk of the output, wait for that.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The tile at grid coordinates `i`. -/
abbrev tile (d : Dev nD) (i : grid0.Coords) : Thread nD τ := V d ((i 0).castLE hcore0) ((i 1).castLE hsub0)

abbrev RowBuf : Type := Memref sig .scVector .vmem S64x128 .f32
abbrev ListRow : Type := Memref sig .scVector .vmem S64 .i32
abbrev TabRef : Type := Memref sig .scVector .hbm S100000x128 .f32
abbrev ChunkRef : Type := Memref sig .scVector .hbm S64x128 .f32

/-- The sixty-four rows of a table that a list names, the list's words being row numbers. -/
abbrev gathered (tv : S100000x128.Idx → Elt F .f32) (lv : S64.Idx → Elt F .i32) (h : ∀ x, (lv x).toNat < 100000) : S64x128.Idx → Elt F .f32 :=
  SparseCore.gatherPayload gathers_S100000x128_S64x128 tv (SparseCore.rows lv rfl h)

section
variable (d : Dev nD) (i : grid0.Coords)

/-- A row buffer holding the rows `R`. -/
def holds (B : RowBuf) (R : S64x128.Idx → Elt F .f32) : sProp 𝕄 :=
  iprop(∃ f, ⌜B.view.read (Elt F) f = R⌝ ∗ (B.view.loc (tile d i) ↦{fullShare} f))

/-- A row buffer holding anything. -/
def holdsAny (B : RowBuf) : sProp 𝕄 := iprop(∃ f, (B.view.loc (tile d i) ↦{fullShare} f))

theorem holds_any (B : RowBuf) (R : S64x128.Idx → Elt F .f32) : holds d i B R ⊢ (holdsAny d i B : sProp 𝕄) := by
  unfold holds holdsAny
  iintro ⟨%f, -, H⟩
  iexists f; iexact H

/-- The waits recorded so far are those of `W` and local ones. -/
def owesLocal (O : CellTallies nD τ sig (HIx 4)) (W : Waits sig (HIx 4)) : sProp 𝕄 :=
  iprop(∃ W', ⌜∀ p ∈ W', p ∈ W ∨ p.2 = none⌝ ∗ owes (tile d i) O W')

theorem sum_credit (B : RowBuf) (h : S100000x128.Gathers 0 S64x128) :
    ∑ j, (B.slice (S64x128.rowRect h.axis' j) (S64x128.stride_rowRect h.axis' j)).view.dmaCredit = B.view.dmaCredit :=
  SparseCore.sum_rowCredit_eq_dmaCredit B h.axis' fun _ => rfl

/-- Starting the gather of the rows a list names, the list's words in range: the buffer, a share of the table and a
    share of the list go in flight. -/
theorem start_gather {B : RowBuf} {gs : DmaSem sig} {tab : TabRef} {L : ListRow} {qt ql : PosShare TreeShare}
    {ft : Buf (Elt F) (tab.view.loc (tile d i))} {fl : Buf (Elt F) (L.view.loc (tile d i))}
    (R : S64x128.Idx → Elt F .f32)
    (hin : ∀ x, (L.view.read (Elt F) fl x).toNat < 100000)
    (hR : gathered (tab.view.read (Elt F) ft) (L.view.read (Elt F) fl) hin = R)
    {hp : (tile d i).2.kind = .scVector} {hsrc : tab.view.WordExact} {he : EltTy.f32.bits = 32} {hsp : Space.hbm = .hbm ∨ Space.hbm = .shared}
    {hr : S100000x128.StreamRows 0} {α : Type} {Q : α → sProp 𝕄}
    {k : PUnit → Prog (TpuEff nD τ sig (Elt F) Λ₀ (.scVector ((i 0).castLE hcore0) ((i 1).castLE hsub0))) α} :
    iprop(holdsAny d i B ∗ (tab.view.loc (tile d i) ↦{qt} ft) ∗ (L.view.loc (tile d i) ↦{ql} fl) ∗ semVal (tile d i, SemLoc.dma gs) 0)
      ⊢ iprop((Transfers.Flight countersEmb (tile d i) (.dma gs) (default : HIx 4) B.view.dmaCredit
                  iprop(holds d i B R ∗ (tab.view.loc (tile d i) ↦{qt} ft) ∗ (L.view.loc (tile d i) ↦{ql} fl))
                -∗ wp frame (wpE (defs₀ (F := F)) 𝒱₀ (tile d i) none) Set.univ (k ⟨⟩) Q)
          -∗ wp frame (wpE (defs₀ (F := F)) 𝒱₀ (tile d i) none) Set.univ
              (SparseCore.enqueueIndirectGather hp tab B gathers_S100000x128_S64x128 L rfl gs hsrc he hsp hr >>= k) Q) := by
  unfold holdsAny
  iintro ⟨⟨%fd, Hd⟩, Ht, Hl, Hv⟩ Hk
  iapply (SparseCore.wp_gatherFromWhole countersEmb 𝒱₀ (tile d i) none (default : HIx 4) B.view.dmaCredit (sum_credit B _) (by decide) hin) $$ [Ht Hd Hl Hv]
  · iframe Ht Hd Hl Hv
  iintro Hf
  iapply Hk
  iapply (Transfers.Flight_mono countersEmb (tile d i) (D' := iprop(holds d i B R ∗ (tab.view.loc (tile d i) ↦{qt} ft) ∗ (L.view.loc (tile d i) ↦{ql} fl))) (by
    unfold holds
    iintro ⟨Hd, Ht, Hl⟩
    iframe Ht Hl
    iexists _
    isplitr
    swap; · iexact Hd
    ipureintro
    exact (View.read_write_univ (v := B.view) _ _).trans hR)) $$ Hf

/-- A wait on a transfer in flight: what it delivers comes back, the semaphore at zero. -/
theorem wait_flight {sp : Space} {s : Shape} {e : EltTy} {sp' : Space} {s' : Shape} {e' : EltTy} {κ' : Kind} {sm : DmaSem sig}
    {src : Memref sig .scVector sp' s' e'} {dst : Memref sig κ' sp s e} {hsrc : src.view.WordExact} {hdst : dst.view.WordExact}
    {N : ℕ} (hN : dst.view.dmaCredit = N) {Dl : sProp 𝕄} {O : CellTallies nD τ sig (HIx 4)} {W : Waits sig (HIx 4)}
    {α : Type} {Q : α → sProp 𝕄}
    {k : PUnit → Prog (TpuEff nD τ sig (Elt F) Λ₀ (.scVector ((i 0).castLE hcore0) ((i 1).castLE hsub0))) α} :
    iprop(Transfers.Flight countersEmb (tile d i) (.dma sm) (default : HIx 4) N Dl ∗ owesLocal d i O W
        ∗ Transfers.MayWaits (tile d i) (default : HIx 4) O)
      ⊢ iprop((iprop(Dl ∗ semVal (tile d i, SemLoc.dma sm) 0 ∗ owesLocal d i O W)
                -∗ wp frame (wpE (defs₀ (F := F)) 𝒱₀ (tile d i) none) Set.univ (k ⟨⟩) Q)
          -∗ wp frame (wpE (defs₀ (F := F)) 𝒱₀ (tile d i) none) Set.univ (.op (.waitDma2 sm src dst hsrc hdst) k) Q) := by
  unfold owesLocal
  iintro ⟨Hf, ⟨%W', %hW', HO⟩, Hmw⟩ Hk
  iapply (Transfers.wp_waitLocalO countersEmb 𝒱₀ (tile d i) none (default : HIx 4) hN) $$ [Hf HO Hmw]
  · isplitl [Hf]; · iexact Hf
    isplitl [HO]; · iexact HO
    iapply (Transfers.MayWaits.elim (SemLoc.dma sm)) $$ Hmw
  iintro ⟨HD, Hv, HO⟩
  iapply Hk
  iframe HD Hv
  iexists _
  isplitr
  swap; · iexact HO
  ipureintro
  intro p hp
  rcases Finset.mem_insert.mp hp with hp | hp
  · exact .inr (hp ▸ rfl)
  · exact hW' p hp

/-- What a write of `w` through a view leaves on the view's own elements, when the target `g` reads `w` there: `g`. -/
theorem write_on_set {κ : Kind} {sp : Space} {s : Shape} {e : EltTy} (v : View sig κ sp s e) (f g : v.ty.Contents (Elt F)) (w : s.Idx → Elt F e)
    (h : v.read (Elt F) g = w) : ∀ x ∈ v.set, v.write (Elt F) f w Finset.univ x = g x := by
  intro x hx
  rw [← h, View.write_read_eq_piecewise]
  exact Finset.piecewise_eq_of_mem _ _ _ hx

/-- Starting the copy of a row buffer out to a chunk, the target `g` of the output reading the buffer's rows there:
    the chunk comes back holding `g`. -/
theorem start_write {B : RowBuf} {ws : DmaSem sig} {C C' : ChunkRef} (hC : C = C') {f₀ g : Buf (Elt F) (C'.view.loc (tile d i))} {R : S64x128.Idx → Elt F .f32}
    (hg : C'.view.read (Elt F) g = R)
    {hsrc : B.view.WordExact} {hdst : C.view.WordExact} {hsem : DmaTarget.Typed (nD := nD) (τ := τ) (sig := sig) (p := .scVector ((i 0).castLE hcore0) ((i 1).castLE hsub0)) Space.vmem (SemLoc.dma ws) (.here C)}
    {α : Type} {Q : α → sProp 𝕄}
    {k : PUnit → Prog (TpuEff nD τ sig (Elt F) Λ₀ (.scVector ((i 0).castLE hcore0) ((i 1).castLE hsub0))) α} :
    iprop(holds d i B R ∗ (C'.view.loc (tile d i) ↦[C'.view.set]{fullShare} f₀) ∗ semVal (tile d i, SemLoc.dma ws) 0)
      ⊢ iprop((Transfers.Flight countersEmb (tile d i) (.dma ws) (default : HIx 4) C'.view.dmaCredit
                  iprop(holdsAny d i B ∗ (C'.view.loc (tile d i) ↦[C'.view.set]{fullShare} g))
                -∗ wp frame (wpE (defs₀ (F := F)) 𝒱₀ (tile d i) none) Set.univ (k ⟨⟩) Q)
          -∗ wp frame (wpE (defs₀ (F := F)) 𝒱₀ (tile d i) none) Set.univ (.op (.enqueueDma B (.here C) (SemLoc.dma ws) hsrc hdst hsem) k) Q) := by
  subst hC
  unfold holds
  iintro ⟨⟨%f, %hf, Hb⟩, Hc, Hv⟩ Hk
  iapply (Transfers.wp_dmaFromWhole countersEmb 𝒱₀ (tile d i) none (default : HIx 4) C.view.dmaCredit rfl (View.dmaCredit_pos _ (by decide)) (Finset.Subset.refl _)) $$ [Hb Hc Hv]
  · iframe Hb Hc Hv
  iintro Hf
  iapply Hk
  iapply (Transfers.Flight_mono countersEmb (tile d i) (D' := iprop(holdsAny d i B ∗ (C.view.loc (tile d i) ↦[C.view.set]{fullShare} g))) (by
    unfold holdsAny
    rw [pointsTo_congr (write_on_set C.view f₀ g _ (hg.trans hf.symm))]
    iintro ⟨Hc, Hb⟩
    iframe Hc
    iexists f; iexact Hb)) $$ Hf

end

end Cert.Proof
-- ==== Proof.Lane.lean ====
/-
  A LANE of the SparseCore kernel: one of a tile's five row buffers with its two semaphores, which between them carry
  the five chunks `b`, `b + 5`, …, `b + 20` of the tile's twenty-five. A lane is idle, gathering, loaded or writing; the
  kernel moves it from each state to the next, and every state keeps the lane's chunks of the output: those already
  written hold the target, those to come hold what they held.
-/
module

public import proofs.«01_k».proof.Proof.Steps
public import Idealize.SL.BI.BigOpNat

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

abbrev OutRef : Type := Memref sig .scVector .hbm S51200x128 .f32
abbrev ListBuf : Type := Memref sig .scVector .vmem S25x64 .i32

theorem outW_inb (i : grid0.Coords) (j : Fin 25) :
    ∀ a, (![3200 * (i 1).val + 1600 * (i 0).val + 64 * j.val, 0] : Fin 2 → ℕ) a + S64x128.size a ≤ S51200x128.size a := by
  have h0 : (i 0).val < 2 := (i 0).isLt
  have h1 : (i 1).val < 16 := (i 1).isLt
  have hj := j.isLt
  intro a
  match a with
  | 0 => show 3200 * (i 1).val + 1600 * (i 0).val + 64 * j.val + 64 ≤ 51200; omega
  | 1 => show 0 + 128 ≤ 128; omega

/-- Chunk `j` of the output rows of the tile at `i`. -/
abbrev outW (A6 : OutRef) (i : grid0.Coords) (j : Fin 25) : ChunkRef :=
  A6.slice (Rect.unit (s := S51200x128) ![3200 * (i 1).val + 1600 * (i 0).val + 64 * j.val, 0] S64x128.size (outW_inb i j)) (fun _ => rfl)

theorem lst_inb (j : Fin 25) : ∀ a, (![j.val, 0] : Fin 2 → ℕ) a + S1x64.size a ≤ S25x64.size a := by
  have hj := j.isLt
  intro a
  match a with
  | 0 => show j.val + 1 ≤ 25; omega
  | 1 => show 0 + 64 ≤ 64; omega

/-- Row `j` of a tile's list of row numbers. -/
abbrev lst (A8 : ListBuf) (j : Fin 25) : ListRow :=
  (A8.slice (Rect.unit (s := S25x64) ![j.val, 0] S1x64.size (lst_inb j)) (fun _ => rfl)).squeeze S64 squeezes_S1x64_S64

/-- The whole table, as the kernel names it. -/
abbrev tabAll (A4 : TabRef) : TabRef :=
  A4.slice (Rect.unit (s := S100000x128) ![0, 0] S100000x128.size inb_S100000x128_S100000x128_0_0) (fun _ => rfl)

/-- Chunk `t` of lane `b`. -/
def ch (b t : ℕ) : Fin 25 := ⟨(5 * t + b) % 25, Nat.mod_lt _ (by decide)⟩

theorem ch_val {b t : ℕ} (hb : b < 5) (ht : t < 5) : (ch b t).val = 5 * t + b := Nat.mod_eq_of_lt (by omega)

/-- A lane's buffer, semaphores and shares. -/
structure Lane where
  B : RowBuf
  gs : DmaSem sig
  ws : DmaSem sig
  qt : PosShare TreeShare
  ql : PosShare TreeShare
  b : ℕ
  hb : b < 5

section
variable (d : Dev nD) (i : grid0.Coords) (A4 : TabRef) (A6 : OutRef) (A8 : ListBuf)
variable (ft : Buf (Elt F) (A4.view.loc (tile d i))) (fl : Buf (Elt F) (A8.view.loc (tile d i)))
variable (f₀ g : Buf (Elt F) (A6.view.loc (tile d i))) (R : Fin 25 → S64x128.Idx → Elt F .f32)

/-- Chunk `j` of the output holding `f`. -/
def chunk (f : Buf (Elt F) (A6.view.loc (tile d i))) (j : Fin 25) : sProp 𝕄 :=
  iprop((outW A6 i j).view.loc (tile d i) ↦[(outW A6 i j).view.set]{fullShare} f)

/-- The lane's read shares of the table and of the list. -/
def reads (l : Lane) : sProp 𝕄 :=
  iprop((A4.view.loc (tile d i) ↦{l.qt} ft) ∗ (A8.view.loc (tile d i) ↦{l.ql} fl))

/-- The chunks of a lane from the `n`-th on, not yet written, -/
def rest (b n : ℕ) : sProp 𝕄 := bigSep (Finset.Ico n 5) fun t => chunk d i A6 f₀ (ch b t)
/-- and those before the `n`-th, written. -/
def done (b n : ℕ) : sProp 𝕄 := bigSep (Finset.range n) fun t => chunk d i A6 g (ch b t)

/-- The lane idle, `n` of its chunks written. -/
def LI (l : Lane) (n : ℕ) : sProp 𝕄 :=
  iprop(holdsAny d i l.B ∗ semVal (tile d i, SemLoc.dma l.gs) 0 ∗ semVal (tile d i, SemLoc.dma l.ws) 0 ∗ reads d i A4 A8 ft fl l
    ∗ rest d i A6 f₀ l.b n ∗ done d i A6 g l.b n)

/-- Gathering its chunk `t`. -/
def LG (l : Lane) (t : ℕ) : sProp 𝕄 :=
  iprop(Transfers.Flight countersEmb (tile d i) (.dma l.gs) (default : HIx 4) l.B.view.dmaCredit
      iprop(holds d i l.B (R (ch l.b t)) ∗ reads d i A4 A8 ft fl l)
    ∗ semVal (tile d i, SemLoc.dma l.ws) 0 ∗ rest d i A6 f₀ l.b t ∗ done d i A6 g l.b t)

/-- Holding the rows of its chunk `t`. -/
def LL (l : Lane) (t : ℕ) : sProp 𝕄 :=
  iprop(holds d i l.B (R (ch l.b t)) ∗ semVal (tile d i, SemLoc.dma l.gs) 0 ∗ semVal (tile d i, SemLoc.dma l.ws) 0 ∗ reads d i A4 A8 ft fl l
    ∗ rest d i A6 f₀ l.b t ∗ done d i A6 g l.b t)

/-- Writing its chunk `t` out. -/
def LW (l : Lane) (t : ℕ) : sProp 𝕄 :=
  iprop(Transfers.Flight countersEmb (tile d i) (.dma l.ws) (default : HIx 4) (outW A6 i (ch l.b t)).view.dmaCredit
      iprop(holdsAny d i l.B ∗ chunk d i A6 g (ch l.b t))
    ∗ semVal (tile d i, SemLoc.dma l.gs) 0 ∗ reads d i A4 A8 ft fl l ∗ rest d i A6 f₀ l.b (t + 1) ∗ done d i A6 g l.b t)

/-- The list's words name rows of the table, and `R j` is the rows its row `j` names. -/
def ListOK : Prop :=
  ∀ j, ∃ hin : ∀ x, ((lst A8 j).view.read (Elt F) fl x).toNat < 100000,
    gathered ((tabAll A4).view.read (Elt F) ft) ((lst A8 j).view.read (Elt F) fl) hin = R j

/-- The target of the output reads `R j` on chunk `j`. -/
def TargetOK : Prop := ∀ j, (outW A6 i j).view.read (Elt F) g = R j

variable {d i A4 A6 A8 ft fl f₀ g R}

theorem lane_gather (hL : ListOK d i A4 A8 ft fl R) (l : Lane) {t : ℕ} {tab : TabRef} (htab : tab = tabAll A4) {L : ListRow} (hLst : L = lst A8 (ch l.b t))
    {hp : (tile d i).2.kind = .scVector} {hsrc : tab.view.WordExact} {he : EltTy.f32.bits = 32} {hsp : Space.hbm = .hbm ∨ Space.hbm = .shared}
    {hr : S100000x128.StreamRows 0} {Q : PUnit → sProp 𝕄} :
    LI d i A4 A6 A8 ft fl f₀ g l t
      ⊢ iprop((LG d i A4 A6 A8 ft fl f₀ g R l t -∗ Q ⟨⟩)
          -∗ wp frame (wpE (defs₀ (F := F)) 𝒱₀ (tile d i) none) Set.univ
              (SparseCore.enqueueIndirectGather hp tab l.B gathers_S100000x128_S64x128 L rfl l.gs hsrc he hsp hr) Q) := by
  subst htab hLst
  obtain ⟨hin, hR⟩ := hL (ch l.b t)
  unfold LI LG reads
  iintro ⟨Hb, Hg, Hw, ⟨Ht, Hl⟩, Hrest, Hdone⟩ Hk
  have hs := start_gather (F := F) d i (B := l.B) (gs := l.gs) (qt := l.qt) (ql := l.ql) (R (ch l.b t)) hin hR (hp := hp) (hsrc := hsrc) (he := he) (hsp := hsp) (hr := hr) (k := pure) (Q := Q)
  rw [bind_pure, wp_pure] at hs
  iapply hs $$ [Hb Ht Hl Hg]
  · isplitl [Hb]; · iexact Hb
    isplitl [Ht]; · iexact Ht
    isplitl [Hl]; · iexact Hl
    iexact Hg
  iintro Hf
  imodintro
  iapply Hk
  iframe Hw Hrest Hdone
  iexact Hf

theorem lane_waitG (l : Lane) {t : ℕ} {src : TabRef}
    {hsrc : src.view.WordExact} {hdst : l.B.view.WordExact} {O : CellTallies nD τ sig (HIx 4)} {W : Waits sig (HIx 4)} {Q : PUnit → sProp 𝕄} :
    iprop(LG d i A4 A6 A8 ft fl f₀ g R l t ∗ owesLocal d i O W ∗ Transfers.MayWaits (tile d i) (default : HIx 4) O)
      ⊢ iprop((iprop(LL d i A4 A6 A8 ft fl f₀ g R l t ∗ owesLocal d i O W) -∗ Q ⟨⟩)
          -∗ wp frame (wpE (defs₀ (F := F)) 𝒱₀ (tile d i) none) Set.univ
              (SparseCore.waitIndirectGather l.gs src l.B hsrc hdst) Q) := by
  unfold LG LL
  iintro ⟨⟨Hf, Hw, Hrest, Hdone⟩, HO, Hmw⟩ Hk
  have hs := wait_flight (F := F) d i (sm := l.gs) (src := src) (dst := l.B) (hsrc := hsrc) (hdst := hdst) rfl
    (Dl := iprop(holds d i l.B (R (ch l.b t)) ∗ reads d i A4 A8 ft fl l)) (O := O) (W := W) (k := pure) (Q := Q)
  rw [wp_pure] at hs
  unfold SparseCore.waitIndirectGather
  iapply hs $$ [Hf HO Hmw]
  · iframe Hf HO Hmw
  iintro ⟨⟨Hb, Hr⟩, Hg, HO⟩
  imodintro
  iapply Hk
  iframe Hw Hrest Hdone Hb Hr Hg HO

theorem lane_write (hg : TargetOK d i A6 g R) (l : Lane) {t : ℕ} (ht : t < 5) {C : ChunkRef} (hC : C = outW A6 i (ch l.b t))
    {hsrc : l.B.view.WordExact} {hdst : C.view.WordExact}
    {hsem : DmaTarget.Typed (nD := nD) (τ := τ) (sig := sig) (p := .scVector ((i 0).castLE hcore0) ((i 1).castLE hsub0)) Space.vmem (SemLoc.dma l.ws) (.here C)}
    {Q : PUnit → sProp 𝕄} :
    LL d i A4 A6 A8 ft fl f₀ g R l t
      ⊢ iprop((LW d i A4 A6 A8 ft fl f₀ g l t -∗ Q ⟨⟩)
          -∗ wp frame (wpE (defs₀ (F := F)) 𝒱₀ (tile d i) none) Set.univ (Prog.lift (.enqueueDma l.B (.here C) (SemLoc.dma l.ws) hsrc hdst hsem)) Q) := by
  unfold LL LW rest
  rw [bigSep_Ico_succ_bot ht]
  unfold chunk
  iintro ⟨Hb, Hg, Hw, Hr, ⟨Hc, Hrest⟩, Hdone⟩ Hk
  have hs := start_write (F := F) d i (B := l.B) (ws := l.ws) hC (f₀ := f₀) (g := g) (hg (ch l.b t)) (hsrc := hsrc) (hdst := hdst) (hsem := hsem) (k := pure) (Q := Q)
  rw [wp_pure] at hs
  unfold Prog.lift
  iapply hs $$ [Hb Hc Hw]
  · isplitl [Hb]; · iexact Hb
    isplitl [Hc]; · iexact Hc
    iexact Hw
  iintro Hf
  imodintro
  iapply Hk
  iframe Hg Hr Hrest Hdone
  iexact Hf

theorem lane_waitW (l : Lane) {t : ℕ} {src : RowBuf} {C : ChunkRef} (hC : C.view.dmaCredit = (outW A6 i (ch l.b t)).view.dmaCredit)
    {hsrc : src.view.WordExact} {hdst : C.view.WordExact} {O : CellTallies nD τ sig (HIx 4)} {W : Waits sig (HIx 4)} {Q : PUnit → sProp 𝕄} :
    iprop(LW d i A4 A6 A8 ft fl f₀ g l t ∗ owesLocal d i O W ∗ Transfers.MayWaits (tile d i) (default : HIx 4) O)
      ⊢ iprop((iprop(LI d i A4 A6 A8 ft fl f₀ g l (t + 1) ∗ owesLocal d i O W) -∗ Q ⟨⟩)
          -∗ wp frame (wpE (defs₀ (F := F)) 𝒱₀ (tile d i) none) Set.univ (Prog.lift (.waitDma2 l.ws src C hsrc hdst)) Q) := by
  unfold LI LW done
  rw [bigSep_range_succ]
  iintro ⟨⟨Hf, Hg, Hr, Hrest, Hdone⟩, HO, Hmw⟩ Hk
  have hs := wait_flight (F := F) d i (sm := l.ws) (src := src) (dst := C) (hsrc := hsrc) (hdst := hdst) hC
    (Dl := iprop(holdsAny d i l.B ∗ chunk d i A6 g (ch l.b t))) (O := O) (W := W) (k := pure) (Q := Q)
  rw [wp_pure] at hs
  unfold Prog.lift
  iapply hs $$ [Hf HO Hmw]
  · iframe Hf HO Hmw
  iintro ⟨⟨Hb, Hc⟩, Hw, HO⟩
  imodintro
  iapply Hk
  iframe Hw Hrest Hdone Hb Hr Hg HO Hc

end

end Cert.Proof
-- ==== Proof.Trip.lean ====
/-
  One trip of the SparseCore kernel's loop: five chunk steps, one for each lane. A step waits for its lane's gather and
  starts the lane's copy out; then it waits for the copy the lane three places on started two steps before, when there is
  one, and starts that lane's next gather, when there is one. At the start of trip `t` lanes 0, 1 and 2 are gathering
  their chunk `t` (after the last trip: writing their last), lanes 3 and 4 are writing their chunk `t - 1` (at the first
  trip: gathering their first).
-/
module

public import proofs.«01_k».proof.Proof.Lane

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

theorem trips_eq : k0_t1_loop.trips = 5 := by decide
theorem cond2_iff : ∀ t : Fin k0_t1_loop.trips, k0_cond2 t = 1#1 ↔ t.val ≠ 0 := by decide +kernel
theorem cond3_iff : ∀ t : Fin k0_t1_loop.trips, k0_cond3 t = 1#1 ↔ t.val ≠ 0 := by decide +kernel
theorem cond4_iff : ∀ t : Fin k0_t1_loop.trips, k0_cond4 t = 1#1 ↔ t.val < 4 := by decide +kernel
theorem cond5_iff : ∀ t : Fin k0_t1_loop.trips, k0_cond5 t = 1#1 ↔ t.val < 4 := by decide +kernel
theorem cond6_iff : ∀ t : Fin k0_t1_loop.trips, k0_cond6 t = 1#1 ↔ t.val < 4 := by decide +kernel

/-- The chunk a step writes is its lane's. -/
theorem off4_chunk (A6 : OutRef) (i : grid0.Coords) (t : Fin k0_t1_loop.trips) (r : Fin 5)
    (h : ∀ a, (k0_off4 i t (BitVec.ofNat 32 r.val)) a + S64x128.size a ≤ S51200x128.size a) :
    A6.slice (Rect.unit (s := S51200x128) (k0_off4 i t (BitVec.ofNat 32 r.val)) S64x128.size h) (fun _ => rfl) = outW A6 i (ch r.val t.val) := by
  refine Memref.slice_unit_congr A6 ?_ _ _ _ _
  have ht : t.val < 5 := trips_eq ▸ t.isLt
  rw [k0_off4_eq, ch_val r.isLt ht]
  congr 1; omega

/-- The list row at offset `5 t + b`. -/
theorem off_list (A8 : ListBuf) {b t : ℕ} (hb : b < 5) (ht : t < 5) {off : Fin 2 → ℕ} (ho : off = ![5 * t + b, 0])
    (h : ∀ a, off a + S1x64.size a ≤ S25x64.size a) :
    (A8.slice (Rect.unit (s := S25x64) off S1x64.size h) (fun _ => rfl)).squeeze S64 squeezes_S1x64_S64 = lst A8 (ch b t) := by
  have : A8.slice (Rect.unit (s := S25x64) off S1x64.size h) (fun _ => rfl)
      = A8.slice (Rect.unit (s := S25x64) ![(ch b t).val, 0] S1x64.size (lst_inb _)) (fun _ => rfl) :=
    Memref.slice_unit_congr A8 (by rw [ho, ch_val hb ht]) _ _ _ _
  rw [this]

/-- All chunks are of one size. -/
theorem credit_eq (C C' : ChunkRef) : C.view.dmaCredit = C'.view.dmaCredit := rfl

/-- A guarded pair of operations before `K`, as a conditional followed by `K`. -/
theorem guard_bind {E : Type → Type} {c : Prop} [Decidable c] {α : Type} (a b : c → Prog E Unit) (K : Prog E α) :
    (if h : c then (do a h; b h; K) else K) = (if h : c then (do a h; b h) else pure ⟨⟩) >>= fun _ => K := by
  by_cases h : c <;> simp [h]

section
variable (d : Dev nD) (i : grid0.Coords)
variable (arg2 : Memref sig .scVector .hbm S32x25x64 .i32) (harg2 : arg2.IsWhole) (arg3 : Memref sig .scVector .hbm S4x1x64 .i32) (harg3 : arg3.IsWhole) (arg4 : Memref sig .scVector .hbm S100000x128 .f32) (harg4 : arg4.IsWhole) (arg5 : Memref sig .scVector .hbm S100000x128 .f32) (harg5 : arg5.IsWhole) (arg6 : Memref sig .scVector .hbm S51200x128 .f32) (harg6 : arg6.IsWhole) (arg7 : Memref sig .scVector .hbm S256x128 .f32) (harg7 : arg7.IsWhole) (arg8 : Memref sig .scVector .vmem S25x64 .i32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : Memref sig .scVector .vmem S64x128 .f32) (harg12 : arg12.IsWhole) (arg13 : Memref sig .scVector .vmem S64x128 .f32) (harg13 : arg13.IsWhole) (arg14 : DmaSems sig S_) (arg15 : Memref sig .scVector .vmem S1x64 .i32) (harg15 : arg15.IsWhole) (arg16 : Memref sig .scVector .vmem S64x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (v37_r0 : DmaSems sig S_) (v44_r1 : DmaSems sig S_) (v44_r2 : DmaSems sig S_)
variable (ft : Buf (Elt F) (arg4.view.loc (tile d i))) (fl : Buf (Elt F) (arg8.view.loc (tile d i)))
variable (f₀ g : Buf (Elt F) (arg6.view.loc (tile d i))) (R : Fin 25 → S64x128.Idx → Elt F .f32)
variable (qt ql : Fin 5 → PosShare TreeShare)

abbrev lane0 : Lane := ⟨arg9, arg17.sem, arg22.sem, qt 0, ql 0, 0, by decide⟩
abbrev lane1 : Lane := ⟨arg10, arg18.sem, arg23.sem, qt 1, ql 1, 1, by decide⟩
abbrev lane2 : Lane := ⟨arg11, arg19.sem, arg24.sem, qt 2, ql 2, 2, by decide⟩
abbrev lane3 : Lane := ⟨arg12, arg20.sem, arg25.sem, qt 3, ql 3, 3, by decide⟩
abbrev lane4 : Lane := ⟨arg13, arg21.sem, arg26.sem, qt 4, ql 4, 4, by decide⟩

/-- Lanes 0, 1 and 2 at the start of trip `t`: gathering chunk `t`, or, past the last, writing the last. -/
def early (l : Lane) (t : ℕ) : sProp 𝕄 :=
  if t < 5 then LG d i arg4 arg6 arg8 ft fl f₀ g R l t else LW d i arg4 arg6 arg8 ft fl f₀ g l 4
/-- Lanes 3 and 4: writing chunk `t - 1`, or, before the first, gathering the first. -/
def late (l : Lane) : ℕ → sProp 𝕄
  | 0 => LG d i arg4 arg6 arg8 ft fl f₀ g R l 0
  | t + 1 => LW d i arg4 arg6 arg8 ft fl f₀ g l t

/-- The lanes at the start of trip `t`. -/
def lanes (O : CellTallies nD τ sig (HIx 4)) (W : Waits sig (HIx 4)) (t : ℕ) : sProp 𝕄 :=
  iprop(early d i arg4 arg6 arg8 ft fl f₀ g R (lane0 arg9 arg17 arg22 qt ql) t
    ∗ early d i arg4 arg6 arg8 ft fl f₀ g R (lane1 arg10 arg18 arg23 qt ql) t
    ∗ early d i arg4 arg6 arg8 ft fl f₀ g R (lane2 arg11 arg19 arg24 qt ql) t
    ∗ late d i arg4 arg6 arg8 ft fl f₀ g R (lane3 arg12 arg20 arg25 qt ql) t
    ∗ late d i arg4 arg6 arg8 ft fl f₀ g R (lane4 arg13 arg21 arg26 qt ql) t
    ∗ owesLocal d i O W ∗ Transfers.MayWaits (tile d i) (default : HIx 4) O)

variable {d i arg4 arg6 arg8 ft fl f₀ g R qt ql}

/-- A lane's copy out is over and its next gather starts. -/
theorem lane_refill (hL : ListOK d i arg4 arg8 ft fl R) (l : Lane) {t : ℕ} {src : RowBuf} {C : ChunkRef}
    (hC : C.view.dmaCredit = (outW arg6 i (ch l.b t)).view.dmaCredit) {tab : TabRef} (htab : tab = tabAll arg4) {L : ListRow}
    (hLst : L = lst arg8 (ch l.b (t + 1)))
    {hsrc : src.view.WordExact} {hdst : C.view.WordExact} {hp : (tile d i).2.kind = .scVector} {hsrc' : tab.view.WordExact}
    {he : EltTy.f32.bits = 32} {hsp : Space.hbm = .hbm ∨ Space.hbm = .shared} {hr : S100000x128.StreamRows 0}
    {O : CellTallies nD τ sig (HIx 4)} {W : Waits sig (HIx 4)} {Q : PUnit → sProp 𝕄} :
    iprop(LW d i arg4 arg6 arg8 ft fl f₀ g l t ∗ owesLocal d i O W ∗ Transfers.MayWaits (tile d i) (default : HIx 4) O)
      ⊢ iprop((iprop(LG d i arg4 arg6 arg8 ft fl f₀ g R l (t + 1) ∗ owesLocal d i O W) -∗ Q ⟨⟩)
          -∗ wp frame (wpE (defs₀ (F := F)) 𝒱₀ (tile d i) none) Set.univ
              (do Prog.lift (.waitDma2 l.ws src C hsrc hdst)
                  SparseCore.enqueueIndirectGather hp tab l.B gathers_S100000x128_S64x128 L rfl l.gs hsrc' he hsp hr) Q) := by
  simp only [wp_bind]
  iintro H Hk
  iapply (lane_waitW l hC) $$ H
  iintro ⟨H, HO⟩
  iapply (lane_gather hL l htab hLst) $$ H
  iintro H
  iapply Hk
  iframe H HO

/-- The refill of lane 0, 1 or 2 in trip `t`. -/
theorem refill_early (l : Lane) {t : ℕ} (ht : t < 5) {c : Prop} [Decidable c] (hc : c ↔ t < 4)
    {p : c → Prog (TpuEff nD τ sig (Elt F) Λ₀ (tile d i).2) Unit}
    {O : CellTallies nD τ sig (HIx 4)} {W : Waits sig (HIx 4)} {Q : PUnit → sProp 𝕄}
    (hp : ∀ h, iprop(LW d i arg4 arg6 arg8 ft fl f₀ g l t ∗ owesLocal d i O W ∗ Transfers.MayWaits (tile d i) (default : HIx 4) O)
      ⊢ iprop((iprop(LG d i arg4 arg6 arg8 ft fl f₀ g R l (t + 1) ∗ owesLocal d i O W) -∗ Q ⟨⟩)
          -∗ wp frame (wpE (defs₀ (F := F)) 𝒱₀ (tile d i) none) Set.univ (p h) Q)) :
    iprop(LW d i arg4 arg6 arg8 ft fl f₀ g l t ∗ owesLocal d i O W ∗ Transfers.MayWaits (tile d i) (default : HIx 4) O)
      ⊢ iprop((iprop(early d i arg4 arg6 arg8 ft fl f₀ g R l (t + 1) ∗ owesLocal d i O W) -∗ Q ⟨⟩)
          -∗ wp frame (wpE (defs₀ (F := F)) 𝒱₀ (tile d i) none) Set.univ (if h : c then p h else pure ⟨⟩) Q) := by
  by_cases h : c
  · rw [dif_pos h, show early d i arg4 arg6 arg8 ft fl f₀ g R l (t + 1) = LG d i arg4 arg6 arg8 ft fl f₀ g R l (t + 1) from if_pos (by have := hc.1 h; omega)]
    exact hp h
  · have h4 : t = 4 := by have := mt hc.2 h; omega
    subst h4
    rw [dif_neg h, show early d i arg4 arg6 arg8 ft fl f₀ g R l (4 + 1) = LW d i arg4 arg6 arg8 ft fl f₀ g l 4 from if_neg (by decide), wp_pure]
    iintro ⟨H, HO, Hmw⟩ Hk
    imodintro
    iapply Hk
    iframe H HO

/-- The refill of lane 3 or 4 in trip `t`. -/
theorem refill_late (l : Lane) {t : ℕ} {c : Prop} [Decidable c] (hc : c ↔ t ≠ 0)
    {p : c → Prog (TpuEff nD τ sig (Elt F) Λ₀ (tile d i).2) Unit}
    {O : CellTallies nD τ sig (HIx 4)} {W : Waits sig (HIx 4)} {Q : PUnit → sProp 𝕄}
    (hp : ∀ h u, t = u + 1 → iprop(LW d i arg4 arg6 arg8 ft fl f₀ g l u ∗ owesLocal d i O W ∗ Transfers.MayWaits (tile d i) (default : HIx 4) O)
      ⊢ iprop((iprop(LG d i arg4 arg6 arg8 ft fl f₀ g R l (u + 1) ∗ owesLocal d i O W) -∗ Q ⟨⟩)
          -∗ wp frame (wpE (defs₀ (F := F)) 𝒱₀ (tile d i) none) Set.univ (p h) Q)) :
    iprop(late d i arg4 arg6 arg8 ft fl f₀ g R l t ∗ owesLocal d i O W ∗ Transfers.MayWaits (tile d i) (default : HIx 4) O)
      ⊢ iprop((iprop(LG d i arg4 arg6 arg8 ft fl f₀ g R l t ∗ owesLocal d i O W) -∗ Q ⟨⟩)
          -∗ wp frame (wpE (defs₀ (F := F)) 𝒱₀ (tile d i) none) Set.univ (if h : c then p h else pure ⟨⟩) Q) := by
  cases t with
  | zero =>
    rw [dif_neg (fun h => hc.1 h rfl), wp_pure]
    unfold late
    iintro ⟨H, HO, Hmw⟩ Hk
    imodintro
    iapply Hk
    iframe H HO
  | succ u =>
    have h := hc.2 (Nat.succ_ne_zero u)
    rw [dif_pos h]
    exact hp h u rfl

set_option maxHeartbeats 2000000 in
theorem trip (hL : ListOK d i arg4 arg8 ft fl R) (hg : TargetOK d i arg6 g R) (O : CellTallies nD τ sig (HIx 4)) (W : Waits sig (HIx 4))
    (k : Fin k0_t1_loop.trips) (v2 : BitVec 32) :
    lanes d i arg4 arg6 arg8 arg9 arg10 arg11 arg12 arg13 arg17 arg18 arg19 arg20 arg21 arg22 arg23 arg24 arg25 arg26 ft fl f₀ g R qt ql O W k.val
      ⊢ wp frame (wpE (defs₀ (F := F)) 𝒱₀ (tile d i) none) Set.univ (k0_t1_body i arg2 harg2 arg3 harg3 arg4 harg4 arg5 harg5 arg6 harg6 arg7 harg7 arg8 harg8 arg9 harg9 arg10 harg10 arg11 harg11 arg12 harg12 arg13 harg13 arg14 arg15 harg15 arg16 harg16 arg17 arg18 arg19 arg20 arg21 arg22 arg23 arg24 arg25 arg26 v37_r0 v44_r1 v44_r2 v2 k ())
          fun _ => lanes d i arg4 arg6 arg8 arg9 arg10 arg11 arg12 arg13 arg17 arg18 arg19 arg20 arg21 arg22 arg23 arg24 arg25 arg26 ft fl f₀ g R qt ql O W (k.val + 1) := by
  have hk : k.val < 5 := trips_eq ▸ k.isLt
  unfold k0_t1_body
  simp only [k0_part1_eq_skeleton, k0_part2_eq_skeleton]
  unfold k0_part1_skel k0_part2_skel
  simp only [guard_bind, bind_assoc, pure_bind]
  simp only [wp_bind, wp_pure]
  unfold lanes
  rw [show early d i arg4 arg6 arg8 ft fl f₀ g R (lane0 arg9 arg17 arg22 qt ql) k.val = LG d i arg4 arg6 arg8 ft fl f₀ g R (lane0 arg9 arg17 arg22 qt ql) k.val from if_pos hk,
    show early d i arg4 arg6 arg8 ft fl f₀ g R (lane1 arg10 arg18 arg23 qt ql) k.val = LG d i arg4 arg6 arg8 ft fl f₀ g R (lane1 arg10 arg18 arg23 qt ql) k.val from if_pos hk,
    show early d i arg4 arg6 arg8 ft fl f₀ g R (lane2 arg11 arg19 arg24 qt ql) k.val = LG d i arg4 arg6 arg8 ft fl f₀ g R (lane2 arg11 arg19 arg24 qt ql) k.val from if_pos hk]
  iintro ⟨H0, H1, H2, H3, H4, HO, #Hmw⟩
  iapply (lane_waitG (lane0 arg9 arg17 arg22 qt ql)) $$ [H0 HO]
  · iframe H0 HO Hmw
  iintro ⟨H0, HO⟩
  iapply (lane_write hg (lane0 arg9 arg17 arg22 qt ql) hk (off4_chunk arg6 i k 0 _)) $$ H0
  iintro H0
  iapply (refill_late (lane3 arg12 arg20 arg25 qt ql) (cond2_iff k) fun _ u hu =>
    lane_refill hL (lane3 arg12 arg20 arg25 qt ql) (credit_eq _ _) rfl (off_list arg8 (b := 3) (t := u + 1) (by decide) (by omega) ((k0_off6_eq k).trans (by rw [hu])) _)) $$ [H3 HO]
  · iframe H3 HO Hmw
  iintro ⟨H3, HO⟩
  iapply (lane_waitG (lane1 arg10 arg18 arg23 qt ql)) $$ [H1 HO]
  · iframe H1 HO Hmw
  iintro ⟨H1, HO⟩
  iapply (lane_write hg (lane1 arg10 arg18 arg23 qt ql) hk (off4_chunk arg6 i k 1 _)) $$ H1
  iintro H1
  iapply (refill_late (lane4 arg13 arg21 arg26 qt ql) (cond3_iff k) fun _ u hu =>
    lane_refill hL (lane4 arg13 arg21 arg26 qt ql) (credit_eq _ _) rfl (off_list arg8 (b := 4) (t := u + 1) (by decide) (by omega) ((k0_off8_eq k).trans (by rw [hu])) _)) $$ [H4 HO]
  · iframe H4 HO Hmw
  iintro ⟨H4, HO⟩
  iapply (lane_waitG (lane2 arg11 arg19 arg24 qt ql)) $$ [H2 HO]
  · iframe H2 HO Hmw
  iintro ⟨H2, HO⟩
  iapply (lane_write hg (lane2 arg11 arg19 arg24 qt ql) hk (off4_chunk arg6 i k 2 _)) $$ H2
  iintro H2
  iapply (refill_early (lane0 arg9 arg17 arg22 qt ql) hk (cond4_iff k) fun h =>
    lane_refill hL (lane0 arg9 arg17 arg22 qt ql) (credit_eq _ _) rfl (off_list arg8 (b := 0) (t := k.val + 1) (by decide) (by have := (cond4_iff k).1 h; omega) (k0_off10_eq k) _)) $$ [H0 HO]
  · iframe H0 HO Hmw
  iintro ⟨H0, HO⟩
  iapply (lane_waitG (lane3 arg12 arg20 arg25 qt ql)) $$ [H3 HO]
  · iframe H3 HO Hmw
  iintro ⟨H3, HO⟩
  iapply (lane_write hg (lane3 arg12 arg20 arg25 qt ql) hk (off4_chunk arg6 i k 3 _)) $$ H3
  iintro H3
  iapply (refill_early (lane1 arg10 arg18 arg23 qt ql) hk (cond5_iff k) fun h =>
    lane_refill hL (lane1 arg10 arg18 arg23 qt ql) (credit_eq _ _) rfl (off_list arg8 (b := 1) (t := k.val + 1) (by decide) (by have := (cond5_iff k).1 h; omega) (k0_off12_eq k) _)) $$ [H1 HO]
  · iframe H1 HO Hmw
  iintro ⟨H1, HO⟩
  iapply (lane_waitG (lane4 arg13 arg21 arg26 qt ql)) $$ [H4 HO]
  · iframe H4 HO Hmw
  iintro ⟨H4, HO⟩
  iapply (lane_write hg (lane4 arg13 arg21 arg26 qt ql) hk (off4_chunk arg6 i k 4 _)) $$ H4
  iintro H4
  iapply (refill_early (lane2 arg11 arg19 arg24 qt ql) hk (cond6_iff k) fun h =>
    lane_refill hL (lane2 arg11 arg19 arg24 qt ql) (credit_eq _ _) rfl (off_list arg8 (b := 2) (t := k.val + 1) (by decide) (by have := (cond6_iff k).1 h; omega) (k0_off14_eq k) _)) $$ [H2 HO]
  · iframe H2 HO Hmw
  iintro ⟨H2, HO⟩
  imodintro
  unfold late
  iframe H0 H1 H2 H3 H4 HO
  iexact Hmw
end

end Cert.Proof
-- ==== Proof.Body.lean ====
/-
  The SparseCore kernel's body on one tile: it fetches its row of the history's list; a tile of the first four fetches its
  row of the nodes, gathers the item rows they name and writes them out; then the five lanes gather and write the
  twenty-five chunks. The output's rows come back holding the target, the item rows theirs.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_range_fin (n : ℕ) (Φ : ℕ → sProp 𝕄) : bigSep (Finset.range n) Φ = bigSep Finset.univ fun t : Fin n => Φ t.val := by
  have e : Finset.range n = (Finset.univ : Finset (Fin n)).map Fin.valEmbedding := by
    ext j; simp only [Finset.mem_range, Finset.mem_map, Finset.mem_univ, Fin.valEmbedding_apply, true_and]
    exact ⟨fun h => ⟨⟨j, h⟩, rfl⟩, fun ⟨k, hk⟩ => hk ▸ k.isLt⟩
  rw [e, bigSep_map]; rfl

/-- Twenty-five chunks are five for each of five lanes. -/
theorem chunks_lanes (Φ : Fin 25 → sProp 𝕄) :
    bigSep Finset.univ Φ = bigSep Finset.univ fun b : Fin 5 => bigSep (Finset.range 5) fun t => Φ (ch b.val t) := by
  have h1 : ∀ b : Fin 5, (bigSep (Finset.range 5) fun t => Φ (ch b.val t)) = bigSep Finset.univ fun t : Fin 5 => Φ (ch b.val t.val) := fun b =>
    bigSep_range_fin 5 fun t => Φ (ch b.val t)
  simp only [h1]
  rw [← bigSep_univ_prod (fun p : Fin 5 × Fin 5 => Φ (ch p.1.val p.2.val))]
  rw [bigSep_univ_equiv ((Equiv.prodComm (Fin 5) (Fin 5)).trans finProdFinEquiv) Φ]
  refine bigSep_congr fun p _ => ?_
  congr 1
  apply Fin.ext
  rw [ch_val p.1.isLt p.2.isLt]
  simp [finProdFinEquiv]; omega

section
variable (d : Dev nD) (i : grid0.Coords)

/-- A fetch of a view of a buffer into a whole buffer, and its wait. -/
theorem fetch {s : Shape} {e : EltTy} {src : Memref sig .scVector .hbm s e} {dst : Memref sig .scVector .vmem s e} {sm : DmaSem sig}
    (hN0 : 0 < dst.view.dmaCredit) {q : PosShare TreeShare} {fs : Buf (Elt F) (src.view.loc (tile d i))}
    {hsrc : src.view.WordExact} {hdst : dst.view.WordExact}
    {hsem : DmaTarget.Typed (nD := nD) (τ := τ) (sig := sig) (p := .scVector ((i 0).castLE hcore0) ((i 1).castLE hsub0)) Space.hbm (SemLoc.dma sm) (.here dst)}
    {hsrc' : src.view.WordExact} {hdst' : dst.view.WordExact} {O : CellTallies nD τ sig (HIx 4)} {W : Waits sig (HIx 4)} {Q : PUnit → sProp 𝕄} :
    iprop((src.view.loc (tile d i) ↦{q} fs) ∗ (∃ f, (dst.view.loc (tile d i) ↦{fullShare} f)) ∗ semVal (tile d i, SemLoc.dma sm) 0
        ∗ owesLocal d i O W ∗ Transfers.MayWaits (tile d i) (default : HIx 4) O)
      ⊢ iprop((iprop((src.view.loc (tile d i) ↦{q} fs) ∗ (∃ f, ⌜dst.view.read (Elt F) f = src.view.read (Elt F) fs⌝ ∗ (dst.view.loc (tile d i) ↦{fullShare} f))
              ∗ semVal (tile d i, SemLoc.dma sm) 0 ∗ owesLocal d i O W) -∗ Q ⟨⟩)
          -∗ wp frame (wpE (defs₀ (F := F)) 𝒱₀ (tile d i) none) Set.univ (Prog.lift (.enqueueDma src (.here dst) (SemLoc.dma sm) hsrc hdst hsem))
              fun _ => wp frame (wpE (defs₀ (F := F)) 𝒱₀ (tile d i) none) Set.univ (Prog.lift (.waitDma2 sm src dst hsrc' hdst')) Q) := by
  iintro ⟨Hs, ⟨%f, Hd⟩, Hv, HO, Hmw⟩ Hk
  unfold Prog.lift
  iapply (Transfers.wp_dmaFromWhole countersEmb 𝒱₀ (tile d i) none (default : HIx 4) dst.view.dmaCredit rfl hN0 (Finset.subset_univ _)) $$ [Hs Hd Hv]
  · iframe Hs Hd Hv
  iintro Hf
  rw [wp_ret]
  imodintro
  have hs := wait_flight (F := F) d i (sm := sm) (src := src) (dst := dst) (hsrc := hsrc') (hdst := hdst') rfl
    (Dl := iprop((dst.view.loc (tile d i) ↦{fullShare} dst.view.write (Elt F) f (src.view.read (Elt F) fs) Finset.univ) ∗ (src.view.loc (tile d i) ↦{q} fs)))
    (O := O) (W := W) (k := pure) (Q := Q)
  rw [wp_pure] at hs
  iapply hs $$ [Hf HO Hmw]
  · iframe HO Hmw
    iexact Hf
  iintro ⟨⟨Hd, Hs⟩, Hv, HO⟩
  imodintro
  iapply Hk
  iframe Hs Hv HO
  iexists _
  isplitr
  swap; · iexact Hd
  ipureintro
  exact View.read_write_univ (v := dst.view) _ _

end

/-- Six guarded operations before `K`, as a conditional followed by `K`. -/
theorem guard_bind6 {E : Type → Type} {p : Prop} [Decidable p] {α : Type} (a b c d e f : p → Prog E Unit) (K : Prog E α) :
    (if h : p then (do a h; b h; c h; d h; e h; f h; K) else K)
      = (if h : p then (do a h; b h; c h; d h; e h; f h) else pure ⟨⟩) >>= fun _ => K := by
  by_cases h : p <;> simp [h]

abbrev HistRef : Type := Memref sig .scVector .hbm S32x25x64 .i32
abbrev NodeRef : Type := Memref sig .scVector .hbm S4x1x64 .i32
abbrev ItemRef : Type := Memref sig .scVector .hbm S256x128 .f32

/-- The tile's row of the history's list. -/
abbrev histRow (A2 : HistRef) (i : grid0.Coords) : Memref sig .scVector .hbm S25x64 .i32 :=
  (A2.slice (Rect.unit (s := S32x25x64) (k0_off1 i) S1x25x64.size (k0_off1_inb i)) (fun _ => rfl)).squeeze S25x64 squeezes_S1x25x64_S25x64
/-- One of the first four tiles' row of the nodes, -/
abbrev nodeRow (A3 : NodeRef) (i : grid0.Coords) (h : k0_cond1 i = 1#1) : Memref sig .scVector .hbm S1x64 .i32 :=
  (A3.slice (Rect.unit (s := S4x1x64) (k0_off2 i) S1x1x64.size (k0_off2_inb i h)) (fun _ => rfl)).squeeze S1x64 squeezes_S1x1x64_S1x64
/-- and its rows of the item rows. -/
abbrev itemW (A7 : ItemRef) (i : grid0.Coords) (h : k0_cond1 i = 1#1) : ChunkRef :=
  A7.slice (Rect.unit (s := S256x128) (k0_off3 i) S64x128.size (k0_off3_inb i h)) (fun _ => rfl)
/-- The one row of a tile's list of nodes. -/
abbrev nodeLst (A15 : Memref sig .scVector .vmem S1x64 .i32) : ListRow :=
  (A15.slice (Rect.unit (s := S1x64) ![0, 0] S1x64.size inb_S1x64_S1x64_0_0) (fun _ => rfl)).squeeze S64 squeezes_S1x64_S64

section
variable (d : Dev nD) (i : grid0.Coords)
variable (arg2 : Memref sig .scVector .hbm S32x25x64 .i32) (harg2 : arg2.IsWhole) (arg3 : Memref sig .scVector .hbm S4x1x64 .i32) (harg3 : arg3.IsWhole) (arg4 : Memref sig .scVector .hbm S100000x128 .f32) (harg4 : arg4.IsWhole) (arg5 : Memref sig .scVector .hbm S100000x128 .f32) (harg5 : arg5.IsWhole) (arg6 : Memref sig .scVector .hbm S51200x128 .f32) (harg6 : arg6.IsWhole) (arg7 : Memref sig .scVector .hbm S256x128 .f32) (harg7 : arg7.IsWhole) (arg8 : Memref sig .scVector .vmem S25x64 .i32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : Memref sig .scVector .vmem S64x128 .f32) (harg12 : arg12.IsWhole) (arg13 : Memref sig .scVector .vmem S64x128 .f32) (harg13 : arg13.IsWhole) (arg14 : DmaSems sig S_) (arg15 : Memref sig .scVector .vmem S1x64 .i32) (harg15 : arg15.IsWhole) (arg16 : Memref sig .scVector .vmem S64x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (v37_r0 : DmaSems sig S_) (v44_r1 : DmaSems sig S_) (v44_r2 : DmaSems sig S_)
variable (f2 : Buf (Elt F) (arg2.view.loc (tile d i))) (f3 : Buf (Elt F) (arg3.view.loc (tile d i)))
variable (ft : Buf (Elt F) (arg4.view.loc (tile d i))) (f5 : Buf (Elt F) (arg5.view.loc (tile d i)))
variable (f₀ g : Buf (Elt F) (arg6.view.loc (tile d i))) (f₇ g₇ : Buf (Elt F) (arg7.view.loc (tile d i)))
variable (R : Fin 25 → S64x128.Idx → Elt F .f32) (R₇ : S64x128.Idx → Elt F .f32)
variable (q2 q3 q4 q5 : PosShare TreeShare)

/-- The item rows of the tile, when it has any, holding `f`. -/
def itemPart (f : Buf (Elt F) (arg7.view.loc (tile d i))) : sProp 𝕄 :=
  if h : k0_cond1 i = 1#1 then iprop((itemW arg7 i h).view.loc (tile d i) ↦[(itemW arg7 i h).view.set]{fullShare} f) else iprop(emp)

/-- The tile's operands, the outputs holding `f` and `f'`. -/
def opnds (f : Buf (Elt F) (arg6.view.loc (tile d i))) (f' : Buf (Elt F) (arg7.view.loc (tile d i))) : sProp 𝕄 :=
  iprop((arg2.view.loc (tile d i) ↦{q2} f2) ∗ (arg3.view.loc (tile d i) ↦{q3} f3) ∗ (arg4.view.loc (tile d i) ↦{q4} ft)
    ∗ (arg5.view.loc (tile d i) ↦{q5} f5) ∗ (bigSep Finset.univ fun j => chunk d i arg6 f j) ∗ itemPart d i arg7 f')

/-- The tile's buffers, holding anything. -/
def scratch : sProp 𝕄 :=
  iprop((∃ f, (arg8.view.loc (tile d i) ↦{fullShare} f)) ∗ holdsAny d i arg9 ∗ holdsAny d i arg10 ∗ holdsAny d i arg11 ∗ holdsAny d i arg12
    ∗ holdsAny d i arg13 ∗ (∃ f, (arg15.view.loc (tile d i) ↦{fullShare} f)) ∗ holdsAny d i arg16)

/-- The tile's semaphores at zero. -/
def sems : sProp 𝕄 :=
  iprop(semVal (tile d i, SemLoc.dma arg14.sem) 0
    ∗ semVal (tile d i, SemLoc.dma arg17.sem) 0
    ∗ semVal (tile d i, SemLoc.dma arg18.sem) 0
    ∗ semVal (tile d i, SemLoc.dma arg19.sem) 0
    ∗ semVal (tile d i, SemLoc.dma arg20.sem) 0
    ∗ semVal (tile d i, SemLoc.dma arg21.sem) 0
    ∗ semVal (tile d i, SemLoc.dma arg22.sem) 0
    ∗ semVal (tile d i, SemLoc.dma arg23.sem) 0
    ∗ semVal (tile d i, SemLoc.dma arg24.sem) 0
    ∗ semVal (tile d i, SemLoc.dma arg25.sem) 0
    ∗ semVal (tile d i, SemLoc.dma arg26.sem) 0
    ∗ semVal (tile d i, SemLoc.dma v37_r0.sem) 0
    ∗ semVal (tile d i, SemLoc.dma v44_r1.sem) 0
    ∗ semVal (tile d i, SemLoc.dma v44_r2.sem) 0)

/-- The tile's node list names rows of the item table, and `R₇` is those rows. -/
def ItemOK : Prop := ∀ (h : k0_cond1 i = 1#1) (f : Buf (Elt F) (arg15.view.loc (tile d i))),
  arg15.view.read (Elt F) f = (nodeRow arg3 i h).view.read (Elt F) f3 →
    ∃ hin : ∀ x, ((nodeLst arg15).view.read (Elt F) f x).toNat < 100000,
      gathered ((tabAll arg5).view.read (Elt F) f5) ((nodeLst arg15).view.read (Elt F) f) hin = R₇

def ItemTarget : Prop := ∀ h : k0_cond1 i = 1#1, (itemW arg7 i h).view.read (Elt F) g₇ = R₇

variable {d i arg3 arg5 arg7 arg14 arg15 arg16 f3 f5 f₇ g₇ R₇ q3 q5}

/-- The item part of the body. -/
theorem item_part (hI : ItemOK d i arg3 arg5 arg15 f3 f5 R₇) (hI' : ItemTarget d i arg7 g₇ R₇)
    {hsrc : ∀ h, (nodeRow arg3 i h).view.WordExact} {hdst : arg15.view.WordExact}
    {hsem : DmaTarget.Typed (nD := nD) (τ := τ) (sig := sig) (p := .scVector ((i 0).castLE hcore0) ((i 1).castLE hsub0)) Space.hbm (SemLoc.dma v44_r1.sem) (.here arg15)}
    {hp : (tile d i).2.kind = .scVector} {hsrc5 : (tabAll arg5).view.WordExact} {he : EltTy.f32.bits = 32} {hsp : Space.hbm = .hbm ∨ Space.hbm = .shared}
    {hr : S100000x128.StreamRows 0} {h16 : arg16.view.WordExact} {h7 : ∀ h, (itemW arg7 i h).view.WordExact}
    {hsem' : ∀ h, DmaTarget.Typed (nD := nD) (τ := τ) (sig := sig) (p := .scVector ((i 0).castLE hcore0) ((i 1).castLE hsub0)) Space.vmem (SemLoc.dma v44_r2.sem) (.here (itemW arg7 i h))}
    {O : CellTallies nD τ sig (HIx 4)} {W : Waits sig (HIx 4)} {Q : PUnit → sProp 𝕄} :
    iprop(((arg3.view.loc (tile d i) ↦{q3} f3) ∗ (arg5.view.loc (tile d i) ↦{q5} f5) ∗ itemPart d i arg7 f₇
        ∗ (∃ f, (arg15.view.loc (tile d i) ↦{fullShare} f)) ∗ holdsAny d i arg16
        ∗ semVal (tile d i, SemLoc.dma arg14.sem) 0 ∗ semVal (tile d i, SemLoc.dma v44_r1.sem) 0 ∗ semVal (tile d i, SemLoc.dma v44_r2.sem) 0
        ∗ owesLocal d i O W) ∗ Transfers.MayWaits (tile d i) (default : HIx 4) O)
      ⊢ iprop((iprop((arg3.view.loc (tile d i) ↦{q3} f3) ∗ (arg5.view.loc (tile d i) ↦{q5} f5) ∗ itemPart d i arg7 g₇
          ∗ (∃ f, (arg15.view.loc (tile d i) ↦{fullShare} f)) ∗ holdsAny d i arg16
          ∗ semVal (tile d i, SemLoc.dma arg14.sem) 0 ∗ semVal (tile d i, SemLoc.dma v44_r1.sem) 0 ∗ semVal (tile d i, SemLoc.dma v44_r2.sem) 0
          ∗ owesLocal d i O W) -∗ Q ⟨⟩)
          -∗ wp frame (wpE (defs₀ (F := F)) 𝒱₀ (tile d i) none) Set.univ
              (if h : k0_cond1 i = 1#1 then do
                Prog.lift (.enqueueDma (nodeRow arg3 i h) (.here arg15) (SemLoc.dma v44_r1.sem) (hsrc h) hdst hsem)
                Prog.lift (.waitDma2 v44_r1.sem (nodeRow arg3 i h) arg15 (hsrc h) hdst)
                SparseCore.enqueueIndirectGather hp (tabAll arg5) arg16 gathers_S100000x128_S64x128 (nodeLst arg15) rfl arg14.sem hsrc5 he hsp hr
                SparseCore.waitIndirectGather arg14.sem (tabAll arg5) arg16 hsrc5 h16
                Prog.lift (.enqueueDma arg16 (.here (itemW arg7 i h)) (SemLoc.dma v44_r2.sem) h16 (h7 h) (hsem' h))
                Prog.lift (.waitDma2 v44_r2.sem arg16 (itemW arg7 i h) h16 (h7 h))
              else pure ⟨⟩) Q) := by
  by_cases h : k0_cond1 i = 1#1
  · have hip : ∀ f : Buf (Elt F) (arg7.view.loc (tile d i)), itemPart d i arg7 f
        = iprop((itemW arg7 i h).view.loc (tile d i) ↦[(itemW arg7 i h).view.set]{fullShare} f) := fun f => dif_pos h
    rw [hip, hip, dif_pos h]
    simp only [wp_bind]
    iintro ⟨⟨H3, H5, H7, H15, H16, Hs14, Hs1, Hs2, HO⟩, #Hmw⟩ Hk
    iapply (fetch d i (src := nodeRow arg3 i h) (dst := arg15) (View.dmaCredit_pos _ (by decide))) $$ [H3 H15 Hs1 HO]
    · iframe H3 H15 Hs1 HO Hmw
    iintro ⟨H3, ⟨%fl, %hfl, H15⟩, Hs1, HO⟩
    obtain ⟨hin, hR⟩ := hI h fl hfl
    have hs := fun Q => start_gather (F := F) d i (Q := Q) (B := arg16) (gs := arg14.sem) (tab := tabAll arg5) (L := nodeLst arg15) (qt := q5) (ql := fullShare) R₇ hin hR
      (hp := hp) (hsrc := hsrc5) (he := he) (hsp := hsp) (hr := hr) (k := pure) (α := PUnit)
    simp only [bind_pure, wp_pure] at hs
    iapply (hs _) $$ [H5 H15 H16 Hs14]
    · isplitl [H16]; · iexact H16
      isplitl [H5]; · iexact H5
      isplitl [H15]; · iexact H15
      iexact Hs14
    iintro Hf
    imodintro
    have hw := fun Q => wait_flight (F := F) d i (Q := Q) (sm := arg14.sem) (src := tabAll arg5) (dst := arg16) (hsrc := hsrc5) (hdst := h16) rfl
      (Dl := iprop(holds d i arg16 R₇ ∗ ((tabAll arg5).view.loc (tile d i) ↦{q5} f5) ∗ ((nodeLst arg15).view.loc (tile d i) ↦{fullShare} fl)))
      (O := O) (W := W) (k := pure) (α := PUnit)
    simp only [wp_pure] at hw
    unfold SparseCore.waitIndirectGather
    iapply (hw _) $$ [Hf HO]
    · iframe HO Hmw
      iexact Hf
    iintro ⟨⟨H16, H5, H15⟩, Hs14, HO⟩
    imodintro
    have hwr := fun Q => start_write (F := F) d i (Q := Q) (B := arg16) (ws := v44_r2.sem) (C := itemW arg7 i h) rfl (f₀ := f₇) (g := g₇) (hI' h) (hsrc := h16) (hdst := h7 h) (hsem := hsem' h)
      (k := pure) (α := PUnit)
    simp only [wp_pure] at hwr
    unfold Prog.lift
    iapply (hwr _) $$ [H16 H7 Hs2]
    · iframe H16 H7 Hs2
    iintro Hf
    imodintro
    have hw2 := fun Q => wait_flight (F := F) d i (Q := Q) (sm := v44_r2.sem) (src := arg16) (dst := itemW arg7 i h) (hsrc := h16) (hdst := h7 h) rfl
      (Dl := iprop(holdsAny d i arg16 ∗ ((itemW arg7 i h).view.loc (tile d i) ↦[(itemW arg7 i h).view.set]{fullShare} g₇)))
      (O := O) (W := W) (k := pure) (α := PUnit)
    simp only [wp_pure] at hw2
    iapply (hw2 _) $$ [Hf HO]
    · iframe HO Hmw
      iexact Hf
    iintro ⟨⟨H16, H7⟩, Hs2, HO⟩
    imodintro
    iapply Hk
    iframe H3 H7 H16 Hs14 Hs1 Hs2 HO
    isplitl [H5]; · iexact H5
    iexists fl; iexact H15
  · have hip : ∀ f : Buf (Elt F) (arg7.view.loc (tile d i)), itemPart d i arg7 f = iprop(emp) := fun f => dif_neg h
    rw [hip, hip, dif_neg h, wp_pure]
    iintro ⟨H, -⟩ Hk
    imodintro
    iapply Hk
    iexact H

end

end Cert.Proof
-- ==== Proof.Tile.lean ====
/-
  The whole body of the SparseCore kernel on one tile.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

section
variable (d : Dev nD) (i : grid0.Coords)
variable (arg2 : Memref sig .scVector .hbm S32x25x64 .i32) (harg2 : arg2.IsWhole) (arg3 : Memref sig .scVector .hbm S4x1x64 .i32) (harg3 : arg3.IsWhole) (arg4 : Memref sig .scVector .hbm S100000x128 .f32) (harg4 : arg4.IsWhole) (arg5 : Memref sig .scVector .hbm S100000x128 .f32) (harg5 : arg5.IsWhole) (arg6 : Memref sig .scVector .hbm S51200x128 .f32) (harg6 : arg6.IsWhole) (arg7 : Memref sig .scVector .hbm S256x128 .f32) (harg7 : arg7.IsWhole) (arg8 : Memref sig .scVector .vmem S25x64 .i32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : Memref sig .scVector .vmem S64x128 .f32) (harg12 : arg12.IsWhole) (arg13 : Memref sig .scVector .vmem S64x128 .f32) (harg13 : arg13.IsWhole) (arg14 : DmaSems sig S_) (arg15 : Memref sig .scVector .vmem S1x64 .i32) (harg15 : arg15.IsWhole) (arg16 : Memref sig .scVector .vmem S64x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (v37_r0 : DmaSems sig S_) (v44_r1 : DmaSems sig S_) (v44_r2 : DmaSems sig S_)
variable (f2 : Buf (Elt F) (arg2.view.loc (tile d i))) (f3 : Buf (Elt F) (arg3.view.loc (tile d i)))
variable (ft : Buf (Elt F) (arg4.view.loc (tile d i))) (f5 : Buf (Elt F) (arg5.view.loc (tile d i)))
variable (f₀ g : Buf (Elt F) (arg6.view.loc (tile d i))) (f₇ g₇ : Buf (Elt F) (arg7.view.loc (tile d i)))
variable (R : Fin 25 → S64x128.Idx → Elt F .f32) (R₇ : S64x128.Idx → Elt F .f32)
variable (q2 q3 q4 q5 : PosShare TreeShare)

theorem rest_zero (b : ℕ) : rest d i arg6 f₀ b 0 = (bigSep (Finset.range 5) fun t => chunk d i arg6 f₀ (ch b t) : sProp 𝕄) := by
  unfold rest; rw [Finset.range_eq_Ico]

theorem rest_five (b : ℕ) : rest d i arg6 f₀ b 5 = (iprop(emp) : sProp 𝕄) := by
  unfold rest; rw [Finset.Ico_self, bigSep_empty]; rfl

theorem done_zero (b : ℕ) : done d i arg6 g b 0 = (iprop(emp) : sProp 𝕄) := by
  unfold done; rw [Finset.range_zero, bigSep_empty]; rfl

/-- The tile's chunks are its lanes' chunks. -/
theorem chunks_five (f : Buf (Elt F) (arg6.view.loc (tile d i))) :
    (bigSep Finset.univ fun j => chunk d i arg6 f j : sProp 𝕄)
      = iprop((bigSep (Finset.range 5) fun t => chunk d i arg6 f (ch 0 t)) ∗ (bigSep (Finset.range 5) fun t => chunk d i arg6 f (ch 1 t))
        ∗ (bigSep (Finset.range 5) fun t => chunk d i arg6 f (ch 2 t)) ∗ (bigSep (Finset.range 5) fun t => chunk d i arg6 f (ch 3 t))
        ∗ (bigSep (Finset.range 5) fun t => chunk d i arg6 f (ch 4 t))) := by
  rw [chunks_lanes, five]; rfl

/-- A lane with none of its chunks written. -/
theorem lane_start (l : Lane) (fl : Buf (Elt F) (arg8.view.loc (tile d i))) :
    iprop(holdsAny d i l.B ∗ semVal (tile d i, SemLoc.dma l.gs) 0 ∗ semVal (tile d i, SemLoc.dma l.ws) 0
        ∗ (arg4.view.loc (tile d i) ↦{l.qt} ft) ∗ (arg8.view.loc (tile d i) ↦{l.ql} fl) ∗ (bigSep (Finset.range 5) fun t => chunk d i arg6 f₀ (ch l.b t)))
      ⊢ LI d i arg4 arg6 arg8 ft fl f₀ g l 0 := by
  unfold LI reads
  rw [rest_zero, done_zero]
  iintro ⟨HB, Hg, Hw, Ht, Hl, Hr⟩
  iframe HB Hg Hw Ht Hl Hr

/-- A lane with all of its chunks written. -/
theorem lane_end (l : Lane) (fl : Buf (Elt F) (arg8.view.loc (tile d i))) :
    LI d i arg4 arg6 arg8 ft fl f₀ g l 5
      ⊢ iprop(holdsAny d i l.B ∗ semVal (tile d i, SemLoc.dma l.gs) 0 ∗ semVal (tile d i, SemLoc.dma l.ws) 0
        ∗ (arg4.view.loc (tile d i) ↦{l.qt} ft) ∗ (arg8.view.loc (tile d i) ↦{l.ql} fl) ∗ (bigSep (Finset.range 5) fun t => chunk d i arg6 g (ch l.b t))) := by
  unfold LI reads done
  rw [rest_five]
  iintro ⟨HB, Hg, Hw, ⟨Ht, Hl⟩, -, Hr⟩
  iframe HB Hg Hw Ht Hl Hr

theorem early_zero (l : Lane) (fl : Buf (Elt F) (arg8.view.loc (tile d i))) :
    early d i arg4 arg6 arg8 ft fl f₀ g R l 0 = LG d i arg4 arg6 arg8 ft fl f₀ g R l 0 := if_pos (by decide)

theorem early_five (l : Lane) (fl : Buf (Elt F) (arg8.view.loc (tile d i))) :
    early d i arg4 arg6 arg8 ft fl f₀ g R l (4 + 1) = LW d i arg4 arg6 arg8 ft fl f₀ g l 4 := if_neg (by decide)

variable {d i arg2 arg3 arg4 arg5 arg6 arg7 arg8 arg15 f2 f3 ft f5 f₀ g f₇ g₇ R R₇ q2 q3 q4 q5}

set_option maxHeartbeats 4000000 in
theorem tile_run (hL : ∀ fl : Buf (Elt F) (arg8.view.loc (tile d i)), arg8.view.read (Elt F) fl = (histRow arg2 i).view.read (Elt F) f2 → ListOK d i arg4 arg8 ft fl R)
    (hg : TargetOK d i arg6 g R) (hI : ItemOK d i arg3 arg5 arg15 f3 f5 R₇) (hI' : ItemTarget d i arg7 g₇ R₇)
    (O : CellTallies nD τ sig (HIx 4)) (W : Waits sig (HIx 4)) :
    iprop(opnds d i arg2 arg3 arg4 arg5 arg6 arg7 f2 f3 ft f5 q2 q3 q4 q5 f₀ f₇
        ∗ scratch d i arg8 arg9 arg10 arg11 arg12 arg13 arg15 arg16
        ∗ sems d i arg14 arg17 arg18 arg19 arg20 arg21 arg22 arg23 arg24 arg25 arg26 v37_r0 v44_r1 v44_r2
        ∗ owesLocal d i O W ∗ Transfers.MayWaits (tile d i) (default : HIx 4) O)
      ⊢ wp frame (wpE (defs₀ (F := F)) 𝒱₀ (tile d i) none) Set.univ (cc0__sc_gather_body i arg2 harg2 arg3 harg3 arg4 harg4 arg5 harg5 arg6 harg6 arg7 harg7 arg8 harg8 arg9 harg9 arg10 harg10 arg11 harg11 arg12 harg12 arg13 harg13 arg14 arg15 harg15 arg16 harg16 arg17 arg18 arg19 arg20 arg21 arg22 arg23 arg24 arg25 arg26 v37_r0 v44_r1 v44_r2)
          fun _ => iprop(opnds d i arg2 arg3 arg4 arg5 arg6 arg7 f2 f3 ft f5 q2 q3 q4 q5 g g₇
            ∗ scratch d i arg8 arg9 arg10 arg11 arg12 arg13 arg15 arg16
            ∗ sems d i arg14 arg17 arg18 arg19 arg20 arg21 arg22 arg23 arg24 arg25 arg26 v37_r0 v44_r1 v44_r2
            ∗ owesLocal d i O W) := by
  rw [cc0__sc_gather_body_eq_skeleton]; unfold cc0__sc_gather_body_skel
  simp only [k0_part3_eq_skeleton]
  unfold k0_part3_skel
  simp only [guard_bind6, bind_assoc, pure_bind]
  simp only [wp_bind, wp_pure]
  unfold opnds scratch sems
  rw [pointsTo_deal (Finset.univ : Finset (Fin 5)) ⟨0, Finset.mem_univ _⟩ q4, chunks_five, chunks_five, five]
  iintro ⟨⟨H2, H3, ⟨T0, T1, T2, T3, T4⟩, H5, ⟨C0, C1, C2, C3, C4⟩, H7⟩, ⟨H8, B0, B1, B2, B3, B4, H15, H16⟩,
    ⟨S14, G0, G1, G2, G3, G4, W0, W1, W2, W3, W4, S0, S1, S2⟩, HO, #Hmw⟩
  iapply (fetch d i (src := histRow arg2 i) (dst := arg8) (View.dmaCredit_pos _ (by decide))) $$ [H2 H8 S0 HO]
  · iframe H2 H8 S0 HO Hmw
  iintro ⟨H2, ⟨%fl, %hfl, H8⟩, S0, HO⟩
  iapply (item_part v44_r1 v44_r2 hI hI') $$ [H3 H5 H7 H15 H16 S14 S1 S2 HO]
  · iframe H3 H5 H7 H15 H16 S14 S1 S2 HO Hmw
  iintro ⟨H3, H5, H7, H15, H16, S14, S1, S2, HO⟩
  have hL' := hL fl hfl
  ihave H8 := (Entails.of_eq ((pointsTo_deal (ℓ := arg8.view.loc (tile d i)) (f := fl) (Finset.univ : Finset (Fin 5)) ⟨0, Finset.mem_univ _⟩ fullShare).trans (five _))) $$ H8
  icases H8 with ⟨A0, A1, A2, A3, A4⟩
  ihave L0 := (lane_start d i f₀ g (arg4 := arg4) (arg6 := arg6) (arg8 := arg8) (ft := ft) (lane0 arg9 arg17 arg22 (dealOf q4 Finset.univ) (dealOf fullShare Finset.univ)) fl) $$ [B0 G0 W0 T0 A0 C0]
  · iframe B0 G0 W0 T0 A0 C0
  iapply (lane_gather hL' (lane0 arg9 arg17 arg22 (dealOf q4 Finset.univ) (dealOf fullShare Finset.univ)) rfl (off_list arg8 (b := 0) (t := 0) (by decide) (by decide) rfl _)) $$ L0
  iintro L0
  ihave L1 := (lane_start d i f₀ g (arg4 := arg4) (arg6 := arg6) (arg8 := arg8) (ft := ft) (lane1 arg10 arg18 arg23 (dealOf q4 Finset.univ) (dealOf fullShare Finset.univ)) fl) $$ [B1 G1 W1 T1 A1 C1]
  · iframe B1 G1 W1 T1 A1 C1
  iapply (lane_gather hL' (lane1 arg10 arg18 arg23 (dealOf q4 Finset.univ) (dealOf fullShare Finset.univ)) rfl (off_list arg8 (b := 1) (t := 0) (by decide) (by decide) rfl _)) $$ L1
  iintro L1
  ihave L2 := (lane_start d i f₀ g (arg4 := arg4) (arg6 := arg6) (arg8 := arg8) (ft := ft) (lane2 arg11 arg19 arg24 (dealOf q4 Finset.univ) (dealOf fullShare Finset.univ)) fl) $$ [B2 G2 W2 T2 A2 C2]
  · iframe B2 G2 W2 T2 A2 C2
  iapply (lane_gather hL' (lane2 arg11 arg19 arg24 (dealOf q4 Finset.univ) (dealOf fullShare Finset.univ)) rfl (off_list arg8 (b := 2) (t := 0) (by decide) (by decide) rfl _)) $$ L2
  iintro L2
  ihave L3 := (lane_start d i f₀ g (arg4 := arg4) (arg6 := arg6) (arg8 := arg8) (ft := ft) (lane3 arg12 arg20 arg25 (dealOf q4 Finset.univ) (dealOf fullShare Finset.univ)) fl) $$ [B3 G3 W3 T3 A3 C3]
  · iframe B3 G3 W3 T3 A3 C3
  iapply (lane_gather hL' (lane3 arg12 arg20 arg25 (dealOf q4 Finset.univ) (dealOf fullShare Finset.univ)) rfl (off_list arg8 (b := 3) (t := 0) (by decide) (by decide) rfl _)) $$ L3
  iintro L3
  ihave L4 := (lane_start d i f₀ g (arg4 := arg4) (arg6 := arg6) (arg8 := arg8) (ft := ft) (lane4 arg13 arg21 arg26 (dealOf q4 Finset.univ) (dealOf fullShare Finset.univ)) fl) $$ [B4 G4 W4 T4 A4 C4]
  · iframe B4 G4 W4 T4 A4 C4
  iapply (lane_gather hL' (lane4 arg13 arg21 arg26 (dealOf q4 Finset.univ) (dealOf fullShare Finset.univ)) rfl (off_list arg8 (b := 4) (t := 0) (by decide) (by decide) rfl _)) $$ L4
  iintro L4
  iapply (Scf.wp_for frame (wpE (defs₀ (F := F)) 𝒱₀ (tile d i) none) Set.univ _ _ _ _ _ _
    (fun t _ => lanes d i arg4 arg6 arg8 arg9 arg10 arg11 arg12 arg13 arg17 arg18 arg19 arg20 arg21 arg22 arg23 arg24 arg25 arg26 ft fl f₀ g R (dealOf q4 Finset.univ) (dealOf fullShare Finset.univ) O W t)
    (fun k _ => trip arg2 harg2 arg3 harg3 harg4 arg5 harg5 harg6 arg7 harg7 harg8 arg9 harg9 arg10 harg10 arg11 harg11 arg12 harg12 arg13 harg13 arg14 arg15 harg15 arg16 harg16 arg17 arg18 arg19 arg20 arg21 arg22 arg23 arg24 arg25 arg26 v37_r0 v44_r1 v44_r2 hL' hg O W k _))
  isplitl [L0 L1 L2 L3 L4 HO]
  · unfold lanes late
    rw [early_zero, early_zero, early_zero]
    iframe L0 L1 L2 L3 L4 HO
    iexact Hmw
  iintro %_ H
  ihave H := (Entails.of_eq (show lanes d i arg4 arg6 arg8 arg9 arg10 arg11 arg12 arg13 arg17 arg18 arg19 arg20 arg21 arg22 arg23 arg24 arg25 arg26 ft fl f₀ g R (dealOf q4 Finset.univ) (dealOf fullShare Finset.univ) O W k0_t1_loop.trips = lanes d i arg4 arg6 arg8 arg9 arg10 arg11 arg12 arg13 arg17 arg18 arg19 arg20 arg21 arg22 arg23 arg24 arg25 arg26 ft fl f₀ g R (dealOf q4 Finset.univ) (dealOf fullShare Finset.univ) O W (4 + 1) by rw [trips_eq])) $$ H
  unfold lanes late
  rw [early_five, early_five, early_five]
  icases H with ⟨L0, L1, L2, L3, L4, HO, -⟩
  iapply (lane_waitW (lane0 arg9 arg17 arg22 (dealOf q4 Finset.univ) (dealOf fullShare Finset.univ)) (credit_eq _ _)) $$ [L0 HO]
  · iframe L0 HO Hmw
  iintro ⟨L0, HO⟩
  ihave L0 := (lane_end d i f₀ g (arg4 := arg4) (arg6 := arg6) (arg8 := arg8) (ft := ft) (lane0 arg9 arg17 arg22 (dealOf q4 Finset.univ) (dealOf fullShare Finset.univ)) fl) $$ L0
  icases L0 with ⟨B0, G0, W0, T0, A0, C0⟩
  iapply (lane_waitW (lane1 arg10 arg18 arg23 (dealOf q4 Finset.univ) (dealOf fullShare Finset.univ)) (credit_eq _ _)) $$ [L1 HO]
  · iframe L1 HO Hmw
  iintro ⟨L1, HO⟩
  ihave L1 := (lane_end d i f₀ g (arg4 := arg4) (arg6 := arg6) (arg8 := arg8) (ft := ft) (lane1 arg10 arg18 arg23 (dealOf q4 Finset.univ) (dealOf fullShare Finset.univ)) fl) $$ L1
  icases L1 with ⟨B1, G1, W1, T1, A1, C1⟩
  iapply (lane_waitW (lane2 arg11 arg19 arg24 (dealOf q4 Finset.univ) (dealOf fullShare Finset.univ)) (credit_eq _ _)) $$ [L2 HO]
  · iframe L2 HO Hmw
  iintro ⟨L2, HO⟩
  ihave L2 := (lane_end d i f₀ g (arg4 := arg4) (arg6 := arg6) (arg8 := arg8) (ft := ft) (lane2 arg11 arg19 arg24 (dealOf q4 Finset.univ) (dealOf fullShare Finset.univ)) fl) $$ L2
  icases L2 with ⟨B2, G2, W2, T2, A2, C2⟩
  iapply (lane_waitW (lane3 arg12 arg20 arg25 (dealOf q4 Finset.univ) (dealOf fullShare Finset.univ)) (credit_eq _ _)) $$ [L3 HO]
  · iframe L3 HO Hmw
  iintro ⟨L3, HO⟩
  ihave L3 := (lane_end d i f₀ g (arg4 := arg4) (arg6 := arg6) (arg8 := arg8) (ft := ft) (lane3 arg12 arg20 arg25 (dealOf q4 Finset.univ) (dealOf fullShare Finset.univ)) fl) $$ L3
  icases L3 with ⟨B3, G3, W3, T3, A3, C3⟩
  iapply (lane_waitW (lane4 arg13 arg21 arg26 (dealOf q4 Finset.univ) (dealOf fullShare Finset.univ)) (credit_eq _ _)) $$ [L4 HO]
  · iframe L4 HO Hmw
  iintro ⟨L4, HO⟩
  ihave L4 := (lane_end d i f₀ g (arg4 := arg4) (arg6 := arg6) (arg8 := arg8) (ft := ft) (lane4 arg13 arg21 arg26 (dealOf q4 Finset.univ) (dealOf fullShare Finset.univ)) fl) $$ L4
  icases L4 with ⟨B4, G4, W4, T4, A4, C4⟩
  imodintro
  iframe H2 H3 H5 H7 H15 H16 S14 S0 S1 S2 HO B0 B1 B2 B3 B4 G0 G1 G2 G3 G4 W0 W1 W2 W3 W4 T0 T1 T2 T3 T4 C0 C1 C2 C3 C4
  iexists fl
  iapply (Entails.of_eq ((pointsTo_deal (ℓ := arg8.view.loc (tile d i)) (f := fl) (Finset.univ : Finset (Fin 5)) ⟨0, Finset.mem_univ _⟩ fullShare).trans (five _)).symm)
  iframe A0 A1 A2 A3 A4

end

end Cert.Proof
-- ==== Proof.Content.lean ====
/-
  What the SparseCore kernel writes: row `1600 w + 64 j + r` of the output is the row of the user table that word
  `(w, j, r)` of the history's list names, row `64 w + r` of the item rows the row of the item table that word `(w, 0, r)` of
  the nodes names.
-/
module

public import proofs.«01_k».proof.Proof.Body
public import Idealize.ShloMosaic.Lib.ValueLayout

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The row a word names, the last one for a word past the end. -/
def rowOf (w : BitVec 32) : Fin 100000 := ⟨min w.toNat 99999, by omega⟩

theorem rowOf_eq {w : BitVec 32} (h : w.toNat < 100000) : rowOf w = ⟨w.toNat, h⟩ := Fin.ext (by show min w.toNat 99999 = w.toNat; omega)

/-- The gathered history rows. -/
def outRows {α : Type} (uh : S32x25x64.Idx → BitVec 32) (tab : S100000x128.Idx → α) : S51200x128.Idx → α := fun x =>
  tab (ix2 (rowOf (uh (ix3 (⟨(x 0).val / 1600, by have : (x 0).val < 51200 := (x 0).isLt; omega⟩ : Fin 32)
    (⟨(x 0).val % 1600 / 64, by omega⟩ : Fin 25) (⟨(x 0).val % 64, by omega⟩ : Fin 64)))) (x 1 : Fin 128))

/-- The gathered item rows. -/
def itemRows {α : Type} (nd : S4x1x64.Idx → BitVec 32) (tab : S100000x128.Idx → α) : S256x128.Idx → α := fun x =>
  tab (ix2 (rowOf (nd (ix3 (⟨(x 0).val / 64, by have : (x 0).val < 256 := (x 0).isLt; omega⟩ : Fin 4)
    (0 : Fin 1) (⟨(x 0).val % 64, by omega⟩ : Fin 64)))) (x 1 : Fin 128))

/-- A tile's number. -/
def wid (i : grid0.Coords) : Fin 32 := ⟨2 * (i 1).val + (i 0).val, by
  have h0 : (i 0).val < 2 := (i 0).isLt
  have h1 : (i 1).val < 16 := (i 1).isLt
  omega⟩

theorem cond1_iff : ∀ i : grid0.Coords, k0_cond1 i = 1#1 ↔ 2 * (i 1).val + (i 0).val < 4 := by decide +kernel

/-- The rows a list names, at an index. -/
theorem gathered_apply (tv : S100000x128.Idx → Elt F .f32) (lv : S64.Idx → Elt F .i32) (h : ∀ x, (lv x).toNat < 100000) (x : S64x128.Idx) :
    gathered tv lv h x = tv (ix2 (rowOf (lv (ix1 (x 0)))) (x 1 : Fin 128)) := by
  rw [rowOf_eq (h _)]
  unfold gathered SparseCore.gatherPayload
  congr 1
  funext a
  match a with
  | ⟨0, _⟩ =>
    refine (Shape.Gathers.idx_axis gathers_S100000x128_S64x128 _ x).trans ?_
    apply Fin.ext
    show (lv (S64.rowMajor.symm _)).toNat = (lv (ix1 (x 0))).toNat
    congr 2
    rw [Equiv.symm_apply_eq]
    apply Fin.ext
    rw [Shape.rowMajor_val_one]
    rfl
  | ⟨1, _⟩ =>
    apply Fin.ext
    exact Shape.Gathers.idx_of_ne gathers_S100000x128_S64x128 _ x 1 (by decide)

/-- Row `j` of a tile's list, read. -/
theorem read_lst (A8 : ListBuf) (j : Fin 25) (f : A8.view.ty.Contents (Elt F)) (x : S64.Idx) :
    (lst A8 j).view.read (Elt F) f x = A8.view.read (Elt F) f (ix2 j (x 0 : Fin 64)) := by
  show A8.view.read (Elt F) f ((Rect.unit (s := S25x64) ![j.val, 0] S1x64.size (lst_inb j)).emb
    (Shape.reshapeEquiv squeezes_S1x64_S64.numel_eq x)) = _
  rw [show Shape.reshapeEquiv squeezes_S1x64_S64.numel_eq x = (ix2 (0 : Fin 1) (x 0 : Fin 64) : S1x64.Idx) from
    Shape.reshapeEquiv_eq_of_rowMajor _ (by
      rw [Shape.rowMajor_val_two, Shape.rowMajor_val_one]
      show 0 * 64 + (x 0).val = (x 0).val; omega)]
  congr 1
  funext a
  apply Fin.ext
  match a with
  | ⟨0, _⟩ => show j.val + 1 * 0 = j.val; omega
  | ⟨1, _⟩ => show 0 + 1 * (x 0).val = (x 0).val; omega

theorem read_nodeLst (A15 : Memref sig .scVector .vmem S1x64 .i32) (f : A15.view.ty.Contents (Elt F)) (x : S64.Idx) :
    (nodeLst A15).view.read (Elt F) f x = A15.view.read (Elt F) f (ix2 (0 : Fin 1) (x 0 : Fin 64)) := by
  show A15.view.read (Elt F) f ((Rect.unit (s := S1x64) ![0, 0] S1x64.size inb_S1x64_S1x64_0_0).emb
    (Shape.reshapeEquiv squeezes_S1x64_S64.numel_eq x)) = _
  rw [show Shape.reshapeEquiv squeezes_S1x64_S64.numel_eq x = (ix2 (0 : Fin 1) (x 0 : Fin 64) : S1x64.Idx) from
    Shape.reshapeEquiv_eq_of_rowMajor _ (by
      rw [Shape.rowMajor_val_two, Shape.rowMajor_val_one]
      show 0 * 64 + (x 0).val = (x 0).val; omega)]
  congr 1
  funext a
  apply Fin.ext
  match a with
  | ⟨0, _⟩ => rfl
  | ⟨1, _⟩ => show 0 + 1 * (x 0).val = (x 0).val; omega

/-- The tile's row of the history's list, read. -/
theorem read_histRow (A2 : HistRef) (i : grid0.Coords) (f : A2.view.ty.Contents (Elt F)) (a : Fin 25) (b : Fin 64) :
    (histRow A2 i).view.read (Elt F) f (ix2 a b) = A2.view.read (Elt F) f (ix3 (wid i) a b) := by
  show A2.view.read (Elt F) f ((Rect.unit (s := S32x25x64) (k0_off1 i) S1x25x64.size (k0_off1_inb i)).emb
    (Shape.reshapeEquiv squeezes_S1x25x64_S25x64.numel_eq (ix2 a b))) = _
  rw [show Shape.reshapeEquiv squeezes_S1x25x64_S25x64.numel_eq (ix2 a b) = (ix3 (0 : Fin 1) a b : S1x25x64.Idx) from
    Shape.reshapeEquiv_eq_of_rowMajor _ (by
      rw [Shape.rowMajor_val_three, Shape.rowMajor_val_two]
      show (0 * 25 + a.val) * 64 + b.val = a.val * 64 + b.val; omega)]
  congr 1
  have h := k0_off1_eq i
  funext c
  apply Fin.ext
  match c with
  | ⟨0, _⟩ =>
    show k0_off1 i 0 + 1 * 0 = 2 * (i 1).val + (i 0).val
    rw [h]; rfl
  | ⟨1, _⟩ =>
    show k0_off1 i 1 + 1 * a.val = a.val
    rw [h]; show 0 + 1 * a.val = a.val; omega
  | ⟨2, _⟩ =>
    show k0_off1 i 2 + 1 * b.val = b.val
    rw [h]; show 0 + 1 * b.val = b.val; omega

theorem read_nodeRow (A3 : NodeRef) (i : grid0.Coords) (hc : k0_cond1 i = 1#1) (f : A3.view.ty.Contents (Elt F)) (b : Fin 64) :
    (nodeRow A3 i hc).view.read (Elt F) f (ix2 (0 : Fin 1) b)
      = A3.view.read (Elt F) f (ix3 (⟨2 * (i 1).val + (i 0).val, (cond1_iff i).1 hc⟩ : Fin 4) (0 : Fin 1) b) := by
  show A3.view.read (Elt F) f ((Rect.unit (s := S4x1x64) (k0_off2 i) S1x1x64.size (k0_off2_inb i hc)).emb
    (Shape.reshapeEquiv squeezes_S1x1x64_S1x64.numel_eq (ix2 (0 : Fin 1) b))) = _
  rw [show Shape.reshapeEquiv squeezes_S1x1x64_S1x64.numel_eq (ix2 (0 : Fin 1) b) = (ix3 (0 : Fin 1) (0 : Fin 1) b : S1x1x64.Idx) from
    Shape.reshapeEquiv_eq_of_rowMajor _ (by
      rw [Shape.rowMajor_val_three, Shape.rowMajor_val_two]
      show (0 * 1 + 0) * 64 + b.val = 0 * 64 + b.val; omega)]
  congr 1
  have h := k0_off2_eq i
  funext c
  apply Fin.ext
  match c with
  | ⟨0, _⟩ =>
    show k0_off2 i 0 + 1 * 0 = 2 * (i 1).val + (i 0).val
    rw [h]; rfl
  | ⟨1, _⟩ =>
    show k0_off2 i 1 + 1 * 0 = 0
    rw [h]; rfl
  | ⟨2, _⟩ =>
    show k0_off2 i 2 + 1 * b.val = b.val
    rw [h]; show 0 + 1 * b.val = b.val; omega

/-- The whole of a table, read. -/
theorem read_tabAll (A : TabRef) (f : A.view.ty.Contents (Elt F)) : (tabAll A).view.read (Elt F) f = A.view.read (Elt F) f := by
  funext x
  show A.view.read (Elt F) f ((Rect.unit (s := S100000x128) ![0, 0] S100000x128.size inb_S100000x128_S100000x128_0_0).emb x) = _
  congr 1
  funext a
  apply Fin.ext
  match a with
  | ⟨0, _⟩ => show 0 + 1 * (x 0).val = (x 0).val; omega
  | ⟨1, _⟩ => show 0 + 1 * (x 1).val = (x 1).val; omega

/-- What chunk `j` of a tile's rows is to hold. -/
def chunkRows (i : grid0.Coords) (out : S51200x128.Idx → Elt F .f32) (j : Fin 25) : S64x128.Idx → Elt F .f32 := fun x =>
  out (ix2 (⟨1600 * (wid i).val + 64 * j.val + (x 0).val, by
    have : (x 0).val < 64 := (x 0).isLt
    have := (wid i).isLt
    omega⟩ : Fin 51200) (x 1 : Fin 128))

/-- What a tile's item rows are to hold. -/
def itemChunk (i : grid0.Coords) (out : S256x128.Idx → Elt F .f32) : S64x128.Idx → Elt F .f32 := fun x =>
  if h : 2 * (i 1).val + (i 0).val < 4 then
    out (ix2 (⟨64 * (2 * (i 1).val + (i 0).val) + (x 0).val, by
      have : (x 0).val < 64 := (x 0).isLt
      omega⟩ : Fin 256) (x 1 : Fin 128))
  else out (ix2 (0 : Fin 256) (x 1 : Fin 128))

section
variable {d : Dev nD} {i : grid0.Coords}

theorem targetOK {A6 : OutRef} {out : S51200x128.Idx → Elt F .f32} {g : Buf (Elt F) (A6.view.loc (tile d i))}
    (hg : A6.view.read (Elt F) g = out) : TargetOK d i A6 g (chunkRows i out) := by
  intro j
  subst hg
  funext x
  show A6.view.read (Elt F) g ((Rect.unit (s := S51200x128) ![3200 * (i 1).val + 1600 * (i 0).val + 64 * j.val, 0] S64x128.size (outW_inb i j)).emb x) = _
  unfold chunkRows
  congr 1
  funext a
  apply Fin.ext
  match a with
  | ⟨0, _⟩ =>
    show 3200 * (i 1).val + 1600 * (i 0).val + 64 * j.val + 1 * (x 0).val = 1600 * (2 * (i 1).val + (i 0).val) + 64 * j.val + (x 0).val
    omega
  | ⟨1, _⟩ => show 0 + 1 * (x 1).val = (x 1).val; omega

theorem itemTarget {A7 : ItemRef} {out : S256x128.Idx → Elt F .f32} {g : Buf (Elt F) (A7.view.loc (tile d i))}
    (hg : A7.view.read (Elt F) g = out) : ItemTarget d i A7 g (itemChunk i out) := by
  intro hc
  have hlt := (cond1_iff i).1 hc
  subst hg
  funext x
  show A7.view.read (Elt F) g ((Rect.unit (s := S256x128) (k0_off3 i) S64x128.size (k0_off3_inb i hc)).emb x) = _
  unfold itemChunk
  rw [dif_pos hlt]
  congr 1
  have h := k0_off3_eq i
  funext a
  apply Fin.ext
  match a with
  | ⟨0, _⟩ =>
    show k0_off3 i 0 + 1 * (x 0).val = 64 * (2 * (i 1).val + (i 0).val) + (x 0).val
    rw [h]; show 128 * (i 1).val + 64 * (i 0).val + 1 * (x 0).val = _; omega
  | ⟨1, _⟩ =>
    show k0_off3 i 1 + 1 * (x 1).val = (x 1).val
    rw [h]; show 0 + 1 * (x 1).val = (x 1).val; omega

theorem listOK {A2 : HistRef} {A4 : TabRef} {A8 : ListBuf} {f2 : Buf (Elt F) (A2.view.loc (tile d i))} {ft : Buf (Elt F) (A4.view.loc (tile d i))}
    {uh : S32x25x64.Idx → BitVec 32} {tab : S100000x128.Idx → Elt F .f32} (huh : A2.view.read (Elt F) f2 = uh) (htab : A4.view.read (Elt F) ft = tab)
    (hin : ∀ x, (uh x).toNat < 100000) (fl : Buf (Elt F) (A8.view.loc (tile d i)))
    (hfl : A8.view.read (Elt F) fl = (histRow A2 i).view.read (Elt F) f2) :
    ListOK d i A4 A8 ft fl (chunkRows i (outRows uh tab)) := by
  intro j
  have hl : ∀ x, (lst A8 j).view.read (Elt F) fl x = uh (ix3 (wid i) j (x 0 : Fin 64)) := fun x => by
    rw [read_lst, hfl]
    exact (read_histRow A2 i f2 j (x 0)).trans (congrFun huh _)
  refine ⟨fun x => by rw [hl]; exact hin _, ?_⟩
  funext x
  rw [gathered_apply, read_tabAll, htab, hl]
  unfold chunkRows outRows
  have hx : (x 0).val < 64 := (x 0).isLt
  have hj := j.isLt
  congr 4
  funext a
  apply Fin.ext
  match a with
  | ⟨0, _⟩ => show (wid i).val = (1600 * (wid i).val + 64 * j.val + (x 0).val) / 1600; omega
  | ⟨1, _⟩ => show j.val = (1600 * (wid i).val + 64 * j.val + (x 0).val) % 1600 / 64; omega
  | ⟨2, _⟩ => show (x 0).val = (1600 * (wid i).val + 64 * j.val + (x 0).val) % 64; omega

theorem itemOK {A3 : NodeRef} {A5 : TabRef} {A15 : Memref sig .scVector .vmem S1x64 .i32} {f3 : Buf (Elt F) (A3.view.loc (tile d i))}
    {f5 : Buf (Elt F) (A5.view.loc (tile d i))}
    {nd : S4x1x64.Idx → BitVec 32} {tab : S100000x128.Idx → Elt F .f32} (hnd : A3.view.read (Elt F) f3 = nd) (htab : A5.view.read (Elt F) f5 = tab)
    (hin : ∀ x, (nd x).toNat < 100000) :
    ItemOK d i A3 A5 A15 f3 f5 (itemChunk i (itemRows nd tab)) := by
  intro hc fl hfl
  have hlt := (cond1_iff i).1 hc
  have hl : ∀ x, (nodeLst A15).view.read (Elt F) fl x = nd (ix3 (⟨2 * (i 1).val + (i 0).val, hlt⟩ : Fin 4) (0 : Fin 1) (x 0 : Fin 64)) := fun x => by
    rw [read_nodeLst, hfl]
    exact (read_nodeRow A3 i hc f3 (x 0)).trans (congrFun hnd _)
  refine ⟨fun x => by rw [hl]; exact hin _, ?_⟩
  funext x
  rw [gathered_apply, read_tabAll, htab, hl]
  unfold itemChunk itemRows
  rw [dif_pos hlt]
  have hx : (x 0).val < 64 := (x 0).isLt
  congr 4
  funext a
  apply Fin.ext
  match a with
  | ⟨0, _⟩ => show 2 * (i 1).val + (i 0).val = (64 * (2 * (i 1).val + (i 0).val) + (x 0).val) / 64; omega
  | ⟨1, _⟩ => rfl
  | ⟨2, _⟩ => show (x 0).val = (64 * (2 * (i 1).val + (i 0).val) + (x 0).val) % 64; omega

end

end Cert.Proof
-- ==== Proof.Task.lean ====
/-
  One task of a SparseCore call: the tile's own buffers and semaphores among those the launch hands it, and the
  tile's run from its share of the call's operands to its rows of the two outputs.
-/
module

public import proofs.«01_k».proof.Proof.Tile
public import proofs.«01_k».proof.Proof.Content

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

/-- The members of a list out of a set. -/
theorem bigSep_list {I : Type} [DecidableEq I] (Φ : I → sProp 𝕄) : ∀ (l : List I) (s : Finset I), l.Nodup → (∀ x ∈ l, x ∈ s) →
    bigSep s Φ = l.foldr (fun x P => iprop(Φ x ∗ P)) (bigSep (s \ l.toFinset) Φ)
  | [], s, _, _ => by simp
  | x :: l, s, hn, hs => by
    have hx := hs x List.mem_cons_self
    rw [List.foldr_cons, SparseCore.bigSep_erase' hx, bigSep_list Φ l (s.erase x) (List.nodup_cons.1 hn).2 fun y hy =>
      Finset.mem_erase.2 ⟨fun e => (List.nodup_cons.1 hn).1 (e ▸ hy), hs y (List.mem_cons_of_mem _ hy)⟩]
    congr 3
    ext y
    simp only [Finset.mem_sdiff, Finset.mem_erase, List.toFinset_cons, Finset.mem_insert, not_or]
    tauto

section
variable (d : Dev nD) (i : grid0.Coords)

/-- A tile's own buffers, eight of them apart. -/
theorem ownBufs_list (l : List (Ref sig .scVector)) (hn : l.Nodup) (ho : ∀ r ∈ l, ((tile d i).2.devRef r).owner = .proc (tile d i).2) :
    (ownBufs (tile d i) : sProp 𝕄)
      = l.foldr (fun r P => iprop((∃ f, (tile d i).loc r ↦{fullShare} f) ∗ P))
          (bigSep (ownRefs (τ := τ) (tile d i).2 \ (l.map fun r => (tile d i).2.devRef r).toFinset) fun b => iprop(∃ f, ((d, b) : Loc nD τ sig) ↦{fullShare} f)) := by
  unfold SparseCore.Cfg.ownBufs
  refine (bigSep_list _ (l.map fun r => (tile d i).2.devRef r) _ (hn.map (Proc.devRef_injective _)) fun x hx => ?_).trans ?_
  · obtain ⟨r, hr, rfl⟩ := List.mem_map.1 hx
    exact SparseCore.Cfg.mem_ownRefs_of_owner (ho r hr)
  · rw [List.foldr_map]

/-- A tile's own semaphores, some of them apart. -/
theorem ownSems0_list (l : List (SemLoc sig)) (hn : l.Nodup) (ho : ∀ s ∈ l, s.isScoped .scVector = true) :
    (ownSems0 (tile d i) : sProp 𝕄)
      = l.foldr (fun s P => iprop(semVal (tile d i, s) 0 ∗ P))
          (bigSep (ownCells (tile d i) \ (l.map fun s => ((tile d i, s) : GSem nD τ sig)).toFinset) fun g => semVal g 0) := by
  unfold SparseCore.Cfg.ownSems0
  refine (bigSep_list _ (l.map fun s => ((tile d i, s) : GSem nD τ sig)) _ (hn.map fun a b e => congrArg Prod.snd e) fun x hx => ?_).trans ?_
  · obtain ⟨s, hs, rfl⟩ := List.mem_map.1 hx
    exact mem_ownCells.2 ⟨rfl, ho s hs⟩
  · rw [List.foldr_map]
end

section
variable (d : Dev nD) (i : grid0.Coords)

/-- The tile's share of the operands, its rows of the outputs holding anything, -/
def goP (A2 : HistRef) (A3 : NodeRef) (A4 A5 : TabRef) (A6 : OutRef) (A7 : ItemRef)
    (f2 : Buf (Elt F) (A2.view.loc (tile d i))) (f3 : Buf (Elt F) (A3.view.loc (tile d i)))
    (ft : Buf (Elt F) (A4.view.loc (tile d i))) (f5 : Buf (Elt F) (A5.view.loc (tile d i))) (q : PosShare TreeShare) : sProp 𝕄 :=
  iprop(∃ f f', opnds d i A2 A3 A4 A5 A6 A7 f2 f3 ft f5 q q q q f f')

/-- and its rows written. -/
def tdP (A2 : HistRef) (A3 : NodeRef) (A4 A5 : TabRef) (A6 : OutRef) (A7 : ItemRef)
    (f2 : Buf (Elt F) (A2.view.loc (tile d i))) (f3 : Buf (Elt F) (A3.view.loc (tile d i)))
    (ft : Buf (Elt F) (A4.view.loc (tile d i))) (f5 : Buf (Elt F) (A5.view.loc (tile d i))) (q : PosShare TreeShare)
    (g : Buf (Elt F) (A6.view.loc (tile d i))) (g₇ : Buf (Elt F) (A7.view.loc (tile d i))) : sProp 𝕄 :=
  opnds d i A2 A3 A4 A5 A6 A7 f2 f3 ft f5 q q q q g g₇

variable (arg2 : Memref sig .scVector .hbm S32x25x64 .i32) (harg2 : arg2.IsWhole) (arg3 : Memref sig .scVector .hbm S4x1x64 .i32) (harg3 : arg3.IsWhole) (arg4 : Memref sig .scVector .hbm S100000x128 .f32) (harg4 : arg4.IsWhole) (arg5 : Memref sig .scVector .hbm S100000x128 .f32) (harg5 : arg5.IsWhole) (arg6 : Memref sig .scVector .hbm S51200x128 .f32) (harg6 : arg6.IsWhole) (arg7 : Memref sig .scVector .hbm S256x128 .f32) (harg7 : arg7.IsWhole) (arg8 : Memref sig .scVector .vmem S25x64 .i32) (harg8 : arg8.IsWhole) (arg9 : Memref sig .scVector .vmem S64x128 .f32) (harg9 : arg9.IsWhole) (arg10 : Memref sig .scVector .vmem S64x128 .f32) (harg10 : arg10.IsWhole) (arg11 : Memref sig .scVector .vmem S64x128 .f32) (harg11 : arg11.IsWhole) (arg12 : Memref sig .scVector .vmem S64x128 .f32) (harg12 : arg12.IsWhole) (arg13 : Memref sig .scVector .vmem S64x128 .f32) (harg13 : arg13.IsWhole) (arg14 : DmaSems sig S_) (arg15 : Memref sig .scVector .vmem S1x64 .i32) (harg15 : arg15.IsWhole) (arg16 : Memref sig .scVector .vmem S64x128 .f32) (harg16 : arg16.IsWhole) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (v37_r0 : DmaSems sig S_) (v44_r1 : DmaSems sig S_) (v44_r2 : DmaSems sig S_)
variable {f2 : Buf (Elt F) (arg2.view.loc (tile d i))} {f3 : Buf (Elt F) (arg3.view.loc (tile d i))}
variable {ft : Buf (Elt F) (arg4.view.loc (tile d i))} {f5 : Buf (Elt F) (arg5.view.loc (tile d i))}
variable {g : Buf (Elt F) (arg6.view.loc (tile d i))} {g₇ : Buf (Elt F) (arg7.view.loc (tile d i))}
variable (q : PosShare TreeShare)
variable {uh : S32x25x64.Idx → BitVec 32} {nd : S4x1x64.Idx → BitVec 32} {tab itab : S100000x128.Idx → Elt F .f32}

/-- A tile's task, from its own buffers and semaphores. -/
theorem task {Rb Rs : sProp 𝕄} (hF : (K (F := F)).Facts)
    (hb : ownBufs (tile d i) = iprop(scratch d i arg8 arg9 arg10 arg11 arg12 arg13 arg15 arg16 ∗ Rb))
    (hs : ownSems0 (tile d i) = iprop(sems d i arg14 arg17 arg18 arg19 arg20 arg21 arg22 arg23 arg24 arg25 arg26 v37_r0 v44_r1 v44_r2 ∗ Rs))
    (h2 : arg2.view.read (Elt F) f2 = uh) (h3 : arg3.view.read (Elt F) f3 = nd) (h4 : arg4.view.read (Elt F) ft = tab) (h5 : arg5.view.read (Elt F) f5 = itab)
    (hi2 : ∀ x, (uh x).toNat < 100000) (hi3 : ∀ x, (nd x).toNat < 100000)
    (h6 : arg6.view.read (Elt F) g = outRows uh tab) (h7 : arg7.view.read (Elt F) g₇ = itemRows nd itab)
    (O : CellTallies nD τ sig (HIx 4)) (W : Waits sig (HIx 4)) (hO : ∀ g, O g none = 0) :
    iprop(levAts (K (F := F)).L (K (F := F)).lev ∗ emp ∗ goP d i arg2 arg3 arg4 arg5 arg6 arg7 f2 f3 ft f5 q
        ∗ scopedBufs (tile d i) ∗ scopedSems0 (tile d i) ∗ owes (tile d i) O W)
      ⊢ wp frame (wpE (defs₀ (F := F)) 𝒱₀ (tile d i) none) Set.univ (cc0__sc_gather_body i arg2 harg2 arg3 harg3 arg4 harg4 arg5 harg5 arg6 harg6 arg7 harg7 arg8 harg8 arg9 harg9 arg10 harg10 arg11 harg11 arg12 harg12 arg13 harg13 arg14 arg15 harg15 arg16 harg16 arg17 arg18 arg19 arg20 arg21 arg22 arg23 arg24 arg25 arg26 v37_r0 v44_r1 v44_r2)
          fun _ => iprop(tdP d i arg2 arg3 arg4 arg5 arg6 arg7 f2 f3 ft f5 q g g₇
            ∗ scopedBufs (tile d i) ∗ scopedSems0 (tile d i)
            ∗ ∃ W', ⌜∀ p ∈ W', p ∈ W ∨ p.2 = none⌝ ∗ owes (tile d i) O W') := by
  rw [(K (F := F)).scopedBufs_V hF d _ _, SparseCore.Cfg.scopedSems0_V (Val := Elt F) d _ _, hb, hs]
  unfold goP tdP
  iintro ⟨#Hlv, -, ⟨%f, %f', Ho⟩, ⟨Hb, Rb⟩, ⟨Hs, Rs⟩, HO⟩
  ihave Hmw := (show levAts (K (F := F)).L (K (F := F)).lev ⊢ Transfers.MayWaits (tile d i) (default : HIx 4) O from
    (K (F := F)).mayWaits_none (thr := tile d i) hO) $$ Hlv
  iapply (wp_wand frame _ _) $$ [Ho Hb Hs HO Hmw]
  · iapply (tile_run harg2 harg3 harg4 harg5 harg6 harg7 harg8 arg9 harg9 arg10 harg10 arg11 harg11 arg12 harg12 arg13 harg13 arg14 harg15 arg16 harg16 arg17 arg18 arg19 arg20 arg21 arg22 arg23 arg24 arg25 arg26 v37_r0 v44_r1 v44_r2 (fun fl hfl => listOK h2 h4 hi2 fl hfl) (targetOK h6) (itemOK h3 h5 hi3) (itemTarget h7) O W)
    iframe Ho Hb Hs Hmw
    unfold owesLocal
    iexists W
    isplitr
    · ipureintro; exact fun p hp => Or.inl hp
    · iexact HO
  iintro %u ⟨Ho, Hb, Hs, HO⟩
  iframe Ho Hb Rb Hs Rs
  unfold owesLocal
  iexact HO
end

end Cert.Proof
-- ==== Proof.Calls.lean ====
/-
  The four SparseCore calls: what each launch hands its tiles and gets back, and each call's task.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

theorem nCore_eq (q : Fin 4) : (K (F := F)).nCore q = 2 := by fin_cases q <;> rfl
theorem nSub_eq (q : Fin 4) : (K (F := F)).nSub q = 16 := by fin_cases q <;> rfl

/-- A tile's place in the grid. -/
abbrev coordsV (c : Fin (grid0.bound 0)) (s : Fin (grid0.bound 1)) : grid0.Coords :=
  fun | 0 => c | 1 => s | ⟨_ + 2, h⟩ => absurd h (Nat.not_lt.2 (Nat.le_add_left _ _))

abbrev crd (q : Fin 4) (c : Fin ((K (F := F)).nCore q)) (s : Fin ((K (F := F)).nSub q)) : grid0.Coords :=
  coordsV ⟨c.val, lt_of_lt_of_eq c.isLt (nCore_eq (F := F) q)⟩ ⟨s.val, lt_of_lt_of_eq s.isLt (nSub_eq (F := F) q)⟩

/-- The share of a read-only operand a tile holds. -/
def shr (i : grid0.Coords) : PosShare TreeShare :=
  dealOf (dealOf fullShare (Finset.univ : Finset (Fin 2)) (i 0)) (Finset.univ : Finset (Fin 16)) (i 1)

instance chunk_storable (d : Dev nD) (i : grid0.Coords) (A6 : OutRef) (f : Buf (Elt F) (A6.view.loc (tile d i))) (j : Fin 25) :
    BI.Storable (upEmb : UEmb _ 𝕄) (chunk d i A6 f j) := by unfold chunk; infer_instance

instance itemPart_storable (d : Dev nD) (i : grid0.Coords) (A7 : ItemRef) (f : Buf (Elt F) (A7.view.loc (tile d i))) :
    BI.Storable (upEmb : UEmb _ 𝕄) (itemPart d i A7 f) := by unfold itemPart; split_ifs <;> infer_instance

instance opnds_storable (d : Dev nD) (i : grid0.Coords) (A2 : HistRef) (A3 : NodeRef) (A4 A5 : TabRef) (A6 : OutRef) (A7 : ItemRef)
    (f2 : Buf (Elt F) (A2.view.loc (tile d i))) (f3 : Buf (Elt F) (A3.view.loc (tile d i)))
    (ft : Buf (Elt F) (A4.view.loc (tile d i))) (f5 : Buf (Elt F) (A5.view.loc (tile d i))) (q2 q3 q4 q5 : PosShare TreeShare)
    (f : Buf (Elt F) (A6.view.loc (tile d i))) (f' : Buf (Elt F) (A7.view.loc (tile d i))) :
    BI.Storable (upEmb : UEmb _ 𝕄) (opnds d i A2 A3 A4 A5 A6 A7 f2 f3 ft f5 q2 q3 q4 q5 f f') := by
  unfold opnds; infer_instance

instance goP_storable (d : Dev nD) (i : grid0.Coords) (A2 : HistRef) (A3 : NodeRef) (A4 A5 : TabRef) (A6 : OutRef) (A7 : ItemRef)
    (f2 : Buf (Elt F) (A2.view.loc (tile d i))) (f3 : Buf (Elt F) (A3.view.loc (tile d i)))
    (ft : Buf (Elt F) (A4.view.loc (tile d i))) (f5 : Buf (Elt F) (A5.view.loc (tile d i))) (q : PosShare TreeShare) :
    BI.Storable (upEmb : UEmb _ 𝕄) (goP d i A2 A3 A4 A5 A6 A7 f2 f3 ft f5 q) := by
  unfold goP; infer_instance

instance tdP_storable (d : Dev nD) (i : grid0.Coords) (A2 : HistRef) (A3 : NodeRef) (A4 A5 : TabRef) (A6 : OutRef) (A7 : ItemRef)
    (f2 : Buf (Elt F) (A2.view.loc (tile d i))) (f3 : Buf (Elt F) (A3.view.loc (tile d i)))
    (ft : Buf (Elt F) (A4.view.loc (tile d i))) (f5 : Buf (Elt F) (A5.view.loc (tile d i))) (q : PosShare TreeShare)
    (g : Buf (Elt F) (A6.view.loc (tile d i))) (g₇ : Buf (Elt F) (A7.view.loc (tile d i))) :
    BI.Storable (upEmb : UEmb _ 𝕄) (tdP d i A2 A3 A4 A5 A6 A7 f2 f3 ft f5 q g g₇) := by
  unfold tdP; infer_instance

/-- The calls' contents: the index lists, and the two tables. -/
structure Lists (F : FTy → Type) where
  uh : Fin 4 → Dev nD → S32x25x64.Idx → BitVec 32
  nd : Fin 4 → Dev nD → S4x1x64.Idx → BitVec 32
  tab : Dev nD → S100000x128.Idx → Elt F .f32
  itab : Dev nD → S100000x128.Idx → Elt F .f32

/-- Every index names a row of its table. -/
structure Lists.Ok (c : Lists F) : Prop where
  uh : ∀ q d x, (c.uh q d x).toNat < 100000
  nd : ∀ q d x, (c.nd q d x).toNat < 100000

variable (cs : Lists F)

def go0 (d : Dev nD) (c : Fin ((K (F := F)).nCore 0)) (s : Fin ((K (F := F)).nSub 0)) : sProp 𝕄 :=
  goP d (crd (F := F) 0 c s) (Memref.whole main_v3_scv) (Memref.whole main_v4_scv) (Memref.whole main_arg3_scv) (Memref.whole main_arg4_scv) (Memref.whole main_v5_0_scv) (Memref.whole main_v5_1_scv)
      (cs.uh 0 d) (cs.nd 0 d) (cs.tab d) (cs.itab d) (shr (crd (F := F) 0 c s))
instance go0_storable (d c s) : BI.Storable (upEmb : UEmb _ 𝕄) (go0 cs d c s) := by unfold go0; infer_instance

def go1 (d : Dev nD) (c : Fin ((K (F := F)).nCore 1)) (s : Fin ((K (F := F)).nSub 1)) : sProp 𝕄 :=
  goP d (crd (F := F) 1 c s) (Memref.whole main_v20_scv) (Memref.whole main_v21_scv) (Memref.whole main_arg3_scv) (Memref.whole main_arg4_scv) (Memref.whole main_v22_0_scv) (Memref.whole main_v22_1_scv)
      (cs.uh 1 d) (cs.nd 1 d) (cs.tab d) (cs.itab d) (shr (crd (F := F) 1 c s))
instance go1_storable (d c s) : BI.Storable (upEmb : UEmb _ 𝕄) (go1 cs d c s) := by unfold go1; infer_instance

def go2 (d : Dev nD) (c : Fin ((K (F := F)).nCore 2)) (s : Fin ((K (F := F)).nSub 2)) : sProp 𝕄 :=
  goP d (crd (F := F) 2 c s) (Memref.whole main_v37_scv) (Memref.whole main_v38_scv) (Memref.whole main_arg3_scv) (Memref.whole main_arg4_scv) (Memref.whole main_v39_0_scv) (Memref.whole main_v39_1_scv)
      (cs.uh 2 d) (cs.nd 2 d) (cs.tab d) (cs.itab d) (shr (crd (F := F) 2 c s))
instance go2_storable (d c s) : BI.Storable (upEmb : UEmb _ 𝕄) (go2 cs d c s) := by unfold go2; infer_instance

def go3 (d : Dev nD) (c : Fin ((K (F := F)).nCore 3)) (s : Fin ((K (F := F)).nSub 3)) : sProp 𝕄 :=
  goP d (crd (F := F) 3 c s) (Memref.whole main_v54_scv) (Memref.whole main_v55_scv) (Memref.whole main_arg3_scv) (Memref.whole main_arg4_scv) (Memref.whole main_v56_0_scv) (Memref.whole main_v56_1_scv)
      (cs.uh 3 d) (cs.nd 3 d) (cs.tab d) (cs.itab d) (shr (crd (F := F) 3 c s))
instance go3_storable (d c s) : BI.Storable (upEmb : UEmb _ 𝕄) (go3 cs d c s) := by unfold go3; infer_instance

def goA (q : Fin 4) (d : Dev nD) (c : Fin ((K (F := F)).nCore q)) (s : Fin ((K (F := F)).nSub q)) : sProp 𝕄 :=
  match q with
  | 0 => go0 cs d c s
  | 1 => go1 cs d c s
  | 2 => go2 cs d c s
  | 3 => go3 cs d c s
instance goA_storable (q d c s) : BI.Storable (upEmb : UEmb _ 𝕄) (goA cs q d c s) :=
  match q with
  | 0 => go0_storable cs d c s
  | 1 => go1_storable cs d c s
  | 2 => go2_storable cs d c s
  | 3 => go3_storable cs d c s

def td0 (d : Dev nD) (c : Fin ((K (F := F)).nCore 0)) (s : Fin ((K (F := F)).nSub 0)) : sProp 𝕄 :=
  tdP d (crd (F := F) 0 c s) (Memref.whole main_v3_scv) (Memref.whole main_v4_scv) (Memref.whole main_arg3_scv) (Memref.whole main_arg4_scv) (Memref.whole main_v5_0_scv) (Memref.whole main_v5_1_scv)
      (cs.uh 0 d) (cs.nd 0 d) (cs.tab d) (cs.itab d) (shr (crd (F := F) 0 c s)) (outRows (cs.uh 0 d) (cs.tab d)) (itemRows (cs.nd 0 d) (cs.itab d))
instance td0_storable (d c s) : BI.Storable (upEmb : UEmb _ 𝕄) (td0 cs d c s) := by unfold td0; infer_instance

def td1 (d : Dev nD) (c : Fin ((K (F := F)).nCore 1)) (s : Fin ((K (F := F)).nSub 1)) : sProp 𝕄 :=
  tdP d (crd (F := F) 1 c s) (Memref.whole main_v20_scv) (Memref.whole main_v21_scv) (Memref.whole main_arg3_scv) (Memref.whole main_arg4_scv) (Memref.whole main_v22_0_scv) (Memref.whole main_v22_1_scv)
      (cs.uh 1 d) (cs.nd 1 d) (cs.tab d) (cs.itab d) (shr (crd (F := F) 1 c s)) (outRows (cs.uh 1 d) (cs.tab d)) (itemRows (cs.nd 1 d) (cs.itab d))
instance td1_storable (d c s) : BI.Storable (upEmb : UEmb _ 𝕄) (td1 cs d c s) := by unfold td1; infer_instance

def td2 (d : Dev nD) (c : Fin ((K (F := F)).nCore 2)) (s : Fin ((K (F := F)).nSub 2)) : sProp 𝕄 :=
  tdP d (crd (F := F) 2 c s) (Memref.whole main_v37_scv) (Memref.whole main_v38_scv) (Memref.whole main_arg3_scv) (Memref.whole main_arg4_scv) (Memref.whole main_v39_0_scv) (Memref.whole main_v39_1_scv)
      (cs.uh 2 d) (cs.nd 2 d) (cs.tab d) (cs.itab d) (shr (crd (F := F) 2 c s)) (outRows (cs.uh 2 d) (cs.tab d)) (itemRows (cs.nd 2 d) (cs.itab d))
instance td2_storable (d c s) : BI.Storable (upEmb : UEmb _ 𝕄) (td2 cs d c s) := by unfold td2; infer_instance

def td3 (d : Dev nD) (c : Fin ((K (F := F)).nCore 3)) (s : Fin ((K (F := F)).nSub 3)) : sProp 𝕄 :=
  tdP d (crd (F := F) 3 c s) (Memref.whole main_v54_scv) (Memref.whole main_v55_scv) (Memref.whole main_arg3_scv) (Memref.whole main_arg4_scv) (Memref.whole main_v56_0_scv) (Memref.whole main_v56_1_scv)
      (cs.uh 3 d) (cs.nd 3 d) (cs.tab d) (cs.itab d) (shr (crd (F := F) 3 c s)) (outRows (cs.uh 3 d) (cs.tab d)) (itemRows (cs.nd 3 d) (cs.itab d))
instance td3_storable (d c s) : BI.Storable (upEmb : UEmb _ 𝕄) (td3 cs d c s) := by unfold td3; infer_instance

def tdA (q : Fin 4) (d : Dev nD) (c : Fin ((K (F := F)).nCore q)) (s : Fin ((K (F := F)).nSub q)) : sProp 𝕄 :=
  match q with
  | 0 => td0 cs d c s
  | 1 => td1 cs d c s
  | 2 => td2 cs d c s
  | 3 => td3 cs d c s
instance tdA_storable (q d c s) : BI.Storable (upEmb : UEmb _ 𝕄) (tdA cs q d c s) :=
  match q with
  | 0 => td0_storable cs d c s
  | 1 => td1_storable cs d c s
  | 2 => td2_storable cs d c s
  | 3 => td3_storable cs d c s

/-- What each call's launch hands out and gets back. -/
def P : (K (F := F)).Pay (nD := nD) (Val := Elt F) (Name := ℕ) (U := UU) where
  st := fun q d c => bigSep Finset.univ fun s => goA cs q d c s
  dn := fun q d c => bigSep Finset.univ fun s => tdA cs q d c s
  go := fun q d c s => goA cs q d c s
  td := fun q d c s => tdA cs q d c s
  x := fun _ _ => iprop(emp)

instance P_storable : (P cs).IsStorable where
  st q d c := by unfold P; infer_instance
  dn q d c := by unfold P; infer_instance
  go q d c s := goA_storable cs q d c s
  td q d c s := tdA_storable cs q d c s

theorem vecSplit (q : Fin 4) : (K (F := F)).VecSplit' (P cs) q := by
  intro d c
  unfold P
  iintro H
  imodintro
  isplitl [H]; · iexact H
  iintro H
  iexact H

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem assoc_eight (a b c d e f g h r : sProp 𝕄) : iprop(a ∗ b ∗ c ∗ d ∗ e ∗ f ∗ g ∗ h ∗ r) = iprop((a ∗ b ∗ c ∗ d ∗ e ∗ f ∗ g ∗ h) ∗ r) := by
  have h₁ : iprop(a ∗ b ∗ c ∗ d ∗ e ∗ f ∗ g ∗ h ∗ r) ⊢ iprop((a ∗ b ∗ c ∗ d ∗ e ∗ f ∗ g ∗ h) ∗ r) := by
    iintro ⟨A, B, C, D, E, F, G, H, R⟩; iframe A B C D E F G H R
  have h₂ : iprop((a ∗ b ∗ c ∗ d ∗ e ∗ f ∗ g ∗ h) ∗ r) ⊢ iprop(a ∗ b ∗ c ∗ d ∗ e ∗ f ∗ g ∗ h ∗ r) := by
    iintro ⟨⟨A, B, C, D, E, F, G, H⟩, R⟩; iframe A B C D E F G H R
  exact BI.equiv_iff.mp ⟨h₁, h₂⟩

theorem foldr_eight {I : Type} (Φ : I → sProp 𝕄) (a b c d e f g h : I) (r : sProp 𝕄) :
    [a, b, c, d, e, f, g, h].foldr (fun x P => iprop(Φ x ∗ P)) r = iprop((Φ a ∗ Φ b ∗ Φ c ∗ Φ d ∗ Φ e ∗ Φ f ∗ Φ g ∗ Φ h) ∗ r) :=
  assoc_eight (Φ a) (Φ b) (Φ c) (Φ d) (Φ e) (Φ f) (Φ g) (Φ h) r

theorem assoc_fourteen (a b c d e f g h i j k l m n r : sProp 𝕄) : iprop(a ∗ b ∗ c ∗ d ∗ e ∗ f ∗ g ∗ h ∗ i ∗ j ∗ k ∗ l ∗ m ∗ n ∗ r) = iprop((a ∗ b ∗ c ∗ d ∗ e ∗ f ∗ g ∗ h ∗ i ∗ j ∗ k ∗ l ∗ m ∗ n) ∗ r) := by
  have h₁ : iprop(a ∗ b ∗ c ∗ d ∗ e ∗ f ∗ g ∗ h ∗ i ∗ j ∗ k ∗ l ∗ m ∗ n ∗ r) ⊢ iprop((a ∗ b ∗ c ∗ d ∗ e ∗ f ∗ g ∗ h ∗ i ∗ j ∗ k ∗ l ∗ m ∗ n) ∗ r) := by
    iintro ⟨A, B, C, D, E, F, G, H, I, J, K, L, M, N, R⟩; iframe A B C D E F G H I J K L M N R
  have h₂ : iprop((a ∗ b ∗ c ∗ d ∗ e ∗ f ∗ g ∗ h ∗ i ∗ j ∗ k ∗ l ∗ m ∗ n) ∗ r) ⊢ iprop(a ∗ b ∗ c ∗ d ∗ e ∗ f ∗ g ∗ h ∗ i ∗ j ∗ k ∗ l ∗ m ∗ n ∗ r) := by
    iintro ⟨⟨A, B, C, D, E, F, G, H, I, J, K, L, M, N⟩, R⟩; iframe A B C D E F G H I J K L M N R
  exact BI.equiv_iff.mp ⟨h₁, h₂⟩

theorem foldr_fourteen {I : Type} (Φ : I → sProp 𝕄) (a b c d e f g h i j k l m n : I) (r : sProp 𝕄) :
    [a, b, c, d, e, f, g, h, i, j, k, l, m, n].foldr (fun x P => iprop(Φ x ∗ P)) r = iprop((Φ a ∗ Φ b ∗ Φ c ∗ Φ d ∗ Φ e ∗ Φ f ∗ Φ g ∗ Φ h ∗ Φ i ∗ Φ j ∗ Φ k ∗ Φ l ∗ Φ m ∗ Φ n) ∗ r) :=
  assoc_fourteen (Φ a) (Φ b) (Φ c) (Φ d) (Φ e) (Φ f) (Φ g) (Φ h) (Φ i) (Φ j) (Φ k) (Φ l) (Φ m) (Φ n) r

theorem bufs0 (d : Dev nD) (i : grid0.Coords) : (ownBufs (tile d i) : sProp 𝕄)
    = iprop(scratch d i (Memref.whole cc0_scratch0) (Memref.whole cc0_scratch1) (Memref.whole cc0_scratch2) (Memref.whole cc0_scratch3) (Memref.whole cc0_scratch4) (Memref.whole cc0_scratch5) (Memref.whole cc0_scratch7) (Memref.whole cc0_scratch8)
      ∗ bigSep (ownRefs (τ := τ) (tile d i).2 \ ([cc0_scratch0, cc0_scratch1, cc0_scratch2, cc0_scratch3, cc0_scratch4, cc0_scratch5, cc0_scratch7, cc0_scratch8].map fun r => (tile d i).2.devRef r).toFinset) fun b => iprop(∃ f, ((d, b) : Loc nD τ sig) ↦{fullShare} f)) :=
  (ownBufs_list d i [cc0_scratch0, cc0_scratch1, cc0_scratch2, cc0_scratch3, cc0_scratch4, cc0_scratch5, cc0_scratch7, cc0_scratch8] (by decide) (by intro r hr; fin_cases hr <;> rfl)).trans (foldr_eight (fun r : Ref sig .scVector => iprop(∃ f, (tile d i).loc r ↦{fullShare} f)) _ _ _ _ _ _ _ _ _)

theorem cells0 (d : Dev nD) (i : grid0.Coords) : (ownSems0 (tile d i) : sProp 𝕄)
    = iprop(sems d i cc0_scratch6 cc0_scratch9 cc0_scratch10 cc0_scratch11 cc0_scratch12 cc0_scratch13 cc0_scratch14 cc0_scratch15 cc0_scratch16 cc0_scratch17 cc0_scratch18 cc0_scoped0 cc0_scoped1 cc0_scoped2
      ∗ bigSep (ownCells (tile d i) \ ([SemLoc.dma cc0_scratch6.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scoped0.sem, SemLoc.dma cc0_scoped1.sem, SemLoc.dma cc0_scoped2.sem].map fun s => ((tile d i, s) : GSem nD τ sig)).toFinset) fun g => semVal g 0) :=
  (ownSems0_list d i [SemLoc.dma cc0_scratch6.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scoped0.sem, SemLoc.dma cc0_scoped1.sem, SemLoc.dma cc0_scoped2.sem] (by decide) (by decide)).trans (foldr_fourteen (fun s : SemLoc sig => iprop(semVal (tile d i, s) 0)) _ _ _ _ _ _ _ _ _ _ _ _ _ _ _)

set_option maxRecDepth 65536 in
theorem body0 (c : Fin τ.nSC) (s : Fin τ.nSub) :
    defs₀ (F := F) (.scVector c s) 0 ()
      = SparseCore.onTile hcore0 hsub0 (fun c s => cc0__sc_gather_body (coordsV c s) (Memref.whole main_v3_scv) (Memref.isWhole_whole _) (Memref.whole main_v4_scv) (Memref.isWhole_whole _) (Memref.whole main_arg3_scv) (Memref.isWhole_whole _) (Memref.whole main_arg4_scv) (Memref.isWhole_whole _) (Memref.whole main_v5_0_scv) (Memref.isWhole_whole _) (Memref.whole main_v5_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 cc0_scoped1 cc0_scoped2) ⟨⟩ c s := rfl

set_option maxRecDepth 65536 in
theorem tileObl0 (hF : (K (F := F)).Facts) (hok : cs.Ok) : (K (F := F)).TileObl (D (F := F)) 𝒱 (P cs) v₀ 0 := by
  intro d c i O W hO _ _
  simp only [show (P cs).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body0]; simp only [SparseCore.onTile, hci, and_self, ↓reduceDIte]
  exact (task d (crd (F := F) 0 c i) (Memref.whole main_v3_scv) (Memref.isWhole_whole _) (Memref.whole main_v4_scv) (Memref.isWhole_whole _) (Memref.whole main_arg3_scv) (Memref.isWhole_whole _) (Memref.whole main_arg4_scv) (Memref.isWhole_whole _) (Memref.whole main_v5_0_scv) (Memref.isWhole_whole _) (Memref.whole main_v5_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 cc0_scoped1 cc0_scoped2 (shr (crd (F := F) 0 c i)) hF (bufs0 d _) (cells0 d _)
    rfl rfl rfl rfl (hok.uh 0 d) (hok.nd 0 d)
    rfl rfl O W hO).trans (wp_mono frame _ _ fun _ => obl_post)

theorem bufs1 (d : Dev nD) (i : grid0.Coords) : (ownBufs (tile d i) : sProp 𝕄)
    = iprop(scratch d i (Memref.whole cc2_scratch0) (Memref.whole cc2_scratch1) (Memref.whole cc2_scratch2) (Memref.whole cc2_scratch3) (Memref.whole cc2_scratch4) (Memref.whole cc2_scratch5) (Memref.whole cc2_scratch7) (Memref.whole cc2_scratch8)
      ∗ bigSep (ownRefs (τ := τ) (tile d i).2 \ ([cc2_scratch0, cc2_scratch1, cc2_scratch2, cc2_scratch3, cc2_scratch4, cc2_scratch5, cc2_scratch7, cc2_scratch8].map fun r => (tile d i).2.devRef r).toFinset) fun b => iprop(∃ f, ((d, b) : Loc nD τ sig) ↦{fullShare} f)) :=
  (ownBufs_list d i [cc2_scratch0, cc2_scratch1, cc2_scratch2, cc2_scratch3, cc2_scratch4, cc2_scratch5, cc2_scratch7, cc2_scratch8] (by decide) (by intro r hr; fin_cases hr <;> rfl)).trans (foldr_eight (fun r : Ref sig .scVector => iprop(∃ f, (tile d i).loc r ↦{fullShare} f)) _ _ _ _ _ _ _ _ _)

theorem cells1 (d : Dev nD) (i : grid0.Coords) : (ownSems0 (tile d i) : sProp 𝕄)
    = iprop(sems d i cc2_scratch6 cc2_scratch9 cc2_scratch10 cc2_scratch11 cc2_scratch12 cc2_scratch13 cc2_scratch14 cc2_scratch15 cc2_scratch16 cc2_scratch17 cc2_scratch18 cc2_scoped0 cc2_scoped1 cc2_scoped2
      ∗ bigSep (ownCells (tile d i) \ ([SemLoc.dma cc2_scratch6.sem, SemLoc.dma cc2_scratch9.sem, SemLoc.dma cc2_scratch10.sem, SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem, SemLoc.dma cc2_scoped0.sem, SemLoc.dma cc2_scoped1.sem, SemLoc.dma cc2_scoped2.sem].map fun s => ((tile d i, s) : GSem nD τ sig)).toFinset) fun g => semVal g 0) :=
  (ownSems0_list d i [SemLoc.dma cc2_scratch6.sem, SemLoc.dma cc2_scratch9.sem, SemLoc.dma cc2_scratch10.sem, SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem, SemLoc.dma cc2_scoped0.sem, SemLoc.dma cc2_scoped1.sem, SemLoc.dma cc2_scoped2.sem] (by decide) (by decide)).trans (foldr_fourteen (fun s : SemLoc sig => iprop(semVal (tile d i, s) 0)) _ _ _ _ _ _ _ _ _ _ _ _ _ _ _)

set_option maxRecDepth 65536 in
theorem body1 (c : Fin τ.nSC) (s : Fin τ.nSub) :
    defs₀ (F := F) (.scVector c s) 2 ()
      = SparseCore.onTile hcore2 hsub2 (fun c s => cc0__sc_gather_body (coordsV c s) (Memref.whole main_v20_scv) (Memref.isWhole_whole _) (Memref.whole main_v21_scv) (Memref.isWhole_whole _) (Memref.whole main_arg3_scv) (Memref.isWhole_whole _) (Memref.whole main_arg4_scv) (Memref.isWhole_whole _) (Memref.whole main_v22_0_scv) (Memref.isWhole_whole _) (Memref.whole main_v22_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 (Memref.whole cc2_scratch7) (Memref.isWhole_whole _) (Memref.whole cc2_scratch8) (Memref.isWhole_whole _) cc2_scratch9 cc2_scratch10 cc2_scratch11 cc2_scratch12 cc2_scratch13 cc2_scratch14 cc2_scratch15 cc2_scratch16 cc2_scratch17 cc2_scratch18 cc2_scoped0 cc2_scoped1 cc2_scoped2) ⟨⟩ c s := rfl

set_option maxRecDepth 65536 in
theorem tileObl1 (hF : (K (F := F)).Facts) (hok : cs.Ok) : (K (F := F)).TileObl (D (F := F)) 𝒱 (P cs) v₀ 1 := by
  intro d c i O W hO _ _
  simp only [show (P cs).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [body1]; simp only [SparseCore.onTile, hci, and_self, ↓reduceDIte]
  exact (task d (crd (F := F) 1 c i) (Memref.whole main_v20_scv) (Memref.isWhole_whole _) (Memref.whole main_v21_scv) (Memref.isWhole_whole _) (Memref.whole main_arg3_scv) (Memref.isWhole_whole _) (Memref.whole main_arg4_scv) (Memref.isWhole_whole _) (Memref.whole main_v22_0_scv) (Memref.isWhole_whole _) (Memref.whole main_v22_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 (Memref.whole cc2_scratch7) (Memref.isWhole_whole _) (Memref.whole cc2_scratch8) (Memref.isWhole_whole _) cc2_scratch9 cc2_scratch10 cc2_scratch11 cc2_scratch12 cc2_scratch13 cc2_scratch14 cc2_scratch15 cc2_scratch16 cc2_scratch17 cc2_scratch18 cc2_scoped0 cc2_scoped1 cc2_scoped2 (shr (crd (F := F) 1 c i)) hF (bufs1 d _) (cells1 d _)
    rfl rfl rfl rfl (hok.uh 1 d) (hok.nd 1 d)
    rfl rfl O W hO).trans (wp_mono frame _ _ fun _ => obl_post)

theorem bufs2 (d : Dev nD) (i : grid0.Coords) : (ownBufs (tile d i) : sProp 𝕄)
    = iprop(scratch d i (Memref.whole cc4_scratch0) (Memref.whole cc4_scratch1) (Memref.whole cc4_scratch2) (Memref.whole cc4_scratch3) (Memref.whole cc4_scratch4) (Memref.whole cc4_scratch5) (Memref.whole cc4_scratch7) (Memref.whole cc4_scratch8)
      ∗ bigSep (ownRefs (τ := τ) (tile d i).2 \ ([cc4_scratch0, cc4_scratch1, cc4_scratch2, cc4_scratch3, cc4_scratch4, cc4_scratch5, cc4_scratch7, cc4_scratch8].map fun r => (tile d i).2.devRef r).toFinset) fun b => iprop(∃ f, ((d, b) : Loc nD τ sig) ↦{fullShare} f)) :=
  (ownBufs_list d i [cc4_scratch0, cc4_scratch1, cc4_scratch2, cc4_scratch3, cc4_scratch4, cc4_scratch5, cc4_scratch7, cc4_scratch8] (by decide) (by intro r hr; fin_cases hr <;> rfl)).trans (foldr_eight (fun r : Ref sig .scVector => iprop(∃ f, (tile d i).loc r ↦{fullShare} f)) _ _ _ _ _ _ _ _ _)

theorem cells2 (d : Dev nD) (i : grid0.Coords) : (ownSems0 (tile d i) : sProp 𝕄)
    = iprop(sems d i cc4_scratch6 cc4_scratch9 cc4_scratch10 cc4_scratch11 cc4_scratch12 cc4_scratch13 cc4_scratch14 cc4_scratch15 cc4_scratch16 cc4_scratch17 cc4_scratch18 cc4_scoped0 cc4_scoped1 cc4_scoped2
      ∗ bigSep (ownCells (tile d i) \ ([SemLoc.dma cc4_scratch6.sem, SemLoc.dma cc4_scratch9.sem, SemLoc.dma cc4_scratch10.sem, SemLoc.dma cc4_scratch11.sem, SemLoc.dma cc4_scratch12.sem, SemLoc.dma cc4_scratch13.sem, SemLoc.dma cc4_scratch14.sem, SemLoc.dma cc4_scratch15.sem, SemLoc.dma cc4_scratch16.sem, SemLoc.dma cc4_scratch17.sem, SemLoc.dma cc4_scratch18.sem, SemLoc.dma cc4_scoped0.sem, SemLoc.dma cc4_scoped1.sem, SemLoc.dma cc4_scoped2.sem].map fun s => ((tile d i, s) : GSem nD τ sig)).toFinset) fun g => semVal g 0) :=
  (ownSems0_list d i [SemLoc.dma cc4_scratch6.sem, SemLoc.dma cc4_scratch9.sem, SemLoc.dma cc4_scratch10.sem, SemLoc.dma cc4_scratch11.sem, SemLoc.dma cc4_scratch12.sem, SemLoc.dma cc4_scratch13.sem, SemLoc.dma cc4_scratch14.sem, SemLoc.dma cc4_scratch15.sem, SemLoc.dma cc4_scratch16.sem, SemLoc.dma cc4_scratch17.sem, SemLoc.dma cc4_scratch18.sem, SemLoc.dma cc4_scoped0.sem, SemLoc.dma cc4_scoped1.sem, SemLoc.dma cc4_scoped2.sem] (by decide) (by decide)).trans (foldr_fourteen (fun s : SemLoc sig => iprop(semVal (tile d i, s) 0)) _ _ _ _ _ _ _ _ _ _ _ _ _ _ _)

set_option maxRecDepth 65536 in
theorem body2 (c : Fin τ.nSC) (s : Fin τ.nSub) :
    defs₀ (F := F) (.scVector c s) 4 ()
      = SparseCore.onTile hcore4 hsub4 (fun c s => cc0__sc_gather_body (coordsV c s) (Memref.whole main_v37_scv) (Memref.isWhole_whole _) (Memref.whole main_v38_scv) (Memref.isWhole_whole _) (Memref.whole main_arg3_scv) (Memref.isWhole_whole _) (Memref.whole main_arg4_scv) (Memref.isWhole_whole _) (Memref.whole main_v39_0_scv) (Memref.isWhole_whole _) (Memref.whole main_v39_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 (Memref.whole cc4_scratch7) (Memref.isWhole_whole _) (Memref.whole cc4_scratch8) (Memref.isWhole_whole _) cc4_scratch9 cc4_scratch10 cc4_scratch11 cc4_scratch12 cc4_scratch13 cc4_scratch14 cc4_scratch15 cc4_scratch16 cc4_scratch17 cc4_scratch18 cc4_scoped0 cc4_scoped1 cc4_scoped2) ⟨⟩ c s := rfl

set_option maxRecDepth 65536 in
theorem tileObl2 (hF : (K (F := F)).Facts) (hok : cs.Ok) : (K (F := F)).TileObl (D (F := F)) 𝒱 (P cs) v₀ 2 := by
  intro d c i O W hO _ _
  simp only [show (P cs).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [body2]; simp only [SparseCore.onTile, hci, and_self, ↓reduceDIte]
  exact (task d (crd (F := F) 2 c i) (Memref.whole main_v37_scv) (Memref.isWhole_whole _) (Memref.whole main_v38_scv) (Memref.isWhole_whole _) (Memref.whole main_arg3_scv) (Memref.isWhole_whole _) (Memref.whole main_arg4_scv) (Memref.isWhole_whole _) (Memref.whole main_v39_0_scv) (Memref.isWhole_whole _) (Memref.whole main_v39_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 (Memref.whole cc4_scratch7) (Memref.isWhole_whole _) (Memref.whole cc4_scratch8) (Memref.isWhole_whole _) cc4_scratch9 cc4_scratch10 cc4_scratch11 cc4_scratch12 cc4_scratch13 cc4_scratch14 cc4_scratch15 cc4_scratch16 cc4_scratch17 cc4_scratch18 cc4_scoped0 cc4_scoped1 cc4_scoped2 (shr (crd (F := F) 2 c i)) hF (bufs2 d _) (cells2 d _)
    rfl rfl rfl rfl (hok.uh 2 d) (hok.nd 2 d)
    rfl rfl O W hO).trans (wp_mono frame _ _ fun _ => obl_post)

theorem bufs3 (d : Dev nD) (i : grid0.Coords) : (ownBufs (tile d i) : sProp 𝕄)
    = iprop(scratch d i (Memref.whole cc6_scratch0) (Memref.whole cc6_scratch1) (Memref.whole cc6_scratch2) (Memref.whole cc6_scratch3) (Memref.whole cc6_scratch4) (Memref.whole cc6_scratch5) (Memref.whole cc6_scratch7) (Memref.whole cc6_scratch8)
      ∗ bigSep (ownRefs (τ := τ) (tile d i).2 \ ([cc6_scratch0, cc6_scratch1, cc6_scratch2, cc6_scratch3, cc6_scratch4, cc6_scratch5, cc6_scratch7, cc6_scratch8].map fun r => (tile d i).2.devRef r).toFinset) fun b => iprop(∃ f, ((d, b) : Loc nD τ sig) ↦{fullShare} f)) :=
  (ownBufs_list d i [cc6_scratch0, cc6_scratch1, cc6_scratch2, cc6_scratch3, cc6_scratch4, cc6_scratch5, cc6_scratch7, cc6_scratch8] (by decide) (by intro r hr; fin_cases hr <;> rfl)).trans (foldr_eight (fun r : Ref sig .scVector => iprop(∃ f, (tile d i).loc r ↦{fullShare} f)) _ _ _ _ _ _ _ _ _)

theorem cells3 (d : Dev nD) (i : grid0.Coords) : (ownSems0 (tile d i) : sProp 𝕄)
    = iprop(sems d i cc6_scratch6 cc6_scratch9 cc6_scratch10 cc6_scratch11 cc6_scratch12 cc6_scratch13 cc6_scratch14 cc6_scratch15 cc6_scratch16 cc6_scratch17 cc6_scratch18 cc6_scoped0 cc6_scoped1 cc6_scoped2
      ∗ bigSep (ownCells (tile d i) \ ([SemLoc.dma cc6_scratch6.sem, SemLoc.dma cc6_scratch9.sem, SemLoc.dma cc6_scratch10.sem, SemLoc.dma cc6_scratch11.sem, SemLoc.dma cc6_scratch12.sem, SemLoc.dma cc6_scratch13.sem, SemLoc.dma cc6_scratch14.sem, SemLoc.dma cc6_scratch15.sem, SemLoc.dma cc6_scratch16.sem, SemLoc.dma cc6_scratch17.sem, SemLoc.dma cc6_scratch18.sem, SemLoc.dma cc6_scoped0.sem, SemLoc.dma cc6_scoped1.sem, SemLoc.dma cc6_scoped2.sem].map fun s => ((tile d i, s) : GSem nD τ sig)).toFinset) fun g => semVal g 0) :=
  (ownSems0_list d i [SemLoc.dma cc6_scratch6.sem, SemLoc.dma cc6_scratch9.sem, SemLoc.dma cc6_scratch10.sem, SemLoc.dma cc6_scratch11.sem, SemLoc.dma cc6_scratch12.sem, SemLoc.dma cc6_scratch13.sem, SemLoc.dma cc6_scratch14.sem, SemLoc.dma cc6_scratch15.sem, SemLoc.dma cc6_scratch16.sem, SemLoc.dma cc6_scratch17.sem, SemLoc.dma cc6_scratch18.sem, SemLoc.dma cc6_scoped0.sem, SemLoc.dma cc6_scoped1.sem, SemLoc.dma cc6_scoped2.sem] (by decide) (by decide)).trans (foldr_fourteen (fun s : SemLoc sig => iprop(semVal (tile d i, s) 0)) _ _ _ _ _ _ _ _ _ _ _ _ _ _ _)

set_option maxRecDepth 65536 in
theorem body3 (c : Fin τ.nSC) (s : Fin τ.nSub) :
    defs₀ (F := F) (.scVector c s) 6 ()
      = SparseCore.onTile hcore6 hsub6 (fun c s => cc0__sc_gather_body (coordsV c s) (Memref.whole main_v54_scv) (Memref.isWhole_whole _) (Memref.whole main_v55_scv) (Memref.isWhole_whole _) (Memref.whole main_arg3_scv) (Memref.isWhole_whole _) (Memref.whole main_arg4_scv) (Memref.isWhole_whole _) (Memref.whole main_v56_0_scv) (Memref.isWhole_whole _) (Memref.whole main_v56_1_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 (Memref.whole cc6_scratch7) (Memref.isWhole_whole _) (Memref.whole cc6_scratch8) (Memref.isWhole_whole _) cc6_scratch9 cc6_scratch10 cc6_scratch11 cc6_scratch12 cc6_scratch13 cc6_scratch14 cc6_scratch15 cc6_scratch16 cc6_scratch17 cc6_scratch18 cc6_scoped0 cc6_scoped1 cc6_scoped2) ⟨⟩ c s := rfl

set_option maxRecDepth 65536 in
theorem tileObl3 (hF : (K (F := F)).Facts) (hok : cs.Ok) : (K (F := F)).TileObl (D (F := F)) 𝒱 (P cs) v₀ 3 := by
  intro d c i O W hO _ _
  simp only [show (P cs).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [body3]; simp only [SparseCore.onTile, hci, and_self, ↓reduceDIte]
  exact (task d (crd (F := F) 3 c i) (Memref.whole main_v54_scv) (Memref.isWhole_whole _) (Memref.whole main_v55_scv) (Memref.isWhole_whole _) (Memref.whole main_arg3_scv) (Memref.isWhole_whole _) (Memref.whole main_arg4_scv) (Memref.isWhole_whole _) (Memref.whole main_v56_0_scv) (Memref.isWhole_whole _) (Memref.whole main_v56_1_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 (Memref.whole cc6_scratch7) (Memref.isWhole_whole _) (Memref.whole cc6_scratch8) (Memref.isWhole_whole _) cc6_scratch9 cc6_scratch10 cc6_scratch11 cc6_scratch12 cc6_scratch13 cc6_scratch14 cc6_scratch15 cc6_scratch16 cc6_scratch17 cc6_scratch18 cc6_scoped0 cc6_scoped1 cc6_scoped2 (shr (crd (F := F) 3 c i)) hF (bufs3 d _) (cells3 d _)
    rfl rfl rfl rfl (hok.uh 3 d) (hok.nd 3 d)
    rfl rfl O W hO).trans (wp_mono frame _ _ fun _ => obl_post)

end Cert.Proof
-- ==== Proof.Seg.lean ====
/-
  A call of the dense part as a step of the program: its arrays held at one valuation before it and at another after.
-/
module

public import proofs.«01_k».proof.Proof.Region
public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

open Idealize.ShloMosaic.Pipeline (Dat Cfg Window BodyObligation BodyObligationLoose cellOf arrRef arrRefs)

/-- No pipeline has a table to prefetch. -/
abbrev adm : (p : Fin 4) → (pcfgs (F := F) p).Adm := fun p => (cfgs p).toPCfg_adm

/-- What each pipeline's data are, entered at `V`. -/
def pd (V : VV F) : (p : Fin 4) → (c : Dev nD) → Dat τ (Elt F) (HIx 4) ℕ UU ℕ (Pipeline.pin (pcfgs (F := F)) adm p) c
  | 0 => dat1 V
  | 1 => dat3 V
  | 2 => dat5 V
  | 3 => dat7 V

theorem kit : (p : Fin 4) → Pipeline.PLaunchFacts (nD := nD) (τ := τ) (pcfgs (F := F)) p
  | 0 => launch1.toP
  | 1 => launch3.toP
  | 2 => launch5.toP
  | 3 => launch7.toP

theorem pd_body (V : VV F) (p : Fin 4) (c : Dev nD) : BodyObligationLoose (pd V p c) (defs₀ (F := F)) 𝒱₀ none Set.univ :=
  match p with
  | 0 => (body1_obl V c).loose
  | 1 => (body3_obl V c).loose
  | 2 => (body5_obl V c).loose
  | 3 => (body7_obl V c).loose

theorem pd_share (V : VV F) (p : Fin 4) (c : Dev nD) (w : Fin (Pipeline.pin (pcfgs (F := F)) adm p).W) : (pd V p c).share w = fullShare := by
  match p with
  | 0 => exact (dat1 V c).share_full (fun _ => rfl) w
  | 1 => exact (dat3 V c).share_full (fun _ => rfl) w
  | 2 => exact (dat5 V c).share_full (fun _ => rfl) w
  | 3 => exact (dat7 V c).share_full (fun _ => rfl) w

theorem pd_owed (V : VV F) (p : Fin 4) (c : Dev nD) (t : Fin ((Pipeline.pin (pcfgs (F := F)) adm p).N + 1)) :
    (pd V p c).owed t = (K (F := F)).Otc c (p.val + 1) := by
  match p with
  | 0 => rfl
  | 1 => rfl
  | 2 => rfl
  | 3 => rfl

theorem pd_recorded (V : VV F) (p : Fin 4) (c : Dev nD) (t : Fin ((Pipeline.pin (pcfgs (F := F)) adm p).N + 1)) :
    (pd V p c).recorded t = below (F := F) c (p.val + 1) := by
  match p with
  | 0 => rfl
  | 1 => rfl
  | 2 => rfl
  | 3 => rfl

theorem rest1 (V : VV F) (c : Dev nD) (t : Fin (cfg1.N + 1)) : (dat1 V c).Φ t = Pipeline.scopedRest spec1 c := rfl

theorem pd_rest1 (V : VV F) (c : Dev nD) (t) : (pd V 0 c).Φ t = Pipeline.scopedRest (Pipeline.pin (pcfgs (F := F)) adm 0).spec c := rest1 V c t

theorem rest3 (V : VV F) (c : Dev nD) (t : Fin (cfg3.N + 1)) : (dat3 V c).Φ t = Pipeline.scopedRest spec3 c := rfl

theorem pd_rest3 (V : VV F) (c : Dev nD) (t) : (pd V 1 c).Φ t = Pipeline.scopedRest (Pipeline.pin (pcfgs (F := F)) adm 1).spec c := rest3 V c t

theorem rest5 (V : VV F) (c : Dev nD) (t : Fin (cfg5.N + 1)) : (dat5 V c).Φ t = Pipeline.scopedRest spec5 c := rfl

theorem pd_rest5 (V : VV F) (c : Dev nD) (t) : (pd V 2 c).Φ t = Pipeline.scopedRest (Pipeline.pin (pcfgs (F := F)) adm 2).spec c := rest5 V c t

theorem rest7 (V : VV F) (c : Dev nD) (t : Fin (cfg7.N + 1)) : (dat7 V c).Φ t = Pipeline.scopedRest spec7 c := rfl

theorem pd_rest7 (V : VV F) (c : Dev nD) (t) : (pd V 3 c).Φ t = Pipeline.scopedRest (Pipeline.pin (pcfgs (F := F)) adm 3).spec c := rest7 V c t

theorem pd_rest (V : VV F) (p : Fin 4) (c : Dev nD) (t : Fin ((Pipeline.pin (pcfgs (F := F)) adm p).N + 1)) :
    (pd V p c).Φ t = Pipeline.scopedRest (Pipeline.pin (pcfgs (F := F)) adm p).spec c := by
  match p with
  | 0 => exact pd_rest1 V c t
  | 1 => exact pd_rest3 V c t
  | 2 => exact pd_rest5 V c t
  | 3 => exact pd_rest7 V c t

theorem pd_entry (V : VV F) (p : Fin 4) (c : Dev nD) (w : Fin (Pipeline.pin (pcfgs (F := F)) adm p).W) :
    (pd V p c).arrAt w 0 = V (Proc.devRef .tc (arrRef (Pipeline.pin (pcfgs (F := F)) adm p).spec w)) := by
  match p with
  | 0 => rfl
  | 1 => rfl
  | 2 => rfl
  | 3 => rfl

/-- What a thread owes before call `n`, its recorded waits bounded. -/
abbrev owing (d : Dev nD) (n : ℕ) : sProp 𝕄 :=
  iprop(∃ W, ⌜(K (F := F)).WBelow (SparseCore.T d) W (8 * n)⌝ ∗ owes (SparseCore.T d : Thread nD τ) ((K (F := F)).Otc d n) W)

set_option backward.isDefEq.respectTransparency.types false in
/-- Pipeline `p`'s call: entered with its arrays at `V`, left with them at `V'`. -/
def seg (V V' : VV F) (p : Fin 4)
    (hV' : ∀ c w, (pd V p c).arrAt w (Pipeline.pin (pcfgs (F := F)) adm p).N = V' (Proc.devRef .tc (arrRef (Pipeline.pin (pcfgs (F := F)) adm p).spec w))) :
    Pipeline.RegionSeg (pcfgs (F := F)) adm (pd V) none (defs₀ (F := F)) 𝒱₀ (K (F := F)).L (K (F := F)).lev p where
  win := (kit (F := F) p).to₀.win
  block_pos := (kit (F := F) p).to₀.block_pos
  stage_whole := (kit (F := F) p).to₀.stage_whole
  K := PEmpty
  osem k := k.elim
  ho := Pipeline.OwnSemFacts.none _
  hbody c := pd_body V p c
  hwaits c := Pipeline.cellsWaits_of_cut (Pipeline.pin (pcfgs (F := F)) adm) (pd V) none p c 0 ((K (F := F)).Otc c (p.val + 1)) (pd_owed V p c)
    (fun _ _ => Finset.mem_univ _) (fun _ _ => le_refl 0)
    (fun _ _ h => ⟨Finset.mem_univ _, lt_of_lt_of_le (Nat.succ_pos _) (SparseCore.Cfg.lev_of_Otc_pos h)⟩)
  pre c := iprop(StableHlo.held (c.tc : Thread nD τ) (arrRefs (pcfgs (F := F) p).spec) V ∗ owing c (p.val + 1))
  post c := iprop(StableHlo.held (c.tc : Thread nD τ) (arrRefs (pcfgs (F := F) p).spec) V' ∗ owing c (p.val + 1))
  X _ := iprop(emp)
  Y _ := iprop(emp)
  Z _ := iprop(emp)
  hentry c := by
    rw [Pipeline.ownSems0_none, Pipeline.prefHeld_of_none _ (by match p with | 0 => rfl | 1 => rfl | 2 => rfl | 3 => rfl),
      Pipeline.arrays_held (pcfgs (F := F)) adm (pd V) p (kit (F := F) p) c (pd_share V p c) ((pd V p c).arrAt · 0) V (pd_entry V p c)]
    unfold Dat.owesAt Pipeline.owesWithin Dat.bound
    rw [pd_owed V p c, pd_recorded V p c]
    iintro ⟨⟨Ha, %W, %hW, HO⟩, -, -⟩
    imodintro
    isplitl [Ha]; · iexact Ha
    isplitr; · iempintro
    isplitl [HO]
    · iexists W
      isplitr; · ipureintro; exact fun q hq => Or.inl (hW q hq)
      iexact HO
    isplitr <;> iempintro
  hin c := by
    rw [pd_rest V p c]
    iintro ⟨-, -, Hr⟩; iexact Hr
  hout c := by
    rw [Pipeline.ownSems0_none, pd_rest V p c]
    iintro Hr
    isplitr; · iempintro
    isplitr; · iempintro
    iexact Hr
  hexit c := by
    rw [Pipeline.arrays_held (pcfgs (F := F)) adm (pd V) p (kit (F := F) p) c (pd_share V p c) ((pd V p c).arrAt · (Pipeline.pin (pcfgs (F := F)) adm p).N) V' (hV' c)]
    unfold Dat.owesAt Pipeline.owesWithin Dat.bound
    rw [pd_owed V p c, pd_recorded V p c]
    iintro ⟨Ha, ⟨%W, %hW, HO⟩, -, -⟩
    imodintro
    isplitl [Ha]; · iexact Ha
    iexists W
    isplitr
    · ipureintro
      intro q hq
      rcases hW hq with h | ⟨w, s, h⟩
      · exact h
      · rw [h]; exact Nat.zero_le _
    iexact HO

theorem seg_pre (V V' : VV F) (p : Fin 4)
    (hV' : ∀ c w, (pd V p c).arrAt w (Pipeline.pin (pcfgs (F := F)) adm p).N = V' (Proc.devRef .tc (arrRef (Pipeline.pin (pcfgs (F := F)) adm p).spec w))) (c : Dev nD) :
    (seg V V' p hV').pre c = iprop(StableHlo.held (SparseCore.T c : Thread nD τ) (arrRefs (pcfgs (F := F) p).spec) V ∗ owing c (p.val + 1)) := rfl

theorem seg_post (V V' : VV F) (p : Fin 4)
    (hV' : ∀ c w, (pd V p c).arrAt w (Pipeline.pin (pcfgs (F := F)) adm p).N = V' (Proc.devRef .tc (arrRef (Pipeline.pin (pcfgs (F := F)) adm p).spec w))) (c : Dev nD) :
    (seg V V' p hV').post c = iprop(StableHlo.held (SparseCore.T c : Thread nD τ) (arrRefs (pcfgs (F := F) p).spec) V' ∗ owing c (p.val + 1)) := rfl

theorem phinj : Function.Injective (cellOf (nD := nD) (τ := τ) (Pipeline.pin (pcfgs (F := F)) adm)) := (kit (F := F) 0).cellOf_inj adm

/-- The staging ghosts of pipeline `p`. -/
abbrev ghost (p : Fin 4) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- The call run. -/
theorem call_run [∀ e, Nonempty (Elt F e)] (V V' : VV F) (p : Fin 4)
    (hV' : ∀ c w, (pd V p c).arrAt w (Pipeline.pin (pcfgs (F := F)) adm p).N = V' (Proc.devRef .tc (arrRef (Pipeline.pin (pcfgs (F := F)) adm p).spec w)))
    (d : Dev nD) (Q : PUnit → sProp 𝕄) :
    iprop(boundary (SparseCore.T d : Thread nD τ) ∗ StableHlo.held (SparseCore.T d : Thread nD τ) (arrRefs (pcfgs (F := F) p).spec) V ∗ owing d (p.val + 1)
        ∗ levAts (K (F := F)).L (K (F := F)).lev ∗ ghost p d
        ∗ (iprop(boundary (SparseCore.T d : Thread nD τ) ∗ StableHlo.held (SparseCore.T d : Thread nD τ) (arrRefs (pcfgs (F := F) p).spec) V' ∗ owing d (p.val + 1)) -∗ Q ⟨⟩))
      ⊢ wp frame (wpE ((K (F := F)).defs (D (F := F))) 𝒱 (SparseCore.T d) none) Set.univ
          (Prog.lift (.customCall (SparseCore.inner (Pipeline.entry p)) ())) Q := by
  have key : iprop(boundary (SparseCore.T d : Thread nD τ) ∗ StableHlo.held (SparseCore.T d : Thread nD τ) (arrRefs (pcfgs (F := F) p).spec) V ∗ owing d (p.val + 1)
        ∗ levAts (K (F := F)).L (K (F := F)).lev ∗ ghost p d
        ∗ (iprop(boundary (SparseCore.T d : Thread nD τ) ∗ StableHlo.held (SparseCore.T d : Thread nD τ) (arrRefs (pcfgs (F := F) p).spec) V' ∗ owing d (p.val + 1)) -∗ Q ⟨⟩))
      ⊢ wp frame (wpE (D (F := F)) 𝒱 (SparseCore.T d) none) Set.univ
          (.op (.customCall (Pipeline.entry p) ()) fun x => .ret x) Q := by
    have hw := Pipeline.RegionSeg.wp (pcfgs (F := F)) adm (pd V) none phinj (EP (F := F)) defs₀ 𝒱₀ (K (F := F)).L (K (F := F)).lev (seg V V' p hV') d none
      (fun _ h => absurd h (Option.not_mem_none _)) (fun x => .ret x) Q
    rw [seg_pre, seg_post] at hw
    unfold D
    iintro ⟨Hb, Hh, HO, HL, ⟨Hg, Ht⟩, Hk⟩
    iapply hw
    isplitl [Hk]
    · rw [wp_ret]
      iintro ⟨Hb, Hh, HO⟩
      imodintro
      iapply Hk
      isplitl [Hb]; · iexact Hb
      isplitl [Hh]; · iexact Hh
      iexact HO
    isplitl [Hb]; · iexact Hb
    isplitl [Hh HO]
    · isplitl [Hh]; · iexact Hh
      iexact HO
    isplitl [HL]; · iexact HL
    isplitl [Hg]; · iexact Hg
    iexact Ht
  exact key.trans ((K (F := F)).wp_liftProg (D (F := F)) 𝒱 (SparseCore.T d) Set.univ none
    (.op (.customCall (Pipeline.entry p) ()) fun x => .ret x) Q)

end Cert.Proof

end
-- ==== Proof.Split.lean ====
/-
  The operands of a SparseCore call split among its tiles, and joined again.
-/
module

public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

/-- A buffer as the TensorCore names it. -/
abbrev hb (d : Dev nD) (r : Ref sig .tc) : Loc nD τ sig := (SparseCore.T d : Thread nD τ).loc r

/-- The rows of a chunk, -/
abbrev outSet (i : grid0.Coords) (j : Fin 25) : Finset S51200x128.Idx :=
  (Rect.unit (s := S51200x128) ![3200 * (i 1).val + 1600 * (i 0).val + 64 * j.val, 0] S64x128.size (outW_inb i j)).set

/-- and a tile's item rows. -/
def itemSet (i : grid0.Coords) : Finset S256x128.Idx :=
  if h : k0_cond1 i = 1#1 then (Rect.unit (s := S256x128) (k0_off3 i) S64x128.size (k0_off3_inb i h)).set else ∅

theorem mem_outSet (i : grid0.Coords) (j : Fin 25) (x : S51200x128.Idx) :
    x ∈ outSet i j ↔ (x 0).val / 64 = 25 * (2 * (i 1).val + (i 0).val) + j.val := by
  have hx1 : (x 1).val < 128 := (x 1).isLt
  rw [Rect.mem_set_unit]
  constructor
  · intro h
    have h0 := h 0
    change 3200 * (i 1).val + 1600 * (i 0).val + 64 * j.val ≤ (x 0).val ∧ (x 0).val < 3200 * (i 1).val + 1600 * (i 0).val + 64 * j.val + 64 at h0
    omega
  · intro h a
    match a with
    | ⟨0, _⟩ =>
      show 3200 * (i 1).val + 1600 * (i 0).val + 64 * j.val ≤ (x 0).val ∧ (x 0).val < 3200 * (i 1).val + 1600 * (i 0).val + 64 * j.val + 64
      omega
    | ⟨1, _⟩ =>
      show 0 ≤ (x 1).val ∧ (x 1).val < 0 + 128
      omega

theorem mem_itemSet (i : grid0.Coords) (x : S256x128.Idx) : x ∈ itemSet i ↔ (x 0).val / 64 = 2 * (i 1).val + (i 0).val := by
  have hx0 : (x 0).val < 256 := (x 0).isLt
  have hx1 : (x 1).val < 128 := (x 1).isLt
  unfold itemSet
  by_cases h : k0_cond1 i = 1#1
  · rw [dif_pos h, Rect.mem_set_unit, k0_off3_eq i]
    constructor
    · intro hx
      have h0 := hx 0
      change 128 * (i 1).val + 64 * (i 0).val ≤ (x 0).val ∧ (x 0).val < 128 * (i 1).val + 64 * (i 0).val + 64 at h0
      omega
    · intro hx a
      match a with
      | ⟨0, _⟩ =>
        show 128 * (i 1).val + 64 * (i 0).val ≤ (x 0).val ∧ (x 0).val < 128 * (i 1).val + 64 * (i 0).val + 64
        omega
      | ⟨1, _⟩ =>
        show 0 ≤ (x 1).val ∧ (x 1).val < 0 + 128
        omega
  · rw [dif_neg h]
    have := mt (cond1_iff i).2 h
    constructor
    · intro hx; exact absurd hx (Finset.notMem_empty x)
    · intro hx; omega

section
variable {ℓ : Loc nD τ sig} {f : Buf (Elt F) ℓ}

/-- A buffer split along a key of its elements. -/
theorem pointsTo_key {T : Type} [Fintype T] (I : T → Finset (Idx ℓ)) (key : Idx ℓ → T) (h : ∀ t x, x ∈ I t ↔ key x = t) :
    (ℓ ↦{fullShare} f : sProp 𝕄) = bigSep Finset.univ fun t => ℓ ↦[I t]{fullShare} f := by
  rw [← pointsTo_biUnion Finset.univ I]
  · congr 1
    ext x
    simp only [Finset.mem_univ, Finset.mem_biUnion, true_and, true_iff]
    exact ⟨key x, (h _ _).2 rfl⟩
  · intro t _ t' _ hne
    rw [Finset.disjoint_left]
    intro x hx hx'
    exact hne (((h _ _).1 hx).symm.trans ((h _ _).1 hx'))

/-- A read-only buffer dealt to the tiles. -/
theorem deal_tiles : (ℓ ↦{fullShare} f : sProp 𝕄)
    = bigSep Finset.univ fun c : Fin 2 => bigSep Finset.univ fun s : Fin 16 => ℓ ↦{shr (coordsV c s)} f := by
  rw [pointsTo_deal (Finset.univ : Finset (Fin 2)) ⟨0, Finset.mem_univ _⟩ fullShare]
  refine bigSep_congr fun c _ => ?_
  rw [pointsTo_deal (Finset.univ : Finset (Fin 16)) ⟨0, Finset.mem_univ _⟩]
  rfl
end

def keyOut (x : S51200x128.Idx) : Fin 2 × Fin 16 × Fin 25 :=
  (⟨(x 0).val / 1600 % 2, Nat.mod_lt _ (by decide)⟩, ⟨(x 0).val / 3200 % 16, Nat.mod_lt _ (by decide)⟩, ⟨(x 0).val / 64 % 25, Nat.mod_lt _ (by decide)⟩)

def keyItem (x : S256x128.Idx) : Fin 2 × Fin 16 :=
  (⟨(x 0).val / 64 % 2, Nat.mod_lt _ (by decide)⟩, ⟨(x 0).val / 128 % 16, Nat.mod_lt _ (by decide)⟩)

theorem keyOut_iff (t : Fin 2 × Fin 16 × Fin 25) (x : S51200x128.Idx) : x ∈ outSet (coordsV t.1 t.2.1) t.2.2 ↔ keyOut x = t := by
  obtain ⟨c, s, j⟩ := t
  rw [mem_outSet]
  have hx0 : (x 0).val < 51200 := (x 0).isLt
  have hc := c.isLt
  have hs := s.isLt
  have hj := j.isLt
  simp only [keyOut, Prod.mk.injEq, Fin.ext_iff]
  show (x 0).val / 64 = 25 * (2 * s.val + c.val) + j.val ↔ _
  omega

theorem keyItem_iff (t : Fin 2 × Fin 16) (x : S256x128.Idx) : x ∈ itemSet (coordsV t.1 t.2) ↔ keyItem x = t := by
  obtain ⟨c, s⟩ := t
  rw [mem_itemSet]
  have hx0 : (x 0).val < 256 := (x 0).isLt
  have hc := c.isLt
  have hs := s.isLt
  simp only [keyItem, Prod.mk.injEq, Fin.ext_iff]
  show (x 0).val / 64 = 2 * s.val + c.val ↔ _
  omega

/-- Six families over the tiles. -/
theorem tiles_six (Φ₁ Φ₂ Φ₃ Φ₄ Φ₅ Φ₆ : Fin 2 → Fin 16 → sProp 𝕄) :
    (bigSep Finset.univ fun c => bigSep Finset.univ fun s => iprop(Φ₁ c s ∗ Φ₂ c s ∗ Φ₃ c s ∗ Φ₄ c s ∗ Φ₅ c s ∗ Φ₆ c s))
      = iprop((bigSep Finset.univ fun c => bigSep Finset.univ fun s => Φ₁ c s) ∗ (bigSep Finset.univ fun c => bigSep Finset.univ fun s => Φ₂ c s)
        ∗ (bigSep Finset.univ fun c => bigSep Finset.univ fun s => Φ₃ c s) ∗ (bigSep Finset.univ fun c => bigSep Finset.univ fun s => Φ₄ c s)
        ∗ (bigSep Finset.univ fun c => bigSep Finset.univ fun s => Φ₅ c s) ∗ (bigSep Finset.univ fun c => bigSep Finset.univ fun s => Φ₆ c s)) := by
  simp only [bigSep_sep']

theorem goP_of {d : Dev nD} {i : grid0.Coords} {A2 : HistRef} {A3 : NodeRef} {A4 A5 : TabRef} {A6 : OutRef} {A7 : ItemRef}
    {f2 : Buf (Elt F) (A2.view.loc (tile d i))} {f3 : Buf (Elt F) (A3.view.loc (tile d i))}
    {ft : Buf (Elt F) (A4.view.loc (tile d i))} {f5 : Buf (Elt F) (A5.view.loc (tile d i))} (q : PosShare TreeShare)
    (f : Buf (Elt F) (A6.view.loc (tile d i))) (f' : Buf (Elt F) (A7.view.loc (tile d i))) :
    opnds d i A2 A3 A4 A5 A6 A7 f2 f3 ft f5 q q q q f f' ⊢ goP d i A2 A3 A4 A5 A6 A7 f2 f3 ft f5 q := by
  unfold goP
  iintro H
  iexists f, f'
  iexact H

variable (cs : Lists F)

theorem out_split0 (d : Dev nD) (f : Buf (Elt F) (hb d main_v5_0)) : (hb d main_v5_0 ↦{fullShare} f : sProp 𝕄)
    = bigSep Finset.univ fun c : Fin 2 => bigSep Finset.univ fun s : Fin 16 => bigSep Finset.univ fun j : Fin 25 =>
        chunk d (coordsV c s) (Memref.whole main_v5_0_scv) f j := by
  refine (pointsTo_key (ℓ := hb d main_v5_0) (fun t : Fin 2 × Fin 16 × Fin 25 => outSet (coordsV t.1 t.2.1) t.2.2) keyOut keyOut_iff).trans ?_
  rw [bigSep_univ_prod]
  refine bigSep_congr fun c _ => ?_
  rw [bigSep_univ_prod]
  refine bigSep_congr fun s _ => bigSep_congr fun j _ => ?_
  unfold chunk
  rw [show (outW (Memref.whole main_v5_0_scv) (coordsV c s) j).view.set = outSet (coordsV c s) j from View.set_slice_whole _ _]

theorem item_split0 (d : Dev nD) (f : Buf (Elt F) (hb d main_v5_1)) : (hb d main_v5_1 ↦{fullShare} f : sProp 𝕄)
    = bigSep Finset.univ fun c : Fin 2 => bigSep Finset.univ fun s : Fin 16 => itemPart d (coordsV c s) (Memref.whole main_v5_1_scv) f := by
  refine (pointsTo_key (ℓ := hb d main_v5_1) (fun t : Fin 2 × Fin 16 => itemSet (coordsV t.1 t.2)) keyItem keyItem_iff).trans ?_
  rw [bigSep_univ_prod]
  refine bigSep_congr fun c _ => bigSep_congr fun s _ => ?_
  unfold itemPart itemSet
  split_ifs with h
  · rw [show (itemW (Memref.whole main_v5_1_scv) (coordsV c s) h).view.set = (Rect.unit (s := S256x128) (k0_off3 (coordsV c s)) S64x128.size (k0_off3_inb _ h)).set from View.set_slice_whole _ _]
  · exact pointsTo_empty

theorem opnds_split0 (d : Dev nD) (f2 : Buf (Elt F) (hb d main_v3)) (f3 : Buf (Elt F) (hb d main_v4)) (ft : Buf (Elt F) (hb d main_arg3))
    (f5 : Buf (Elt F) (hb d main_arg4)) (f : Buf (Elt F) (hb d main_v5_0)) (f' : Buf (Elt F) (hb d main_v5_1)) :
    (iprop((hb d main_v3 ↦{fullShare} f2) ∗ (hb d main_v4 ↦{fullShare} f3) ∗ (hb d main_arg3 ↦{fullShare} ft)
        ∗ (hb d main_arg4 ↦{fullShare} f5) ∗ (hb d main_v5_0 ↦{fullShare} f) ∗ (hb d main_v5_1 ↦{fullShare} f')) : sProp 𝕄)
      = bigSep Finset.univ fun c : Fin 2 => bigSep Finset.univ fun s : Fin 16 =>
          opnds d (coordsV c s) (Memref.whole main_v3_scv) (Memref.whole main_v4_scv) (Memref.whole main_arg3_scv) (Memref.whole main_arg4_scv) (Memref.whole main_v5_0_scv) (Memref.whole main_v5_1_scv) f2 f3 ft f5 (shr (coordsV c s)) (shr (coordsV c s)) (shr (coordsV c s)) (shr (coordsV c s)) f f' := by
  rw [out_split0, item_split0, deal_tiles (f := f2), deal_tiles (f := f3), deal_tiles (f := ft), deal_tiles (f := f5)]
  unfold opnds
  exact (tiles_six _ _ _ _ _ _).symm

theorem st0 (d : Dev nD) (f : Buf (Elt F) (hb d main_v5_0)) (f' : Buf (Elt F) (hb d main_v5_1)) :
    iprop((hb d main_v3 ↦{fullShare} cs.uh 0 d) ∗ (hb d main_v4 ↦{fullShare} cs.nd 0 d) ∗ (hb d main_arg3 ↦{fullShare} cs.tab d)
        ∗ (hb d main_arg4 ↦{fullShare} cs.itab d) ∗ (hb d main_v5_0 ↦{fullShare} f) ∗ (hb d main_v5_1 ↦{fullShare} f'))
      ⊢ (bigSep Finset.univ fun c : Fin ((K (F := F)).nCore 0) => (P cs).st 0 d c : sProp 𝕄) := by
  rw [show (bigSep Finset.univ fun c : Fin ((K (F := F)).nCore 0) => (P cs).st 0 d c : sProp 𝕄)
    = bigSep Finset.univ fun c : Fin ((K (F := F)).nCore 0) => bigSep Finset.univ fun s : Fin ((K (F := F)).nSub 0) => go0 cs d c s from rfl]
  refine (Entails.of_eq (opnds_split0 d _ _ _ _ f f')).trans (bigSep_mono fun c _ => bigSep_mono fun s _ => ?_)
  unfold go0
  exact goP_of _ _ _

theorem dn0 (d : Dev nD) :
    (bigSep Finset.univ fun c : Fin ((K (F := F)).nCore 0) => (P cs).dn 0 d c : sProp 𝕄)
      ⊢ iprop((hb d main_v3 ↦{fullShare} cs.uh 0 d) ∗ (hb d main_v4 ↦{fullShare} cs.nd 0 d) ∗ (hb d main_arg3 ↦{fullShare} cs.tab d)
        ∗ (hb d main_arg4 ↦{fullShare} cs.itab d) ∗ (hb d main_v5_0 ↦{fullShare} outRows (cs.uh 0 d) (cs.tab d))
        ∗ (hb d main_v5_1 ↦{fullShare} itemRows (cs.nd 0 d) (cs.itab d))) := by
  rw [show (bigSep Finset.univ fun c : Fin ((K (F := F)).nCore 0) => (P cs).dn 0 d c : sProp 𝕄)
    = bigSep Finset.univ fun c : Fin ((K (F := F)).nCore 0) => bigSep Finset.univ fun s : Fin ((K (F := F)).nSub 0) => td0 cs d c s from rfl]
  refine BI.Entails.trans (bigSep_mono fun c _ => bigSep_mono fun s _ => ?_) (Entails.of_eq (opnds_split0 d (cs.uh 0 d) (cs.nd 0 d) (cs.tab d) (cs.itab d) _ _).symm)
  unfold td0 tdP
  exact BI.Entails.refl _

theorem out_split1 (d : Dev nD) (f : Buf (Elt F) (hb d main_v22_0)) : (hb d main_v22_0 ↦{fullShare} f : sProp 𝕄)
    = bigSep Finset.univ fun c : Fin 2 => bigSep Finset.univ fun s : Fin 16 => bigSep Finset.univ fun j : Fin 25 =>
        chunk d (coordsV c s) (Memref.whole main_v22_0_scv) f j := by
  refine (pointsTo_key (ℓ := hb d main_v22_0) (fun t : Fin 2 × Fin 16 × Fin 25 => outSet (coordsV t.1 t.2.1) t.2.2) keyOut keyOut_iff).trans ?_
  rw [bigSep_univ_prod]
  refine bigSep_congr fun c _ => ?_
  rw [bigSep_univ_prod]
  refine bigSep_congr fun s _ => bigSep_congr fun j _ => ?_
  unfold chunk
  rw [show (outW (Memref.whole main_v22_0_scv) (coordsV c s) j).view.set = outSet (coordsV c s) j from View.set_slice_whole _ _]

theorem item_split1 (d : Dev nD) (f : Buf (Elt F) (hb d main_v22_1)) : (hb d main_v22_1 ↦{fullShare} f : sProp 𝕄)
    = bigSep Finset.univ fun c : Fin 2 => bigSep Finset.univ fun s : Fin 16 => itemPart d (coordsV c s) (Memref.whole main_v22_1_scv) f := by
  refine (pointsTo_key (ℓ := hb d main_v22_1) (fun t : Fin 2 × Fin 16 => itemSet (coordsV t.1 t.2)) keyItem keyItem_iff).trans ?_
  rw [bigSep_univ_prod]
  refine bigSep_congr fun c _ => bigSep_congr fun s _ => ?_
  unfold itemPart itemSet
  split_ifs with h
  · rw [show (itemW (Memref.whole main_v22_1_scv) (coordsV c s) h).view.set = (Rect.unit (s := S256x128) (k0_off3 (coordsV c s)) S64x128.size (k0_off3_inb _ h)).set from View.set_slice_whole _ _]
  · exact pointsTo_empty

theorem opnds_split1 (d : Dev nD) (f2 : Buf (Elt F) (hb d main_v20)) (f3 : Buf (Elt F) (hb d main_v21)) (ft : Buf (Elt F) (hb d main_arg3))
    (f5 : Buf (Elt F) (hb d main_arg4)) (f : Buf (Elt F) (hb d main_v22_0)) (f' : Buf (Elt F) (hb d main_v22_1)) :
    (iprop((hb d main_v20 ↦{fullShare} f2) ∗ (hb d main_v21 ↦{fullShare} f3) ∗ (hb d main_arg3 ↦{fullShare} ft)
        ∗ (hb d main_arg4 ↦{fullShare} f5) ∗ (hb d main_v22_0 ↦{fullShare} f) ∗ (hb d main_v22_1 ↦{fullShare} f')) : sProp 𝕄)
      = bigSep Finset.univ fun c : Fin 2 => bigSep Finset.univ fun s : Fin 16 =>
          opnds d (coordsV c s) (Memref.whole main_v20_scv) (Memref.whole main_v21_scv) (Memref.whole main_arg3_scv) (Memref.whole main_arg4_scv) (Memref.whole main_v22_0_scv) (Memref.whole main_v22_1_scv) f2 f3 ft f5 (shr (coordsV c s)) (shr (coordsV c s)) (shr (coordsV c s)) (shr (coordsV c s)) f f' := by
  rw [out_split1, item_split1, deal_tiles (f := f2), deal_tiles (f := f3), deal_tiles (f := ft), deal_tiles (f := f5)]
  unfold opnds
  exact (tiles_six _ _ _ _ _ _).symm

theorem st1 (d : Dev nD) (f : Buf (Elt F) (hb d main_v22_0)) (f' : Buf (Elt F) (hb d main_v22_1)) :
    iprop((hb d main_v20 ↦{fullShare} cs.uh 1 d) ∗ (hb d main_v21 ↦{fullShare} cs.nd 1 d) ∗ (hb d main_arg3 ↦{fullShare} cs.tab d)
        ∗ (hb d main_arg4 ↦{fullShare} cs.itab d) ∗ (hb d main_v22_0 ↦{fullShare} f) ∗ (hb d main_v22_1 ↦{fullShare} f'))
      ⊢ (bigSep Finset.univ fun c : Fin ((K (F := F)).nCore 1) => (P cs).st 1 d c : sProp 𝕄) := by
  rw [show (bigSep Finset.univ fun c : Fin ((K (F := F)).nCore 1) => (P cs).st 1 d c : sProp 𝕄)
    = bigSep Finset.univ fun c : Fin ((K (F := F)).nCore 1) => bigSep Finset.univ fun s : Fin ((K (F := F)).nSub 1) => go1 cs d c s from rfl]
  refine (Entails.of_eq (opnds_split1 d _ _ _ _ f f')).trans (bigSep_mono fun c _ => bigSep_mono fun s _ => ?_)
  unfold go1
  exact goP_of _ _ _

theorem dn1 (d : Dev nD) :
    (bigSep Finset.univ fun c : Fin ((K (F := F)).nCore 1) => (P cs).dn 1 d c : sProp 𝕄)
      ⊢ iprop((hb d main_v20 ↦{fullShare} cs.uh 1 d) ∗ (hb d main_v21 ↦{fullShare} cs.nd 1 d) ∗ (hb d main_arg3 ↦{fullShare} cs.tab d)
        ∗ (hb d main_arg4 ↦{fullShare} cs.itab d) ∗ (hb d main_v22_0 ↦{fullShare} outRows (cs.uh 1 d) (cs.tab d))
        ∗ (hb d main_v22_1 ↦{fullShare} itemRows (cs.nd 1 d) (cs.itab d))) := by
  rw [show (bigSep Finset.univ fun c : Fin ((K (F := F)).nCore 1) => (P cs).dn 1 d c : sProp 𝕄)
    = bigSep Finset.univ fun c : Fin ((K (F := F)).nCore 1) => bigSep Finset.univ fun s : Fin ((K (F := F)).nSub 1) => td1 cs d c s from rfl]
  refine BI.Entails.trans (bigSep_mono fun c _ => bigSep_mono fun s _ => ?_) (Entails.of_eq (opnds_split1 d (cs.uh 1 d) (cs.nd 1 d) (cs.tab d) (cs.itab d) _ _).symm)
  unfold td1 tdP
  exact BI.Entails.refl _

theorem out_split2 (d : Dev nD) (f : Buf (Elt F) (hb d main_v39_0)) : (hb d main_v39_0 ↦{fullShare} f : sProp 𝕄)
    = bigSep Finset.univ fun c : Fin 2 => bigSep Finset.univ fun s : Fin 16 => bigSep Finset.univ fun j : Fin 25 =>
        chunk d (coordsV c s) (Memref.whole main_v39_0_scv) f j := by
  refine (pointsTo_key (ℓ := hb d main_v39_0) (fun t : Fin 2 × Fin 16 × Fin 25 => outSet (coordsV t.1 t.2.1) t.2.2) keyOut keyOut_iff).trans ?_
  rw [bigSep_univ_prod]
  refine bigSep_congr fun c _ => ?_
  rw [bigSep_univ_prod]
  refine bigSep_congr fun s _ => bigSep_congr fun j _ => ?_
  unfold chunk
  rw [show (outW (Memref.whole main_v39_0_scv) (coordsV c s) j).view.set = outSet (coordsV c s) j from View.set_slice_whole _ _]

theorem item_split2 (d : Dev nD) (f : Buf (Elt F) (hb d main_v39_1)) : (hb d main_v39_1 ↦{fullShare} f : sProp 𝕄)
    = bigSep Finset.univ fun c : Fin 2 => bigSep Finset.univ fun s : Fin 16 => itemPart d (coordsV c s) (Memref.whole main_v39_1_scv) f := by
  refine (pointsTo_key (ℓ := hb d main_v39_1) (fun t : Fin 2 × Fin 16 => itemSet (coordsV t.1 t.2)) keyItem keyItem_iff).trans ?_
  rw [bigSep_univ_prod]
  refine bigSep_congr fun c _ => bigSep_congr fun s _ => ?_
  unfold itemPart itemSet
  split_ifs with h
  · rw [show (itemW (Memref.whole main_v39_1_scv) (coordsV c s) h).view.set = (Rect.unit (s := S256x128) (k0_off3 (coordsV c s)) S64x128.size (k0_off3_inb _ h)).set from View.set_slice_whole _ _]
  · exact pointsTo_empty

theorem opnds_split2 (d : Dev nD) (f2 : Buf (Elt F) (hb d main_v37)) (f3 : Buf (Elt F) (hb d main_v38)) (ft : Buf (Elt F) (hb d main_arg3))
    (f5 : Buf (Elt F) (hb d main_arg4)) (f : Buf (Elt F) (hb d main_v39_0)) (f' : Buf (Elt F) (hb d main_v39_1)) :
    (iprop((hb d main_v37 ↦{fullShare} f2) ∗ (hb d main_v38 ↦{fullShare} f3) ∗ (hb d main_arg3 ↦{fullShare} ft)
        ∗ (hb d main_arg4 ↦{fullShare} f5) ∗ (hb d main_v39_0 ↦{fullShare} f) ∗ (hb d main_v39_1 ↦{fullShare} f')) : sProp 𝕄)
      = bigSep Finset.univ fun c : Fin 2 => bigSep Finset.univ fun s : Fin 16 =>
          opnds d (coordsV c s) (Memref.whole main_v37_scv) (Memref.whole main_v38_scv) (Memref.whole main_arg3_scv) (Memref.whole main_arg4_scv) (Memref.whole main_v39_0_scv) (Memref.whole main_v39_1_scv) f2 f3 ft f5 (shr (coordsV c s)) (shr (coordsV c s)) (shr (coordsV c s)) (shr (coordsV c s)) f f' := by
  rw [out_split2, item_split2, deal_tiles (f := f2), deal_tiles (f := f3), deal_tiles (f := ft), deal_tiles (f := f5)]
  unfold opnds
  exact (tiles_six _ _ _ _ _ _).symm

theorem st2 (d : Dev nD) (f : Buf (Elt F) (hb d main_v39_0)) (f' : Buf (Elt F) (hb d main_v39_1)) :
    iprop((hb d main_v37 ↦{fullShare} cs.uh 2 d) ∗ (hb d main_v38 ↦{fullShare} cs.nd 2 d) ∗ (hb d main_arg3 ↦{fullShare} cs.tab d)
        ∗ (hb d main_arg4 ↦{fullShare} cs.itab d) ∗ (hb d main_v39_0 ↦{fullShare} f) ∗ (hb d main_v39_1 ↦{fullShare} f'))
      ⊢ (bigSep Finset.univ fun c : Fin ((K (F := F)).nCore 2) => (P cs).st 2 d c : sProp 𝕄) := by
  rw [show (bigSep Finset.univ fun c : Fin ((K (F := F)).nCore 2) => (P cs).st 2 d c : sProp 𝕄)
    = bigSep Finset.univ fun c : Fin ((K (F := F)).nCore 2) => bigSep Finset.univ fun s : Fin ((K (F := F)).nSub 2) => go2 cs d c s from rfl]
  refine (Entails.of_eq (opnds_split2 d _ _ _ _ f f')).trans (bigSep_mono fun c _ => bigSep_mono fun s _ => ?_)
  unfold go2
  exact goP_of _ _ _

theorem dn2 (d : Dev nD) :
    (bigSep Finset.univ fun c : Fin ((K (F := F)).nCore 2) => (P cs).dn 2 d c : sProp 𝕄)
      ⊢ iprop((hb d main_v37 ↦{fullShare} cs.uh 2 d) ∗ (hb d main_v38 ↦{fullShare} cs.nd 2 d) ∗ (hb d main_arg3 ↦{fullShare} cs.tab d)
        ∗ (hb d main_arg4 ↦{fullShare} cs.itab d) ∗ (hb d main_v39_0 ↦{fullShare} outRows (cs.uh 2 d) (cs.tab d))
        ∗ (hb d main_v39_1 ↦{fullShare} itemRows (cs.nd 2 d) (cs.itab d))) := by
  rw [show (bigSep Finset.univ fun c : Fin ((K (F := F)).nCore 2) => (P cs).dn 2 d c : sProp 𝕄)
    = bigSep Finset.univ fun c : Fin ((K (F := F)).nCore 2) => bigSep Finset.univ fun s : Fin ((K (F := F)).nSub 2) => td2 cs d c s from rfl]
  refine BI.Entails.trans (bigSep_mono fun c _ => bigSep_mono fun s _ => ?_) (Entails.of_eq (opnds_split2 d (cs.uh 2 d) (cs.nd 2 d) (cs.tab d) (cs.itab d) _ _).symm)
  unfold td2 tdP
  exact BI.Entails.refl _

theorem out_split3 (d : Dev nD) (f : Buf (Elt F) (hb d main_v56_0)) : (hb d main_v56_0 ↦{fullShare} f : sProp 𝕄)
    = bigSep Finset.univ fun c : Fin 2 => bigSep Finset.univ fun s : Fin 16 => bigSep Finset.univ fun j : Fin 25 =>
        chunk d (coordsV c s) (Memref.whole main_v56_0_scv) f j := by
  refine (pointsTo_key (ℓ := hb d main_v56_0) (fun t : Fin 2 × Fin 16 × Fin 25 => outSet (coordsV t.1 t.2.1) t.2.2) keyOut keyOut_iff).trans ?_
  rw [bigSep_univ_prod]
  refine bigSep_congr fun c _ => ?_
  rw [bigSep_univ_prod]
  refine bigSep_congr fun s _ => bigSep_congr fun j _ => ?_
  unfold chunk
  rw [show (outW (Memref.whole main_v56_0_scv) (coordsV c s) j).view.set = outSet (coordsV c s) j from View.set_slice_whole _ _]

theorem item_split3 (d : Dev nD) (f : Buf (Elt F) (hb d main_v56_1)) : (hb d main_v56_1 ↦{fullShare} f : sProp 𝕄)
    = bigSep Finset.univ fun c : Fin 2 => bigSep Finset.univ fun s : Fin 16 => itemPart d (coordsV c s) (Memref.whole main_v56_1_scv) f := by
  refine (pointsTo_key (ℓ := hb d main_v56_1) (fun t : Fin 2 × Fin 16 => itemSet (coordsV t.1 t.2)) keyItem keyItem_iff).trans ?_
  rw [bigSep_univ_prod]
  refine bigSep_congr fun c _ => bigSep_congr fun s _ => ?_
  unfold itemPart itemSet
  split_ifs with h
  · rw [show (itemW (Memref.whole main_v56_1_scv) (coordsV c s) h).view.set = (Rect.unit (s := S256x128) (k0_off3 (coordsV c s)) S64x128.size (k0_off3_inb _ h)).set from View.set_slice_whole _ _]
  · exact pointsTo_empty

theorem opnds_split3 (d : Dev nD) (f2 : Buf (Elt F) (hb d main_v54)) (f3 : Buf (Elt F) (hb d main_v55)) (ft : Buf (Elt F) (hb d main_arg3))
    (f5 : Buf (Elt F) (hb d main_arg4)) (f : Buf (Elt F) (hb d main_v56_0)) (f' : Buf (Elt F) (hb d main_v56_1)) :
    (iprop((hb d main_v54 ↦{fullShare} f2) ∗ (hb d main_v55 ↦{fullShare} f3) ∗ (hb d main_arg3 ↦{fullShare} ft)
        ∗ (hb d main_arg4 ↦{fullShare} f5) ∗ (hb d main_v56_0 ↦{fullShare} f) ∗ (hb d main_v56_1 ↦{fullShare} f')) : sProp 𝕄)
      = bigSep Finset.univ fun c : Fin 2 => bigSep Finset.univ fun s : Fin 16 =>
          opnds d (coordsV c s) (Memref.whole main_v54_scv) (Memref.whole main_v55_scv) (Memref.whole main_arg3_scv) (Memref.whole main_arg4_scv) (Memref.whole main_v56_0_scv) (Memref.whole main_v56_1_scv) f2 f3 ft f5 (shr (coordsV c s)) (shr (coordsV c s)) (shr (coordsV c s)) (shr (coordsV c s)) f f' := by
  rw [out_split3, item_split3, deal_tiles (f := f2), deal_tiles (f := f3), deal_tiles (f := ft), deal_tiles (f := f5)]
  unfold opnds
  exact (tiles_six _ _ _ _ _ _).symm

theorem st3 (d : Dev nD) (f : Buf (Elt F) (hb d main_v56_0)) (f' : Buf (Elt F) (hb d main_v56_1)) :
    iprop((hb d main_v54 ↦{fullShare} cs.uh 3 d) ∗ (hb d main_v55 ↦{fullShare} cs.nd 3 d) ∗ (hb d main_arg3 ↦{fullShare} cs.tab d)
        ∗ (hb d main_arg4 ↦{fullShare} cs.itab d) ∗ (hb d main_v56_0 ↦{fullShare} f) ∗ (hb d main_v56_1 ↦{fullShare} f'))
      ⊢ (bigSep Finset.univ fun c : Fin ((K (F := F)).nCore 3) => (P cs).st 3 d c : sProp 𝕄) := by
  rw [show (bigSep Finset.univ fun c : Fin ((K (F := F)).nCore 3) => (P cs).st 3 d c : sProp 𝕄)
    = bigSep Finset.univ fun c : Fin ((K (F := F)).nCore 3) => bigSep Finset.univ fun s : Fin ((K (F := F)).nSub 3) => go3 cs d c s from rfl]
  refine (Entails.of_eq (opnds_split3 d _ _ _ _ f f')).trans (bigSep_mono fun c _ => bigSep_mono fun s _ => ?_)
  unfold go3
  exact goP_of _ _ _

theorem dn3 (d : Dev nD) :
    (bigSep Finset.univ fun c : Fin ((K (F := F)).nCore 3) => (P cs).dn 3 d c : sProp 𝕄)
      ⊢ iprop((hb d main_v54 ↦{fullShare} cs.uh 3 d) ∗ (hb d main_v55 ↦{fullShare} cs.nd 3 d) ∗ (hb d main_arg3 ↦{fullShare} cs.tab d)
        ∗ (hb d main_arg4 ↦{fullShare} cs.itab d) ∗ (hb d main_v56_0 ↦{fullShare} outRows (cs.uh 3 d) (cs.tab d))
        ∗ (hb d main_v56_1 ↦{fullShare} itemRows (cs.nd 3 d) (cs.itab d))) := by
  rw [show (bigSep Finset.univ fun c : Fin ((K (F := F)).nCore 3) => (P cs).dn 3 d c : sProp 𝕄)
    = bigSep Finset.univ fun c : Fin ((K (F := F)).nCore 3) => bigSep Finset.univ fun s : Fin ((K (F := F)).nSub 3) => td3 cs d c s from rfl]
  refine BI.Entails.trans (bigSep_mono fun c _ => bigSep_mono fun s _ => ?_) (Entails.of_eq (opnds_split3 d (cs.uh 3 d) (cs.nd 3 d) (cs.tab d) (cs.itab d) _ _).symm)
  unfold td3 tdP
  exact BI.Entails.refl _

end Cert.Proof
-- ==== Proof.Ops.lean ====
/-
  The program's host operations, in the stretches its calls leave, and what each stretch leaves alone.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

abbrev pre0 : List (HloOp τ sig (Elt F)) :=
  [ StableHlo.reshape main_arg1 main_v0 (rfl : (.i32 : EltTy) = .i32) shapeCasts_S1024x200_S1x204800,
    StableHlo.unary main_arg0 main_v1 ((extractStridedSlice S256x200 ![0, 0] · slices_S1024x200_S256x200_0_0) : (⟨S1024x200, .i32⟩ : BufTy).Contents (Elt F) → (⟨S256x200, .i32⟩ : BufTy).Contents (Elt F)),
    StableHlo.unary main_arg2 main_v2 ((extractStridedSlice S256 ![0] · slices_S1024_S256_0) : (⟨S1024, .i32⟩ : BufTy).Contents (Elt F) → (⟨S256, .i32⟩ : BufTy).Contents (Elt F)),
    StableHlo.reshape main_v1 main_v3 (rfl : (.i32 : EltTy) = .i32) shapeCasts_S256x200_S32x25x64,
    StableHlo.reshape main_v2 main_v4 (rfl : (.i32 : EltTy) = .i32) shapeCasts_S256_S4x1x64 ]
abbrev pre0W : List (Ref sig .tc) := [main_v0, main_v1, main_v2, main_v3, main_v4]
theorem pre0_sub : ∀ op ∈ (pre0 (F := F)), op.bufs ⊆ StableHlo.tcRefs τ sig :=
  List.forall_iff_forall_mem.mp (show List.Forall _ (pre0 (F := F)) from ⟨StableHlo.reshape_bufs_sub .., StableHlo.unary_bufs_sub .., StableHlo.unary_bufs_sub .., StableHlo.reshape_bufs_sub .., StableHlo.reshape_bufs_sub ..⟩)
theorem pre0_fresh : ∀ op ∈ (pre0 (F := F)), op.fresh = ∅ :=
  List.forall_iff_forall_mem.mp (StableHlo.forall_fresh_of_map rfl)
theorem pre0_keep (V : Valuation τ sig (Elt F)) (r : Ref sig .tc) (hr : r ∉ pre0W) : StableHlo.after pre0 V (Proc.devRef .tc r) = V (Proc.devRef .tc r) :=
  StableHlo.after_of_writes_sub pre0 V (StableHlo.forall_writes_sub_of_map rfl) hr

abbrev mid0 : List (HloOp τ sig (Elt F)) :=
  [ StableHlo.unary main_v0 main_v6 ((extractStridedSlice S1x51200 ![0, 0] · slices_S1x204800_S1x51200_0_0) : (⟨S1x204800, .i32⟩ : BufTy).Contents (Elt F) → (⟨S1x51200, .i32⟩ : BufTy).Contents (Elt F)),
    StableHlo.reshape main_arg7 main_v7 (rfl : (.f32 : EltTy) = .f32) shapeCasts_S128_S1x128,
    StableHlo.reshape main_arg9 main_v8 (rfl : (.f32 : EltTy) = .f32) shapeCasts_S128_S1x128,
    StableHlo.reshape main_arg11 main_v9 (rfl : (.f32 : EltTy) = .f32) shapeCasts_S128_S1x128,
    StableHlo.reshape main_arg13 main_v10 (rfl : (.f32 : EltTy) = .f32) shapeCasts_S128_S1x128,
    StableHlo.reshape main_arg15 main_v11 (rfl : (.f32 : EltTy) = .f32) shapeCasts_S1_S1x1,
    StableHlo.reshape main_arg7 main_v12 (rfl : (.f32 : EltTy) = .f32) shapeCasts_S128_S1x128,
    StableHlo.reshape main_arg9 main_v13 (rfl : (.f32 : EltTy) = .f32) shapeCasts_S128_S1x128,
    StableHlo.reshape main_arg11 main_v14 (rfl : (.f32 : EltTy) = .f32) shapeCasts_S128_S1x128,
    StableHlo.reshape main_arg13 main_v15 (rfl : (.f32 : EltTy) = .f32) shapeCasts_S128_S1x128,
    StableHlo.reshape main_arg15 main_v16 (rfl : (.f32 : EltTy) = .f32) shapeCasts_S1_S1x1 ]
abbrev mid0W : List (Ref sig .tc) := [main_v6, main_v7, main_v8, main_v9, main_v10, main_v11, main_v12, main_v13, main_v14, main_v15, main_v16]
theorem mid0_sub : ∀ op ∈ (mid0 (F := F)), op.bufs ⊆ StableHlo.tcRefs τ sig :=
  List.forall_iff_forall_mem.mp (show List.Forall _ (mid0 (F := F)) from ⟨StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩)
theorem mid0_fresh : ∀ op ∈ (mid0 (F := F)), op.fresh = ∅ :=
  List.forall_iff_forall_mem.mp (StableHlo.forall_fresh_of_map rfl)
theorem mid0_keep (V : Valuation τ sig (Elt F)) (r : Ref sig .tc) (hr : r ∉ mid0W) : StableHlo.after mid0 V (Proc.devRef .tc r) = V (Proc.devRef .tc r) :=
  StableHlo.after_of_writes_sub mid0 V (StableHlo.forall_writes_sub_of_map rfl) hr

abbrev pre1 : List (HloOp τ sig (Elt F)) :=
  [ StableHlo.unary main_arg0 main_v18 ((extractStridedSlice S256x200 ![256, 0] · slices_S1024x200_S256x200_256_0) : (⟨S1024x200, .i32⟩ : BufTy).Contents (Elt F) → (⟨S256x200, .i32⟩ : BufTy).Contents (Elt F)),
    StableHlo.unary main_arg2 main_v19 ((extractStridedSlice S256 ![256] · slices_S1024_S256_256) : (⟨S1024, .i32⟩ : BufTy).Contents (Elt F) → (⟨S256, .i32⟩ : BufTy).Contents (Elt F)),
    StableHlo.reshape main_v18 main_v20 (rfl : (.i32 : EltTy) = .i32) shapeCasts_S256x200_S32x25x64,
    StableHlo.reshape main_v19 main_v21 (rfl : (.i32 : EltTy) = .i32) shapeCasts_S256_S4x1x64 ]
abbrev pre1W : List (Ref sig .tc) := [main_v18, main_v19, main_v20, main_v21]
theorem pre1_sub : ∀ op ∈ (pre1 (F := F)), op.bufs ⊆ StableHlo.tcRefs τ sig :=
  List.forall_iff_forall_mem.mp (show List.Forall _ (pre1 (F := F)) from ⟨StableHlo.unary_bufs_sub .., StableHlo.unary_bufs_sub .., StableHlo.reshape_bufs_sub .., StableHlo.reshape_bufs_sub ..⟩)
theorem pre1_fresh : ∀ op ∈ (pre1 (F := F)), op.fresh = ∅ :=
  List.forall_iff_forall_mem.mp (StableHlo.forall_fresh_of_map rfl)
theorem pre1_keep (V : Valuation τ sig (Elt F)) (r : Ref sig .tc) (hr : r ∉ pre1W) : StableHlo.after pre1 V (Proc.devRef .tc r) = V (Proc.devRef .tc r) :=
  StableHlo.after_of_writes_sub pre1 V (StableHlo.forall_writes_sub_of_map rfl) hr

abbrev mid1 : List (HloOp τ sig (Elt F)) :=
  [ StableHlo.unary main_v0 main_v23 ((extractStridedSlice S1x51200 ![0, 51200] · slices_S1x204800_S1x51200_0_51200) : (⟨S1x204800, .i32⟩ : BufTy).Contents (Elt F) → (⟨S1x51200, .i32⟩ : BufTy).Contents (Elt F)),
    StableHlo.reshape main_arg7 main_v24 (rfl : (.f32 : EltTy) = .f32) shapeCasts_S128_S1x128,
    StableHlo.reshape main_arg9 main_v25 (rfl : (.f32 : EltTy) = .f32) shapeCasts_S128_S1x128,
    StableHlo.reshape main_arg11 main_v26 (rfl : (.f32 : EltTy) = .f32) shapeCasts_S128_S1x128,
    StableHlo.reshape main_arg13 main_v27 (rfl : (.f32 : EltTy) = .f32) shapeCasts_S128_S1x128,
    StableHlo.reshape main_arg15 main_v28 (rfl : (.f32 : EltTy) = .f32) shapeCasts_S1_S1x1,
    StableHlo.reshape main_arg7 main_v29 (rfl : (.f32 : EltTy) = .f32) shapeCasts_S128_S1x128,
    StableHlo.reshape main_arg9 main_v30 (rfl : (.f32 : EltTy) = .f32) shapeCasts_S128_S1x128,
    StableHlo.reshape main_arg11 main_v31 (rfl : (.f32 : EltTy) = .f32) shapeCasts_S128_S1x128,
    StableHlo.reshape main_arg13 main_v32 (rfl : (.f32 : EltTy) = .f32) shapeCasts_S128_S1x128,
    StableHlo.reshape main_arg15 main_v33 (rfl : (.f32 : EltTy) = .f32) shapeCasts_S1_S1x1 ]
abbrev mid1W : List (Ref sig .tc) := [main_v23, main_v24, main_v25, main_v26, main_v27, main_v28, main_v29, main_v30, main_v31, main_v32, main_v33]
theorem mid1_sub : ∀ op ∈ (mid1 (F := F)), op.bufs ⊆ StableHlo.tcRefs τ sig :=
  List.forall_iff_forall_mem.mp (show List.Forall _ (mid1 (F := F)) from ⟨StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩)
theorem mid1_fresh : ∀ op ∈ (mid1 (F := F)), op.fresh = ∅ :=
  List.forall_iff_forall_mem.mp (StableHlo.forall_fresh_of_map rfl)
theorem mid1_keep (V : Valuation τ sig (Elt F)) (r : Ref sig .tc) (hr : r ∉ mid1W) : StableHlo.after mid1 V (Proc.devRef .tc r) = V (Proc.devRef .tc r) :=
  StableHlo.after_of_writes_sub mid1 V (StableHlo.forall_writes_sub_of_map rfl) hr

abbrev pre2 : List (HloOp τ sig (Elt F)) :=
  [ StableHlo.unary main_arg0 main_v35 ((extractStridedSlice S256x200 ![512, 0] · slices_S1024x200_S256x200_512_0) : (⟨S1024x200, .i32⟩ : BufTy).Contents (Elt F) → (⟨S256x200, .i32⟩ : BufTy).Contents (Elt F)),
    StableHlo.unary main_arg2 main_v36 ((extractStridedSlice S256 ![512] · slices_S1024_S256_512) : (⟨S1024, .i32⟩ : BufTy).Contents (Elt F) → (⟨S256, .i32⟩ : BufTy).Contents (Elt F)),
    StableHlo.reshape main_v35 main_v37 (rfl : (.i32 : EltTy) = .i32) shapeCasts_S256x200_S32x25x64,
    StableHlo.reshape main_v36 main_v38 (rfl : (.i32 : EltTy) = .i32) shapeCasts_S256_S4x1x64 ]
abbrev pre2W : List (Ref sig .tc) := [main_v35, main_v36, main_v37, main_v38]
theorem pre2_sub : ∀ op ∈ (pre2 (F := F)), op.bufs ⊆ StableHlo.tcRefs τ sig :=
  List.forall_iff_forall_mem.mp (show List.Forall _ (pre2 (F := F)) from ⟨StableHlo.unary_bufs_sub .., StableHlo.unary_bufs_sub .., StableHlo.reshape_bufs_sub .., StableHlo.reshape_bufs_sub ..⟩)
theorem pre2_fresh : ∀ op ∈ (pre2 (F := F)), op.fresh = ∅ :=
  List.forall_iff_forall_mem.mp (StableHlo.forall_fresh_of_map rfl)
theorem pre2_keep (V : Valuation τ sig (Elt F)) (r : Ref sig .tc) (hr : r ∉ pre2W) : StableHlo.after pre2 V (Proc.devRef .tc r) = V (Proc.devRef .tc r) :=
  StableHlo.after_of_writes_sub pre2 V (StableHlo.forall_writes_sub_of_map rfl) hr

abbrev mid2 : List (HloOp τ sig (Elt F)) :=
  [ StableHlo.unary main_v0 main_v40 ((extractStridedSlice S1x51200 ![0, 102400] · slices_S1x204800_S1x51200_0_102400) : (⟨S1x204800, .i32⟩ : BufTy).Contents (Elt F) → (⟨S1x51200, .i32⟩ : BufTy).Contents (Elt F)),
    StableHlo.reshape main_arg7 main_v41 (rfl : (.f32 : EltTy) = .f32) shapeCasts_S128_S1x128,
    StableHlo.reshape main_arg9 main_v42 (rfl : (.f32 : EltTy) = .f32) shapeCasts_S128_S1x128,
    StableHlo.reshape main_arg11 main_v43 (rfl : (.f32 : EltTy) = .f32) shapeCasts_S128_S1x128,
    StableHlo.reshape main_arg13 main_v44 (rfl : (.f32 : EltTy) = .f32) shapeCasts_S128_S1x128,
    StableHlo.reshape main_arg15 main_v45 (rfl : (.f32 : EltTy) = .f32) shapeCasts_S1_S1x1,
    StableHlo.reshape main_arg7 main_v46 (rfl : (.f32 : EltTy) = .f32) shapeCasts_S128_S1x128,
    StableHlo.reshape main_arg9 main_v47 (rfl : (.f32 : EltTy) = .f32) shapeCasts_S128_S1x128,
    StableHlo.reshape main_arg11 main_v48 (rfl : (.f32 : EltTy) = .f32) shapeCasts_S128_S1x128,
    StableHlo.reshape main_arg13 main_v49 (rfl : (.f32 : EltTy) = .f32) shapeCasts_S128_S1x128,
    StableHlo.reshape main_arg15 main_v50 (rfl : (.f32 : EltTy) = .f32) shapeCasts_S1_S1x1 ]
abbrev mid2W : List (Ref sig .tc) := [main_v40, main_v41, main_v42, main_v43, main_v44, main_v45, main_v46, main_v47, main_v48, main_v49, main_v50]
theorem mid2_sub : ∀ op ∈ (mid2 (F := F)), op.bufs ⊆ StableHlo.tcRefs τ sig :=
  List.forall_iff_forall_mem.mp (show List.Forall _ (mid2 (F := F)) from ⟨StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩)
theorem mid2_fresh : ∀ op ∈ (mid2 (F := F)), op.fresh = ∅ :=
  List.forall_iff_forall_mem.mp (StableHlo.forall_fresh_of_map rfl)
theorem mid2_keep (V : Valuation τ sig (Elt F)) (r : Ref sig .tc) (hr : r ∉ mid2W) : StableHlo.after mid2 V (Proc.devRef .tc r) = V (Proc.devRef .tc r) :=
  StableHlo.after_of_writes_sub mid2 V (StableHlo.forall_writes_sub_of_map rfl) hr

abbrev pre3 : List (HloOp τ sig (Elt F)) :=
  [ StableHlo.unary main_arg0 main_v52 ((extractStridedSlice S256x200 ![768, 0] · slices_S1024x200_S256x200_768_0) : (⟨S1024x200, .i32⟩ : BufTy).Contents (Elt F) → (⟨S256x200, .i32⟩ : BufTy).Contents (Elt F)),
    StableHlo.unary main_arg2 main_v53 ((extractStridedSlice S256 ![768] · slices_S1024_S256_768) : (⟨S1024, .i32⟩ : BufTy).Contents (Elt F) → (⟨S256, .i32⟩ : BufTy).Contents (Elt F)),
    StableHlo.reshape main_v52 main_v54 (rfl : (.i32 : EltTy) = .i32) shapeCasts_S256x200_S32x25x64,
    StableHlo.reshape main_v53 main_v55 (rfl : (.i32 : EltTy) = .i32) shapeCasts_S256_S4x1x64 ]
abbrev pre3W : List (Ref sig .tc) := [main_v52, main_v53, main_v54, main_v55]
theorem pre3_sub : ∀ op ∈ (pre3 (F := F)), op.bufs ⊆ StableHlo.tcRefs τ sig :=
  List.forall_iff_forall_mem.mp (show List.Forall _ (pre3 (F := F)) from ⟨StableHlo.unary_bufs_sub .., StableHlo.unary_bufs_sub .., StableHlo.reshape_bufs_sub .., StableHlo.reshape_bufs_sub ..⟩)
theorem pre3_fresh : ∀ op ∈ (pre3 (F := F)), op.fresh = ∅ :=
  List.forall_iff_forall_mem.mp (StableHlo.forall_fresh_of_map rfl)
theorem pre3_keep (V : Valuation τ sig (Elt F)) (r : Ref sig .tc) (hr : r ∉ pre3W) : StableHlo.after pre3 V (Proc.devRef .tc r) = V (Proc.devRef .tc r) :=
  StableHlo.after_of_writes_sub pre3 V (StableHlo.forall_writes_sub_of_map rfl) hr

abbrev mid3 : List (HloOp τ sig (Elt F)) :=
  [ StableHlo.unary main_v0 main_v57 ((extractStridedSlice S1x51200 ![0, 153600] · slices_S1x204800_S1x51200_0_153600) : (⟨S1x204800, .i32⟩ : BufTy).Contents (Elt F) → (⟨S1x51200, .i32⟩ : BufTy).Contents (Elt F)),
    StableHlo.reshape main_arg7 main_v58 (rfl : (.f32 : EltTy) = .f32) shapeCasts_S128_S1x128,
    StableHlo.reshape main_arg9 main_v59 (rfl : (.f32 : EltTy) = .f32) shapeCasts_S128_S1x128,
    StableHlo.reshape main_arg11 main_v60 (rfl : (.f32 : EltTy) = .f32) shapeCasts_S128_S1x128,
    StableHlo.reshape main_arg13 main_v61 (rfl : (.f32 : EltTy) = .f32) shapeCasts_S128_S1x128,
    StableHlo.reshape main_arg15 main_v62 (rfl : (.f32 : EltTy) = .f32) shapeCasts_S1_S1x1,
    StableHlo.reshape main_arg7 main_v63 (rfl : (.f32 : EltTy) = .f32) shapeCasts_S128_S1x128,
    StableHlo.reshape main_arg9 main_v64 (rfl : (.f32 : EltTy) = .f32) shapeCasts_S128_S1x128,
    StableHlo.reshape main_arg11 main_v65 (rfl : (.f32 : EltTy) = .f32) shapeCasts_S128_S1x128,
    StableHlo.reshape main_arg13 main_v66 (rfl : (.f32 : EltTy) = .f32) shapeCasts_S128_S1x128,
    StableHlo.reshape main_arg15 main_v67 (rfl : (.f32 : EltTy) = .f32) shapeCasts_S1_S1x1 ]
abbrev mid3W : List (Ref sig .tc) := [main_v57, main_v58, main_v59, main_v60, main_v61, main_v62, main_v63, main_v64, main_v65, main_v66, main_v67]
theorem mid3_sub : ∀ op ∈ (mid3 (F := F)), op.bufs ⊆ StableHlo.tcRefs τ sig :=
  List.forall_iff_forall_mem.mp (show List.Forall _ (mid3 (F := F)) from ⟨StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩)
theorem mid3_fresh : ∀ op ∈ (mid3 (F := F)), op.fresh = ∅ :=
  List.forall_iff_forall_mem.mp (StableHlo.forall_fresh_of_map rfl)
theorem mid3_keep (V : Valuation τ sig (Elt F)) (r : Ref sig .tc) (hr : r ∉ mid3W) : StableHlo.after mid3 V (Proc.devRef .tc r) = V (Proc.devRef .tc r) :=
  StableHlo.after_of_writes_sub mid3 V (StableHlo.forall_writes_sub_of_map rfl) hr

abbrev last : List (HloOp τ sig (Elt F)) :=
  [ StableHlo.nary ![main_v17, main_v34, main_v51, main_v68] main_v69 (fun u => (concatenate S1024x128 0 [⟨S256x128, (u 0 : (⟨S256x128, .f32⟩ : BufTy).Contents (Elt F))⟩, ⟨S256x128, (u 1 : (⟨S256x128, .f32⟩ : BufTy).Contents (Elt F))⟩, ⟨S256x128, (u 2 : (⟨S256x128, .f32⟩ : BufTy).Contents (Elt F))⟩, ⟨S256x128, (u 3 : (⟨S256x128, .f32⟩ : BufTy).Contents (Elt F))⟩] concatenates_S256x128_S256x128_S256x128_S256x128_S1024x128_d0 : (⟨S1024x128, .f32⟩ : BufTy).Contents (Elt F))) ]
abbrev lastW : List (Ref sig .tc) := [main_v69]
theorem last_sub : ∀ op ∈ (last (F := F)), op.bufs ⊆ StableHlo.tcRefs τ sig :=
  List.forall_iff_forall_mem.mp (show List.Forall _ (last (F := F)) from StableHlo.nary_bufs_sub ..)
theorem last_fresh : ∀ op ∈ (last (F := F)), op.fresh = ∅ :=
  List.forall_iff_forall_mem.mp (StableHlo.forall_fresh_of_map rfl)
theorem last_keep (V : Valuation τ sig (Elt F)) (r : Ref sig .tc) (hr : r ∉ lastW) : StableHlo.after last V (Proc.devRef .tc r) = V (Proc.devRef .tc r) :=
  StableHlo.after_of_writes_sub last V (StableHlo.forall_writes_sub_of_map rfl) hr

set_option maxRecDepth 16384 in
set_option maxHeartbeats 4000000 in
/-- The program, its host operations in stretches. -/
theorem main_eq (d : Dev nD) : main (F := F) d = (do
    StableHlo.seq pre0; sc.run d 0; StableHlo.seq mid0; Prog.lift (.customCall (SparseCore.inner (Pipeline.entry 0)) ())
    StableHlo.seq pre1; sc.run d 1; StableHlo.seq mid1; Prog.lift (.customCall (SparseCore.inner (Pipeline.entry 1)) ())
    StableHlo.seq pre2; sc.run d 2; StableHlo.seq mid2; Prog.lift (.customCall (SparseCore.inner (Pipeline.entry 2)) ())
    StableHlo.seq pre3; sc.run d 3; StableHlo.seq mid3; Prog.lift (.customCall (SparseCore.inner (Pipeline.entry 3)) ())
    StableHlo.seq last; pure ⟨⟩) := by
  rfl

end Cert.Proof

end
-- ==== Proof.Chain.lean ====
/-
  The contents of every buffer along the program: after each stretch of host operations, each gather and each dense call.
-/
module

public import proofs.«01_k».proof.Proof.Region
public import proofs.«01_k».proof.Proof.Ops
public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

/-- A reference of the TensorCore as the device's. -/
abbrev rr (r : Ref sig .tc) : DevRef τ sig := Proc.devRef .tc r

/-- The arguments. -/
abbrev argL : List (Ref sig .tc) := [main_arg0, main_arg1, main_arg2, main_arg3, main_arg4, main_arg5, main_arg6, main_arg7, main_arg8, main_arg9, main_arg10, main_arg11, main_arg12, main_arg13, main_arg14, main_arg15]
/-- The arguments, and the rating indices reshaped. -/
abbrev keepL : List (Ref sig .tc) := main_v0 :: argL

/-- What gather 0 leaves, -/
def scUp0 (V : VV F) : VV F :=
  Function.update (Function.update V (rr main_v5_0) (outRows (V (rr main_v3)) (V (rr main_arg3)))) (rr main_v5_1) (itemRows (V (rr main_v4)) (V (rr main_arg4)))
theorem scUp0_keep (V : VV F) (r : Ref sig .tc) (h : r ≠ main_v5_0) (h' : r ≠ main_v5_1) : scUp0 V (rr r) = V (rr r) := by
  unfold scUp0
  rw [Function.update_of_ne (StableHlo.devRef_ne_of_ne h'), Function.update_of_ne (StableHlo.devRef_ne_of_ne h)]
theorem scUp0_out (V : VV F) : scUp0 V (rr main_v5_0) = outRows (V (rr main_v3)) (V (rr main_arg3)) := by
  unfold scUp0
  rw [Function.update_of_ne (StableHlo.devRef_ne_of_ne (by decide)), Function.update_self]
theorem scUp0_item (V : VV F) : scUp0 V (rr main_v5_1) = itemRows (V (rr main_v4)) (V (rr main_arg4)) := by
  unfold scUp0
  rw [Function.update_self]
/-- and what dense call 0 does. -/
def tcUp0 (V : VV F) : VV F := Function.update V (rr main_v17) ((dat1 V ⟨0, by decide⟩).arrAt 14 cfg1.N)
theorem tcUp0_keep (V : VV F) (r : Ref sig .tc) (h : r ≠ main_v17) : tcUp0 V (rr r) = V (rr r) := by
  unfold tcUp0
  rw [Function.update_of_ne (StableHlo.devRef_ne_of_ne h)]

/-- What gather 1 leaves, -/
def scUp1 (V : VV F) : VV F :=
  Function.update (Function.update V (rr main_v22_0) (outRows (V (rr main_v20)) (V (rr main_arg3)))) (rr main_v22_1) (itemRows (V (rr main_v21)) (V (rr main_arg4)))
theorem scUp1_keep (V : VV F) (r : Ref sig .tc) (h : r ≠ main_v22_0) (h' : r ≠ main_v22_1) : scUp1 V (rr r) = V (rr r) := by
  unfold scUp1
  rw [Function.update_of_ne (StableHlo.devRef_ne_of_ne h'), Function.update_of_ne (StableHlo.devRef_ne_of_ne h)]
theorem scUp1_out (V : VV F) : scUp1 V (rr main_v22_0) = outRows (V (rr main_v20)) (V (rr main_arg3)) := by
  unfold scUp1
  rw [Function.update_of_ne (StableHlo.devRef_ne_of_ne (by decide)), Function.update_self]
theorem scUp1_item (V : VV F) : scUp1 V (rr main_v22_1) = itemRows (V (rr main_v21)) (V (rr main_arg4)) := by
  unfold scUp1
  rw [Function.update_self]
/-- and what dense call 1 does. -/
def tcUp1 (V : VV F) : VV F := Function.update V (rr main_v34) ((dat3 V ⟨0, by decide⟩).arrAt 14 cfg3.N)
theorem tcUp1_keep (V : VV F) (r : Ref sig .tc) (h : r ≠ main_v34) : tcUp1 V (rr r) = V (rr r) := by
  unfold tcUp1
  rw [Function.update_of_ne (StableHlo.devRef_ne_of_ne h)]

/-- What gather 2 leaves, -/
def scUp2 (V : VV F) : VV F :=
  Function.update (Function.update V (rr main_v39_0) (outRows (V (rr main_v37)) (V (rr main_arg3)))) (rr main_v39_1) (itemRows (V (rr main_v38)) (V (rr main_arg4)))
theorem scUp2_keep (V : VV F) (r : Ref sig .tc) (h : r ≠ main_v39_0) (h' : r ≠ main_v39_1) : scUp2 V (rr r) = V (rr r) := by
  unfold scUp2
  rw [Function.update_of_ne (StableHlo.devRef_ne_of_ne h'), Function.update_of_ne (StableHlo.devRef_ne_of_ne h)]
theorem scUp2_out (V : VV F) : scUp2 V (rr main_v39_0) = outRows (V (rr main_v37)) (V (rr main_arg3)) := by
  unfold scUp2
  rw [Function.update_of_ne (StableHlo.devRef_ne_of_ne (by decide)), Function.update_self]
theorem scUp2_item (V : VV F) : scUp2 V (rr main_v39_1) = itemRows (V (rr main_v38)) (V (rr main_arg4)) := by
  unfold scUp2
  rw [Function.update_self]
/-- and what dense call 2 does. -/
def tcUp2 (V : VV F) : VV F := Function.update V (rr main_v51) ((dat5 V ⟨0, by decide⟩).arrAt 14 cfg5.N)
theorem tcUp2_keep (V : VV F) (r : Ref sig .tc) (h : r ≠ main_v51) : tcUp2 V (rr r) = V (rr r) := by
  unfold tcUp2
  rw [Function.update_of_ne (StableHlo.devRef_ne_of_ne h)]

/-- What gather 3 leaves, -/
def scUp3 (V : VV F) : VV F :=
  Function.update (Function.update V (rr main_v56_0) (outRows (V (rr main_v54)) (V (rr main_arg3)))) (rr main_v56_1) (itemRows (V (rr main_v55)) (V (rr main_arg4)))
theorem scUp3_keep (V : VV F) (r : Ref sig .tc) (h : r ≠ main_v56_0) (h' : r ≠ main_v56_1) : scUp3 V (rr r) = V (rr r) := by
  unfold scUp3
  rw [Function.update_of_ne (StableHlo.devRef_ne_of_ne h'), Function.update_of_ne (StableHlo.devRef_ne_of_ne h)]
theorem scUp3_out (V : VV F) : scUp3 V (rr main_v56_0) = outRows (V (rr main_v54)) (V (rr main_arg3)) := by
  unfold scUp3
  rw [Function.update_of_ne (StableHlo.devRef_ne_of_ne (by decide)), Function.update_self]
theorem scUp3_item (V : VV F) : scUp3 V (rr main_v56_1) = itemRows (V (rr main_v55)) (V (rr main_arg4)) := by
  unfold scUp3
  rw [Function.update_self]
/-- and what dense call 3 does. -/
def tcUp3 (V : VV F) : VV F := Function.update V (rr main_v68) ((dat7 V ⟨0, by decide⟩).arrAt 14 cfg7.N)
theorem tcUp3_keep (V : VV F) (r : Ref sig .tc) (h : r ≠ main_v68) : tcUp3 V (rr r) = V (rr r) := by
  unfold tcUp3
  rw [Function.update_of_ne (StableHlo.devRef_ne_of_ne h)]

variable (m : (ℓ : Loc nD τ sig) → Buf (Elt F) ℓ) (d : Dev nD)

def A0 : VV F := StableHlo.after pre0 (StableHlo.launchContents m d)
def B0 : VV F := scUp0 (A0 m d)
def C0 : VV F := StableHlo.after mid0 (B0 m d)
def D0 : VV F := tcUp0 (C0 m d)
def A1 : VV F := StableHlo.after pre1 (D0 m d)
def B1 : VV F := scUp1 (A1 m d)
def C1 : VV F := StableHlo.after mid1 (B1 m d)
def D1 : VV F := tcUp1 (C1 m d)
def A2 : VV F := StableHlo.after pre2 (D1 m d)
def B2 : VV F := scUp2 (A2 m d)
def C2 : VV F := StableHlo.after mid2 (B2 m d)
def D2 : VV F := tcUp2 (C2 m d)
def A3 : VV F := StableHlo.after pre3 (D2 m d)
def B3 : VV F := scUp3 (A3 m d)
def C3 : VV F := StableHlo.after mid3 (B3 m d)
def D3 : VV F := tcUp3 (C3 m d)
/-- The contents at the end. -/
def Zf : VV F := StableHlo.after last (D3 m d)

theorem A0_arg (r : Ref sig .tc) (h : r ∈ argL) : A0 m d (rr r) = m (d, rr r) :=
  pre0_keep _ r ((by decide : ∀ r ∈ argL, r ∉ pre0W) r h)
theorem B0_keep (r : Ref sig .tc) (h : r ∈ keepL) : B0 m d (rr r) = A0 m d (rr r) :=
  (scUp0_keep _ r ((by decide : ∀ r ∈ keepL, r ≠ main_v5_0) r h) ((by decide : ∀ r ∈ keepL, r ≠ main_v5_1) r h))
theorem C0_keep (r : Ref sig .tc) (h : r ∈ keepL) : C0 m d (rr r) = A0 m d (rr r) :=
  (mid0_keep _ r ((by decide : ∀ r ∈ keepL, r ∉ mid0W) r h)).trans (B0_keep m d r h)
theorem D0_keep (r : Ref sig .tc) (h : r ∈ keepL) : D0 m d (rr r) = A0 m d (rr r) :=
  (tcUp0_keep _ r ((by decide : ∀ r ∈ keepL, r ≠ main_v17) r h)).trans (C0_keep m d r h)
theorem A1_keep (r : Ref sig .tc) (h : r ∈ keepL) : A1 m d (rr r) = A0 m d (rr r) :=
  (pre1_keep _ r ((by decide : ∀ r ∈ keepL, r ∉ pre1W) r h)).trans (D0_keep m d r h)
theorem B1_keep (r : Ref sig .tc) (h : r ∈ keepL) : B1 m d (rr r) = A0 m d (rr r) :=
  (scUp1_keep _ r ((by decide : ∀ r ∈ keepL, r ≠ main_v22_0) r h) ((by decide : ∀ r ∈ keepL, r ≠ main_v22_1) r h)).trans (A1_keep m d r h)
theorem C1_keep (r : Ref sig .tc) (h : r ∈ keepL) : C1 m d (rr r) = A0 m d (rr r) :=
  (mid1_keep _ r ((by decide : ∀ r ∈ keepL, r ∉ mid1W) r h)).trans (B1_keep m d r h)
theorem D1_keep (r : Ref sig .tc) (h : r ∈ keepL) : D1 m d (rr r) = A0 m d (rr r) :=
  (tcUp1_keep _ r ((by decide : ∀ r ∈ keepL, r ≠ main_v34) r h)).trans (C1_keep m d r h)
theorem A2_keep (r : Ref sig .tc) (h : r ∈ keepL) : A2 m d (rr r) = A0 m d (rr r) :=
  (pre2_keep _ r ((by decide : ∀ r ∈ keepL, r ∉ pre2W) r h)).trans (D1_keep m d r h)
theorem B2_keep (r : Ref sig .tc) (h : r ∈ keepL) : B2 m d (rr r) = A0 m d (rr r) :=
  (scUp2_keep _ r ((by decide : ∀ r ∈ keepL, r ≠ main_v39_0) r h) ((by decide : ∀ r ∈ keepL, r ≠ main_v39_1) r h)).trans (A2_keep m d r h)
theorem C2_keep (r : Ref sig .tc) (h : r ∈ keepL) : C2 m d (rr r) = A0 m d (rr r) :=
  (mid2_keep _ r ((by decide : ∀ r ∈ keepL, r ∉ mid2W) r h)).trans (B2_keep m d r h)
theorem D2_keep (r : Ref sig .tc) (h : r ∈ keepL) : D2 m d (rr r) = A0 m d (rr r) :=
  (tcUp2_keep _ r ((by decide : ∀ r ∈ keepL, r ≠ main_v51) r h)).trans (C2_keep m d r h)
theorem A3_keep (r : Ref sig .tc) (h : r ∈ keepL) : A3 m d (rr r) = A0 m d (rr r) :=
  (pre3_keep _ r ((by decide : ∀ r ∈ keepL, r ∉ pre3W) r h)).trans (D2_keep m d r h)
theorem B3_keep (r : Ref sig .tc) (h : r ∈ keepL) : B3 m d (rr r) = A0 m d (rr r) :=
  (scUp3_keep _ r ((by decide : ∀ r ∈ keepL, r ≠ main_v56_0) r h) ((by decide : ∀ r ∈ keepL, r ≠ main_v56_1) r h)).trans (A3_keep m d r h)
theorem C3_keep (r : Ref sig .tc) (h : r ∈ keepL) : C3 m d (rr r) = A0 m d (rr r) :=
  (mid3_keep _ r ((by decide : ∀ r ∈ keepL, r ∉ mid3W) r h)).trans (B3_keep m d r h)
theorem D3_keep (r : Ref sig .tc) (h : r ∈ keepL) : D3 m d (rr r) = A0 m d (rr r) :=
  (tcUp3_keep _ r ((by decide : ∀ r ∈ keepL, r ≠ main_v68) r h)).trans (C3_keep m d r h)
theorem Zf_arg (r : Ref sig .tc) (h : r ∈ argL) : Zf m d (rr r) = m (d, rr r) :=
  (last_keep _ r ((by decide : ∀ r ∈ argL, r ∉ lastW) r h)).trans ((D3_keep m d r (List.mem_cons_of_mem _ h)).trans (A0_arg m d r h))

theorem pre0_uh (V : VV F) : StableHlo.after pre0 V (rr main_v3)
    = shapeCast S32x25x64 (extractStridedSlice S256x200 ![0, 0] (V (rr main_arg0)) slices_S1024x200_S256x200_0_0) shapeCasts_S256x200_S32x25x64 := by
  after_results_simp; rfl
theorem pre0_nd (V : VV F) : StableHlo.after pre0 V (rr main_v4)
    = shapeCast S4x1x64 (extractStridedSlice S256 ![0] (V (rr main_arg2)) slices_S1024_S256_0) shapeCasts_S256_S4x1x64 := by
  after_results_simp; rfl
theorem pre1_uh (V : VV F) : StableHlo.after pre1 V (rr main_v20)
    = shapeCast S32x25x64 (extractStridedSlice S256x200 ![256, 0] (V (rr main_arg0)) slices_S1024x200_S256x200_256_0) shapeCasts_S256x200_S32x25x64 := by
  after_results_simp; rfl
theorem pre1_nd (V : VV F) : StableHlo.after pre1 V (rr main_v21)
    = shapeCast S4x1x64 (extractStridedSlice S256 ![256] (V (rr main_arg2)) slices_S1024_S256_256) shapeCasts_S256_S4x1x64 := by
  after_results_simp; rfl
theorem pre2_uh (V : VV F) : StableHlo.after pre2 V (rr main_v37)
    = shapeCast S32x25x64 (extractStridedSlice S256x200 ![512, 0] (V (rr main_arg0)) slices_S1024x200_S256x200_512_0) shapeCasts_S256x200_S32x25x64 := by
  after_results_simp; rfl
theorem pre2_nd (V : VV F) : StableHlo.after pre2 V (rr main_v38)
    = shapeCast S4x1x64 (extractStridedSlice S256 ![512] (V (rr main_arg2)) slices_S1024_S256_512) shapeCasts_S256_S4x1x64 := by
  after_results_simp; rfl
theorem pre3_uh (V : VV F) : StableHlo.after pre3 V (rr main_v54)
    = shapeCast S32x25x64 (extractStridedSlice S256x200 ![768, 0] (V (rr main_arg0)) slices_S1024x200_S256x200_768_0) shapeCasts_S256x200_S32x25x64 := by
  after_results_simp; rfl
theorem pre3_nd (V : VV F) : StableHlo.after pre3 V (rr main_v55)
    = shapeCast S4x1x64 (extractStridedSlice S256 ![768] (V (rr main_arg2)) slices_S1024_S256_768) shapeCasts_S256_S4x1x64 := by
  after_results_simp; rfl

/-- The lists of the four gathers and their tables. -/
def csOf : Lists F where
  uh q d := match q with
    | 0 => A0 m d (rr main_v3)
    | 1 => A1 m d (rr main_v20)
    | 2 => A2 m d (rr main_v37)
    | 3 => A3 m d (rr main_v54)
  nd q d := match q with
    | 0 => A0 m d (rr main_v4)
    | 1 => A1 m d (rr main_v21)
    | 2 => A2 m d (rr main_v38)
    | 3 => A3 m d (rr main_v55)
  tab d := m (d, rr main_arg3)
  itab d := m (d, rr main_arg4)

/-- The precondition's part on the gathers: every index names a row. -/
structure InRange (m : (ℓ : Loc nD τ sig) → Buf (Elt F) ℓ) : Prop where
  user : ∀ (d : Dev nD) (x : S1024x200.Idx), (show BitVec 32 from (m (d, rr main_arg0) : S1024x200.Idx → BitVec 32) x).toNat < 100000
  node : ∀ (d : Dev nD) (x : S1024.Idx), (show BitVec 32 from (m (d, rr main_arg2) : S1024.Idx → BitVec 32) x).toNat < 100000

theorem shapeCast_lt {s t : Shape} (x : s.Idx → BitVec 32) (n : ℕ) (hx : ∀ i, (x i).toNat < n) (h : s.ShapeCasts t) (i : t.Idx) :
    (shapeCast t x h i).toNat < n := hx _
theorem slice_lt {s : Shape} (t : Shape) (o : Fin s.rank → ℕ) (x : s.Idx → BitVec 32) (n : ℕ) (hx : ∀ i, (x i).toNat < n) (h : s.Slices o t) (i : t.Idx) :
    (extractStridedSlice t o x h i).toNat < n := hx _

theorem uh_lt0 (h : InRange m) (x : S32x25x64.Idx) : (show BitVec 32 from StableHlo.after pre0 (StableHlo.launchContents m d) (rr main_v3) x).toNat < 100000 := by
  rw [pre0_uh]
  exact shapeCast_lt _ _ (slice_lt _ _ _ _ (h.user d) _) _ _

theorem nd_lt0 (h : InRange m) (x : S4x1x64.Idx) : (show BitVec 32 from StableHlo.after pre0 (StableHlo.launchContents m d) (rr main_v4) x).toNat < 100000 := by
  rw [pre0_nd]
  exact shapeCast_lt _ _ (slice_lt _ _ _ _ (h.node d) _) _ _

theorem uh_lt1 (h : InRange m) (x : S32x25x64.Idx) : (show BitVec 32 from StableHlo.after pre1 (D0 m d) (rr main_v20) x).toNat < 100000 := by
  rw [pre1_uh]
  rw [(D0_keep m d main_arg0 (by decide)).trans (A0_arg m d main_arg0 (by decide))]
  exact shapeCast_lt _ _ (slice_lt _ _ _ _ (h.user d) _) _ _

theorem nd_lt1 (h : InRange m) (x : S4x1x64.Idx) : (show BitVec 32 from StableHlo.after pre1 (D0 m d) (rr main_v21) x).toNat < 100000 := by
  rw [pre1_nd]
  rw [(D0_keep m d main_arg2 (by decide)).trans (A0_arg m d main_arg2 (by decide))]
  exact shapeCast_lt _ _ (slice_lt _ _ _ _ (h.node d) _) _ _

theorem uh_lt2 (h : InRange m) (x : S32x25x64.Idx) : (show BitVec 32 from StableHlo.after pre2 (D1 m d) (rr main_v37) x).toNat < 100000 := by
  rw [pre2_uh]
  rw [(D1_keep m d main_arg0 (by decide)).trans (A0_arg m d main_arg0 (by decide))]
  exact shapeCast_lt _ _ (slice_lt _ _ _ _ (h.user d) _) _ _

theorem nd_lt2 (h : InRange m) (x : S4x1x64.Idx) : (show BitVec 32 from StableHlo.after pre2 (D1 m d) (rr main_v38) x).toNat < 100000 := by
  rw [pre2_nd]
  rw [(D1_keep m d main_arg2 (by decide)).trans (A0_arg m d main_arg2 (by decide))]
  exact shapeCast_lt _ _ (slice_lt _ _ _ _ (h.node d) _) _ _

theorem uh_lt3 (h : InRange m) (x : S32x25x64.Idx) : (show BitVec 32 from StableHlo.after pre3 (D2 m d) (rr main_v54) x).toNat < 100000 := by
  rw [pre3_uh]
  rw [(D2_keep m d main_arg0 (by decide)).trans (A0_arg m d main_arg0 (by decide))]
  exact shapeCast_lt _ _ (slice_lt _ _ _ _ (h.user d) _) _ _

theorem nd_lt3 (h : InRange m) (x : S4x1x64.Idx) : (show BitVec 32 from StableHlo.after pre3 (D2 m d) (rr main_v55) x).toNat < 100000 := by
  rw [pre3_nd]
  rw [(D2_keep m d main_arg2 (by decide)).trans (A0_arg m d main_arg2 (by decide))]
  exact shapeCast_lt _ _ (slice_lt _ _ _ _ (h.node d) _) _ _

theorem csOf_uh0 : (csOf m).uh 0 d = A0 m d (rr main_v3) := rfl

theorem uh_ok0 (h : InRange m) (x : S32x25x64.Idx) : ((csOf m).uh 0 d x).toNat < 100000 := by
  rw [csOf_uh0]
  exact uh_lt0 m d h x

theorem csOf_nd0 : (csOf m).nd 0 d = A0 m d (rr main_v4) := rfl

theorem nd_ok0 (h : InRange m) (x : S4x1x64.Idx) : ((csOf m).nd 0 d x).toNat < 100000 := by
  rw [csOf_nd0]
  exact nd_lt0 m d h x

theorem csOf_uh1 : (csOf m).uh 1 d = A1 m d (rr main_v20) := rfl

theorem uh_ok1 (h : InRange m) (x : S32x25x64.Idx) : ((csOf m).uh 1 d x).toNat < 100000 := by
  rw [csOf_uh1]
  exact uh_lt1 m d h x

theorem csOf_nd1 : (csOf m).nd 1 d = A1 m d (rr main_v21) := rfl

theorem nd_ok1 (h : InRange m) (x : S4x1x64.Idx) : ((csOf m).nd 1 d x).toNat < 100000 := by
  rw [csOf_nd1]
  exact nd_lt1 m d h x

theorem csOf_uh2 : (csOf m).uh 2 d = A2 m d (rr main_v37) := rfl

theorem uh_ok2 (h : InRange m) (x : S32x25x64.Idx) : ((csOf m).uh 2 d x).toNat < 100000 := by
  rw [csOf_uh2]
  exact uh_lt2 m d h x

theorem csOf_nd2 : (csOf m).nd 2 d = A2 m d (rr main_v38) := rfl

theorem nd_ok2 (h : InRange m) (x : S4x1x64.Idx) : ((csOf m).nd 2 d x).toNat < 100000 := by
  rw [csOf_nd2]
  exact nd_lt2 m d h x

theorem csOf_uh3 : (csOf m).uh 3 d = A3 m d (rr main_v54) := rfl

theorem uh_ok3 (h : InRange m) (x : S32x25x64.Idx) : ((csOf m).uh 3 d x).toNat < 100000 := by
  rw [csOf_uh3]
  exact uh_lt3 m d h x

theorem csOf_nd3 : (csOf m).nd 3 d = A3 m d (rr main_v55) := rfl

theorem nd_ok3 (h : InRange m) (x : S4x1x64.Idx) : ((csOf m).nd 3 d x).toNat < 100000 := by
  rw [csOf_nd3]
  exact nd_lt3 m d h x

theorem uh_ok (h : InRange m) : ∀ (q : Fin 4) (d : Dev nD) (x : S32x25x64.Idx), ((csOf m).uh q d x).toNat < 100000
  | 0, d, x => uh_ok0 m d h x
  | 1, d, x => uh_ok1 m d h x
  | 2, d, x => uh_ok2 m d h x
  | 3, d, x => uh_ok3 m d h x

theorem nd_ok (h : InRange m) : ∀ (q : Fin 4) (d : Dev nD) (x : S4x1x64.Idx), ((csOf m).nd q d x).toNat < 100000
  | 0, d, x => nd_ok0 m d h x
  | 1, d, x => nd_ok1 m d h x
  | 2, d, x => nd_ok2 m d h x
  | 3, d, x => nd_ok3 m d h x

theorem csOf_ok (h : InRange m) : (csOf m).Ok := ⟨uh_ok m h, nd_ok m h⟩

end Cert.Proof

end
-- ==== Proof.Main.lean ====
/-
  The program run: its calls one after another, every buffer held whole between them.
-/
module

public import proofs.«01_k».proof.Proof.Seg
public import proofs.«01_k».proof.Proof.Split
public import proofs.«01_k».proof.Proof.Chain

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Idealize.ShloMosaic.Tactic

variable {F : FTy → Type} [FloatOps F]

local notation "𝕄" => MM F

open Idealize.ShloMosaic.Pipeline (Dat arrRef arrRefs ucRefs)
open Idealize.ShloMosaic.StableHlo (held)

theorem nDone (c : Dev nD) : c = ⟨0, by decide⟩ := Fin.ext (by have h : c.val < 1 := c.isLt; show c.val = 0; omega)

/-- A dense call changes no array but its output's. -/
theorem tcUp0_arr (V : VV F) (c : Dev nD) (w : Fin 15) : (dat1 V c).arrAt w cfg1.N = tcUp0 V (rr (arrRef spec1 w)) := by
  rw [nDone c]
  match w with
  | ⟨0, _⟩ => exact ((dat1 V ⟨0, by decide⟩).arrAt_in 0 rfl cfg1.N).trans (tcUp0_keep V (arrRef spec1 0) (by decide)).symm
  | ⟨1, _⟩ => exact ((dat1 V ⟨0, by decide⟩).arrAt_in 1 rfl cfg1.N).trans (tcUp0_keep V (arrRef spec1 1) (by decide)).symm
  | ⟨2, _⟩ => exact ((dat1 V ⟨0, by decide⟩).arrAt_in 2 rfl cfg1.N).trans (tcUp0_keep V (arrRef spec1 2) (by decide)).symm
  | ⟨3, _⟩ => exact ((dat1 V ⟨0, by decide⟩).arrAt_in 3 rfl cfg1.N).trans (tcUp0_keep V (arrRef spec1 3) (by decide)).symm
  | ⟨4, _⟩ => exact ((dat1 V ⟨0, by decide⟩).arrAt_in 4 rfl cfg1.N).trans (tcUp0_keep V (arrRef spec1 4) (by decide)).symm
  | ⟨5, _⟩ => exact ((dat1 V ⟨0, by decide⟩).arrAt_in 5 rfl cfg1.N).trans (tcUp0_keep V (arrRef spec1 5) (by decide)).symm
  | ⟨6, _⟩ => exact ((dat1 V ⟨0, by decide⟩).arrAt_in 6 rfl cfg1.N).trans (tcUp0_keep V (arrRef spec1 6) (by decide)).symm
  | ⟨7, _⟩ => exact ((dat1 V ⟨0, by decide⟩).arrAt_in 7 rfl cfg1.N).trans (tcUp0_keep V (arrRef spec1 7) (by decide)).symm
  | ⟨8, _⟩ => exact ((dat1 V ⟨0, by decide⟩).arrAt_in 8 rfl cfg1.N).trans (tcUp0_keep V (arrRef spec1 8) (by decide)).symm
  | ⟨9, _⟩ => exact ((dat1 V ⟨0, by decide⟩).arrAt_in 9 rfl cfg1.N).trans (tcUp0_keep V (arrRef spec1 9) (by decide)).symm
  | ⟨10, _⟩ => exact ((dat1 V ⟨0, by decide⟩).arrAt_in 10 rfl cfg1.N).trans (tcUp0_keep V (arrRef spec1 10) (by decide)).symm
  | ⟨11, _⟩ => exact ((dat1 V ⟨0, by decide⟩).arrAt_in 11 rfl cfg1.N).trans (tcUp0_keep V (arrRef spec1 11) (by decide)).symm
  | ⟨12, _⟩ => exact ((dat1 V ⟨0, by decide⟩).arrAt_in 12 rfl cfg1.N).trans (tcUp0_keep V (arrRef spec1 12) (by decide)).symm
  | ⟨13, _⟩ => exact ((dat1 V ⟨0, by decide⟩).arrAt_in 13 rfl cfg1.N).trans (tcUp0_keep V (arrRef spec1 13) (by decide)).symm
  | ⟨14, _⟩ => exact (Function.update_self (rr main_v17) _ V).symm

theorem tcUp1_arr (V : VV F) (c : Dev nD) (w : Fin 15) : (dat3 V c).arrAt w cfg3.N = tcUp1 V (rr (arrRef spec3 w)) := by
  rw [nDone c]
  match w with
  | ⟨0, _⟩ => exact ((dat3 V ⟨0, by decide⟩).arrAt_in 0 rfl cfg3.N).trans (tcUp1_keep V (arrRef spec3 0) (by decide)).symm
  | ⟨1, _⟩ => exact ((dat3 V ⟨0, by decide⟩).arrAt_in 1 rfl cfg3.N).trans (tcUp1_keep V (arrRef spec3 1) (by decide)).symm
  | ⟨2, _⟩ => exact ((dat3 V ⟨0, by decide⟩).arrAt_in 2 rfl cfg3.N).trans (tcUp1_keep V (arrRef spec3 2) (by decide)).symm
  | ⟨3, _⟩ => exact ((dat3 V ⟨0, by decide⟩).arrAt_in 3 rfl cfg3.N).trans (tcUp1_keep V (arrRef spec3 3) (by decide)).symm
  | ⟨4, _⟩ => exact ((dat3 V ⟨0, by decide⟩).arrAt_in 4 rfl cfg3.N).trans (tcUp1_keep V (arrRef spec3 4) (by decide)).symm
  | ⟨5, _⟩ => exact ((dat3 V ⟨0, by decide⟩).arrAt_in 5 rfl cfg3.N).trans (tcUp1_keep V (arrRef spec3 5) (by decide)).symm
  | ⟨6, _⟩ => exact ((dat3 V ⟨0, by decide⟩).arrAt_in 6 rfl cfg3.N).trans (tcUp1_keep V (arrRef spec3 6) (by decide)).symm
  | ⟨7, _⟩ => exact ((dat3 V ⟨0, by decide⟩).arrAt_in 7 rfl cfg3.N).trans (tcUp1_keep V (arrRef spec3 7) (by decide)).symm
  | ⟨8, _⟩ => exact ((dat3 V ⟨0, by decide⟩).arrAt_in 8 rfl cfg3.N).trans (tcUp1_keep V (arrRef spec3 8) (by decide)).symm
  | ⟨9, _⟩ => exact ((dat3 V ⟨0, by decide⟩).arrAt_in 9 rfl cfg3.N).trans (tcUp1_keep V (arrRef spec3 9) (by decide)).symm
  | ⟨10, _⟩ => exact ((dat3 V ⟨0, by decide⟩).arrAt_in 10 rfl cfg3.N).trans (tcUp1_keep V (arrRef spec3 10) (by decide)).symm
  | ⟨11, _⟩ => exact ((dat3 V ⟨0, by decide⟩).arrAt_in 11 rfl cfg3.N).trans (tcUp1_keep V (arrRef spec3 11) (by decide)).symm
  | ⟨12, _⟩ => exact ((dat3 V ⟨0, by decide⟩).arrAt_in 12 rfl cfg3.N).trans (tcUp1_keep V (arrRef spec3 12) (by decide)).symm
  | ⟨13, _⟩ => exact ((dat3 V ⟨0, by decide⟩).arrAt_in 13 rfl cfg3.N).trans (tcUp1_keep V (arrRef spec3 13) (by decide)).symm
  | ⟨14, _⟩ => exact (Function.update_self (rr main_v34) _ V).symm

theorem tcUp2_arr (V : VV F) (c : Dev nD) (w : Fin 15) : (dat5 V c).arrAt w cfg5.N = tcUp2 V (rr (arrRef spec5 w)) := by
  rw [nDone c]
  match w with
  | ⟨0, _⟩ => exact ((dat5 V ⟨0, by decide⟩).arrAt_in 0 rfl cfg5.N).trans (tcUp2_keep V (arrRef spec5 0) (by decide)).symm
  | ⟨1, _⟩ => exact ((dat5 V ⟨0, by decide⟩).arrAt_in 1 rfl cfg5.N).trans (tcUp2_keep V (arrRef spec5 1) (by decide)).symm
  | ⟨2, _⟩ => exact ((dat5 V ⟨0, by decide⟩).arrAt_in 2 rfl cfg5.N).trans (tcUp2_keep V (arrRef spec5 2) (by decide)).symm
  | ⟨3, _⟩ => exact ((dat5 V ⟨0, by decide⟩).arrAt_in 3 rfl cfg5.N).trans (tcUp2_keep V (arrRef spec5 3) (by decide)).symm
  | ⟨4, _⟩ => exact ((dat5 V ⟨0, by decide⟩).arrAt_in 4 rfl cfg5.N).trans (tcUp2_keep V (arrRef spec5 4) (by decide)).symm
  | ⟨5, _⟩ => exact ((dat5 V ⟨0, by decide⟩).arrAt_in 5 rfl cfg5.N).trans (tcUp2_keep V (arrRef spec5 5) (by decide)).symm
  | ⟨6, _⟩ => exact ((dat5 V ⟨0, by decide⟩).arrAt_in 6 rfl cfg5.N).trans (tcUp2_keep V (arrRef spec5 6) (by decide)).symm
  | ⟨7, _⟩ => exact ((dat5 V ⟨0, by decide⟩).arrAt_in 7 rfl cfg5.N).trans (tcUp2_keep V (arrRef spec5 7) (by decide)).symm
  | ⟨8, _⟩ => exact ((dat5 V ⟨0, by decide⟩).arrAt_in 8 rfl cfg5.N).trans (tcUp2_keep V (arrRef spec5 8) (by decide)).symm
  | ⟨9, _⟩ => exact ((dat5 V ⟨0, by decide⟩).arrAt_in 9 rfl cfg5.N).trans (tcUp2_keep V (arrRef spec5 9) (by decide)).symm
  | ⟨10, _⟩ => exact ((dat5 V ⟨0, by decide⟩).arrAt_in 10 rfl cfg5.N).trans (tcUp2_keep V (arrRef spec5 10) (by decide)).symm
  | ⟨11, _⟩ => exact ((dat5 V ⟨0, by decide⟩).arrAt_in 11 rfl cfg5.N).trans (tcUp2_keep V (arrRef spec5 11) (by decide)).symm
  | ⟨12, _⟩ => exact ((dat5 V ⟨0, by decide⟩).arrAt_in 12 rfl cfg5.N).trans (tcUp2_keep V (arrRef spec5 12) (by decide)).symm
  | ⟨13, _⟩ => exact ((dat5 V ⟨0, by decide⟩).arrAt_in 13 rfl cfg5.N).trans (tcUp2_keep V (arrRef spec5 13) (by decide)).symm
  | ⟨14, _⟩ => exact (Function.update_self (rr main_v51) _ V).symm

theorem tcUp3_arr (V : VV F) (c : Dev nD) (w : Fin 15) : (dat7 V c).arrAt w cfg7.N = tcUp3 V (rr (arrRef spec7 w)) := by
  rw [nDone c]
  match w with
  | ⟨0, _⟩ => exact ((dat7 V ⟨0, by decide⟩).arrAt_in 0 rfl cfg7.N).trans (tcUp3_keep V (arrRef spec7 0) (by decide)).symm
  | ⟨1, _⟩ => exact ((dat7 V ⟨0, by decide⟩).arrAt_in 1 rfl cfg7.N).trans (tcUp3_keep V (arrRef spec7 1) (by decide)).symm
  | ⟨2, _⟩ => exact ((dat7 V ⟨0, by decide⟩).arrAt_in 2 rfl cfg7.N).trans (tcUp3_keep V (arrRef spec7 2) (by decide)).symm
  | ⟨3, _⟩ => exact ((dat7 V ⟨0, by decide⟩).arrAt_in 3 rfl cfg7.N).trans (tcUp3_keep V (arrRef spec7 3) (by decide)).symm
  | ⟨4, _⟩ => exact ((dat7 V ⟨0, by decide⟩).arrAt_in 4 rfl cfg7.N).trans (tcUp3_keep V (arrRef spec7 4) (by decide)).symm
  | ⟨5, _⟩ => exact ((dat7 V ⟨0, by decide⟩).arrAt_in 5 rfl cfg7.N).trans (tcUp3_keep V (arrRef spec7 5) (by decide)).symm
  | ⟨6, _⟩ => exact ((dat7 V ⟨0, by decide⟩).arrAt_in 6 rfl cfg7.N).trans (tcUp3_keep V (arrRef spec7 6) (by decide)).symm
  | ⟨7, _⟩ => exact ((dat7 V ⟨0, by decide⟩).arrAt_in 7 rfl cfg7.N).trans (tcUp3_keep V (arrRef spec7 7) (by decide)).symm
  | ⟨8, _⟩ => exact ((dat7 V ⟨0, by decide⟩).arrAt_in 8 rfl cfg7.N).trans (tcUp3_keep V (arrRef spec7 8) (by decide)).symm
  | ⟨9, _⟩ => exact ((dat7 V ⟨0, by decide⟩).arrAt_in 9 rfl cfg7.N).trans (tcUp3_keep V (arrRef spec7 9) (by decide)).symm
  | ⟨10, _⟩ => exact ((dat7 V ⟨0, by decide⟩).arrAt_in 10 rfl cfg7.N).trans (tcUp3_keep V (arrRef spec7 10) (by decide)).symm
  | ⟨11, _⟩ => exact ((dat7 V ⟨0, by decide⟩).arrAt_in 11 rfl cfg7.N).trans (tcUp3_keep V (arrRef spec7 11) (by decide)).symm
  | ⟨12, _⟩ => exact ((dat7 V ⟨0, by decide⟩).arrAt_in 12 rfl cfg7.N).trans (tcUp3_keep V (arrRef spec7 12) (by decide)).symm
  | ⟨13, _⟩ => exact ((dat7 V ⟨0, by decide⟩).arrAt_in 13 rfl cfg7.N).trans (tcUp3_keep V (arrRef spec7 13) (by decide)).symm
  | ⟨14, _⟩ => exact (Function.update_self (rr main_v68) _ V).symm

theorem tcSt_owing (d : Dev nD) (n : ℕ) : ((K (F := F)).tcSt EH d n : sProp 𝕄) ⊢ iprop(owing d n ∗ (owing d n -∗ (K (F := F)).tcSt EH d n)) := by
  unfold SparseCore.Cfg.tcSt owing
  iintro ⟨H, R⟩
  isplitl [H]; · iexact H
  iintro H
  isplitl [H]; · iexact H
  iexact R

/-- Six buffers held, one by one. -/
theorem held_six (d : Dev nD) (a b c e f g : Ref sig .tc) (h : [a, b, c, e, f, g].Nodup) (V : VV F) :
    (held (SparseCore.T d : Thread nD τ) {rr a, rr b, rr c, rr e, rr f, rr g} V : sProp 𝕄)
      = iprop((hb d a ↦{fullShare} V (rr a)) ∗ (hb d b ↦{fullShare} V (rr b)) ∗ (hb d c ↦{fullShare} V (rr c))
        ∗ (hb d e ↦{fullShare} V (rr e)) ∗ (hb d f ↦{fullShare} V (rr f)) ∗ (hb d g ↦{fullShare} V (rr g))) := by
  have inj : ∀ x y : Ref sig .tc, rr x = rr y ↔ x = y := fun x y => (Proc.devRef_injective (sig := sig) (.tc : Proc τ)).eq_iff
  simp only [List.nodup_cons, List.mem_cons, List.not_mem_nil, or_false, not_or, not_false_eq_true, List.nodup_nil, and_true] at h
  obtain ⟨⟨ab, ac, ae, af, ag⟩, ⟨bc, be, bf, bg⟩, ⟨ce, cf, cg⟩, ⟨ef, eg⟩, fg⟩ := h
  unfold StableHlo.held
  rw [SparseCore.bigSep_insert' (by simp only [Finset.mem_insert, Finset.mem_singleton, inj, not_or]; exact ⟨ab, ac, ae, af, ag⟩),
    SparseCore.bigSep_insert' (by simp only [Finset.mem_insert, Finset.mem_singleton, inj, not_or]; exact ⟨bc, be, bf, bg⟩),
    SparseCore.bigSep_insert' (by simp only [Finset.mem_insert, Finset.mem_singleton, inj, not_or]; exact ⟨ce, cf, cg⟩),
    SparseCore.bigSep_insert' (by simp only [Finset.mem_insert, Finset.mem_singleton, inj, not_or]; exact ⟨ef, eg⟩),
    SparseCore.bigSep_insert' (by simp only [Finset.mem_singleton, inj]; exact fg), bigSep_singleton]

theorem mem_uc (r : Ref sig .tc) (h : r.isScoped = false) : rr r ∈ ucRefs τ sig :=
  Finset.mem_filter.mpr ⟨StableHlo.devRef_mem_tcRefs _, fun h' => Bool.false_ne_true (h.symm.trans h')⟩

theorem six_sub (a b c e f g : Ref sig .tc) (h : ∀ r ∈ [a, b, c, e, f, g], r.isScoped = false) :
    ({rr a, rr b, rr c, rr e, rr f, rr g} : Finset (DevRef τ sig)) ⊆ ucRefs τ sig := by
  intro x hx
  simp only [Finset.mem_insert, Finset.mem_singleton] at hx
  rcases hx with rfl | rfl | rfl | rfl | rfl | rfl <;> exact mem_uc _ (h _ (by simp))

/-- Gather 0, every buffer held. -/
theorem sc_step0 (cs : Lists F) (V : VV F) (κ : GSem nD τ sig → ℕ) (d : Dev nD) (hu : V (rr main_v3) = cs.uh 0 d) (hn : V (rr main_v4) = cs.nd 0 d)
    (ht : V (rr main_arg3) = cs.tab d) (hi : V (rr main_arg4) = cs.itab d) (Q : PUnit → sProp 𝕄) :
    iprop((K (F := F)).ctx EH (P cs) κ ∗ (K (F := F)).tcSt EH d 0 ∗ held (SparseCore.T d : Thread nD τ) (ucRefs τ sig) V
        ∗ (iprop((K (F := F)).tcSt EH d 1 ∗ held (SparseCore.T d : Thread nD τ) (ucRefs τ sig) (scUp0 V)) -∗ Q ⟨⟩))
      ⊢ wp frame (wpE ((K (F := F)).defs (D (F := F))) 𝒱 (SparseCore.T d) none) Set.univ ((K (F := F)).run d 0) Q := by
  have hsub := six_sub main_v3 main_v4 main_arg3 main_arg4 main_v5_0 main_v5_1 (by decide)
  have hout : (held (SparseCore.T d : Thread nD τ) (ucRefs τ sig \ {rr main_v3, rr main_v4, rr main_arg3, rr main_arg4, rr main_v5_0, rr main_v5_1}) (scUp0 V) : sProp 𝕄)
      = held (SparseCore.T d : Thread nD τ) (ucRefs τ sig \ {rr main_v3, rr main_v4, rr main_arg3, rr main_arg4, rr main_v5_0, rr main_v5_1}) V := by
    refine StableHlo.held_congr _ fun x hx => ?_
    have hx' := (Finset.mem_sdiff.mp hx).2
    simp only [Finset.mem_insert, Finset.mem_singleton, not_or] at hx'
    unfold scUp0
    rw [Function.update_of_ne hx'.2.2.2.2.2, Function.update_of_ne hx'.2.2.2.2.1]
  rw [StableHlo.held_sub_split _ hsub V, StableHlo.held_sub_split _ hsub (scUp0 V), hout, held_six d main_v3 main_v4 main_arg3 main_arg4 main_v5_0 main_v5_1 (by decide) V,
    held_six d main_v3 main_v4 main_arg3 main_arg4 main_v5_0 main_v5_1 (by decide) (scUp0 V), scUp0_keep V main_v3 (by decide) (by decide), scUp0_keep V main_v4 (by decide) (by decide),
    scUp0_keep V main_arg3 (by decide) (by decide), scUp0_keep V main_arg4 (by decide) (by decide), scUp0_out, scUp0_item, hu, hn, ht, hi]
  iintro ⟨Hctx, Hst, ⟨Hsix, Hrest⟩, Hk⟩
  iapply ((K (F := F)).wp_run (D (F := F)) 𝒱 (EH := EH) (P := P cs) κ d 0) $$ [Hctx Hst Hsix Hrest Hk]
  isplitl [Hctx]; · iexact Hctx
  isplitl [Hst]; · iexact Hst
  isplitl [Hsix]
  · iapply (st0 cs d _ _)
    iexact Hsix
  iintro ⟨Hst, Hdn⟩
  ihave Hsix := (dn0 cs d) $$ Hdn
  iapply Hk
  isplitl [Hst]; · iexact Hst
  isplitl [Hsix]; · iexact Hsix
  iexact Hrest

/-- Gather 1, every buffer held. -/
theorem sc_step1 (cs : Lists F) (V : VV F) (κ : GSem nD τ sig → ℕ) (d : Dev nD) (hu : V (rr main_v20) = cs.uh 1 d) (hn : V (rr main_v21) = cs.nd 1 d)
    (ht : V (rr main_arg3) = cs.tab d) (hi : V (rr main_arg4) = cs.itab d) (Q : PUnit → sProp 𝕄) :
    iprop((K (F := F)).ctx EH (P cs) κ ∗ (K (F := F)).tcSt EH d 1 ∗ held (SparseCore.T d : Thread nD τ) (ucRefs τ sig) V
        ∗ (iprop((K (F := F)).tcSt EH d 2 ∗ held (SparseCore.T d : Thread nD τ) (ucRefs τ sig) (scUp1 V)) -∗ Q ⟨⟩))
      ⊢ wp frame (wpE ((K (F := F)).defs (D (F := F))) 𝒱 (SparseCore.T d) none) Set.univ ((K (F := F)).run d 1) Q := by
  have hsub := six_sub main_v20 main_v21 main_arg3 main_arg4 main_v22_0 main_v22_1 (by decide)
  have hout : (held (SparseCore.T d : Thread nD τ) (ucRefs τ sig \ {rr main_v20, rr main_v21, rr main_arg3, rr main_arg4, rr main_v22_0, rr main_v22_1}) (scUp1 V) : sProp 𝕄)
      = held (SparseCore.T d : Thread nD τ) (ucRefs τ sig \ {rr main_v20, rr main_v21, rr main_arg3, rr main_arg4, rr main_v22_0, rr main_v22_1}) V := by
    refine StableHlo.held_congr _ fun x hx => ?_
    have hx' := (Finset.mem_sdiff.mp hx).2
    simp only [Finset.mem_insert, Finset.mem_singleton, not_or] at hx'
    unfold scUp1
    rw [Function.update_of_ne hx'.2.2.2.2.2, Function.update_of_ne hx'.2.2.2.2.1]
  rw [StableHlo.held_sub_split _ hsub V, StableHlo.held_sub_split _ hsub (scUp1 V), hout, held_six d main_v20 main_v21 main_arg3 main_arg4 main_v22_0 main_v22_1 (by decide) V,
    held_six d main_v20 main_v21 main_arg3 main_arg4 main_v22_0 main_v22_1 (by decide) (scUp1 V), scUp1_keep V main_v20 (by decide) (by decide), scUp1_keep V main_v21 (by decide) (by decide),
    scUp1_keep V main_arg3 (by decide) (by decide), scUp1_keep V main_arg4 (by decide) (by decide), scUp1_out, scUp1_item, hu, hn, ht, hi]
  iintro ⟨Hctx, Hst, ⟨Hsix, Hrest⟩, Hk⟩
  iapply ((K (F := F)).wp_run (D (F := F)) 𝒱 (EH := EH) (P := P cs) κ d 1) $$ [Hctx Hst Hsix Hrest Hk]
  isplitl [Hctx]; · iexact Hctx
  isplitl [Hst]; · iexact Hst
  isplitl [Hsix]
  · iapply (st1 cs d _ _)
    iexact Hsix
  iintro ⟨Hst, Hdn⟩
  ihave Hsix := (dn1 cs d) $$ Hdn
  iapply Hk
  isplitl [Hst]; · iexact Hst
  isplitl [Hsix]; · iexact Hsix
  iexact Hrest

/-- Gather 2, every buffer held. -/
theorem sc_step2 (cs : Lists F) (V : VV F) (κ : GSem nD τ sig → ℕ) (d : Dev nD) (hu : V (rr main_v37) = cs.uh 2 d) (hn : V (rr main_v38) = cs.nd 2 d)
    (ht : V (rr main_arg3) = cs.tab d) (hi : V (rr main_arg4) = cs.itab d) (Q : PUnit → sProp 𝕄) :
    iprop((K (F := F)).ctx EH (P cs) κ ∗ (K (F := F)).tcSt EH d 2 ∗ held (SparseCore.T d : Thread nD τ) (ucRefs τ sig) V
        ∗ (iprop((K (F := F)).tcSt EH d 3 ∗ held (SparseCore.T d : Thread nD τ) (ucRefs τ sig) (scUp2 V)) -∗ Q ⟨⟩))
      ⊢ wp frame (wpE ((K (F := F)).defs (D (F := F))) 𝒱 (SparseCore.T d) none) Set.univ ((K (F := F)).run d 2) Q := by
  have hsub := six_sub main_v37 main_v38 main_arg3 main_arg4 main_v39_0 main_v39_1 (by decide)
  have hout : (held (SparseCore.T d : Thread nD τ) (ucRefs τ sig \ {rr main_v37, rr main_v38, rr main_arg3, rr main_arg4, rr main_v39_0, rr main_v39_1}) (scUp2 V) : sProp 𝕄)
      = held (SparseCore.T d : Thread nD τ) (ucRefs τ sig \ {rr main_v37, rr main_v38, rr main_arg3, rr main_arg4, rr main_v39_0, rr main_v39_1}) V := by
    refine StableHlo.held_congr _ fun x hx => ?_
    have hx' := (Finset.mem_sdiff.mp hx).2
    simp only [Finset.mem_insert, Finset.mem_singleton, not_or] at hx'
    unfold scUp2
    rw [Function.update_of_ne hx'.2.2.2.2.2, Function.update_of_ne hx'.2.2.2.2.1]
  rw [StableHlo.held_sub_split _ hsub V, StableHlo.held_sub_split _ hsub (scUp2 V), hout, held_six d main_v37 main_v38 main_arg3 main_arg4 main_v39_0 main_v39_1 (by decide) V,
    held_six d main_v37 main_v38 main_arg3 main_arg4 main_v39_0 main_v39_1 (by decide) (scUp2 V), scUp2_keep V main_v37 (by decide) (by decide), scUp2_keep V main_v38 (by decide) (by decide),
    scUp2_keep V main_arg3 (by decide) (by decide), scUp2_keep V main_arg4 (by decide) (by decide), scUp2_out, scUp2_item, hu, hn, ht, hi]
  iintro ⟨Hctx, Hst, ⟨Hsix, Hrest⟩, Hk⟩
  iapply ((K (F := F)).wp_run (D (F := F)) 𝒱 (EH := EH) (P := P cs) κ d 2) $$ [Hctx Hst Hsix Hrest Hk]
  isplitl [Hctx]; · iexact Hctx
  isplitl [Hst]; · iexact Hst
  isplitl [Hsix]
  · iapply (st2 cs d _ _)
    iexact Hsix
  iintro ⟨Hst, Hdn⟩
  ihave Hsix := (dn2 cs d) $$ Hdn
  iapply Hk
  isplitl [Hst]; · iexact Hst
  isplitl [Hsix]; · iexact Hsix
  iexact Hrest

/-- Gather 3, every buffer held. -/
theorem sc_step3 (cs : Lists F) (V : VV F) (κ : GSem nD τ sig → ℕ) (d : Dev nD) (hu : V (rr main_v54) = cs.uh 3 d) (hn : V (rr main_v55) = cs.nd 3 d)
    (ht : V (rr main_arg3) = cs.tab d) (hi : V (rr main_arg4) = cs.itab d) (Q : PUnit → sProp 𝕄) :
    iprop((K (F := F)).ctx EH (P cs) κ ∗ (K (F := F)).tcSt EH d 3 ∗ held (SparseCore.T d : Thread nD τ) (ucRefs τ sig) V
        ∗ (iprop((K (F := F)).tcSt EH d 4 ∗ held (SparseCore.T d : Thread nD τ) (ucRefs τ sig) (scUp3 V)) -∗ Q ⟨⟩))
      ⊢ wp frame (wpE ((K (F := F)).defs (D (F := F))) 𝒱 (SparseCore.T d) none) Set.univ ((K (F := F)).run d 3) Q := by
  have hsub := six_sub main_v54 main_v55 main_arg3 main_arg4 main_v56_0 main_v56_1 (by decide)
  have hout : (held (SparseCore.T d : Thread nD τ) (ucRefs τ sig \ {rr main_v54, rr main_v55, rr main_arg3, rr main_arg4, rr main_v56_0, rr main_v56_1}) (scUp3 V) : sProp 𝕄)
      = held (SparseCore.T d : Thread nD τ) (ucRefs τ sig \ {rr main_v54, rr main_v55, rr main_arg3, rr main_arg4, rr main_v56_0, rr main_v56_1}) V := by
    refine StableHlo.held_congr _ fun x hx => ?_
    have hx' := (Finset.mem_sdiff.mp hx).2
    simp only [Finset.mem_insert, Finset.mem_singleton, not_or] at hx'
    unfold scUp3
    rw [Function.update_of_ne hx'.2.2.2.2.2, Function.update_of_ne hx'.2.2.2.2.1]
  rw [StableHlo.held_sub_split _ hsub V, StableHlo.held_sub_split _ hsub (scUp3 V), hout, held_six d main_v54 main_v55 main_arg3 main_arg4 main_v56_0 main_v56_1 (by decide) V,
    held_six d main_v54 main_v55 main_arg3 main_arg4 main_v56_0 main_v56_1 (by decide) (scUp3 V), scUp3_keep V main_v54 (by decide) (by decide), scUp3_keep V main_v55 (by decide) (by decide),
    scUp3_keep V main_arg3 (by decide) (by decide), scUp3_keep V main_arg4 (by decide) (by decide), scUp3_out, scUp3_item, hu, hn, ht, hi]
  iintro ⟨Hctx, Hst, ⟨Hsix, Hrest⟩, Hk⟩
  iapply ((K (F := F)).wp_run (D (F := F)) 𝒱 (EH := EH) (P := P cs) κ d 3) $$ [Hctx Hst Hsix Hrest Hk]
  isplitl [Hctx]; · iexact Hctx
  isplitl [Hst]; · iexact Hst
  isplitl [Hsix]
  · iapply (st3 cs d _ _)
    iexact Hsix
  iintro ⟨Hst, Hdn⟩
  ihave Hsix := (dn3 cs d) $$ Hdn
  iapply Hk
  isplitl [Hst]; · iexact Hst
  isplitl [Hsix]; · iexact Hsix
  iexact Hrest

/-- A dense call, every buffer held. -/
theorem tc_step [∀ e, Nonempty (Elt F e)] (cs : Lists F) (V V' : VV F) (p : Fin 4)
    (hV' : ∀ c w, (pd V p c).arrAt w (Pipeline.pin (pcfgs (F := F)) adm p).N = V' (Proc.devRef .tc (arrRef (Pipeline.pin (pcfgs (F := F)) adm p).spec w)))
    (hsub : arrRefs (pcfgs (F := F) p).spec ⊆ ucRefs τ sig)
    (hout : ∀ b, b ∉ arrRefs (τ := τ) (pcfgs (F := F) p).spec → V b = V' b)
    (κ : GSem nD τ sig → ℕ) (d : Dev nD) (Q : PUnit → sProp 𝕄) :
    iprop((K (F := F)).ctx EH (P cs) κ ∗ boundary (SparseCore.T d : Thread nD τ) ∗ (K (F := F)).tcSt EH d (p.val + 1) ∗ held (SparseCore.T d : Thread nD τ) (ucRefs τ sig) V
        ∗ ghost p d
        ∗ (iprop(boundary (SparseCore.T d : Thread nD τ) ∗ (K (F := F)).tcSt EH d (p.val + 1) ∗ held (SparseCore.T d : Thread nD τ) (ucRefs τ sig) V') -∗ Q ⟨⟩))
      ⊢ wp frame (wpE ((K (F := F)).defs (D (F := F))) 𝒱 (SparseCore.T d) none) Set.univ
          (Prog.lift (.customCall (SparseCore.inner (Pipeline.entry p)) ())) Q := by
  have hrest : (held (SparseCore.T d : Thread nD τ) (ucRefs τ sig \ arrRefs (pcfgs (F := F) p).spec) V : sProp 𝕄)
      = held (SparseCore.T d : Thread nD τ) (ucRefs τ sig \ arrRefs (pcfgs (F := F) p).spec) V' :=
    StableHlo.held_congr _ fun x hx => hout x (Finset.mem_sdiff.mp hx).2
  rw [StableHlo.held_sub_split _ hsub V, StableHlo.held_sub_split _ hsub V', hrest]
  iintro ⟨#Hctx, Hb, Hst, ⟨Hh, Hrest⟩, Hg, Hk⟩
  ihave Hlev := (SparseCore.Cfg.ctx_levAts κ) $$ Hctx
  ihave Hst' := (tcSt_owing d (p.val + 1)) $$ Hst
  icases Hst' with ⟨HO, Hst⟩
  iapply (call_run V V' p hV' d Q) $$ [Hb Hst Hh Hrest Hg Hk HO Hlev]
  isplitl [Hb]; · iexact Hb
  isplitl [Hh]; · iexact Hh
  isplitl [HO]; · iexact HO
  isplitl [Hlev]; · iexact Hlev
  isplitl [Hg]; · iexact Hg
  iintro ⟨Hb, Hh, HO⟩
  iapply Hk
  isplitl [Hb]; · iexact Hb
  isplitl [Hst HO]
  · iapply Hst
    iexact HO
  isplitl [Hh]; · iexact Hh
  iexact Hrest

theorem tc_sub0 : arrRefs (pcfgs (F := F) 0).spec ⊆ ucRefs τ sig := Pipeline.arrRefs_sub_ucRefs spec1 (by decide)
theorem tc_out0 (V : VV F) (b : DevRef τ sig) (h : b ∉ arrRefs (τ := τ) (pcfgs (F := F) 0).spec) : V b = tcUp0 V b := by
  unfold tcUp0
  rw [Function.update_of_ne]
  rintro rfl
  exact h (Finset.mem_map.mpr ⟨arrRef spec1 14, Finset.mem_image.mpr ⟨14, Finset.mem_univ _, rfl⟩, rfl⟩)
theorem tc_sub1 : arrRefs (pcfgs (F := F) 1).spec ⊆ ucRefs τ sig := Pipeline.arrRefs_sub_ucRefs spec3 (by decide)
theorem tc_out1 (V : VV F) (b : DevRef τ sig) (h : b ∉ arrRefs (τ := τ) (pcfgs (F := F) 1).spec) : V b = tcUp1 V b := by
  unfold tcUp1
  rw [Function.update_of_ne]
  rintro rfl
  exact h (Finset.mem_map.mpr ⟨arrRef spec3 14, Finset.mem_image.mpr ⟨14, Finset.mem_univ _, rfl⟩, rfl⟩)
theorem tc_sub2 : arrRefs (pcfgs (F := F) 2).spec ⊆ ucRefs τ sig := Pipeline.arrRefs_sub_ucRefs spec5 (by decide)
theorem tc_out2 (V : VV F) (b : DevRef τ sig) (h : b ∉ arrRefs (τ := τ) (pcfgs (F := F) 2).spec) : V b = tcUp2 V b := by
  unfold tcUp2
  rw [Function.update_of_ne]
  rintro rfl
  exact h (Finset.mem_map.mpr ⟨arrRef spec5 14, Finset.mem_image.mpr ⟨14, Finset.mem_univ _, rfl⟩, rfl⟩)
theorem tc_sub3 : arrRefs (pcfgs (F := F) 3).spec ⊆ ucRefs τ sig := Pipeline.arrRefs_sub_ucRefs spec7 (by decide)
theorem tc_out3 (V : VV F) (b : DevRef τ sig) (h : b ∉ arrRefs (τ := τ) (pcfgs (F := F) 3).spec) : V b = tcUp3 V b := by
  unfold tcUp3
  rw [Function.update_of_ne]
  rintro rfl
  exact h (Finset.mem_map.mpr ⟨arrRef spec7 14, Finset.mem_image.mpr ⟨14, Finset.mem_univ _, rfl⟩, rfl⟩)

variable (m : (ℓ : Loc nD τ sig) → Buf (Elt F) ℓ) (ρ : Dev nD → PrngReg)

/-- What the launch deals a TensorCore beside its buffers: the staging ghosts of the four dense calls. -/
abbrev GG (d : Dev nD) : sProp 𝕄 := bigSep Finset.univ fun p : Fin 4 => ghost (F := F) p d
/-- What a TensorCore ends with. -/
abbrev FIN (d : Dev nD) : sProp 𝕄 := held (SparseCore.T d : Thread nD τ) (ucRefs τ sig) (Zf m d)

theorem uc_of {ops : List (HloOp τ sig (Elt F))} (h : ∀ op ∈ ops, op.bufs ⊆ StableHlo.tcRefs τ sig) : ∀ op ∈ ops, op.bufs ⊆ ucRefs τ sig :=
  fun op hop => Pipeline.sub_ucRefs op (h op hop)

theorem GG_four (d : Dev nD) : (GG (F := F) d : sProp 𝕄) = iprop(ghost 0 d ∗ ghost 1 d ∗ ghost 2 d ∗ ghost 3 d) := by
  unfold GG
  rw [show (Finset.univ : Finset (Fin 4)) = {0, 1, 2, 3} by decide, SparseCore.bigSep_insert' (by decide), SparseCore.bigSep_insert' (by decide),
    SparseCore.bigSep_insert' (by decide), bigSep_singleton]

/-- One quarter of the batch: its gather and its dense call, the host operations before each. -/
theorem quarter0 [∀ e, Nonempty (Elt F e)] (κ : GSem nD τ sig → ℕ) (d : Dev nD) {β : Type} (kk : Prog (TpuEff nD τ sig (Elt F) _ .tc) β) (Q : β → sProp 𝕄) :
    iprop((K (F := F)).ctx EH (P (csOf m)) κ ∗ boundary (SparseCore.T d : Thread nD τ) ∗ (K (F := F)).tcSt EH d 0 ∗ held (SparseCore.T d : Thread nD τ) (ucRefs τ sig) (StableHlo.launchContents m d)
        ∗ ghost 0 d
        ∗ (iprop(boundary (SparseCore.T d : Thread nD τ) ∗ (K (F := F)).tcSt EH d 1 ∗ held (SparseCore.T d : Thread nD τ) (ucRefs τ sig) (D0 m d))
            -∗ wp frame (wpE ((K (F := F)).defs (D (F := F))) 𝒱 (SparseCore.T d) none) Set.univ kk Q))
      ⊢ wp frame (wpE ((K (F := F)).defs (D (F := F))) 𝒱 (SparseCore.T d) none) Set.univ
          (StableHlo.seq pre0 >>= fun _ => (K (F := F)).run d 0 >>= fun _ => StableHlo.seq mid0 >>= fun _ =>
            Prog.lift (.customCall (SparseCore.inner (Pipeline.entry 0)) ()) >>= fun _ => kk) Q := by
  iintro ⟨#Hctx, Hb, Hst, Hh, Hg, Hk⟩
  iapply (StableHlo.wp_seq 𝒱 none Set.univ d (ucRefs τ sig) _ pre0 (uc_of pre0_sub) pre0_fresh (StableHlo.launchContents m d)) $$ [Hb Hh]
  · isplitl [Hb]; · iexact Hb
    iexact Hh
  iintro ⟨Hb, Hh⟩
  rw [wp_bind]
  iapply (sc_step0 (csOf m) (A0 m d) κ d rfl rfl (A0_arg m d main_arg3 (by decide)) (A0_arg m d main_arg4 (by decide)) _) $$ [Hb Hst Hh Hg Hk]
  isplitr; · iexact Hctx
  isplitl [Hst]; · iexact Hst
  isplitl [Hh]; · iexact Hh
  iintro ⟨Hst, Hh⟩
  iapply (StableHlo.wp_seq 𝒱 none Set.univ d (ucRefs τ sig) _ mid0 (uc_of mid0_sub) mid0_fresh (B0 m d)) $$ [Hb Hh]
  · isplitl [Hb]; · iexact Hb
    iexact Hh
  iintro ⟨Hb, Hh⟩
  rw [wp_bind]
  iapply (tc_step (csOf m) (C0 m d) (D0 m d) 0 (tcUp0_arr (C0 m d)) tc_sub0 (tc_out0 (C0 m d)) κ d _) $$ [Hb Hst Hh Hg Hk]
  isplitr; · iexact Hctx
  isplitl [Hb]; · iexact Hb
  isplitl [Hst]; · iexact Hst
  isplitl [Hh]; · iexact Hh
  isplitl [Hg]; · iexact Hg
  iintro ⟨Hb, Hst, Hh⟩
  iapply Hk
  isplitl [Hb]; · iexact Hb
  isplitl [Hst]; · iexact Hst
  iexact Hh

/-- One quarter of the batch: its gather and its dense call, the host operations before each. -/
theorem quarter1 [∀ e, Nonempty (Elt F e)] (κ : GSem nD τ sig → ℕ) (d : Dev nD) {β : Type} (kk : Prog (TpuEff nD τ sig (Elt F) _ .tc) β) (Q : β → sProp 𝕄) :
    iprop((K (F := F)).ctx EH (P (csOf m)) κ ∗ boundary (SparseCore.T d : Thread nD τ) ∗ (K (F := F)).tcSt EH d 1 ∗ held (SparseCore.T d : Thread nD τ) (ucRefs τ sig) (D0 m d)
        ∗ ghost 1 d
        ∗ (iprop(boundary (SparseCore.T d : Thread nD τ) ∗ (K (F := F)).tcSt EH d 2 ∗ held (SparseCore.T d : Thread nD τ) (ucRefs τ sig) (D1 m d))
            -∗ wp frame (wpE ((K (F := F)).defs (D (F := F))) 𝒱 (SparseCore.T d) none) Set.univ kk Q))
      ⊢ wp frame (wpE ((K (F := F)).defs (D (F := F))) 𝒱 (SparseCore.T d) none) Set.univ
          (StableHlo.seq pre1 >>= fun _ => (K (F := F)).run d 1 >>= fun _ => StableHlo.seq mid1 >>= fun _ =>
            Prog.lift (.customCall (SparseCore.inner (Pipeline.entry 1)) ()) >>= fun _ => kk) Q := by
  iintro ⟨#Hctx, Hb, Hst, Hh, Hg, Hk⟩
  iapply (StableHlo.wp_seq 𝒱 none Set.univ d (ucRefs τ sig) _ pre1 (uc_of pre1_sub) pre1_fresh (D0 m d)) $$ [Hb Hh]
  · isplitl [Hb]; · iexact Hb
    iexact Hh
  iintro ⟨Hb, Hh⟩
  rw [wp_bind]
  iapply (sc_step1 (csOf m) (A1 m d) κ d rfl rfl ((A1_keep m d main_arg3 (by decide)).trans (A0_arg m d main_arg3 (by decide))) ((A1_keep m d main_arg4 (by decide)).trans (A0_arg m d main_arg4 (by decide))) _) $$ [Hb Hst Hh Hg Hk]
  isplitr; · iexact Hctx
  isplitl [Hst]; · iexact Hst
  isplitl [Hh]; · iexact Hh
  iintro ⟨Hst, Hh⟩
  iapply (StableHlo.wp_seq 𝒱 none Set.univ d (ucRefs τ sig) _ mid1 (uc_of mid1_sub) mid1_fresh (B1 m d)) $$ [Hb Hh]
  · isplitl [Hb]; · iexact Hb
    iexact Hh
  iintro ⟨Hb, Hh⟩
  rw [wp_bind]
  iapply (tc_step (csOf m) (C1 m d) (D1 m d) 1 (tcUp1_arr (C1 m d)) tc_sub1 (tc_out1 (C1 m d)) κ d _) $$ [Hb Hst Hh Hg Hk]
  isplitr; · iexact Hctx
  isplitl [Hb]; · iexact Hb
  isplitl [Hst]; · iexact Hst
  isplitl [Hh]; · iexact Hh
  isplitl [Hg]; · iexact Hg
  iintro ⟨Hb, Hst, Hh⟩
  iapply Hk
  isplitl [Hb]; · iexact Hb
  isplitl [Hst]; · iexact Hst
  iexact Hh

/-- One quarter of the batch: its gather and its dense call, the host operations before each. -/
theorem quarter2 [∀ e, Nonempty (Elt F e)] (κ : GSem nD τ sig → ℕ) (d : Dev nD) {β : Type} (kk : Prog (TpuEff nD τ sig (Elt F) _ .tc) β) (Q : β → sProp 𝕄) :
    iprop((K (F := F)).ctx EH (P (csOf m)) κ ∗ boundary (SparseCore.T d : Thread nD τ) ∗ (K (F := F)).tcSt EH d 2 ∗ held (SparseCore.T d : Thread nD τ) (ucRefs τ sig) (D1 m d)
        ∗ ghost 2 d
        ∗ (iprop(boundary (SparseCore.T d : Thread nD τ) ∗ (K (F := F)).tcSt EH d 3 ∗ held (SparseCore.T d : Thread nD τ) (ucRefs τ sig) (D2 m d))
            -∗ wp frame (wpE ((K (F := F)).defs (D (F := F))) 𝒱 (SparseCore.T d) none) Set.univ kk Q))
      ⊢ wp frame (wpE ((K (F := F)).defs (D (F := F))) 𝒱 (SparseCore.T d) none) Set.univ
          (StableHlo.seq pre2 >>= fun _ => (K (F := F)).run d 2 >>= fun _ => StableHlo.seq mid2 >>= fun _ =>
            Prog.lift (.customCall (SparseCore.inner (Pipeline.entry 2)) ()) >>= fun _ => kk) Q := by
  iintro ⟨#Hctx, Hb, Hst, Hh, Hg, Hk⟩
  iapply (StableHlo.wp_seq 𝒱 none Set.univ d (ucRefs τ sig) _ pre2 (uc_of pre2_sub) pre2_fresh (D1 m d)) $$ [Hb Hh]
  · isplitl [Hb]; · iexact Hb
    iexact Hh
  iintro ⟨Hb, Hh⟩
  rw [wp_bind]
  iapply (sc_step2 (csOf m) (A2 m d) κ d rfl rfl ((A2_keep m d main_arg3 (by decide)).trans (A0_arg m d main_arg3 (by decide))) ((A2_keep m d main_arg4 (by decide)).trans (A0_arg m d main_arg4 (by decide))) _) $$ [Hb Hst Hh Hg Hk]
  isplitr; · iexact Hctx
  isplitl [Hst]; · iexact Hst
  isplitl [Hh]; · iexact Hh
  iintro ⟨Hst, Hh⟩
  iapply (StableHlo.wp_seq 𝒱 none Set.univ d (ucRefs τ sig) _ mid2 (uc_of mid2_sub) mid2_fresh (B2 m d)) $$ [Hb Hh]
  · isplitl [Hb]; · iexact Hb
    iexact Hh
  iintro ⟨Hb, Hh⟩
  rw [wp_bind]
  iapply (tc_step (csOf m) (C2 m d) (D2 m d) 2 (tcUp2_arr (C2 m d)) tc_sub2 (tc_out2 (C2 m d)) κ d _) $$ [Hb Hst Hh Hg Hk]
  isplitr; · iexact Hctx
  isplitl [Hb]; · iexact Hb
  isplitl [Hst]; · iexact Hst
  isplitl [Hh]; · iexact Hh
  isplitl [Hg]; · iexact Hg
  iintro ⟨Hb, Hst, Hh⟩
  iapply Hk
  isplitl [Hb]; · iexact Hb
  isplitl [Hst]; · iexact Hst
  iexact Hh

/-- One quarter of the batch: its gather and its dense call, the host operations before each. -/
theorem quarter3 [∀ e, Nonempty (Elt F e)] (κ : GSem nD τ sig → ℕ) (d : Dev nD) {β : Type} (kk : Prog (TpuEff nD τ sig (Elt F) _ .tc) β) (Q : β → sProp 𝕄) :
    iprop((K (F := F)).ctx EH (P (csOf m)) κ ∗ boundary (SparseCore.T d : Thread nD τ) ∗ (K (F := F)).tcSt EH d 3 ∗ held (SparseCore.T d : Thread nD τ) (ucRefs τ sig) (D2 m d)
        ∗ ghost 3 d
        ∗ (iprop(boundary (SparseCore.T d : Thread nD τ) ∗ (K (F := F)).tcSt EH d 4 ∗ held (SparseCore.T d : Thread nD τ) (ucRefs τ sig) (D3 m d))
            -∗ wp frame (wpE ((K (F := F)).defs (D (F := F))) 𝒱 (SparseCore.T d) none) Set.univ kk Q))
      ⊢ wp frame (wpE ((K (F := F)).defs (D (F := F))) 𝒱 (SparseCore.T d) none) Set.univ
          (StableHlo.seq pre3 >>= fun _ => (K (F := F)).run d 3 >>= fun _ => StableHlo.seq mid3 >>= fun _ =>
            Prog.lift (.customCall (SparseCore.inner (Pipeline.entry 3)) ()) >>= fun _ => kk) Q := by
  iintro ⟨#Hctx, Hb, Hst, Hh, Hg, Hk⟩
  iapply (StableHlo.wp_seq 𝒱 none Set.univ d (ucRefs τ sig) _ pre3 (uc_of pre3_sub) pre3_fresh (D2 m d)) $$ [Hb Hh]
  · isplitl [Hb]; · iexact Hb
    iexact Hh
  iintro ⟨Hb, Hh⟩
  rw [wp_bind]
  iapply (sc_step3 (csOf m) (A3 m d) κ d rfl rfl ((A3_keep m d main_arg3 (by decide)).trans (A0_arg m d main_arg3 (by decide))) ((A3_keep m d main_arg4 (by decide)).trans (A0_arg m d main_arg4 (by decide))) _) $$ [Hb Hst Hh Hg Hk]
  isplitr; · iexact Hctx
  isplitl [Hst]; · iexact Hst
  isplitl [Hh]; · iexact Hh
  iintro ⟨Hst, Hh⟩
  iapply (StableHlo.wp_seq 𝒱 none Set.univ d (ucRefs τ sig) _ mid3 (uc_of mid3_sub) mid3_fresh (B3 m d)) $$ [Hb Hh]
  · isplitl [Hb]; · iexact Hb
    iexact Hh
  iintro ⟨Hb, Hh⟩
  rw [wp_bind]
  iapply (tc_step (csOf m) (C3 m d) (D3 m d) 3 (tcUp3_arr (C3 m d)) tc_sub3 (tc_out3 (C3 m d)) κ d _) $$ [Hb Hst Hh Hg Hk]
  isplitr; · iexact Hctx
  isplitl [Hb]; · iexact Hb
  isplitl [Hst]; · iexact Hst
  isplitl [Hh]; · iexact Hh
  isplitl [Hg]; · iexact Hg
  iintro ⟨Hb, Hst, Hh⟩
  iapply Hk
  isplitl [Hb]; · iexact Hb
  isplitl [Hst]; · iexact Hst
  iexact Hh

theorem hmain [∀ e, Nonempty (Elt F e)] (κ : GSem nD τ sig → ℕ) (d : Dev nD) :
    iprop((K (F := F)).ctx EH (P (csOf m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd
  rw [main_eq, GG_four, show (unscopedBufs d (fun b => m ((SparseCore.T d : Thread nD τ).loc b)) : sProp 𝕄) = held (SparseCore.T d : Thread nD τ) (ucRefs τ sig) (StableHlo.launchContents m d)
    from Pipeline.unscopedBufs_held d (StableHlo.launchContents m d)]
  iintro ⟨#Hctx, Hst, ⟨Hb, Hh, Hts, -⟩, Hg0, Hg1, Hg2, Hg3⟩
  iapply (quarter0 m κ d _ _) $$ [Hb Hst Hh Hg0 Hg1 Hg2 Hg3 Hts]
  isplitr; · iexact Hctx
  isplitl [Hb]; · iexact Hb
  isplitl [Hst]; · iexact Hst
  isplitl [Hh]; · iexact Hh
  isplitl [Hg0]; · iexact Hg0
  iintro ⟨Hb, Hst, Hh⟩
  iapply (quarter1 m κ d _ _) $$ [Hb Hst Hh Hg1 Hg2 Hg3 Hts]
  isplitr; · iexact Hctx
  isplitl [Hb]; · iexact Hb
  isplitl [Hst]; · iexact Hst
  isplitl [Hh]; · iexact Hh
  isplitl [Hg1]; · iexact Hg1
  iintro ⟨Hb, Hst, Hh⟩
  iapply (quarter2 m κ d _ _) $$ [Hb Hst Hh Hg2 Hg3 Hts]
  isplitr; · iexact Hctx
  isplitl [Hb]; · iexact Hb
  isplitl [Hst]; · iexact Hst
  isplitl [Hh]; · iexact Hh
  isplitl [Hg2]; · iexact Hg2
  iintro ⟨Hb, Hst, Hh⟩
  iapply (quarter3 m κ d _ _) $$ [Hb Hst Hh Hg3 Hts]
  isplitr; · iexact Hctx
  isplitl [Hb]; · iexact Hb
  isplitl [Hst]; · iexact Hst
  isplitl [Hh]; · iexact Hh
  isplitl [Hg3]; · iexact Hg3
  iintro ⟨Hb, Hst, Hh⟩
  iapply (StableHlo.wp_seq 𝒱 none Set.univ d (ucRefs τ sig) _ last (uc_of last_sub) last_fresh (D3 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-! ## The launch -/

/-- The launch element of the proof's ghost state: the handshakes', the staging cells', the counters'. -/
def u₀ : UU := (initOf (K (F := F)).hsCells (K (F := F)).hsToks,
  (initOf (Pipeline.cells (nD := nD) (τ := τ) (Pipeline.pin (pcfgs (F := F)) adm) phinj) (Pipeline.launchToks (nD := nD) (τ := τ) (Pipeline.pin (pcfgs (F := F)) adm) phinj), 1))

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 4 => (P (csOf m)).x q thr) := by
  have hx : (bigSep Finset.univ fun thr : Thread nD τ => bigSep Finset.univ fun q : Fin 4 => (P (csOf m)).x q thr : sProp 𝕄) = iprop(emp) := by
    rw [show (fun thr : Thread nD τ => bigSep Finset.univ fun q : Fin 4 => (P (csOf m)).x q thr : Thread nD τ → sProp 𝕄) = fun _ => iprop(emp) from
      funext fun _ => bigSep_emp_const _]
    exact bigSep_emp_const _
  have hG : (bigSep Finset.univ fun d : Dev nD => GG (F := F) d : sProp 𝕄)
      = iprop((bigSep Finset.univ fun c : Dev nD => bigSep Finset.univ fun p => Pipeline.cellsGhost (Pipeline.pin (pcfgs (F := F)) adm) (EP (F := F)) p c)
          ∗ (bigSep Finset.univ fun c : Dev nD => bigSep Finset.univ fun p => Pipeline.toksInit (Pipeline.pin (pcfgs (F := F)) adm) (EP (F := F)) p c)) := by
    unfold GG ghost
    simp only [bigSep_sep']
  have hsplit : (ownU (u₀ (F := F)) : sProp 𝕄) ⊢ iprop(BI.own (EH (F := F) (initOf (K (F := F)).hsCells (K (F := F)).hsToks))
      ∗ BI.own (EP (F := F) (initOf (Pipeline.cells (nD := nD) (τ := τ) (Pipeline.pin (pcfgs (F := F)) adm) phinj) (Pipeline.launchToks (nD := nD) (τ := τ) (Pipeline.pin (pcfgs (F := F)) adm) phinj)))) := by
    unfold u₀
    refine (ownU_pair _ _).trans (sep_mono_right ?_)
    exact (own_pair_emb (embR : Emb (UP × Counters) (MM F)) _ _).trans sep_elim_left
  rw [hx, hG]
  iintro Hu
  ihave H := hsplit $$ Hu
  icases H with ⟨HH, HP⟩
  imod (Pipeline.fund_ghost (Pipeline.pin (pcfgs (F := F)) adm) (EP (F := F)) phinj) $$ HP with HG
  imodintro
  isplitl [HH]; · iexact HH
  isplitl [HG]; · iexact HG
  iempintro

def fq (d : Dev nD) (s' : Phys nD τ sig (Elt F)) : Prop := ∀ r : Ref sig .tc, r.isScoped = false → s'.mem.mem (hb d r) = Zf m d (rr r)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact fun r hr => h _ (mem_uc r hr)

/-- What a run ends with: every buffer of the program at its final contents, every counter at zero. -/
def QC : PUnit × MemSt nD τ sig (Elt F) → Prop := fun r =>
  (∀ (d : Dev nD) (b : Ref sig .tc), b.isScoped = false → r.2.mem (hb d b) = Zf m d (rr b)) ∧ r.2.sem = fun _ => 0

theorem run_main [∀ e, Nonempty (Elt F e)] (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (csOf m)) (A := ∅) facts v₀
    (fun q hq => match q with | 0 => nomatch hq | 1 => nomatch hq | 2 => nomatch hq | 3 => nomatch hq)
    (fun q _ => match q with
      | 0 => tileObl0 (csOf m) facts (csOf_ok m hr)
      | 1 => tileObl1 (csOf m) facts (csOf_ok m hr)
      | 2 => tileObl2 (csOf m) facts (csOf_ok m hr)
      | 3 => tileObl3 (csOf m) facts (csOf_ok m hr))
    (fun q _ => SparseCore.Cfg.VecSplit.of_plain (vecSplit (csOf m) q))
    m ρ main (fun d => GG d) (FIN m) (u₀ (F := F)) (sep_elim_left.trans (hu₀ m)) (hmain m ρ) (fq m) (hfin m) (QC m) (fun _ h hz => ⟨h, hz⟩)

end Cert.Proof

end
-- ==== Proof.Pre.lean ====
/-
  The precondition read: index ranges, and the finiteness of the floats.
-/
module

public import proofs.«01_k».proof.Defs
public import proofs.«01_k».proof.Proof.Gen.Pre_ranges
public import Idealize.ShloMosaic.Lib.ReduceAll
public import Idealize.ShloMosaic.Lib.StableHlo.Predicate

@[expose] public section

noncomputable section

namespace Cert.Proof.Pre

open Idealize.ShloMosaic Cert.Pre_ranges Cert.Pre_ranges.Gen

variable {F : FTy → Type} [FloatOps F]

theorem and_one {a b : BitVec 1} (h : IntOp.andi a b = 1#1) : a = 1#1 ∧ b = 1#1 := by
  revert a b; decide

/-- A word in a half-open range from 0 is below its end as a natural number. -/
theorem word_lt (v : BitVec 32) (n : ℕ) (hn : n < 2 ^ 31) (h : IntOp.andi (IntOp.cmpi .sge v 0#32) (IntOp.cmpi .slt v (BitVec.ofNat 32 n)) = 1#1) :
    v.toNat < n := by
  obtain ⟨h1, h2⟩ := and_one h
  have h1' : 0 ≤ v.toInt := by
    have := IntOp.cmpi_sge.1 h1
    simpa using this
  have h2' : v.toInt < n := by
    have := IntOp.cmpi_slt.1 h2
    rwa [StableHlo.Predicate.toInt_ofNat_small n hn] at this
  rw [BitVec.toInt_eq_toNat_cond] at h1' h2'
  split at h1' <;> split at h2' <;> have := v.isLt <;> omega

instance : Subsingleton S_.Idx := ⟨fun a b => funext fun i => i.elim0⟩

/-- Every element of an index array below `n`. -/
theorem idx_all {s : Shape} {axes} (x : IVec s 32) (n : ℕ) (hn : n < 2 ^ 31) (hb : S_.BroadcastsInDim s (![] : Fin 0 → Fin s.rank)) (init : S_.Idx → BitVec 1) (h : s.ReducesTo axes S_) (hu) (j : S_.Idx)
    (e : Host.reduce IntOp.andi (andi (cmpi .sge x (broadcastInDim s ![] hb (constantI S_ 32 0#32))) (cmpi .slt x (broadcastInDim s ![] hb (constantI S_ 32 (BitVec.ofNat 32 n))))) init h hu j = 1#1)
    (i : s.Idx) : (x i).toNat < n :=
  word_lt _ n hn (Host.reduce_andi_all _ _ _ _ j e i)

theorem fin_all {s : Shape} {axes} (x : FVec F s .f32) (hb : S_.BroadcastsInDim s (![] : Fin 0 → Fin s.rank)) (init : S_.Idx → BitVec 1) (h : s.ReducesTo axes S_) (hu) (j : S_.Idx)
    (e : Host.reduce IntOp.andi (cmpf .olt (Host.absf x) (broadcastInDim s ![] hb (constant S_ .f32 0x7F800000#32))) init h hu j = 1#1)
    (i : s.Idx) : cmpf .olt (Host.absf x) (broadcastInDim s ![] hb (constant S_ .f32 0x7F800000#32)) i = 1#1 :=
  Host.reduce_andi_all _ _ _ _ j e i

/-- What `ranges` says of its arguments. -/
structure Says (a0 : IVec S1024x200 32) (a1 : IVec S1024x200 32) (a2 : IVec S1024 32) (a3 : FVec F S100000x128 .f32) (a4 : FVec F S100000x128 .f32) (a5 : FVec F S6x128 .f32) (a6 : FVec F S128x256 .f32) (a7 : FVec F S128 .f32) (a8 : FVec F S128x128 .f32) (a9 : FVec F S128 .f32) (a10 : FVec F S128x256 .f32) (a11 : FVec F S128 .f32) (a12 : FVec F S128x256 .f32) (a13 : FVec F S128 .f32) (a14 : FVec F S1x128 .f32) (a15 : FVec F S1 .f32) : Prop where
  user : ∀ i, (a0 i).toNat < 100000
  rating : ∀ i, (a1 i).toNat < 6
  node : ∀ i, (a2 i).toNat < 100000
  f3 : ∀ i, cmpf .olt (Host.absf a3) (broadcastInDim S100000x128 ![] Facts.bcast_S_S100000x128 (constant S_ .f32 0x7F800000#32)) i = 1#1
  f4 : ∀ i, cmpf .olt (Host.absf a4) (broadcastInDim S100000x128 ![] Facts.bcast_S_S100000x128 (constant S_ .f32 0x7F800000#32)) i = 1#1
  f5 : ∀ i, cmpf .olt (Host.absf a5) (broadcastInDim S6x128 ![] Facts.bcast_S_S6x128 (constant S_ .f32 0x7F800000#32)) i = 1#1
  f6 : ∀ i, cmpf .olt (Host.absf a6) (broadcastInDim S128x256 ![] Facts.bcast_S_S128x256 (constant S_ .f32 0x7F800000#32)) i = 1#1
  f7 : ∀ i, cmpf .olt (Host.absf a7) (broadcastInDim S128 ![] Facts.bcast_S_S128 (constant S_ .f32 0x7F800000#32)) i = 1#1
  f12 : ∀ i, cmpf .olt (Host.absf a12) (broadcastInDim S128x256 ![] Facts.bcast_S_S128x256 (constant S_ .f32 0x7F800000#32)) i = 1#1
  f13 : ∀ i, cmpf .olt (Host.absf a13) (broadcastInDim S128 ![] Facts.bcast_S_S128 (constant S_ .f32 0x7F800000#32)) i = 1#1
  f14 : ∀ i, cmpf .olt (Host.absf a14) (broadcastInDim S1x128 ![] Facts.bcast_S_S1x128 (constant S_ .f32 0x7F800000#32)) i = 1#1
  f15 : ∀ i, cmpf .olt (Host.absf a15) (broadcastInDim S1 ![] Facts.bcast_S_S1 (constant S_ .f32 0x7F800000#32)) i = 1#1

theorem decoded (a0 : IVec S1024x200 32) (a1 : IVec S1024x200 32) (a2 : IVec S1024 32) (a3 : FVec F S100000x128 .f32) (a4 : FVec F S100000x128 .f32) (a5 : FVec F S6x128 .f32) (a6 : FVec F S128x256 .f32) (a7 : FVec F S128 .f32) (a8 : FVec F S128x128 .f32) (a9 : FVec F S128 .f32) (a10 : FVec F S128x256 .f32) (a11 : FVec F S128 .f32) (a12 : FVec F S128x256 .f32) (a13 : FVec F S128 .f32) (a14 : FVec F S1x128 .f32) (a15 : FVec F S1 .f32)
    (h : fn a0 a1 a2 a3 a4 a5 a6 a7 a8 a9 a10 a11 a12 a13 a14 a15 = fun _ => 1#1) : Says a0 a1 a2 a3 a4 a5 a6 a7 a8 a9 a10 a11 a12 a13 a14 a15 := by
  have e := congrFun h (Shape.Idx.first Facts.h_S_)
  unfold fn fn_part1 fn_part2 fn_part3 at e
  obtain ⟨e, e15⟩ := and_one e
  obtain ⟨e, e14⟩ := and_one e
  obtain ⟨e, e13⟩ := and_one e
  obtain ⟨e, e12⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e, e1⟩ := and_one e
  exact ⟨idx_all _ 100000 (by decide) _ _ _ _ _ e, idx_all _ 6 (by decide) _ _ _ _ _ e1, idx_all _ 100000 (by decide) _ _ _ _ _ e2,
    fin_all _ _ _ _ _ _ e3, fin_all _ _ _ _ _ _ e4, fin_all _ _ _ _ _ _ e5, fin_all _ _ _ _ _ _ e6, fin_all _ _ _ _ _ _ e7, fin_all _ _ _ _ _ _ e12, fin_all _ _ _ _ _ _ e13, fin_all _ _ _ _ _ _ e14, fin_all _ _ _ _ _ _ e15⟩

/-- The facts the index ranges' function takes. -/
instance indexFacts : Cert.Pre_indices.Facts where
  bcast_S_S1024x200 := Facts.bcast_S_S1024x200
  reducesTo_S1024x200_S_d0_1 := Facts.reducesTo_S1024x200_S_d0_1
  h_S_ := Facts.h_S_
  bcast_S_S1024 := Facts.bcast_S_S1024
  reducesTo_S1024_S_d0 := Facts.reducesTo_S1024_S_d0

/-- The index ranges alone, read. -/
theorem indexed (a0 : IVec S1024x200 32) (a1 : IVec S1024x200 32) (a2 : IVec S1024 32) (a3 : FVec F S100000x128 .f32) (a4 : FVec F S100000x128 .f32) (a5 : FVec F S6x128 .f32) (a6 : FVec F S128x256 .f32) (a7 : FVec F S128 .f32) (a8 : FVec F S128x128 .f32) (a9 : FVec F S128 .f32) (a10 : FVec F S128x256 .f32) (a11 : FVec F S128 .f32) (a12 : FVec F S128x256 .f32) (a13 : FVec F S128 .f32) (a14 : FVec F S1x128 .f32) (a15 : FVec F S1 .f32)
    (h : @Cert.Pre_indices.fn indexFacts F _ a0 a1 a2 a3 a4 a5 a6 a7 a8 a9 a10 a11 a12 a13 a14 a15 = fun _ => 1#1) :
    (∀ i, (a0 i).toNat < 100000) ∧ ∀ i, (a2 i).toNat < 100000 := by
  have e := congrFun h (Shape.Idx.first Facts.h_S_)
  unfold Cert.Pre_indices.fn at e
  obtain ⟨e, e2⟩ := and_one e
  exact ⟨idx_all _ 100000 (by decide) _ _ _ _ _ e, idx_all _ 100000 (by decide) _ _ _ _ _ e2⟩

end Cert.Proof.Pre

end
-- ==== Proof.Frames.lean ====
/-
  The frames: each program ends, its arguments as they were, every counter at zero.
-/
module

public import proofs.«01_k».proof.Proof.Main
public import proofs.«01_k».proof.Proof.Pre
public import proofs.«01_k».proof.Proof.Gen.Kernel
public import proofs.«01_k».proof.Defs
public import proofs.«01_k».proof.Proof.Gen.ReferenceIdeal.Run
public import Idealize.ShloMosaic.Lib.Quiescent

@[expose] public section

noncomputable section

namespace Cert.Proof

open Cert.KernelIdeal Cert.KernelIdeal.Gen
open Idealize.ShloMosaic Idealize.SL.Sem

variable {F : FTy → Type} [FloatOps F]

/-- The sixteen arguments of device `c`, decoded. -/
abbrev SaysOf (m : (ℓ : Loc nD τ sig) → Buf (Elt F) ℓ) (c : Dev nD) : Prop :=
  Pre.Says (F := F) (m (hb c main_arg0)) (m (hb c main_arg1)) (m (hb c main_arg2)) (m (hb c main_arg3)) (m (hb c main_arg4)) (m (hb c main_arg5)) (m (hb c main_arg6)) (m (hb c main_arg7)) (m (hb c main_arg8)) (m (hb c main_arg9)) (m (hb c main_arg10)) (m (hb c main_arg11)) (m (hb c main_arg12)) (m (hb c main_arg13)) (m (hb c main_arg14)) (m (hb c main_arg15))

theorem inRange_of (m : (ℓ : Loc nD τ sig) → Buf (Elt F) ℓ) (h : ∀ c, SaysOf m c) : InRange m :=
  ⟨fun d x => (h d).user x, fun d x => (h d).node x⟩

theorem args_kept [∀ e, Nonempty (Elt F e)] (m : (ℓ : Loc nD τ sig) → Buf (Elt F) ℓ) (r : PUnit × MemSt nD τ sig (Elt F)) (h : QC m r) (c : Dev nD) :
    r.2.mem (hb c main_arg0) = m (hb c main_arg0) ∧ r.2.mem (hb c main_arg1) = m (hb c main_arg1) ∧ r.2.mem (hb c main_arg2) = m (hb c main_arg2) ∧ r.2.mem (hb c main_arg3) = m (hb c main_arg3) ∧ r.2.mem (hb c main_arg4) = m (hb c main_arg4) ∧ r.2.mem (hb c main_arg5) = m (hb c main_arg5) ∧ r.2.mem (hb c main_arg6) = m (hb c main_arg6) ∧ r.2.mem (hb c main_arg7) = m (hb c main_arg7) ∧ r.2.mem (hb c main_arg8) = m (hb c main_arg8) ∧ r.2.mem (hb c main_arg9) = m (hb c main_arg9) ∧ r.2.mem (hb c main_arg10) = m (hb c main_arg10) ∧ r.2.mem (hb c main_arg11) = m (hb c main_arg11) ∧ r.2.mem (hb c main_arg12) = m (hb c main_arg12) ∧ r.2.mem (hb c main_arg13) = m (hb c main_arg13) ∧ r.2.mem (hb c main_arg14) = m (hb c main_arg14) ∧ r.2.mem (hb c main_arg15) = m (hb c main_arg15) :=
  ⟨(h.1 c main_arg0 rfl).trans (Zf_arg m c main_arg0 (by decide)), (h.1 c main_arg1 rfl).trans (Zf_arg m c main_arg1 (by decide)), (h.1 c main_arg2 rfl).trans (Zf_arg m c main_arg2 (by decide)), (h.1 c main_arg3 rfl).trans (Zf_arg m c main_arg3 (by decide)), (h.1 c main_arg4 rfl).trans (Zf_arg m c main_arg4 (by decide)), (h.1 c main_arg5 rfl).trans (Zf_arg m c main_arg5 (by decide)), (h.1 c main_arg6 rfl).trans (Zf_arg m c main_arg6 (by decide)), (h.1 c main_arg7 rfl).trans (Zf_arg m c main_arg7 (by decide)), (h.1 c main_arg8 rfl).trans (Zf_arg m c main_arg8 (by decide)), (h.1 c main_arg9 rfl).trans (Zf_arg m c main_arg9 (by decide)), (h.1 c main_arg10 rfl).trans (Zf_arg m c main_arg10 (by decide)), (h.1 c main_arg11 rfl).trans (Zf_arg m c main_arg11 (by decide)), (h.1 c main_arg12 rfl).trans (Zf_arg m c main_arg12 (by decide)), (h.1 c main_arg13 rfl).trans (Zf_arg m c main_arg13 (by decide)), (h.1 c main_arg14 rfl).trans (Zf_arg m c main_arg14 (by decide)), (h.1 c main_arg15 rfl).trans (Zf_arg m c main_arg15 (by decide))⟩

set_option maxHeartbeats 20000000 in
set_option smartUnfolding false in
/-- The printed kernel and its idealized form have one text under two names, so what holds of the one's runs at machine
    floats holds of the other's. -/
theorem of_ideal {s : MemSt nD τ sig (Elt Bits)} {Q : PUnit × MemSt nD τ sig (Elt Bits) → Prop}
    (h : θ_run (Cert.KernelIdeal.defs (F := Bits)) (Cert.KernelIdeal.threads (F := Bits)) s Q) :
    θ_run (Cert.Kernel.defs (F := Bits)) (Cert.Kernel.threads (F := Bits)) s Q := h

theorem inRange_of_indices (m : (ℓ : Loc nD τ sig) → Buf (Elt F) ℓ)
    (h : ∀ c : Dev nD, (∀ i, ((m (hb c main_arg0) : S1024x200.Idx → BitVec 32) i).toNat < 100000) ∧ ∀ i, ((m (hb c main_arg2) : S1024.Idx → BitVec 32) i).toNat < 100000) : InRange m :=
  ⟨fun d x => (h d).1 x, fun d x => (h d).2 x⟩

theorem inRange_kernel (m : (ℓ : Loc nD τ sig) → Buf (Elt Bits) ℓ) (hpre : Cert.Pre_Kernel (hPre_indices := Pre.indexFacts) m) : InRange m :=
  inRange_of_indices (F := Bits) m fun c => Pre.indexed (F := Bits) (m (hb c main_arg0)) (m (hb c main_arg1)) (m (hb c main_arg2)) (m (hb c main_arg3)) (m (hb c main_arg4)) (m (hb c main_arg5)) (m (hb c main_arg6)) (m (hb c main_arg7)) (m (hb c main_arg8)) (m (hb c main_arg9)) (m (hb c main_arg10)) (m (hb c main_arg11)) (m (hb c main_arg12)) (m (hb c main_arg13)) (m (hb c main_arg14)) (m (hb c main_arg15)) (hpre c)

set_option maxHeartbeats 20000000 in
theorem frame_kernel : Cert.quiescent_Kernel (hKernel := Cert.Kernel.Gen.facts) (hPre_indices := Pre.indexFacts) := fun m ρ hpre =>
  of_ideal ((θ_run (Cert.KernelIdeal.defs (F := Bits)) _ _).mono (fun r h => ⟨fun c => args_kept (F := Bits) m r h c, h.2⟩)
    (run_main (F := Bits) m ρ (inRange_kernel m hpre)))

theorem frame_ideal : Cert.quiescent_KernelIdeal (hKernelIdeal := Cert.KernelIdeal.Gen.facts) (hPre_indices := Pre.indexFacts) := fun m ρ hpre =>
  (θ_run (Cert.KernelIdeal.defs (F := Ideal)) _ _).mono (fun r h => ⟨fun c => args_kept (F := Ideal) m r h c, h.2⟩)
    (run_main (F := Ideal) m ρ (inRange_of_indices (F := Ideal) m fun c => Pre.indexed (F := Ideal) (m (hb c main_arg0)) (m (hb c main_arg1)) (m (hb c main_arg2)) (m (hb c main_arg3)) (m (hb c main_arg4)) (m (hb c main_arg5)) (m (hb c main_arg6)) (m (hb c main_arg7)) (m (hb c main_arg8)) (m (hb c main_arg9)) (m (hb c main_arg10)) (m (hb c main_arg11)) (m (hb c main_arg12)) (m (hb c main_arg13)) (m (hb c main_arg14)) (m (hb c main_arg15)) (hpre c)))

theorem frame_ideal_ranges : Cert.quiescent_KernelIdeal_pre_ranges (hKernelIdeal := Cert.KernelIdeal.Gen.facts) (hPre_ranges := Cert.Pre_ranges.Gen.facts) := fun m ρ hpre =>
  (θ_run (Cert.KernelIdeal.defs (F := Ideal)) _ _).mono (fun r h => ⟨fun c => args_kept (F := Ideal) m r h c, h.2⟩)
    (run_main (F := Ideal) m ρ (inRange_of (F := Ideal) m fun c => Pre.decoded _ _ _ _ _ _ _ _ _ _ _ _ _ _ _ _ (hpre c)))

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems rfl r.2⟩) (Cert.ReferenceIdeal.Value.run (F := Ideal) m ρ)

theorem frame_reference_ranges : Cert.quiescent_ReferenceIdeal_pre_ranges (hReferenceIdeal := Cert.ReferenceIdeal.Gen.facts) (hPre_ranges := Cert.Pre_ranges.Gen.facts) :=
  fun m ρ _ => frame_reference m ρ trivial

end Cert.Proof

end
-- ==== Proof.Spec.lean ====
/-
  What one batch row's result is, in the extended reals, and the weighted mean's indifference to a shift of the scores.
-/
module

public import Idealize.ShloMosaic.Lib.IdealHost
public import Idealize.ShloMosaic.Lib.Pointwise

@[expose] public section

noncomputable section

namespace Cert.Proof.Val

open Idealize.ShloMosaic
open scoped BigOperators

/-- A value that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.max {x y : EReal} (hx : IsReal x) (hy : IsReal y) : IsReal (max x y) := by
  rcases max_choice x y with h | h <;> rw [h] <;> assumption
theorem IsReal.zero : IsReal 0 := ⟨0, EReal.coe_zero.symm⟩
theorem IsReal.sum {ι : Type} (S : Finset ι) (f : ι → EReal) (hf : ∀ i, IsReal (f i)) : IsReal (∑ i ∈ S, f i) := by
  classical
  induction S using Finset.induction_on with
  | empty => rw [Finset.sum_empty]; exact IsReal.zero
  | insert a S ha ih => rw [Finset.sum_insert ha]; exact (hf a).add ih

/-- A value below infinity in absolute value is a real number. -/
theorem isReal_of_abs_lt {x : EReal} (h : max x (-x) < ⊤) : IsReal x := by
  induction x with
  | bot => simp at h
  | top => simp at h
  | coe r => exact ⟨r, rfl⟩

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of finitely many reals, at least one, is a real. -/
theorem fold_max_real {ι : Type} (S : Finset ι) (hS : S.Nonempty) (f : ι → EReal) (hf : ∀ i, IsReal (f i)) : IsReal (S.fold Max.max ⊥ f) := by
  obtain ⟨i, _, h⟩ := Finset.exists_mem_eq_sup S hS f
  have : S.fold Max.max ⊥ f = f i := h
  rw [this]; exact hf i

/-- The mean of `f` at weights `exp s`. -/
def mix {n : ℕ} (s f : Fin n → EReal) : EReal := Ideal.div (∑ l, Ideal.exp (s l) * f l) (∑ l, Ideal.exp (s l))

theorem exp_sub_real (a b : ℝ) : Ideal.exp ((a : EReal) - (b : EReal)) = ((Real.exp (a - b) : ℝ) : EReal) := by
  rw [← EReal.coe_sub]; rfl

theorem exp_real (a : ℝ) : Ideal.exp (a : EReal) = ((Real.exp a : ℝ) : EReal) := rfl

theorem sum_exp_pos {n : ℕ} (hn : 0 < n) (s : Fin n → ℝ) : 0 < ∑ l, Real.exp (s l) :=
  Finset.sum_pos (fun _ _ => Real.exp_pos _) ⟨⟨0, hn⟩, Finset.mem_univ _⟩

theorem mix_real {n : ℕ} (hn : 0 < n) (s f : Fin n → ℝ) :
    mix (fun l => (s l : EReal)) (fun l => (f l : EReal)) = (((∑ l, Real.exp (s l) * f l) * (1 / ∑ l, Real.exp (s l)) : ℝ) : EReal) := by
  unfold mix
  simp only [exp_real, ← EReal.coe_mul, ← coe_sum]
  rw [Ideal.div_coe (ne_of_gt (sum_exp_pos hn s)), ← EReal.coe_mul]

/-- A shift of every score leaves the mean. -/
theorem mix_shift {n : ℕ} (hn : 0 < n) (s f : Fin n → EReal) (M : EReal) (hs : ∀ l, IsReal (s l)) (hf : ∀ l, IsReal (f l)) (hM : IsReal M) :
    Ideal.div (∑ l, Ideal.exp (s l - M) * f l) (∑ l, Ideal.exp (s l - M)) = mix s f := by
  choose s' hs' using hs
  choose f' hf' using hf
  obtain ⟨M', rfl⟩ := hM
  obtain rfl : s = fun l => (s' l : EReal) := funext hs'
  obtain rfl : f = fun l => (f' l : EReal) := funext hf'
  rw [mix_real hn]
  simp only [exp_sub_real, ← EReal.coe_mul, ← coe_sum]
  rw [Ideal.div_coe (ne_of_gt (sum_exp_pos hn fun l => s' l - M')), ← EReal.coe_mul]
  congr 1
  have h0 : (∑ l, Real.exp (s' l)) ≠ 0 := ne_of_gt (sum_exp_pos hn s')
  have h1 : ∑ l, Real.exp (s' l - M') = (∑ l, Real.exp (s' l)) * Real.exp (-M') := by
    rw [Finset.sum_mul]; exact Finset.sum_congr rfl fun l _ => by rw [← Real.exp_add, sub_eq_add_neg]
  have h2 : ∑ l, Real.exp (s' l - M') * f' l = (∑ l, Real.exp (s' l) * f' l) * Real.exp (-M') := by
    rw [Finset.sum_mul]; exact Finset.sum_congr rfl fun l _ => by rw [sub_eq_add_neg, Real.exp_add]; ring
  have h3 : Real.exp (-M') ≠ 0 := Real.exp_ne_zero _
  rw [h1, h2]
  field_simp

/-- The mean by normalised weights, the scores shifted twice. -/
theorem mix_soft {n : ℕ} (hn : 0 < n) (s f : Fin n → EReal) (b M : EReal) (hs : ∀ l, IsReal (s l)) (hf : ∀ l, IsReal (f l)) (hb : IsReal b) (hM : IsReal M) :
    ∑ l, f l * Ideal.div (Ideal.exp (s l + b - M)) (∑ l', Ideal.exp (s l' + b - M)) = mix s f := by
  choose s' hs' using hs
  choose f' hf' using hf
  obtain ⟨M', rfl⟩ := hM
  obtain ⟨b', rfl⟩ := hb
  obtain rfl : s = fun l => (s' l : EReal) := funext hs'
  obtain rfl : f = fun l => (f' l : EReal) := funext hf'
  rw [mix_real hn]
  simp only [← EReal.coe_add, exp_sub_real, ← coe_sum]
  simp only [Ideal.div_coe (ne_of_gt (sum_exp_pos hn fun l => s' l + b' - M')), ← EReal.coe_mul, ← coe_sum]
  congr 1
  have h0 : (∑ l, Real.exp (s' l)) ≠ 0 := ne_of_gt (sum_exp_pos hn s')
  have h3 : Real.exp (b' - M') ≠ 0 := Real.exp_ne_zero _
  have h1 : ∑ l, Real.exp (s' l + b' - M') = (∑ l, Real.exp (s' l)) * Real.exp (b' - M') := by
    rw [Finset.sum_mul]; exact Finset.sum_congr rfl fun l _ => by rw [← Real.exp_add, add_sub_assoc]
  rw [h1]
  have h2 : ∀ l, f' l * (Real.exp (s' l + b' - M') * (1 / ((∑ l, Real.exp (s' l)) * Real.exp (b' - M')))) = Real.exp (s' l) * f' l * (1 / ∑ l, Real.exp (s' l)) := by
    intro l
    rw [add_sub_assoc, Real.exp_add]
    field_simp
  simp only [h2]
  rw [← Finset.sum_mul]

/-! ## One batch row -/

abbrev W256 : Shape := ⟨2, ![128, 256]⟩
abbrev W128 : Shape := ⟨2, ![128, 128]⟩

/-- A dense layer of two inputs side by side, its negative part cut off. -/
def dense2 (W : W256.Idx → EReal) (b : Fin 128 → EReal) (x y : Fin 128 → EReal) (j : Fin 128) : EReal :=
  max ((∑ k : Fin 128, x k * W (ix2 j (⟨k.val, by omega⟩ : Fin 256)) + ∑ k : Fin 128, y k * W (ix2 j (⟨128 + k.val, by omega⟩ : Fin 256))) + b j) 0

/-- A dense layer, its negative part cut off. -/
def dense1 (W : W128.Idx → EReal) (b : Fin 128 → EReal) (x : Fin 128 → EReal) (j : Fin 128) : EReal :=
  max ((∑ k : Fin 128, x k * W (ix2 j k)) + b j) 0

/-- The network's weights. -/
structure Net where
  W1 : W256.Idx → EReal
  b1 : Fin 128 → EReal
  W2 : W128.Idx → EReal
  b2 : Fin 128 → EReal
  W3 : W256.Idx → EReal
  b3 : Fin 128 → EReal
  A1 : W256.Idx → EReal
  c1 : Fin 128 → EReal
  A2 : Fin 128 → EReal

namespace Net
variable (N : Net) (u r : Fin 200 → Fin 128 → EReal) (wi : Fin 128 → EReal)

/-- What is known of one entry of the history. -/
def feat (l : Fin 200) : Fin 128 → EReal := dense2 N.W1 N.b1 (u l) (r l)
/-- Its score. -/
def score (l : Fin 200) : EReal := ∑ k : Fin 128, dense2 N.A1 N.c1 (N.feat u r l) wi k * N.A2 k
/-- The history's mean. -/
def mean (j : Fin 128) : EReal := mix (N.score u r wi) (fun l => N.feat u r l j)
/-- The row's result. -/
def out : Fin 128 → EReal := dense2 N.W3 N.b3 wi (dense1 N.W2 N.b2 (N.mean u r wi))

/-- The weights that reach the scores are real numbers. -/
structure Real' : Prop where
  W1 : ∀ i, IsReal (N.W1 i)
  b1 : ∀ i, IsReal (N.b1 i)
  A1 : ∀ i, IsReal (N.A1 i)
  c1 : ∀ i, IsReal (N.c1 i)
  A2 : ∀ i, IsReal (N.A2 i)

end Net

theorem dense2_real {W : W256.Idx → EReal} {b x y : Fin 128 → EReal} (hW : ∀ i, IsReal (W i)) (hb : ∀ i, IsReal (b i)) (hx : ∀ i, IsReal (x i))
    (hy : ∀ i, IsReal (y i)) (j : Fin 128) : IsReal (dense2 W b x y j) :=
  (((IsReal.sum _ _ fun k => (hx k).mul (hW _)).add (IsReal.sum _ _ fun k => (hy k).mul (hW _))).add (hb j)).max IsReal.zero

namespace Net
variable {N : Net} {u r : Fin 200 → Fin 128 → EReal} {wi : Fin 128 → EReal}

theorem feat_real (h : N.Real') (hu : ∀ l k, IsReal (u l k)) (hr : ∀ l k, IsReal (r l k)) (l : Fin 200) (j : Fin 128) : IsReal (N.feat u r l j) :=
  dense2_real h.W1 h.b1 (hu l) (hr l) j

theorem score_real (h : N.Real') (hu : ∀ l k, IsReal (u l k)) (hr : ∀ l k, IsReal (r l k)) (hw : ∀ k, IsReal (wi k)) (l : Fin 200) : IsReal (N.score u r wi l) :=
  IsReal.sum _ _ fun k => (dense2_real h.A1 h.c1 (feat_real h hu hr l) hw k).mul (h.A2 k)

end Net

end Cert.Proof.Val

end
-- ==== Proof.Payload.lean ====
/-
  The dense call's arithmetic, read one element at a time over the extended reals.
-/
module

public import proofs.«01_k».proof.Proof.Spec
public import proofs.«01_k».proof.Proof.TcBody
public import proofs.«01_k».proof.Proof.Gen.KernelIdeal.Skeleton
public import proofs.«01_k».proof.Proof.Gen.KernelIdeal

@[expose] public section

noncomputable section

namespace Cert.Proof.Val

open Cert.KernelIdeal Cert.KernelIdeal.Gen
open Idealize.ShloMosaic
open scoped BigOperators

theorem pay4_apply (x2 : FVec Ideal S64x128 .f32) (x9 : FVec Ideal S128x256 .f32) (x10 : FVec Ideal S1x128 .f32) (i : Fin 64) (j : Fin 128) :
    k1_pay4 (F := Ideal) x2 x9 x10 (ix2 i j) = (∑ k : Fin 128, x2 (ix2 i k) * x9 (ix2 j (⟨128 + k.val, by omega⟩ : Fin 256))) + x10 (ix2 0 j) := by
  pointwise [k1_pay4, k1_pay2]

theorem pay5_apply (x9 : FVec Ideal S128x256 .f32) (i j : Fin 128) :
    k1_pay5 (F := Ideal) x9 (ix2 i j) = x9 (ix2 i (⟨j.val, by omega⟩ : Fin 256)) := by
  pointwise [k1_pay5]

/-- A one-hot entry is one at its place and zero elsewhere. -/
theorem onehot (a : BitVec 32) (x : ℕ) (hx : x < 4294967296) :
    (FloatOps.sitofp (F := Ideal) FTy.f32 (BitVec.setWidth 32 (IntOp.cmpi CmpIPredicate.eq a (BitVec.ofNat 32 x))) : EReal) = if a.toNat = x then 1 else 0 := by
  by_cases h : a.toNat = x
  · have : a = BitVec.ofNat 32 x := by apply BitVec.eq_of_toNat_eq; simp [h, Nat.mod_eq_of_lt hx]
    rw [if_pos h, ← this]
    have e : BitVec.setWidth 32 (IntOp.cmpi CmpIPredicate.eq a a) = 1#32 := by simp [IntOp.cmpi]
    rw [e]
    show (((1#32 : BitVec 32).toInt : ℝ) : EReal) = 1
    simp
  · have : a ≠ BitVec.ofNat 32 x := fun e => h (by rw [e]; simp; omega)
    rw [if_neg h]
    have hb : (a == BitVec.ofNat 32 x) = false := by simpa using this
    have e : BitVec.setWidth 32 (IntOp.cmpi CmpIPredicate.eq a (BitVec.ofNat 32 x)) = 0#32 := by
      show BitVec.setWidth 32 (BitVec.ofBool (a == BitVec.ofNat 32 x)) = 0#32
      rw [hb]; rfl
    rw [e]
    show (((0#32 : BitVec 32).toInt : ℝ) : EReal) = 0
    simp

/-- The history's features. -/
theorem pay3_apply (x0 : FVec Ideal S12800x128 .f32) (x1 : IVec S1x12800 32) (x3 : FVec Ideal S128x256 .f32) (x13 : FVec Ideal S6x128 .f32) (x4 : FVec Ideal S1x128 .f32)
    (n : Fin 12800) (j : Fin 128) (ρ : Fin 6) (hρ : (x1 (ix2 0 n)).toNat = ρ.val) :
    k1_pay3 (F := Ideal) x0 x1 x3 x13 x4 (ix2 n j)
      = dense2 x3 (fun j => x4 (ix2 0 j)) (fun k => x0 (ix2 n k)) (fun k => x13 (ix2 ρ k)) j := by
  pointwise [k1_pay3]
  unfold dense2
  have h1 : ∀ x : Fin 6, (FloatOps.sitofp (F := Ideal) FTy.f32 (BitVec.setWidth 32 (IntOp.cmpi CmpIPredicate.eq (x1 (ix2 0 n)) (BitVec.ofNat 32 x.val))) : EReal) = if ρ = x then 1 else 0 := by
    intro x
    rw [onehot _ _ (by omega), hρ]
    simp [Fin.ext_iff]
  simp only [h1, ite_mul, one_mul, zero_mul, Finset.sum_ite_eq, Finset.mem_univ, if_true, mul_zero, Finset.sum_const_zero, add_zero, add_assoc]

/-- The attention's scores before the shift. -/
def rawScore (f : FVec Ideal S12800x128 .f32) (c : FVec Ideal S64x128 .f32) (w : FVec Ideal S128x128 .f32) (x11 : FVec Ideal S1x128 .f32) (n : Fin 12800) : EReal :=
  ∑ k : Fin 128, x11 (ix2 0 k) * max (∑ k' : Fin 128, f (ix2 n k') * w (ix2 k k') + c (ix2 (⟨n.val / 200, by omega⟩ : Fin 64) k)) 0

theorem negInf : Ideal.ofBits FTy.f32 4286578688#32 = ⊥ := by
  simp [Ideal.ofBits, Ideal.ieee]

/-- The weights are the scores' exponentials, all scores shifted by one real number. -/
theorem pay7_apply (f : FVec Ideal S12800x128 .f32) (c : FVec Ideal S64x128 .f32) (w : FVec Ideal S128x128 .f32) (x11 : FVec Ideal S1x128 .f32)
    (hs : ∀ n, IsReal (rawScore f c w x11 n)) :
    ∃ M, IsReal M ∧ ∀ n : Fin 12800, k1_pay7 (F := Ideal) f c w (constant S12800x128 .f32 0x00000000#32) x11 (ix2 0 n) = Ideal.exp (rawScore f c w x11 n - M) := by
  refine ⟨_, fold_max_real (Finset.univ : Finset (Fin 1 × Fin 12800)) ⟨(0, 0), Finset.mem_univ _⟩ (fun x => rawScore f c w x11 x.2) fun x => hs _, fun n => ?_⟩
  pointwise [k1_pay7]
  rw [negInf]
  rfl

theorem words (i : Fin 64) (l : Fin 200) :
    (Scalar.select
        (IntOp.andi
          (IntOp.cmpi CmpIPredicate.ne
            (IntOp.subi (BitVec.setWidth 32 (IntOp.cmpi CmpIPredicate.sgt (BitVec.ofNat 32 (200 * i.val + l.val)) 0#32))
              (BitVec.setWidth 32 (IntOp.cmpi CmpIPredicate.slt (BitVec.ofNat 32 (200 * i.val + l.val)) 0#32)))
            (Scalar.subi (Scalar.extui (Scalar.cmpi CmpIPredicate.sgt 200#32 0#32))
              (Scalar.extui (Scalar.cmpi CmpIPredicate.slt 200#32 0#32))))
          (IntOp.cmpi CmpIPredicate.ne (IntOp.remsi ArithUnit.vector (BitVec.ofNat 32 (200 * i.val + l.val)) 200#32) 0#32))
        (IntOp.subi (IntOp.divsi ArithUnit.vector (BitVec.ofNat 32 (200 * i.val + l.val)) 200#32) 1#32)
        (IntOp.divsi ArithUnit.vector (BitVec.ofNat 32 (200 * i.val + l.val)) 200#32)) = BitVec.ofNat 32 i.val := by
  revert i l
  decide +kernel

theorem cmpi_word (a i : Fin 64) : IntOp.cmpi CmpIPredicate.eq (BitVec.ofNat 32 a.val) (BitVec.ofNat 32 i.val) = if a = i then 1#1 else 0#1 := by
  revert a i
  decide +kernel

/-- A column and its row among the block's. -/
abbrev row (i : Fin 64) (l : Fin 200) : Fin 12800 := ⟨200 * i.val + l.val, by omega⟩

/-- A column belongs to its own row alone. -/
theorem pay6_apply (i a : Fin 64) (l : Fin 200) : k1_pay6 (ix2 i (row a l)) = if a = i then 1#1 else 0#1 := by
  pointwise [k1_pay6]
  rw [words, cmpi_word]

/-- A sum over the columns of one row. -/
theorem sum_row (i : Fin 64) (g : Fin 12800 → EReal) : ∑ n : Fin 12800, Scalar.select (k1_pay6 (ix2 i n)) (g n) 0 = ∑ l : Fin 200, g (row i l) := by
  have h : ∀ x : Fin 64 × Fin 200, (finProdFinEquiv x : Fin 12800) = row x.1 x.2 := fun x => Fin.ext (by simp [finProdFinEquiv]; omega)
  rw [← Equiv.sum_comp (finProdFinEquiv (m := 64) (n := 200)) (fun n : Fin 12800 => Scalar.select (k1_pay6 (ix2 i n)) (g n) 0), Fintype.sum_prod_type]
  simp only [h]
  rw [Finset.sum_eq_single i]
  · exact Finset.sum_congr rfl fun l _ => by rw [pay6_apply, if_pos rfl]; rfl
  · intro a _ ha
    exact Finset.sum_eq_zero fun l _ => by rw [pay6_apply, if_neg ha]; rfl
  · intro h; exact absurd (Finset.mem_univ _) h

theorem pay1_apply (wi : FVec Ideal S64x128 .f32) (f : FVec Ideal S12800x128 .f32) (e : FVec Ideal S1x12800 .f32) (x5 : FVec Ideal S128x128 .f32) (x6 : FVec Ideal S1x128 .f32) (x7 : FVec Ideal S128x256 .f32)
    (x8 : FVec Ideal S1x128 .f32) (i : Fin 64) (j : Fin 128) :
    k1_pay1 (F := Ideal) wi f k1_pay6 (Scalar.ofBits .f32 0x00000000#32) e x5 x6 x7 x8 (ix2 i j)
      = dense2 x7 (fun j => x8 (ix2 0 j)) (fun k => wi (ix2 i k))
          (dense1 x5 (fun j => x6 (ix2 0 j)) fun k => Ideal.div (∑ l, e (ix2 0 (row i l)) * f (ix2 (row i l) k)) (∑ l, e (ix2 0 (row i l)))) j := by
  pointwise [k1_pay1]
  simp only [sum_row]
  unfold dense2 dense1
  rfl

/-- The network read from a dense call's operands. -/
def netOf (x3 : FVec Ideal S128x256 .f32) (x4 : FVec Ideal S1x128 .f32) (x5 : FVec Ideal S128x128 .f32) (x6 : FVec Ideal S1x128 .f32) (x7 : FVec Ideal S128x256 .f32)
    (x8 : FVec Ideal S1x128 .f32) (x9 : FVec Ideal S128x256 .f32) (x10 x11 : FVec Ideal S1x128 .f32) : Net where
  W1 := x3
  b1 := fun j => x4 (ix2 0 j)
  W2 := x5
  b2 := fun j => x6 (ix2 0 j)
  W3 := x7
  b3 := fun j => x8 (ix2 0 j)
  A1 := x9
  c1 := fun j => x10 (ix2 0 j)
  A2 := fun j => x11 (ix2 0 j)

/-- One element of a dense call's block. -/
theorem outBlk_apply (x0 : FVec Ideal S12800x128 .f32) (x1 : IVec S1x12800 32) (x2 : FVec Ideal S64x128 .f32) (x3 : FVec Ideal S128x256 .f32) (x4 : FVec Ideal S1x128 .f32)
    (x5 : FVec Ideal S128x128 .f32) (x6 : FVec Ideal S1x128 .f32) (x7 : FVec Ideal S128x256 .f32)
    (x8 : FVec Ideal S1x128 .f32) (x9 : FVec Ideal S128x256 .f32) (x10 x11 : FVec Ideal S1x128 .f32) (x13 : FVec Ideal S6x128 .f32)
    (rt : Fin 12800 → Fin 6) (hrt : ∀ n, (x1 (ix2 0 n)).toNat = (rt n).val)
    (hN : (netOf x3 x4 x5 x6 x7 x8 x9 x10 x11).Real') (h0 : ∀ i, IsReal (x0 i)) (h2 : ∀ i, IsReal (x2 i)) (h13 : ∀ i, IsReal (x13 i))
    (i : Fin 64) (j : Fin 128) :
    outBlk (F := Ideal) x0 x1 x2 x3 x4 x5 x6 x7 x8 x9 x10 x11 x13 (ix2 i j)
      = (netOf x3 x4 x5 x6 x7 x8 x9 x10 x11).out (fun l k => x0 (ix2 (row i l) k)) (fun l k => x13 (ix2 (rt (row i l)) k)) (fun k => x2 (ix2 i k)) j := by
  have hf : ∀ (a : Fin 64) (l : Fin 200) (k : Fin 128), k1_pay3 (F := Ideal) x0 x1 x3 x13 x4 (ix2 (row a l) k)
      = (netOf x3 x4 x5 x6 x7 x8 x9 x10 x11).feat (fun l k => x0 (ix2 (row a l) k)) (fun l k => x13 (ix2 (rt (row a l)) k)) l k :=
    fun a l k => pay3_apply x0 x1 x3 x13 x4 (row a l) k _ (hrt _)
  have hst : ∀ (a : Fin 64) (l : Fin 200), rawScore (k1_pay3 (F := Ideal) x0 x1 x3 x13 x4) (k1_pay4 (F := Ideal) x2 x9 x10) (k1_pay5 (F := Ideal) x9) x11 (row a l)
      = (netOf x3 x4 x5 x6 x7 x8 x9 x10 x11).score (fun l k => x0 (ix2 (row a l) k)) (fun l k => x13 (ix2 (rt (row a l)) k)) (fun k => x2 (ix2 a k)) l := by
    intro a l
    unfold rawScore Net.score
    refine Finset.sum_congr rfl fun k _ => ?_
    have ha : (⟨(row a l).val / 200, by omega⟩ : Fin 64) = a := Fin.ext (by show (200 * a.val + l.val) / 200 = a.val; omega)
    rw [mul_comm]
    simp only [ha, hf, pay4_apply, pay5_apply]
    unfold dense2
    rw [← add_assoc]
    rfl
  have hsr : ∀ n, IsReal (rawScore (k1_pay3 (F := Ideal) x0 x1 x3 x13 x4) (k1_pay4 (F := Ideal) x2 x9 x10) (k1_pay5 (F := Ideal) x9) x11 n) := by
    intro n
    obtain ⟨a, l, rfl⟩ : ∃ a l, n = row a l := ⟨⟨n.val / 200, by omega⟩, ⟨n.val % 200, by omega⟩, Fin.ext (by show n.val = 200 * (n.val / 200) + n.val % 200; omega)⟩
    rw [hst]
    exact Net.score_real hN (fun _ _ => h0 _) (fun _ _ => h13 _) (fun _ => h2 _) l
  obtain ⟨M, hM, he⟩ := pay7_apply _ _ _ _ hsr
  unfold outBlk
  refine (pay1_apply _ _ _ _ _ _ _ i j).trans ?_
  simp only [he, hst, hf]
  have hm : ∀ k, Ideal.div (∑ l, Ideal.exp ((netOf x3 x4 x5 x6 x7 x8 x9 x10 x11).score (fun l k => x0 (ix2 (row i l) k)) (fun l k => x13 (ix2 (rt (row i l)) k)) (fun k => x2 (ix2 i k)) l - M)
        * (netOf x3 x4 x5 x6 x7 x8 x9 x10 x11).feat (fun l k => x0 (ix2 (row i l) k)) (fun l k => x13 (ix2 (rt (row i l)) k)) l k)
      (∑ l, Ideal.exp ((netOf x3 x4 x5 x6 x7 x8 x9 x10 x11).score (fun l k => x0 (ix2 (row i l) k)) (fun l k => x13 (ix2 (rt (row i l)) k)) (fun k => x2 (ix2 i k)) l - M))
      = (netOf x3 x4 x5 x6 x7 x8 x9 x10 x11).mean (fun l k => x0 (ix2 (row i l) k)) (fun l k => x13 (ix2 (rt (row i l)) k)) (fun k => x2 (ix2 i k)) k :=
    fun k => mix_shift (by norm_num) _ _ M (fun l => Net.score_real hN (fun _ _ => h0 _) (fun _ _ => h13 _) (fun _ => h2 _) l)
      (fun l => Net.feat_real hN (fun _ _ => h0 _) (fun _ _ => h13 _) l k) hM
  simp only [hm]
  unfold Net.out
  congr 1
  funext k
  pointwise [k1_pay2]

end Cert.Proof.Val

end
-- ==== Proof.Reference.lean ====
/-
  The reference's result, read one element at a time over the extended reals.
-/
module

public import proofs.«01_k».proof.Proof.Spec
public import proofs.«01_k».proof.Proof.Gen.ReferenceIdeal.Run
public import Idealize.ShloMosaic.Lib.Routing.Ops

@[expose] public section

noncomputable section

namespace Cert.Proof.Ref

open Cert.ReferenceIdeal Cert.ReferenceIdeal.Gen
open Idealize.ShloMosaic
open Cert.Proof.Val
open scoped BigOperators

/-! ## Rows taken from a table -/

/-- An index counted from the end where it is negative, as the reference reads one. -/
def wrap3 (n : BitVec 32) (x : IVec S1024x200 32) : IVec S1024x200x1 32 :=
  broadcastInDim S1024x200x1 ![0, 1] bcast_S1024x200_S1024x200x1_0_1
    (select (cmpi .slt x (broadcastInDim S1024x200 ![] bcast_S_S1024x200 (constantI S_ 32 0#32))) (addi x (broadcastInDim S1024x200 ![] bcast_S_S1024x200 (constantI S_ 32 n))) x)

def inside3 (top : BitVec 32) (w : IVec S1024x200x1 32) : IVec S1024x200 1 :=
  Host.reduce IntOp.andi (andi (cmpi .sge w (broadcastInDim S1024x200x1 ![] bcast_S_S1024x200x1 (constantI S_ 32 0#32)))
    (cmpi .sle w (broadcastInDim S1024x200x1 ![0, 1, 2] bcast_S1x1x1_S1024x200x1_0_1_2 (broadcastInDim S1x1x1 ![2] bcast_S1_S1x1x1_2 (constantI S1 32 top)))))
    (constantI S_ 1 1#1) reducesTo_S1024x200x1_S1024x200_d2 h_S_

def take3 {N : ℕ} (d : GatherDims ⟨2, ![N, 128]⟩ S1024x200x1 S1024x200x128) (top : BitVec 32) (T : FVec Ideal ⟨2, ![N, 128]⟩ .f32) (w : IVec S1024x200x1 32) : FVec Ideal S1024x200x128 .f32 :=
  select (broadcastInDim S1024x200x128 ![0, 1] bcast_S1024x200_S1024x200x128_0_1 (inside3 top w)) (Host.gather d T w)
    (broadcastInDim S1024x200x128 ![] bcast_S_S1024x200x128 (constant S_ .f32 0x7FC00000#32))

def wrap2 (x : IVec S1024 32) : IVec S1024x1 32 :=
  broadcastInDim S1024x1 ![0] bcast_S1024_S1024x1_0
    (select (cmpi .slt x (broadcastInDim S1024 ![] bcast_S_S1024 (constantI S_ 32 0#32))) (addi x (broadcastInDim S1024 ![] bcast_S_S1024 (constantI S_ 32 100000#32))) x)

def inside2 (w : IVec S1024x1 32) : IVec S1024 1 :=
  Host.reduce IntOp.andi (andi (cmpi .sge w (broadcastInDim S1024x1 ![] bcast_S_S1024x1 (constantI S_ 32 0#32)))
    (cmpi .sle w (broadcastInDim S1024x1 ![0, 1] bcast_S1x1_S1024x1_0_1 (broadcastInDim S1x1 ![1] bcast_S1_S1x1_1 (constantI S1 32 99999#32)))))
    (constantI S_ 1 1#1) reducesTo_S1024x1_S1024_d1 h_S_

def take2 (T : FVec Ideal S100000x128 .f32) (w : IVec S1024x1 32) : FVec Ideal S1024x128 .f32 :=
  select (broadcastInDim S1024x128 ![0] bcast_S1024_S1024x128_0 (inside2 w)) (Host.gather gather_S100000x128_S1024x1_S1024x128_1_0_n_n_0_1_1128 T w)
    (broadcastInDim S1024x128 ![] bcast_S_S1024x128 (constant S_ .f32 0x7FC00000#32))

/-! ## The layers -/

def dense3 (u r : FVec Ideal S1024x200x128 .f32) (W : FVec Ideal S128x256 .f32) (b : FVec Ideal S128 .f32) : FVec Ideal S1024x200x128 .f32 :=
  maximumf (addf (Host.dotGeneral dot_S1024x200x256_S256x128_S1024x200x128_2_0_01_1_n_n none
      (concatenate S1024x200x256 2 [⟨S1024x200x128, u⟩, ⟨S1024x200x128, r⟩] concatenates_S1024x200x128_S1024x200x128_S1024x200x256_d2)
      (transpose S256x128 [1, 0] W transposes_S128x256_S256x128_1_0))
    (broadcastInDim S1024x200x128 ![0, 1, 2] bcast_S1x1x128_S1024x200x128_0_1_2 (broadcastInDim S1x1x128 ![2] bcast_S128_S1x1x128_2 b)))
    (broadcastInDim S1024x200x128 ![] bcast_S_S1024x200x128 (constant S_ .f32 0x00000000#32))

def spread (w : FVec Ideal S1024x128 .f32) : FVec Ideal S1024x200x128 .f32 :=
  broadcastInDim S1024x200x128 ![0, 1, 2] bcast_S1024x1x128_S1024x200x128_0_1_2 (broadcastInDim S1024x1x128 ![0, 2] bcast_S1024x128_S1024x1x128_0_2 w)

def scores (h : FVec Ideal S1024x200x128 .f32) (A : FVec Ideal S1x128 .f32) (b : FVec Ideal S1 .f32) : FVec Ideal S1024x200x1 .f32 :=
  addf (Host.dotGeneral dot_S1024x200x128_S128x1_S1024x200x1_2_0_01_1_n_n none h (transpose S128x1 [1, 0] A transposes_S1x128_S128x1_1_0))
    (broadcastInDim S1024x200x1 ![0, 1, 2] bcast_S1x1x1_S1024x200x1_0_1_2 (broadcastInDim S1x1x1 ![2] bcast_S1_S1x1x1_2 b))

def column (v : FVec Ideal S1024x1 .f32) : FVec Ideal S1024x200x1 .f32 :=
  broadcastInDim S1024x200x1 ![0, 1, 2] bcast_S1024x1x1_S1024x200x1_0_1_2 (broadcastInDim S1024x1x1 ![0, 2] bcast_S1024x1_S1024x1x1_0_2 v)

def greatest (s : FVec Ideal S1024x200x1 .f32) : FVec Ideal S1024x1 .f32 :=
  maximumf (broadcastInDim S1024x1 ![] bcast_S_S1024x1 (constant S_ .f32 0xFF800000#32))
    (Host.reduce FloatOps.maximumf s (constant S_ .f32 0xFF800000#32) reducesTo_S1024x200x1_S1024x1_d1 h_S_)

def weights (e : FVec Ideal S1024x200x1 .f32) : FVec Ideal S1024x200x1 .f32 :=
  Host.divf e (column (Host.reduceAdd e (constant S_ .f32 0x00000000#32) reducesTo_S1024x200x1_S1024x1_d1 h_S_))

def mixed (f : FVec Ideal S1024x200x128 .f32) (mu : FVec Ideal S1024x200x1 .f32) : FVec Ideal S1024x128 .f32 :=
  Host.reduceAdd (mulf f (broadcastInDim S1024x200x128 ![0, 1, 2] bcast_S1024x200x1_S1024x200x128_0_1_2 mu)) (constant S_ .f32 0x00000000#32) reducesTo_S1024x200x128_S1024x128_d1 h_S_

def single (z : FVec Ideal S1024x128 .f32) (W : FVec Ideal S128x128 .f32) (b : FVec Ideal S128 .f32) : FVec Ideal S1024x128 .f32 :=
  maximumf (addf (Host.dotGeneral dot_S1024x128_S128x128_S1024x128_1_0_0_1_n_n none z (transpose S128x128 [1, 0] W transposes_S128x128_S128x128_1_0))
    (broadcastInDim S1024x128 ![0, 1] bcast_S1x128_S1024x128_0_1 (broadcastInDim S1x128 ![1] bcast_S128_S1x128_1 b)))
    (broadcastInDim S1024x128 ![] bcast_S_S1024x128 (constant S_ .f32 0x00000000#32))

def pair (w z : FVec Ideal S1024x128 .f32) (W : FVec Ideal S128x256 .f32) (b : FVec Ideal S128 .f32) : FVec Ideal S1024x128 .f32 :=
  maximumf (addf (Host.dotGeneral dot_S1024x256_S256x128_S1024x128_1_0_0_1_n_n none
      (concatenate S1024x256 1 [⟨S1024x128, w⟩, ⟨S1024x128, z⟩] concatenates_S1024x128_S1024x128_S1024x256_d1)
      (transpose S256x128 [1, 0] W transposes_S128x256_S256x128_1_0))
    (broadcastInDim S1024x128 ![0, 1] bcast_S1x128_S1024x128_0_1 (broadcastInDim S1x128 ![1] bcast_S128_S1x128_1 b)))
    (broadcastInDim S1024x128 ![] bcast_S_S1024x128 (constant S_ .f32 0x00000000#32))

/-- The reference's result from its sixteen arguments. -/
def whole (a0 a1 : IVec S1024x200 32) (a2 : IVec S1024 32) (a3 a4 : FVec Ideal S100000x128 .f32) (a5 : FVec Ideal S6x128 .f32)
    (a6 : FVec Ideal S128x256 .f32) (a7 : FVec Ideal S128 .f32) (a8 : FVec Ideal S128x128 .f32) (a9 : FVec Ideal S128 .f32)
    (a10 : FVec Ideal S128x256 .f32) (a11 : FVec Ideal S128 .f32) (a12 : FVec Ideal S128x256 .f32) (a13 : FVec Ideal S128 .f32)
    (a14 : FVec Ideal S1x128 .f32) (a15 : FVec Ideal S1 .f32) : FVec Ideal S1024x128 .f32 :=
  have f := dense3 (take3 gather_S100000x128_S1024x200x1_S1024x200x128_2_0_n_n_0_2_1128 99999#32 a3 (wrap3 100000#32 a0))
    (take3 gather_S6x128_S1024x200x1_S1024x200x128_2_0_n_n_0_2_1128 5#32 a5 (wrap3 6#32 a1)) a6 a7
  have wi := take2 a4 (wrap2 a2)
  have s := scores (dense3 f (spread wi) a12 a13) a14 a15
  pair wi (single (mixed f (weights (Host.exp (subf s (column (greatest s)))))) a8 a9) a10 a11

theorem res_eq (m : (ℓ : Loc nD τ sig) → Buf (Elt Ideal) ℓ) (c : Dev nD) :
    Value.res_main_v50 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := rfl

/-! ## One element of each -/

theorem dense3_apply (u r : FVec Ideal S1024x200x128 .f32) (W : FVec Ideal S128x256 .f32) (b : FVec Ideal S128 .f32) (i : Fin 1024) (l : Fin 200) (j : Fin 128) :
    dense3 u r W b (ix3 i l j) = dense2 W (fun j => b (ix1 j)) (fun k => u (ix3 i l k)) (fun k => r (ix3 i l k)) j := by
  pointwise [dense3]
  rfl

theorem pair_apply (w z : FVec Ideal S1024x128 .f32) (W : FVec Ideal S128x256 .f32) (b : FVec Ideal S128 .f32) (i : Fin 1024) (j : Fin 128) :
    pair w z W b (ix2 i j) = dense2 W (fun j => b (ix1 j)) (fun k => w (ix2 i k)) (fun k => z (ix2 i k)) j := by
  pointwise [pair]
  rfl

theorem single_apply (z : FVec Ideal S1024x128 .f32) (W : FVec Ideal S128x128 .f32) (b : FVec Ideal S128 .f32) (i : Fin 1024) (j : Fin 128) :
    single z W b (ix2 i j) = dense1 W (fun j => b (ix1 j)) (fun k => z (ix2 i k)) j := by
  pointwise [single]
  rfl

theorem spread_apply (w : FVec Ideal S1024x128 .f32) (i : Fin 1024) (l : Fin 200) (j : Fin 128) : spread w (ix3 i l j) = w (ix2 i j) := by
  pointwise [spread]

theorem scores_apply (h : FVec Ideal S1024x200x128 .f32) (A : FVec Ideal S1x128 .f32) (b : FVec Ideal S1 .f32) (i : Fin 1024) (l : Fin 200) :
    scores h A b (ix3 i l 0) = (∑ k : Fin 128, h (ix3 i l k) * A (ix2 0 k)) + b (ix1 0) := by
  pointwise [scores]

theorem column_apply (v : FVec Ideal S1024x1 .f32) (i : Fin 1024) (l : Fin 200) : column v (ix3 i l 0) = v (ix2 i 0) := by
  pointwise [column]

theorem weights_apply (e : FVec Ideal S1024x200x1 .f32) (i : Fin 1024) (l : Fin 200) :
    weights e (ix3 i l 0) = Ideal.div (e (ix3 i l 0)) (∑ l' : Fin 200, e (ix3 i l' 0)) := by
  pointwise [weights, column]

theorem mixed_apply (f : FVec Ideal S1024x200x128 .f32) (mu : FVec Ideal S1024x200x1 .f32) (i : Fin 1024) (j : Fin 128) :
    mixed f mu (ix2 i j) = ∑ l : Fin 200, f (ix3 i l j) * mu (ix3 i l 0) := by
  pointwise [mixed]

/-- The greatest of a row's scores, all of them real, is real. -/
theorem greatest_real (s : FVec Ideal S1024x200x1 .f32) (i : Fin 1024) (hs : ∀ l, IsReal (s (ix3 i l 0))) : IsReal (greatest s (ix2 i 0)) := by
  have h : IsReal ((Finset.univ : Finset (Fin 200)).fold max ⊥ fun l => s (ix3 i l 0)) := fold_max_real _ ⟨0, Finset.mem_univ _⟩ _ hs
  pointwise [greatest]
  have hb : Ideal.ofBits FTy.f32 4286578688#32 = ⊥ := by simp [Ideal.ofBits, Ideal.ieee]
  rw [hb, max_eq_right bot_le]
  exact h

/-! ## Rows taken, at an index in range -/

theorem word_in (x top : BitVec 32) (ht : top.toNat < 2147483648) (h : x.toNat ≤ top.toNat) :
    IntOp.andi (IntOp.cmpi CmpIPredicate.sge x 0#32) (IntOp.cmpi CmpIPredicate.sle x top) = 1#1 := by
  have hx : x.toInt = x.toNat := BitVec.toInt_eq_toNat_of_lt (by omega)
  have htt : top.toInt = top.toNat := BitVec.toInt_eq_toNat_of_lt (by omega)
  have h1 : BitVec.sle 0#32 x = true := by rw [BitVec.sle_iff_toInt_le, hx]; simp
  have h2 : BitVec.sle x top = true := by rw [BitVec.sle_iff_toInt_le, hx, htt]; omega
  show IntOp.andi (BitVec.ofBool (BitVec.sle 0#32 x)) (BitVec.ofBool (BitVec.sle x top)) = 1#1
  rw [h1, h2]; rfl

theorem word_kept (x n : BitVec 32) (h : x.toNat < 2147483648) :
    Scalar.select (IntOp.cmpi CmpIPredicate.slt x 0#32) (IntOp.addi x n) x = x := by
  have hx : x.toInt = x.toNat := BitVec.toInt_eq_toNat_of_lt (by omega)
  have h1 : BitVec.slt x 0#32 = false := by
    rw [Bool.eq_false_iff, Ne, BitVec.slt_iff_toInt_lt, hx]; simp
  show Scalar.select (BitVec.ofBool (BitVec.slt x 0#32)) (IntOp.addi x n) x = x
  rw [h1]; rfl

theorem inside3_apply (top : BitVec 32) (ht : top.toNat < 2147483648) (w : IVec S1024x200x1 32) (i : Fin 1024) (l : Fin 200) (h : (w (ix3 i l 0)).toNat ≤ top.toNat) :
    inside3 top w (ix2 i l) = 1#1 := by
  pointwise [inside3]
  have hu : (Finset.univ : Finset (Fin 1)) = {0} := rfl
  rw [hu, Finset.fold_singleton, word_in _ _ ht h]
  rfl

theorem inside2_apply (w : IVec S1024x1 32) (i : Fin 1024) (h : (w (ix2 i 0)).toNat ≤ 99999) : inside2 w (ix1 i) = 1#1 := by
  pointwise [inside2]
  have hu : (Finset.univ : Finset (Fin 1)) = {0} := rfl
  rw [hu, Finset.fold_singleton, word_in _ _ (by decide) h]
  rfl

theorem wrap3_apply (n : BitVec 32) (x : IVec S1024x200 32) (i : Fin 1024) (l : Fin 200) (h : (x (ix2 i l)).toNat < 2147483648) : wrap3 n x (ix3 i l 0) = x (ix2 i l) := by
  pointwise [wrap3]
  exact word_kept _ _ h

theorem wrap2_apply (x : IVec S1024 32) (i : Fin 1024) (h : (x (ix1 i)).toNat < 2147483648) : wrap2 x (ix2 i 0) = x (ix1 i) := by
  pointwise [wrap2]
  exact word_kept _ _ h

/-- The dimension numbers of a gather of whole rows, one for each entry of a table of row numbers. -/
abbrev rowDims (N : ℕ) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

theorem rowDims_apply {N : ℕ} (wf : GatherDims.WF ⟨2, ![N, 128]⟩ S1024x200x1 S1024x200x128 [2] [0] [] [0] [] 2 ![1, 128])
    (T : FVec Ideal ⟨2, ![N, 128]⟩ .f32) (w : IVec S1024x200x1 32) (i : Fin 1024) (l : Fin 200) (j : Fin 128) (b : Fin N) (hb : (w (ix3 i l 0)).toInt.toNat = b.val) :
    Host.gather (rowDims N wf) T w (ix3 i l j) = T (ix2 b j) := by
  unfold Host.gather
  refine congrArg T (funext fun a => Fin.ext ?_)
  have h0 : (0 : Fin 2) ∈ (rowDims N wf).startIndexMap := List.mem_singleton.mpr rfl
  have hsi : (rowDims N wf).siIdx (ix3 i l j) ⟨List.idxOf (0 : Fin 2) (rowDims N wf).startIndexMap, List.idxOf_lt_length_iff.2 h0⟩ = ix3 i l 0 := by
    funext c; refine Fin.ext ?_
    match c with
    | ⟨0, _⟩ => rfl
    | ⟨1, _⟩ => rfl
    | ⟨2, _⟩ => rfl
  match a with
  | ⟨0, _⟩ =>
    show (rowDims N wf).start (ix3 i l j) w 0 + (rowDims N wf).batchCoord (ix3 i l j) 0 + (rowDims N wf).offCoord (ix3 i l j) 0 = b.val
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos h0, hsi, hb]
    show min b.val (N - 1) + 0 + 0 = b.val
    have := b.isLt
    omega
  | ⟨1, _⟩ =>
    show (rowDims N wf).start (ix3 i l j) w 1 + (rowDims N wf).batchCoord (ix3 i l j) 1 + (rowDims N wf).offCoord (ix3 i l j) 1 = j.val
    have h1 : (1 : Fin 2) ∉ (rowDims N wf).startIndexMap := fun h => Nat.one_ne_zero (congrArg Fin.val (List.mem_singleton.mp h))
    have hk : (1 : Fin 2) ∈ (rowDims N wf).sKept := (GatherDims.mem_sKept _ _).mpr ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    show 0 + 0 + j.val = j.val
    omega

theorem sel {s : Shape} (c : IVec s 1) (a b : FVec Ideal s .f32) (i : s.Idx) : select c a b i = Scalar.select (c i) (a i) (b i) := rfl

theorem take3_apply {N : ℕ} (wf : GatherDims.WF ⟨2, ![N, 128]⟩ S1024x200x1 S1024x200x128 [2] [0] [] [0] [] 2 ![1, 128]) (n top : BitVec 32)
    (ht : top.toNat < 2147483648) (hN : top.toNat + 1 = N)
    (T : FVec Ideal ⟨2, ![N, 128]⟩ .f32) (x : IVec S1024x200 32) (i : Fin 1024) (l : Fin 200) (j : Fin 128) (b : Fin N) (hb : (x (ix2 i l)).toNat = b.val) :
    take3 (rowDims N wf) top T (wrap3 n x) (ix3 i l j) = T (ix2 b j) := by
  have hx : (x (ix2 i l)).toNat ≤ top.toNat := by have := b.isLt; omega
  have hw : wrap3 n x (ix3 i l 0) = x (ix2 i l) := wrap3_apply n x i l (by omega)
  have hg := rowDims_apply wf T (wrap3 n x) i l j b (by rw [hw, BitVec.toInt_eq_toNat_of_lt (by omega), hb]; rfl)
  have hm := inside3_apply top ht (wrap3 n x) i l (by rw [hw]; exact hx)
  have hk : broadcastInDim S1024x200x128 ![0, 1] bcast_S1024x200_S1024x200x128_0_1 (inside3 top (wrap3 n x)) (ix3 i l j) = inside3 top (wrap3 n x) (ix2 i l) := by
    pointwise
  unfold take3
  rw [sel, hk, hm, hg]
  rfl

theorem take2_apply (T : FVec Ideal S100000x128 .f32) (x : IVec S1024 32) (i : Fin 1024) (j : Fin 128) (b : Fin 100000) (hb : (x (ix1 i)).toNat = b.val) :
    take2 T (wrap2 x) (ix2 i j) = T (ix2 b j) := by
  have hx : (x (ix1 i)).toNat ≤ 99999 := by have := b.isLt; omega
  have hw : wrap2 x (ix2 i 0) = x (ix1 i) := wrap2_apply x i (by omega)
  have hg : Host.gather gather_S100000x128_S1024x1_S1024x128_1_0_n_n_0_1_1128 T (wrap2 x) (ix2 i j) = T (ix2 b j) := Routing.gather_row gather_S100000x128_S1024x1_S1024x128_1_0_n_n_0_1_1128 rfl rfl rfl rfl rfl T (wrap2 x) i j b
    (by refine hw.trans ?_; exact BitVec.eq_of_toNat_eq (by rw [hb, BitVec.toNat_ofNat]; have := b.isLt; omega)) (by norm_num)
  have hm := inside2_apply (wrap2 x) i (by rw [hw]; exact hx)
  have hk : broadcastInDim S1024x128 ![0] bcast_S1024_S1024x128_0 (inside2 (wrap2 x)) (ix2 i j) = inside2 (wrap2 x) (ix1 i) := by
    pointwise
  unfold take2
  rw [sel, hk, hm, hg]
  rfl

/-! ## The whole -/

/-- The network read from the reference's arguments. -/
def netR (a6 : FVec Ideal S128x256 .f32) (a7 : FVec Ideal S128 .f32) (a8 : FVec Ideal S128x128 .f32) (a9 : FVec Ideal S128 .f32)
    (a10 : FVec Ideal S128x256 .f32) (a11 : FVec Ideal S128 .f32) (a12 : FVec Ideal S128x256 .f32) (a13 : FVec Ideal S128 .f32) (a14 : FVec Ideal S1x128 .f32) : Net where
  W1 := a6
  b1 := fun j => a7 (ix1 j)
  W2 := a8
  b2 := fun j => a9 (ix1 j)
  W3 := a10
  b3 := fun j => a11 (ix1 j)
  A1 := a12
  c1 := fun j => a13 (ix1 j)
  A2 := fun j => a14 (ix2 0 j)

theorem whole_apply (a0 a1 : IVec S1024x200 32) (a2 : IVec S1024 32) (a3 a4 : FVec Ideal S100000x128 .f32) (a5 : FVec Ideal S6x128 .f32)
    (a6 : FVec Ideal S128x256 .f32) (a7 : FVec Ideal S128 .f32) (a8 : FVec Ideal S128x128 .f32) (a9 : FVec Ideal S128 .f32)
    (a10 : FVec Ideal S128x256 .f32) (a11 : FVec Ideal S128 .f32) (a12 : FVec Ideal S128x256 .f32) (a13 : FVec Ideal S128 .f32)
    (a14 : FVec Ideal S1x128 .f32) (a15 : FVec Ideal S1 .f32)
    (us : Fin 1024 → Fin 200 → Fin 100000) (hus : ∀ i l, (a0 (ix2 i l)).toNat = (us i l).val)
    (rt : Fin 1024 → Fin 200 → Fin 6) (hrt : ∀ i l, (a1 (ix2 i l)).toNat = (rt i l).val)
    (it : Fin 1024 → Fin 100000) (hit : ∀ i, (a2 (ix1 i)).toNat = (it i).val)
    (hN : (netR a6 a7 a8 a9 a10 a11 a12 a13 a14).Real') (h3 : ∀ i, IsReal (a3 i)) (h4 : ∀ i, IsReal (a4 i)) (h5 : ∀ i, IsReal (a5 i)) (h15 : ∀ i, IsReal (a15 i))
    (i : Fin 1024) (j : Fin 128) :
    whole a0 a1 a2 a3 a4 a5 a6 a7 a8 a9 a10 a11 a12 a13 a14 a15 (ix2 i j)
      = (netR a6 a7 a8 a9 a10 a11 a12 a13 a14).out (fun l k => a3 (ix2 (us i l) k)) (fun l k => a5 (ix2 (rt i l) k)) (fun k => a4 (ix2 (it i) k)) j := by
  have hu : ∀ (l : Fin 200) (k : Fin 128), take3 gather_S100000x128_S1024x200x1_S1024x200x128_2_0_n_n_0_2_1128 99999#32 a3 (wrap3 100000#32 a0) (ix3 i l k) = a3 (ix2 (us i l) k) :=
    fun l k => take3_apply (N := 100000) _ 100000#32 99999#32 (by decide) (by decide) a3 a0 i l k _ (hus i l)
  have hr : ∀ (l : Fin 200) (k : Fin 128), take3 gather_S6x128_S1024x200x1_S1024x200x128_2_0_n_n_0_2_1128 5#32 a5 (wrap3 6#32 a1) (ix3 i l k) = a5 (ix2 (rt i l) k) :=
    fun l k => take3_apply (N := 6) _ 6#32 5#32 (by decide) (by decide) a5 a1 i l k _ (hrt i l)
  have hw : ∀ k : Fin 128, take2 a4 (wrap2 a2) (ix2 i k) = a4 (ix2 (it i) k) := fun k => take2_apply a4 a2 i k _ (hit i)
  unfold whole
  generalize take3 gather_S100000x128_S1024x200x1_S1024x200x128_2_0_n_n_0_2_1128 99999#32 a3 (wrap3 100000#32 a0) = U at *
  generalize take3 gather_S6x128_S1024x200x1_S1024x200x128_2_0_n_n_0_2_1128 5#32 a5 (wrap3 6#32 a1) = R at *
  generalize take2 a4 (wrap2 a2) = WI at *
  set N := netR a6 a7 a8 a9 a10 a11 a12 a13 a14 with hNdef
  have hf : ∀ (l : Fin 200) (k : Fin 128), dense3 U R a6 a7 (ix3 i l k) = N.feat (fun l k => a3 (ix2 (us i l) k)) (fun l k => a5 (ix2 (rt i l) k)) l k := by
    intro l k
    rw [dense3_apply]
    simp only [hu, hr]
    rfl
  have hs : ∀ l : Fin 200, scores (dense3 (dense3 U R a6 a7) (spread WI) a12 a13) a14 a15 (ix3 i l 0)
      = N.score (fun l k => a3 (ix2 (us i l) k)) (fun l k => a5 (ix2 (rt i l) k)) (fun k => a4 (ix2 (it i) k)) l + a15 (ix1 0) := by
    intro l
    rw [scores_apply]
    simp only [dense3_apply (dense3 U R a6 a7), spread_apply, hf, hw]
    rfl
  have hfr : ∀ l k, IsReal (N.feat (fun l k => a3 (ix2 (us i l) k)) (fun l k => a5 (ix2 (rt i l) k)) l k) := fun l k =>
    Net.feat_real hN (fun _ _ => h3 _) (fun _ _ => h5 _) l k
  have hsr : ∀ l, IsReal (N.score (fun l k => a3 (ix2 (us i l) k)) (fun l k => a5 (ix2 (rt i l) k)) (fun k => a4 (ix2 (it i) k)) l) := fun l =>
    Net.score_real hN (fun _ _ => h3 _) (fun _ _ => h5 _) (fun _ => h4 _) l
  generalize scores (dense3 (dense3 U R a6 a7) (spread WI) a12 a13) a14 a15 = S at *
  have hM : IsReal (greatest S (ix2 i 0)) := greatest_real S i fun l => by rw [hs]; exact (hsr l).add (h15 _)
  have he : ∀ l : Fin 200, Host.exp (subf S (column (greatest S))) (ix3 i l 0)
      = Ideal.exp (N.score (fun l k => a3 (ix2 (us i l) k)) (fun l k => a5 (ix2 (rt i l) k)) (fun k => a4 (ix2 (it i) k)) l + a15 (ix1 0) - greatest S (ix2 i 0)) := by
    intro l
    rw [← hs, ← column_apply (greatest S) i l]
    rfl
  have hm : ∀ k : Fin 128, mixed (dense3 U R a6 a7) (weights (Host.exp (subf S (column (greatest S))))) (ix2 i k)
      = N.mean (fun l k => a3 (ix2 (us i l) k)) (fun l k => a5 (ix2 (rt i l) k)) (fun k => a4 (ix2 (it i) k)) k := by
    intro k
    rw [mixed_apply]
    simp only [weights_apply, he, hf]
    exact mix_soft (by norm_num) _ _ _ _ hsr (fun l => hfr l k) (h15 _) hM
  rw [pair_apply]
  simp only [single_apply, hm, hw]
  rfl

end Cert.Proof.Ref

end
-- ==== Proof.Window.lean ====
/-
  What each dense call leaves of its result array, from the arrays it reads: 64 rows to a block, each block from its own
  12800 gathered rows, ratings and 64 item rows, the weights whole.
-/
module

public import proofs.«01_k».proof.Proof.Region
public import Idealize.ShloMosaic.Lib.Pipeline.ValueKit
public import Idealize.ShloMosaic.Lib.ValueLayout

@[expose] public section

noncomputable section

namespace Cert.Proof

open Cert.KernelIdeal Cert.KernelIdeal.Gen
open Idealize.ShloMosaic

variable {F : FTy → Type} [FloatOps F]

open Idealize.ShloMosaic.Pipeline (Dat Cfg Window arrRef)

/-- Block `t` of the gathered rows, -/
def tall {α : Type} (g : S51200x128.Idx → α) (t : Fin 4) : S12800x128.Idx → α := fun y =>
  g (ix2 (⟨12800 * t.val + (y 0).val, by have h : (y 0).val < 12800 := (y 0).isLt; have := t.isLt; omega⟩ : Fin 51200) (y 1 : Fin 128))
/-- of the ratings, -/
def wide {α : Type} (g : S1x51200.Idx → α) (t : Fin 4) : S1x12800.Idx → α := fun y =>
  g (ix2 (0 : Fin 1) (⟨12800 * t.val + (y 1).val, by have h : (y 1).val < 12800 := (y 1).isLt; have := t.isLt; omega⟩ : Fin 51200))
/-- and of the item rows. -/
def low {α : Type} (g : S256x128.Idx → α) (t : Fin 4) : S64x128.Idx → α := fun y =>
  g (ix2 (⟨64 * t.val + (y 0).val, by have h : (y 0).val < 64 := (y 0).isLt; have := t.isLt; omega⟩ : Fin 256) (y 1 : Fin 128))

/-- The block of a row, and its row there. -/
def blkOf (i : Fin 256) : Fin 4 := ⟨i.val / 64, by have := i.isLt; omega⟩
def inBlk (i : Fin 256) : Fin 64 := ⟨i.val % 64, by omega⟩

/-- The result array of a dense call. -/
def piece (x0 : S51200x128.Idx → Elt F .f32) (x1 : S1x51200.Idx → Elt F .i32) (x2 : S256x128.Idx → Elt F .f32) (x3 : S128x256.Idx → Elt F .f32)
    (x4 : S1x128.Idx → Elt F .f32) (x5 : S128x128.Idx → Elt F .f32) (x6 : S1x128.Idx → Elt F .f32) (x7 : S128x256.Idx → Elt F .f32)
    (x8 : S1x128.Idx → Elt F .f32) (x9 : S128x256.Idx → Elt F .f32) (x10 x11 : S1x128.Idx → Elt F .f32) (x13 : S6x128.Idx → Elt F .f32) :
    S256x128.Idx → Elt F .f32 := fun x =>
  outBlk (tall x0 (blkOf (x 0))) (wide x1 (blkOf (x 0))) (low x2 (blkOf (x 0))) x3 x4 x5 x6 x7 x8 x9 x10 x11 x13 (ix2 (inBlk (x 0)) (x 1 : Fin 128))

theorem piece_at (x0 : S51200x128.Idx → Elt F .f32) (x1 : S1x51200.Idx → Elt F .i32) (x2 : S256x128.Idx → Elt F .f32) (x3 : S128x256.Idx → Elt F .f32)
    (x4 : S1x128.Idx → Elt F .f32) (x5 : S128x128.Idx → Elt F .f32) (x6 : S1x128.Idx → Elt F .f32) (x7 : S128x256.Idx → Elt F .f32)
    (x8 : S1x128.Idx → Elt F .f32) (x9 : S128x256.Idx → Elt F .f32) (x10 x11 : S1x128.Idx → Elt F .f32) (x13 : S6x128.Idx → Elt F .f32)
    (t : Fin 4) (y : S64x128.Idx) (x : S256x128.Idx) (h0 : (x 0).val = t.val * 64 + (y 0).val) (h1 : (x 1).val = (y 1).val) :
    outBlk (tall x0 t) (wide x1 t) (low x2 t) x3 x4 x5 x6 x7 x8 x9 x10 x11 x13 y = piece x0 x1 x2 x3 x4 x5 x6 x7 x8 x9 x10 x11 x13 x := by
  have hy : (y 0).val < 64 := (y 0).isLt
  have e : blkOf (x 0) = t := Fin.ext (by show (x 0).val / 64 = t.val; omega)
  have e' : (ix2 (inBlk (x 0)) (x 1 : Fin 128) : S64x128.Idx) = y := by
    funext a
    apply Fin.ext
    match a with
    | ⟨0, _⟩ => show (x 0).val % 64 = (y 0).val; omega
    | ⟨1, _⟩ => exact h1
  unfold piece
  rw [e, e']

/-! ### Call 1 -/

theorem at1_0 : ∀ t : Fin cfg1.N, win1_0.index t = ![t.val, 0] := (by decide +kernel : ∀ t : Fin grid1.N, win1_0.index t = ![t.val, 0])
theorem at1_1 : ∀ t : Fin cfg1.N, win1_1.index t = ![0, t.val] := (by decide +kernel : ∀ t : Fin grid1.N, win1_1.index t = ![0, t.val])
theorem at1_2 : ∀ t : Fin cfg1.N, win1_2.index t = ![t.val, 0] := (by decide +kernel : ∀ t : Fin grid1.N, win1_2.index t = ![t.val, 0])
theorem at1_14 : ∀ t : Fin cfg1.N, win1_14.index t = ![t.val, 0] := (by decide +kernel : ∀ t : Fin grid1.N, win1_14.index t = ![t.val, 0])
theorem at1_3 : ∀ t : Fin cfg1.N, win1_3.index t = ![0, 0] := (by decide +kernel : ∀ t : Fin grid1.N, win1_3.index t = ![0, 0])
theorem at1_4 : ∀ t : Fin cfg1.N, win1_4.index t = ![0, 0] := (by decide +kernel : ∀ t : Fin grid1.N, win1_4.index t = ![0, 0])
theorem at1_5 : ∀ t : Fin cfg1.N, win1_5.index t = ![0, 0] := (by decide +kernel : ∀ t : Fin grid1.N, win1_5.index t = ![0, 0])
theorem at1_6 : ∀ t : Fin cfg1.N, win1_6.index t = ![0, 0] := (by decide +kernel : ∀ t : Fin grid1.N, win1_6.index t = ![0, 0])
theorem at1_7 : ∀ t : Fin cfg1.N, win1_7.index t = ![0, 0] := (by decide +kernel : ∀ t : Fin grid1.N, win1_7.index t = ![0, 0])
theorem at1_8 : ∀ t : Fin cfg1.N, win1_8.index t = ![0, 0] := (by decide +kernel : ∀ t : Fin grid1.N, win1_8.index t = ![0, 0])
theorem at1_9 : ∀ t : Fin cfg1.N, win1_9.index t = ![0, 0] := (by decide +kernel : ∀ t : Fin grid1.N, win1_9.index t = ![0, 0])
theorem at1_10 : ∀ t : Fin cfg1.N, win1_10.index t = ![0, 0] := (by decide +kernel : ∀ t : Fin grid1.N, win1_10.index t = ![0, 0])
theorem at1_11 : ∀ t : Fin cfg1.N, win1_11.index t = ![0, 0] := (by decide +kernel : ∀ t : Fin grid1.N, win1_11.index t = ![0, 0])
theorem at1_13 : ∀ t : Fin cfg1.N, win1_13.index t = ![0, 0] := (by decide +kernel : ∀ t : Fin grid1.N, win1_13.index t = ![0, 0])
theorem ib1_0 (V : VV F) (t : Fin cfg1.N) : ib1 V 0 t = tall (V (Proc.devRef .tc main_v5_0)) t := by
  funext y
  unfold tall
  blk_ext [ib1, at1_0 t]
theorem ib1_1 (V : VV F) (t : Fin cfg1.N) : ib1 V 1 t = wide (V (Proc.devRef .tc main_v6)) t := by
  funext y
  unfold wide
  blk_ext [ib1, at1_1 t]
theorem ib1_2 (V : VV F) (t : Fin cfg1.N) : ib1 V 2 t = low (V (Proc.devRef .tc main_v5_1)) t := by
  funext y
  unfold low
  blk_ext [ib1, at1_2 t]
theorem ib1_3 (V : VV F) (t : Fin cfg1.N) : ib1 V 3 t = V (Proc.devRef .tc main_arg6) := by
  funext y
  blk_ext [ib1, at1_3 t]
theorem ib1_4 (V : VV F) (t : Fin cfg1.N) : ib1 V 4 t = V (Proc.devRef .tc main_v12) := by
  funext y
  blk_ext [ib1, at1_4 t]
theorem ib1_5 (V : VV F) (t : Fin cfg1.N) : ib1 V 5 t = V (Proc.devRef .tc main_arg8) := by
  funext y
  blk_ext [ib1, at1_5 t]
theorem ib1_6 (V : VV F) (t : Fin cfg1.N) : ib1 V 6 t = V (Proc.devRef .tc main_v13) := by
  funext y
  blk_ext [ib1, at1_6 t]
theorem ib1_7 (V : VV F) (t : Fin cfg1.N) : ib1 V 7 t = V (Proc.devRef .tc main_arg10) := by
  funext y
  blk_ext [ib1, at1_7 t]
theorem ib1_8 (V : VV F) (t : Fin cfg1.N) : ib1 V 8 t = V (Proc.devRef .tc main_v14) := by
  funext y
  blk_ext [ib1, at1_8 t]
theorem ib1_9 (V : VV F) (t : Fin cfg1.N) : ib1 V 9 t = V (Proc.devRef .tc main_arg12) := by
  funext y
  blk_ext [ib1, at1_9 t]
theorem ib1_10 (V : VV F) (t : Fin cfg1.N) : ib1 V 10 t = V (Proc.devRef .tc main_v15) := by
  funext y
  blk_ext [ib1, at1_10 t]
theorem ib1_11 (V : VV F) (t : Fin cfg1.N) : ib1 V 11 t = V (Proc.devRef .tc main_arg14) := by
  funext y
  blk_ext [ib1, at1_11 t]
theorem ib1_13 (V : VV F) (t : Fin cfg1.N) : ib1 V 13 t = V (Proc.devRef .tc main_arg5) := by
  funext y
  blk_ext [ib1, at1_13 t]

theorem arr1 (V : VV F) (d : Dev nD) : (dat1 V d).arrAt 14 cfg1.N
    = piece (V (Proc.devRef .tc main_v5_0)) (V (Proc.devRef .tc main_v6)) (V (Proc.devRef .tc main_v5_1)) (V (Proc.devRef .tc main_arg6)) (V (Proc.devRef .tc main_v12)) (V (Proc.devRef .tc main_arg8)) (V (Proc.devRef .tc main_v13)) (V (Proc.devRef .tc main_arg10)) (V (Proc.devRef .tc main_v14)) (V (Proc.devRef .tc main_arg12)) (V (Proc.devRef .tc main_v15)) (V (Proc.devRef .tc main_arg14)) (V (Proc.devRef .tc main_arg5)) := by
  refine (dat1 V d).arrAt_eq_of_covers 14 _ (by decide +kernel) fun t hf y => ?_
  blk_simp
  rw [show (dat1 V d).after 14 t = ob1 V t from rfl]
  unfold ob1
  rw [ib1_0 V t, ib1_1 V t, ib1_2 V t, ib1_3 V t, ib1_4 V t, ib1_5 V t, ib1_6 V t, ib1_7 V t, ib1_8 V t, ib1_9 V t, ib1_10 V t, ib1_11 V t, ib1_13 V t]
  exact piece_at _ _ _ _ _ _ _ _ _ _ _ _ _ t y _ (by blk_simp [at1_14 t]) (by blk_simp [at1_14 t])

/-! ### Call 3 -/

theorem at3_0 : ∀ t : Fin cfg3.N, win3_0.index t = ![t.val, 0] := (by decide +kernel : ∀ t : Fin grid3.N, win3_0.index t = ![t.val, 0])
theorem at3_1 : ∀ t : Fin cfg3.N, win3_1.index t = ![0, t.val] := (by decide +kernel : ∀ t : Fin grid3.N, win3_1.index t = ![0, t.val])
theorem at3_2 : ∀ t : Fin cfg3.N, win3_2.index t = ![t.val, 0] := (by decide +kernel : ∀ t : Fin grid3.N, win3_2.index t = ![t.val, 0])
theorem at3_14 : ∀ t : Fin cfg3.N, win3_14.index t = ![t.val, 0] := (by decide +kernel : ∀ t : Fin grid3.N, win3_14.index t = ![t.val, 0])
theorem at3_3 : ∀ t : Fin cfg3.N, win3_3.index t = ![0, 0] := (by decide +kernel : ∀ t : Fin grid3.N, win3_3.index t = ![0, 0])
theorem at3_4 : ∀ t : Fin cfg3.N, win3_4.index t = ![0, 0] := (by decide +kernel : ∀ t : Fin grid3.N, win3_4.index t = ![0, 0])
theorem at3_5 : ∀ t : Fin cfg3.N, win3_5.index t = ![0, 0] := (by decide +kernel : ∀ t : Fin grid3.N, win3_5.index t = ![0, 0])
theorem at3_6 : ∀ t : Fin cfg3.N, win3_6.index t = ![0, 0] := (by decide +kernel : ∀ t : Fin grid3.N, win3_6.index t = ![0, 0])
theorem at3_7 : ∀ t : Fin cfg3.N, win3_7.index t = ![0, 0] := (by decide +kernel : ∀ t : Fin grid3.N, win3_7.index t = ![0, 0])
theorem at3_8 : ∀ t : Fin cfg3.N, win3_8.index t = ![0, 0] := (by decide +kernel : ∀ t : Fin grid3.N, win3_8.index t = ![0, 0])
theorem at3_9 : ∀ t : Fin cfg3.N, win3_9.index t = ![0, 0] := (by decide +kernel : ∀ t : Fin grid3.N, win3_9.index t = ![0, 0])
theorem at3_10 : ∀ t : Fin cfg3.N, win3_10.index t = ![0, 0] := (by decide +kernel : ∀ t : Fin grid3.N, win3_10.index t = ![0, 0])
theorem at3_11 : ∀ t : Fin cfg3.N, win3_11.index t = ![0, 0] := (by decide +kernel : ∀ t : Fin grid3.N, win3_11.index t = ![0, 0])
theorem at3_13 : ∀ t : Fin cfg3.N, win3_13.index t = ![0, 0] := (by decide +kernel : ∀ t : Fin grid3.N, win3_13.index t = ![0, 0])
theorem ib3_0 (V : VV F) (t : Fin cfg3.N) : ib3 V 0 t = tall (V (Proc.devRef .tc main_v22_0)) t := by
  funext y
  unfold tall
  blk_ext [ib3, at3_0 t]
theorem ib3_1 (V : VV F) (t : Fin cfg3.N) : ib3 V 1 t = wide (V (Proc.devRef .tc main_v23)) t := by
  funext y
  unfold wide
  blk_ext [ib3, at3_1 t]
theorem ib3_2 (V : VV F) (t : Fin cfg3.N) : ib3 V 2 t = low (V (Proc.devRef .tc main_v22_1)) t := by
  funext y
  unfold low
  blk_ext [ib3, at3_2 t]
theorem ib3_3 (V : VV F) (t : Fin cfg3.N) : ib3 V 3 t = V (Proc.devRef .tc main_arg6) := by
  funext y
  blk_ext [ib3, at3_3 t]
theorem ib3_4 (V : VV F) (t : Fin cfg3.N) : ib3 V 4 t = V (Proc.devRef .tc main_v29) := by
  funext y
  blk_ext [ib3, at3_4 t]
theorem ib3_5 (V : VV F) (t : Fin cfg3.N) : ib3 V 5 t = V (Proc.devRef .tc main_arg8) := by
  funext y
  blk_ext [ib3, at3_5 t]
theorem ib3_6 (V : VV F) (t : Fin cfg3.N) : ib3 V 6 t = V (Proc.devRef .tc main_v30) := by
  funext y
  blk_ext [ib3, at3_6 t]
theorem ib3_7 (V : VV F) (t : Fin cfg3.N) : ib3 V 7 t = V (Proc.devRef .tc main_arg10) := by
  funext y
  blk_ext [ib3, at3_7 t]
theorem ib3_8 (V : VV F) (t : Fin cfg3.N) : ib3 V 8 t = V (Proc.devRef .tc main_v31) := by
  funext y
  blk_ext [ib3, at3_8 t]
theorem ib3_9 (V : VV F) (t : Fin cfg3.N) : ib3 V 9 t = V (Proc.devRef .tc main_arg12) := by
  funext y
  blk_ext [ib3, at3_9 t]
theorem ib3_10 (V : VV F) (t : Fin cfg3.N) : ib3 V 10 t = V (Proc.devRef .tc main_v32) := by
  funext y
  blk_ext [ib3, at3_10 t]
theorem ib3_11 (V : VV F) (t : Fin cfg3.N) : ib3 V 11 t = V (Proc.devRef .tc main_arg14) := by
  funext y
  blk_ext [ib3, at3_11 t]
theorem ib3_13 (V : VV F) (t : Fin cfg3.N) : ib3 V 13 t = V (Proc.devRef .tc main_arg5) := by
  funext y
  blk_ext [ib3, at3_13 t]

theorem arr3 (V : VV F) (d : Dev nD) : (dat3 V d).arrAt 14 cfg3.N
    = piece (V (Proc.devRef .tc main_v22_0)) (V (Proc.devRef .tc main_v23)) (V (Proc.devRef .tc main_v22_1)) (V (Proc.devRef .tc main_arg6)) (V (Proc.devRef .tc main_v29)) (V (Proc.devRef .tc main_arg8)) (V (Proc.devRef .tc main_v30)) (V (Proc.devRef .tc main_arg10)) (V (Proc.devRef .tc main_v31)) (V (Proc.devRef .tc main_arg12)) (V (Proc.devRef .tc main_v32)) (V (Proc.devRef .tc main_arg14)) (V (Proc.devRef .tc main_arg5)) := by
  refine (dat3 V d).arrAt_eq_of_covers 14 _ (by decide +kernel) fun t hf y => ?_
  blk_simp
  rw [show (dat3 V d).after 14 t = ob3 V t from rfl]
  unfold ob3
  rw [ib3_0 V t, ib3_1 V t, ib3_2 V t, ib3_3 V t, ib3_4 V t, ib3_5 V t, ib3_6 V t, ib3_7 V t, ib3_8 V t, ib3_9 V t, ib3_10 V t, ib3_11 V t, ib3_13 V t]
  exact piece_at _ _ _ _ _ _ _ _ _ _ _ _ _ t y _ (by blk_simp [at3_14 t]) (by blk_simp [at3_14 t])

/-! ### Call 5 -/

theorem at5_0 : ∀ t : Fin cfg5.N, win5_0.index t = ![t.val, 0] := (by decide +kernel : ∀ t : Fin grid5.N, win5_0.index t = ![t.val, 0])
theorem at5_1 : ∀ t : Fin cfg5.N, win5_1.index t = ![0, t.val] := (by decide +kernel : ∀ t : Fin grid5.N, win5_1.index t = ![0, t.val])
theorem at5_2 : ∀ t : Fin cfg5.N, win5_2.index t = ![t.val, 0] := (by decide +kernel : ∀ t : Fin grid5.N, win5_2.index t = ![t.val, 0])
theorem at5_14 : ∀ t : Fin cfg5.N, win5_14.index t = ![t.val, 0] := (by decide +kernel : ∀ t : Fin grid5.N, win5_14.index t = ![t.val, 0])
theorem at5_3 : ∀ t : Fin cfg5.N, win5_3.index t = ![0, 0] := (by decide +kernel : ∀ t : Fin grid5.N, win5_3.index t = ![0, 0])
theorem at5_4 : ∀ t : Fin cfg5.N, win5_4.index t = ![0, 0] := (by decide +kernel : ∀ t : Fin grid5.N, win5_4.index t = ![0, 0])
theorem at5_5 : ∀ t : Fin cfg5.N, win5_5.index t = ![0, 0] := (by decide +kernel : ∀ t : Fin grid5.N, win5_5.index t = ![0, 0])
theorem at5_6 : ∀ t : Fin cfg5.N, win5_6.index t = ![0, 0] := (by decide +kernel : ∀ t : Fin grid5.N, win5_6.index t = ![0, 0])
theorem at5_7 : ∀ t : Fin cfg5.N, win5_7.index t = ![0, 0] := (by decide +kernel : ∀ t : Fin grid5.N, win5_7.index t = ![0, 0])
theorem at5_8 : ∀ t : Fin cfg5.N, win5_8.index t = ![0, 0] := (by decide +kernel : ∀ t : Fin grid5.N, win5_8.index t = ![0, 0])
theorem at5_9 : ∀ t : Fin cfg5.N, win5_9.index t = ![0, 0] := (by decide +kernel : ∀ t : Fin grid5.N, win5_9.index t = ![0, 0])
theorem at5_10 : ∀ t : Fin cfg5.N, win5_10.index t = ![0, 0] := (by decide +kernel : ∀ t : Fin grid5.N, win5_10.index t = ![0, 0])
theorem at5_11 : ∀ t : Fin cfg5.N, win5_11.index t = ![0, 0] := (by decide +kernel : ∀ t : Fin grid5.N, win5_11.index t = ![0, 0])
theorem at5_13 : ∀ t : Fin cfg5.N, win5_13.index t = ![0, 0] := (by decide +kernel : ∀ t : Fin grid5.N, win5_13.index t = ![0, 0])
theorem ib5_0 (V : VV F) (t : Fin cfg5.N) : ib5 V 0 t = tall (V (Proc.devRef .tc main_v39_0)) t := by
  funext y
  unfold tall
  blk_ext [ib5, at5_0 t]
theorem ib5_1 (V : VV F) (t : Fin cfg5.N) : ib5 V 1 t = wide (V (Proc.devRef .tc main_v40)) t := by
  funext y
  unfold wide
  blk_ext [ib5, at5_1 t]
theorem ib5_2 (V : VV F) (t : Fin cfg5.N) : ib5 V 2 t = low (V (Proc.devRef .tc main_v39_1)) t := by
  funext y
  unfold low
  blk_ext [ib5, at5_2 t]
theorem ib5_3 (V : VV F) (t : Fin cfg5.N) : ib5 V 3 t = V (Proc.devRef .tc main_arg6) := by
  funext y
  blk_ext [ib5, at5_3 t]
theorem ib5_4 (V : VV F) (t : Fin cfg5.N) : ib5 V 4 t = V (Proc.devRef .tc main_v46) := by
  funext y
  blk_ext [ib5, at5_4 t]
theorem ib5_5 (V : VV F) (t : Fin cfg5.N) : ib5 V 5 t = V (Proc.devRef .tc main_arg8) := by
  funext y
  blk_ext [ib5, at5_5 t]
theorem ib5_6 (V : VV F) (t : Fin cfg5.N) : ib5 V 6 t = V (Proc.devRef .tc main_v47) := by
  funext y
  blk_ext [ib5, at5_6 t]
theorem ib5_7 (V : VV F) (t : Fin cfg5.N) : ib5 V 7 t = V (Proc.devRef .tc main_arg10) := by
  funext y
  blk_ext [ib5, at5_7 t]
theorem ib5_8 (V : VV F) (t : Fin cfg5.N) : ib5 V 8 t = V (Proc.devRef .tc main_v48) := by
  funext y
  blk_ext [ib5, at5_8 t]
theorem ib5_9 (V : VV F) (t : Fin cfg5.N) : ib5 V 9 t = V (Proc.devRef .tc main_arg12) := by
  funext y
  blk_ext [ib5, at5_9 t]
theorem ib5_10 (V : VV F) (t : Fin cfg5.N) : ib5 V 10 t = V (Proc.devRef .tc main_v49) := by
  funext y
  blk_ext [ib5, at5_10 t]
theorem ib5_11 (V : VV F) (t : Fin cfg5.N) : ib5 V 11 t = V (Proc.devRef .tc main_arg14) := by
  funext y
  blk_ext [ib5, at5_11 t]
theorem ib5_13 (V : VV F) (t : Fin cfg5.N) : ib5 V 13 t = V (Proc.devRef .tc main_arg5) := by
  funext y
  blk_ext [ib5, at5_13 t]

theorem arr5 (V : VV F) (d : Dev nD) : (dat5 V d).arrAt 14 cfg5.N
    = piece (V (Proc.devRef .tc main_v39_0)) (V (Proc.devRef .tc main_v40)) (V (Proc.devRef .tc main_v39_1)) (V (Proc.devRef .tc main_arg6)) (V (Proc.devRef .tc main_v46)) (V (Proc.devRef .tc main_arg8)) (V (Proc.devRef .tc main_v47)) (V (Proc.devRef .tc main_arg10)) (V (Proc.devRef .tc main_v48)) (V (Proc.devRef .tc main_arg12)) (V (Proc.devRef .tc main_v49)) (V (Proc.devRef .tc main_arg14)) (V (Proc.devRef .tc main_arg5)) := by
  refine (dat5 V d).arrAt_eq_of_covers 14 _ (by decide +kernel) fun t hf y => ?_
  blk_simp
  rw [show (dat5 V d).after 14 t = ob5 V t from rfl]
  unfold ob5
  rw [ib5_0 V t, ib5_1 V t, ib5_2 V t, ib5_3 V t, ib5_4 V t, ib5_5 V t, ib5_6 V t, ib5_7 V t, ib5_8 V t, ib5_9 V t, ib5_10 V t, ib5_11 V t, ib5_13 V t]
  exact piece_at _ _ _ _ _ _ _ _ _ _ _ _ _ t y _ (by blk_simp [at5_14 t]) (by blk_simp [at5_14 t])

/-! ### Call 7 -/

theorem at7_0 : ∀ t : Fin cfg7.N, win7_0.index t = ![t.val, 0] := (by decide +kernel : ∀ t : Fin grid7.N, win7_0.index t = ![t.val, 0])
theorem at7_1 : ∀ t : Fin cfg7.N, win7_1.index t = ![0, t.val] := (by decide +kernel : ∀ t : Fin grid7.N, win7_1.index t = ![0, t.val])
theorem at7_2 : ∀ t : Fin cfg7.N, win7_2.index t = ![t.val, 0] := (by decide +kernel : ∀ t : Fin grid7.N, win7_2.index t = ![t.val, 0])
theorem at7_14 : ∀ t : Fin cfg7.N, win7_14.index t = ![t.val, 0] := (by decide +kernel : ∀ t : Fin grid7.N, win7_14.index t = ![t.val, 0])
theorem at7_3 : ∀ t : Fin cfg7.N, win7_3.index t = ![0, 0] := (by decide +kernel : ∀ t : Fin grid7.N, win7_3.index t = ![0, 0])
theorem at7_4 : ∀ t : Fin cfg7.N, win7_4.index t = ![0, 0] := (by decide +kernel : ∀ t : Fin grid7.N, win7_4.index t = ![0, 0])
theorem at7_5 : ∀ t : Fin cfg7.N, win7_5.index t = ![0, 0] := (by decide +kernel : ∀ t : Fin grid7.N, win7_5.index t = ![0, 0])
theorem at7_6 : ∀ t : Fin cfg7.N, win7_6.index t = ![0, 0] := (by decide +kernel : ∀ t : Fin grid7.N, win7_6.index t = ![0, 0])
theorem at7_7 : ∀ t : Fin cfg7.N, win7_7.index t = ![0, 0] := (by decide +kernel : ∀ t : Fin grid7.N, win7_7.index t = ![0, 0])
theorem at7_8 : ∀ t : Fin cfg7.N, win7_8.index t = ![0, 0] := (by decide +kernel : ∀ t : Fin grid7.N, win7_8.index t = ![0, 0])
theorem at7_9 : ∀ t : Fin cfg7.N, win7_9.index t = ![0, 0] := (by decide +kernel : ∀ t : Fin grid7.N, win7_9.index t = ![0, 0])
theorem at7_10 : ∀ t : Fin cfg7.N, win7_10.index t = ![0, 0] := (by decide +kernel : ∀ t : Fin grid7.N, win7_10.index t = ![0, 0])
theorem at7_11 : ∀ t : Fin cfg7.N, win7_11.index t = ![0, 0] := (by decide +kernel : ∀ t : Fin grid7.N, win7_11.index t = ![0, 0])
theorem at7_13 : ∀ t : Fin cfg7.N, win7_13.index t = ![0, 0] := (by decide +kernel : ∀ t : Fin grid7.N, win7_13.index t = ![0, 0])
theorem ib7_0 (V : VV F) (t : Fin cfg7.N) : ib7 V 0 t = tall (V (Proc.devRef .tc main_v56_0)) t := by
  funext y
  unfold tall
  blk_ext [ib7, at7_0 t]
theorem ib7_1 (V : VV F) (t : Fin cfg7.N) : ib7 V 1 t = wide (V (Proc.devRef .tc main_v57)) t := by
  funext y
  unfold wide
  blk_ext [ib7, at7_1 t]
theorem ib7_2 (V : VV F) (t : Fin cfg7.N) : ib7 V 2 t = low (V (Proc.devRef .tc main_v56_1)) t := by
  funext y
  unfold low
  blk_ext [ib7, at7_2 t]
theorem ib7_3 (V : VV F) (t : Fin cfg7.N) : ib7 V 3 t = V (Proc.devRef .tc main_arg6) := by
  funext y
  blk_ext [ib7, at7_3 t]
theorem ib7_4 (V : VV F) (t : Fin cfg7.N) : ib7 V 4 t = V (Proc.devRef .tc main_v63) := by
  funext y
  blk_ext [ib7, at7_4 t]
theorem ib7_5 (V : VV F) (t : Fin cfg7.N) : ib7 V 5 t = V (Proc.devRef .tc main_arg8) := by
  funext y
  blk_ext [ib7, at7_5 t]
theorem ib7_6 (V : VV F) (t : Fin cfg7.N) : ib7 V 6 t = V (Proc.devRef .tc main_v64) := by
  funext y
  blk_ext [ib7, at7_6 t]
theorem ib7_7 (V : VV F) (t : Fin cfg7.N) : ib7 V 7 t = V (Proc.devRef .tc main_arg10) := by
  funext y
  blk_ext [ib7, at7_7 t]
theorem ib7_8 (V : VV F) (t : Fin cfg7.N) : ib7 V 8 t = V (Proc.devRef .tc main_v65) := by
  funext y
  blk_ext [ib7, at7_8 t]
theorem ib7_9 (V : VV F) (t : Fin cfg7.N) : ib7 V 9 t = V (Proc.devRef .tc main_arg12) := by
  funext y
  blk_ext [ib7, at7_9 t]
theorem ib7_10 (V : VV F) (t : Fin cfg7.N) : ib7 V 10 t = V (Proc.devRef .tc main_v66) := by
  funext y
  blk_ext [ib7, at7_10 t]
theorem ib7_11 (V : VV F) (t : Fin cfg7.N) : ib7 V 11 t = V (Proc.devRef .tc main_arg14) := by
  funext y
  blk_ext [ib7, at7_11 t]
theorem ib7_13 (V : VV F) (t : Fin cfg7.N) : ib7 V 13 t = V (Proc.devRef .tc main_arg5) := by
  funext y
  blk_ext [ib7, at7_13 t]

theorem arr7 (V : VV F) (d : Dev nD) : (dat7 V d).arrAt 14 cfg7.N
    = piece (V (Proc.devRef .tc main_v56_0)) (V (Proc.devRef .tc main_v57)) (V (Proc.devRef .tc main_v56_1)) (V (Proc.devRef .tc main_arg6)) (V (Proc.devRef .tc main_v63)) (V (Proc.devRef .tc main_arg8)) (V (Proc.devRef .tc main_v64)) (V (Proc.devRef .tc main_arg10)) (V (Proc.devRef .tc main_v65)) (V (Proc.devRef .tc main_arg12)) (V (Proc.devRef .tc main_v66)) (V (Proc.devRef .tc main_arg14)) (V (Proc.devRef .tc main_arg5)) := by
  refine (dat7 V d).arrAt_eq_of_covers 14 _ (by decide +kernel) fun t hf y => ?_
  blk_simp
  rw [show (dat7 V d).after 14 t = ob7 V t from rfl]
  unfold ob7
  rw [ib7_0 V t, ib7_1 V t, ib7_2 V t, ib7_3 V t, ib7_4 V t, ib7_5 V t, ib7_6 V t, ib7_7 V t, ib7_8 V t, ib7_9 V t, ib7_10 V t, ib7_11 V t, ib7_13 V t]
  exact piece_at _ _ _ _ _ _ _ _ _ _ _ _ _ t y _ (by blk_simp [at7_14 t]) (by blk_simp [at7_14 t])

end Cert.Proof

end
-- ==== Proof.Slice.lean ====
/-
  One slice of 256 batch rows: the words the gathers and the dense calls read are the arguments' own, and a row of a dense
  call's result is that batch row's result.
-/
module

public import proofs.«01_k».proof.Proof.Payload
public import proofs.«01_k».proof.Proof.Reference
public import proofs.«01_k».proof.Proof.Window
public import proofs.«01_k».proof.Proof.Content

@[expose] public section

noncomputable section

namespace Cert.Proof.Val

open Cert.KernelIdeal Cert.KernelIdeal.Gen
open Idealize.ShloMosaic
open Cert.Proof.Ref (netR)

/-- The rating a word names, the last one for a word past the end. -/
def rateOf (w : BitVec 32) : Fin 6 := ⟨min w.toNat 5, by omega⟩

/-- The batch row of a history position of slice `o`, and its place in that row. -/
def batch (o : Fin 4) (n : Fin 51200) : Fin 1024 := ⟨256 * o.val + n.val / 200, by have := n.isLt; have := o.isLt; omega⟩
def place (n : Fin 51200) : Fin 200 := ⟨n.val % 200, by omega⟩
def member (o : Fin 4) (i : Fin 256) : Fin 1024 := ⟨256 * o.val + i.val, by have := i.isLt; have := o.isLt; omega⟩

section Words

variable {α : Type}

theorem hist_word (a0 : S1024x200.Idx → α) (o : Fin 4) (q : ℕ) (hq : q = 256 * o.val) (hs : S1024x200.Slices ![q, 0] S256x200) (hc : S256x200.ShapeCasts S32x25x64)
    (n : Fin 51200) (a : Fin 32) (b : Fin 25) (c : Fin 64) (h : (a.val * 25 + b.val) * 64 + c.val = n.val) :
    shapeCast S32x25x64 (extractStridedSlice S256x200 ![q, 0] a0 hs) hc (ix3 a b c) = a0 (ix2 (batch o n) (place n)) := by
  subst hq
  unfold shapeCast extractStridedSlice
  have hn := n.isLt
  rw [show Shape.reshapeEquiv _ (ix3 a b c : S32x25x64.Idx) = (ix2 (⟨n.val / 200, by omega⟩ : Fin 256) (place n) : S256x200.Idx) from
    Shape.reshapeEquiv_eq_of_rowMajor _ (by
      rw [Shape.rowMajor_val_three, Shape.rowMajor_val_two]
      show n.val / 200 * 200 + n.val % 200 = (a.val * 25 + b.val) * 64 + c.val
      omega)]
  congr 1
  funext x
  apply Fin.ext
  match x with
  | ⟨0, _⟩ => rfl
  | ⟨1, _⟩ => show 0 + n.val % 200 = n.val % 200; omega

theorem node_word (a2 : S1024.Idx → α) (o : Fin 4) (q : ℕ) (hq : q = 256 * o.val) (hs : S1024.Slices ![q] S256) (hc : S256.ShapeCasts S4x1x64)
    (i : Fin 256) (a : Fin 4) (c : Fin 64) (h : a.val * 64 + c.val = i.val) :
    shapeCast S4x1x64 (extractStridedSlice S256 ![q] a2 hs) hc (ix3 a (0 : Fin 1) c) = a2 (ix1 (member o i)) := by
  subst hq
  unfold shapeCast extractStridedSlice
  rw [show Shape.reshapeEquiv _ (ix3 a (0 : Fin 1) c : S4x1x64.Idx) = (ix1 i : S256.Idx) from
    Shape.reshapeEquiv_eq_of_rowMajor _ (by
      rw [Shape.rowMajor_val_three, Shape.rowMajor_val_one]
      show i.val = (a.val * 1 + 0) * 64 + c.val
      omega)]
  congr 1
  funext x
  apply Fin.ext
  match x with
  | ⟨0, _⟩ => rfl

theorem rate_word (a1 : S1024x200.Idx → α) (o : Fin 4) (q : ℕ) (hq : q = 51200 * o.val) (hc : S1024x200.ShapeCasts S1x204800) (hs : S1x204800.Slices ![0, q] S1x51200)
    (n : Fin 51200) :
    extractStridedSlice S1x51200 ![0, q] (shapeCast S1x204800 a1 hc) hs (ix2 (0 : Fin 1) n) = a1 (ix2 (batch o n) (place n)) := by
  subst hq
  unfold shapeCast extractStridedSlice
  have hn := n.isLt
  have ho := o.isLt
  refine congrArg a1 (Shape.reshapeEquiv_eq_of_rowMajor _ ?_)
  rw [Shape.rowMajor_val_two, Shape.rowMajor_val_two]
  show (256 * o.val + n.val / 200) * 200 + n.val % 200 = (0 + 0) * 204800 + (51200 * o.val + n.val)
  omega

theorem bias_word (a : S128.Idx → α) (hc : S128.ShapeCasts S1x128) (j : Fin 128) : shapeCast S1x128 a hc (ix2 (0 : Fin 1) j) = a (ix1 j) := by
  unfold shapeCast
  refine congrArg a (Shape.reshapeEquiv_eq_of_rowMajor _ ?_)
  rw [Shape.rowMajor_val_two, Shape.rowMajor_val_one]
  show j.val = 0 * 128 + j.val
  omega

end Words

theorem outRows_word (a0 : S1024x200.Idx → BitVec 32) {α : Type} (tab : S100000x128.Idx → α) (o : Fin 4) (q : ℕ) (hq : q = 256 * o.val) (hs : S1024x200.Slices ![q, 0] S256x200)
    (hc : S256x200.ShapeCasts S32x25x64) (n : Fin 51200) (k : Fin 128) :
    outRows (shapeCast S32x25x64 (extractStridedSlice S256x200 ![q, 0] a0 hs) hc) tab (ix2 n k) = tab (ix2 (rowOf (a0 (ix2 (batch o n) (place n)))) k) := by
  have hn := n.isLt
  rw [← hist_word a0 o q hq hs hc n (⟨n.val / 1600, by omega⟩ : Fin 32) (⟨n.val % 1600 / 64, by omega⟩ : Fin 25) (⟨n.val % 64, by omega⟩ : Fin 64) (by
    show (n.val / 1600 * 25 + n.val % 1600 / 64) * 64 + n.val % 64 = n.val
    omega)]
  rfl

theorem itemRows_word (a2 : S1024.Idx → BitVec 32) {α : Type} (tab : S100000x128.Idx → α) (o : Fin 4) (q : ℕ) (hq : q = 256 * o.val) (hs : S1024.Slices ![q] S256)
    (hc : S256.ShapeCasts S4x1x64) (i : Fin 256) (k : Fin 128) :
    itemRows (shapeCast S4x1x64 (extractStridedSlice S256 ![q] a2 hs) hc) tab (ix2 i k) = tab (ix2 (rowOf (a2 (ix1 (member o i)))) k) := by
  have hi := i.isLt
  rw [← node_word a2 o q hq hs hc i (⟨i.val / 64, by omega⟩ : Fin 4) (⟨i.val % 64, by omega⟩ : Fin 64) (by
    show i.val / 64 * 64 + i.val % 64 = i.val
    omega)]
  rfl

/-- One batch row's result, from the arguments. -/
def answer (a0 a1 : IVec S1024x200 32) (a2 : IVec S1024 32) (a3 a4 : FVec Ideal S100000x128 .f32) (a5 : FVec Ideal S6x128 .f32)
    (a6 : FVec Ideal S128x256 .f32) (a7 : FVec Ideal S128 .f32) (a8 : FVec Ideal S128x128 .f32) (a9 : FVec Ideal S128 .f32)
    (a10 : FVec Ideal S128x256 .f32) (a11 : FVec Ideal S128 .f32) (a12 : FVec Ideal S128x256 .f32) (a13 : FVec Ideal S128 .f32)
    (a14 : FVec Ideal S1x128 .f32) (i : Fin 1024) (j : Fin 128) : EReal :=
  (netR a6 a7 a8 a9 a10 a11 a12 a13 a14).out (fun l k => a3 (ix2 (rowOf (a0 (ix2 i l))) k)) (fun l k => a5 (ix2 (rateOf (a1 (ix2 i l))) k))
    (fun k => a4 (ix2 (rowOf (a2 (ix1 i))) k)) j

/-- A row of a dense call's result is its batch row's. -/
theorem piece_apply (a0 a1 : IVec S1024x200 32) (a2 : IVec S1024 32) (a3 a4 : FVec Ideal S100000x128 .f32) (a5 : FVec Ideal S6x128 .f32)
    (a6 : FVec Ideal S128x256 .f32) (a7 : FVec Ideal S128 .f32) (a8 : FVec Ideal S128x128 .f32) (a9 : FVec Ideal S128 .f32)
    (a10 : FVec Ideal S128x256 .f32) (a11 : FVec Ideal S128 .f32) (a12 : FVec Ideal S128x256 .f32) (a13 : FVec Ideal S128 .f32)
    (a14 : FVec Ideal S1x128 .f32)
    (hrate : ∀ i, (a1 i).toNat < 6) (hN : (netR a6 a7 a8 a9 a10 a11 a12 a13 a14).Real') (h3 : ∀ i, IsReal (a3 i)) (h4 : ∀ i, IsReal (a4 i)) (h5 : ∀ i, IsReal (a5 i))
    (o : Fin 4) (g : FVec Ideal S51200x128 .f32) (r : IVec S1x51200 32) (w : FVec Ideal S256x128 .f32) (b7 b9 b11 b13 : FVec Ideal S1x128 .f32)
    (hg : ∀ n k, g (ix2 n k) = a3 (ix2 (rowOf (a0 (ix2 (batch o n) (place n)))) k))
    (hr : ∀ n, r (ix2 (0 : Fin 1) n) = a1 (ix2 (batch o n) (place n)))
    (hw : ∀ i k, w (ix2 i k) = a4 (ix2 (rowOf (a2 (ix1 (member o i)))) k))
    (h7 : ∀ j, b7 (ix2 (0 : Fin 1) j) = a7 (ix1 j)) (h9 : ∀ j, b9 (ix2 (0 : Fin 1) j) = a9 (ix1 j))
    (h11 : ∀ j, b11 (ix2 (0 : Fin 1) j) = a11 (ix1 j)) (h13 : ∀ j, b13 (ix2 (0 : Fin 1) j) = a13 (ix1 j))
    (i : Fin 256) (j : Fin 128) :
    piece (F := Ideal) g r w a6 b7 a8 b9 a10 b11 a12 b13 a14 a5 (ix2 i j) = answer a0 a1 a2 a3 a4 a5 a6 a7 a8 a9 a10 a11 a12 a13 a14 (member o i) j := by
  have hi := i.isLt
  have ho := o.isLt
  have eN : netOf a6 b7 a8 b9 a10 b11 a12 b13 a14 = netR a6 a7 a8 a9 a10 a11 a12 a13 a14 := by
    unfold netOf netR
    simp only [h7, h9, h11, h13]
  have tg : ∀ (t : Fin 4) (n : Fin 12800) (k : Fin 128), tall g t (ix2 n k)
      = a3 (ix2 (rowOf (a0 (ix2 (batch o ⟨12800 * t.val + n.val, by have := t.isLt; have := n.isLt; omega⟩) (place ⟨12800 * t.val + n.val, by have := t.isLt; have := n.isLt; omega⟩)))) k) :=
    fun t n k => hg _ k
  have tr : ∀ (t : Fin 4) (n : Fin 12800), wide r t (ix2 (0 : Fin 1) n)
      = a1 (ix2 (batch o ⟨12800 * t.val + n.val, by have := t.isLt; have := n.isLt; omega⟩) (place ⟨12800 * t.val + n.val, by have := t.isLt; have := n.isLt; omega⟩)) :=
    fun t n => hr _
  have tw : ∀ (t : Fin 4) (n : Fin 64) (k : Fin 128), low w t (ix2 n k)
      = a4 (ix2 (rowOf (a2 (ix1 (member o ⟨64 * t.val + n.val, by have := t.isLt; have := n.isLt; omega⟩)))) k) :=
    fun t n k => hw _ k
  have all2 : ∀ {A B : ℕ} (P : Shape.Idx ⟨2, ![A, B]⟩ → Prop), (∀ a b, P (ix2 a b)) → ∀ x, P x := by
    intro A B P h x
    have := h (x 0) (x 1)
    rwa [show (ix2 (x 0) (x 1) : Shape.Idx ⟨2, ![A, B]⟩) = x from by
      funext a; match a with | ⟨0, _⟩ => rfl | ⟨1, _⟩ => rfl] at this
  show outBlk (F := Ideal) (tall g (blkOf i)) (wide r (blkOf i)) (low w (blkOf i)) a6 b7 a8 b9 a10 b11 a12 b13 a14 a5 (ix2 (inBlk i) j) = _
  rw [outBlk_apply (tall g (blkOf i)) (wide r (blkOf i)) (low w (blkOf i)) a6 b7 a8 b9 a10 b11 a12 b13 a14 a5
    (fun n => rateOf (wide r (blkOf i) (ix2 (0 : Fin 1) n)))
    (fun n => by
      show _ = min _ 5
      have := hrate (ix2 (batch o ⟨12800 * (blkOf i).val + n.val, by have := (blkOf i).isLt; have := n.isLt; omega⟩) (place ⟨12800 * (blkOf i).val + n.val, by have := (blkOf i).isLt; have := n.isLt; omega⟩))
      rw [tr]; omega)
    (eN ▸ hN) (all2 _ fun a b => by rw [tg]; exact h3 _) (all2 _ fun a b => by rw [tw]; exact h4 _) h5 (inBlk i) j, eN]
  unfold answer
  have hb : (blkOf i).val = i.val / 64 := rfl
  have hib : (inBlk i).val = i.val % 64 := rfl
  have eb : ∀ l : Fin 200, batch o ⟨12800 * (blkOf i).val + (row (inBlk i) l).val, by have := (blkOf i).isLt; have := (row (inBlk i) l).isLt; omega⟩ = member o i := by
    intro l
    have hl := l.isLt
    apply Fin.ext
    show 256 * o.val + (12800 * (i.val / 64) + (200 * (i.val % 64) + l.val)) / 200 = 256 * o.val + i.val
    omega
  have ep : ∀ l : Fin 200, place ⟨12800 * (blkOf i).val + (row (inBlk i) l).val, by have := (blkOf i).isLt; have := (row (inBlk i) l).isLt; omega⟩ = l := by
    intro l
    have hl := l.isLt
    apply Fin.ext
    show (12800 * (i.val / 64) + (200 * (i.val % 64) + l.val)) % 200 = l.val
    omega
  have em : member o ⟨64 * (blkOf i).val + (inBlk i).val, by have := (blkOf i).isLt; have := (inBlk i).isLt; omega⟩ = member o i := by
    apply Fin.ext
    show 256 * o.val + (64 * (i.val / 64) + i.val % 64) = 256 * o.val + i.val
    omega
  simp only [tg, tr, tw, eb, ep, em]

end Cert.Proof.Val

end
-- ==== Proof.Result.lean ====
/-
  The kernel's result by element: each batch row's result, from the arguments.
-/
module

public import proofs.«01_k».proof.Proof.Chain
public import proofs.«01_k».proof.Proof.Slice

@[expose] public section

noncomputable section

namespace Cert.Proof.Val

open Cert.KernelIdeal Cert.KernelIdeal.Gen
open Idealize.ShloMosaic Idealize.ShloMosaic.Tactic
open Cert.Proof.Ref (netR)

section Host

variable {F : FTy → Type} [FloatOps F] (m : (ℓ : Loc nD τ sig) → Buf (Elt F) ℓ) (d : Dev nD)

theorem pre0_rate (V : VV F) : StableHlo.after pre0 V (rr main_v0) = shapeCast S1x204800 (V (rr main_arg1)) shapeCasts_S1024x200_S1x204800 := by
  after_results_simp; rfl

theorem mid0_rate (V : VV F) : StableHlo.after mid0 V (rr main_v6)
    = extractStridedSlice S1x51200 ![0, 0] (V (rr main_v0)) slices_S1x204800_S1x51200_0_0 := by
  after_results_simp
theorem mid0_b7 (V : VV F) : StableHlo.after mid0 V (rr main_v12) = shapeCast S1x128 (V (rr main_arg7)) shapeCasts_S128_S1x128 := by
  after_results_simp; rfl
theorem mid0_b9 (V : VV F) : StableHlo.after mid0 V (rr main_v13) = shapeCast S1x128 (V (rr main_arg9)) shapeCasts_S128_S1x128 := by
  after_results_simp; rfl
theorem mid0_b11 (V : VV F) : StableHlo.after mid0 V (rr main_v14) = shapeCast S1x128 (V (rr main_arg11)) shapeCasts_S128_S1x128 := by
  after_results_simp; rfl
theorem mid0_b13 (V : VV F) : StableHlo.after mid0 V (rr main_v15) = shapeCast S1x128 (V (rr main_arg13)) shapeCasts_S128_S1x128 := by
  after_results_simp; rfl

theorem C0_arg (r : Ref sig .tc) (h : r ∈ argL) : C0 m d (rr r) = m (d, rr r) :=
  (C0_keep m d r (List.mem_cons_of_mem _ h)).trans (A0_arg m d r h)
theorem B0_arg (r : Ref sig .tc) (h : r ∈ argL) : B0 m d (rr r) = m (d, rr r) :=
  (B0_keep m d r (List.mem_cons_of_mem _ h)).trans (A0_arg m d r h)

theorem D0_arg (r : Ref sig .tc) (h : r ∈ argL) : D0 m d (rr r) = m (d, rr r) :=
  (D0_keep m d r (List.mem_cons_of_mem _ h)).trans (A0_arg m d r h)
theorem C0_rows : C0 m d (rr main_v5_0) = outRows (shapeCast S32x25x64 (extractStridedSlice S256x200 ![0, 0] (m (d, rr main_arg0) : S1024x200.Idx → BitVec 32) slices_S1024x200_S256x200_0_0) shapeCasts_S256x200_S32x25x64)
    (m (d, rr main_arg3) : S100000x128.Idx → Elt F .f32) := by
  unfold C0
  rw [mid0_keep _ main_v5_0 (by decide)]
  unfold B0
  rw [scUp0_out, A0_arg m d main_arg3 (by decide)]
  unfold A0
  rw [pre0_uh]

theorem C0_items : C0 m d (rr main_v5_1) = itemRows (shapeCast S4x1x64 (extractStridedSlice S256 ![0] (m (d, rr main_arg2) : S1024.Idx → BitVec 32) slices_S1024_S256_0) shapeCasts_S256_S4x1x64)
    (m (d, rr main_arg4) : S100000x128.Idx → Elt F .f32) := by
  unfold C0
  rw [mid0_keep _ main_v5_1 (by decide)]
  unfold B0
  rw [scUp0_item, A0_arg m d main_arg4 (by decide)]
  unfold A0
  rw [pre0_nd]

theorem C0_rate : C0 m d (rr main_v6) = extractStridedSlice S1x51200 ![0, 0] (shapeCast S1x204800 (m (d, rr main_arg1) : S1024x200.Idx → BitVec 32) shapeCasts_S1024x200_S1x204800) slices_S1x204800_S1x51200_0_0 := by
  unfold C0
  rw [mid0_rate, B0_keep m d main_v0 (by decide)]
  unfold A0
  rw [pre0_rate]
theorem C0_b7 : C0 m d (rr main_v12) = shapeCast S1x128 (m (d, rr main_arg7) : S128.Idx → Elt F .f32) shapeCasts_S128_S1x128 := by
  unfold C0
  rw [mid0_b7, B0_arg m d main_arg7 (by decide)]
theorem C0_b9 : C0 m d (rr main_v13) = shapeCast S1x128 (m (d, rr main_arg9) : S128.Idx → Elt F .f32) shapeCasts_S128_S1x128 := by
  unfold C0
  rw [mid0_b9, B0_arg m d main_arg9 (by decide)]
theorem C0_b11 : C0 m d (rr main_v14) = shapeCast S1x128 (m (d, rr main_arg11) : S128.Idx → Elt F .f32) shapeCasts_S128_S1x128 := by
  unfold C0
  rw [mid0_b11, B0_arg m d main_arg11 (by decide)]
theorem C0_b13 : C0 m d (rr main_v15) = shapeCast S1x128 (m (d, rr main_arg13) : S128.Idx → Elt F .f32) shapeCasts_S128_S1x128 := by
  unfold C0
  rw [mid0_b13, B0_arg m d main_arg13 (by decide)]

theorem mid1_rate (V : VV F) : StableHlo.after mid1 V (rr main_v23)
    = extractStridedSlice S1x51200 ![0, 51200] (V (rr main_v0)) slices_S1x204800_S1x51200_0_51200 := by
  after_results_simp
theorem mid1_b7 (V : VV F) : StableHlo.after mid1 V (rr main_v29) = shapeCast S1x128 (V (rr main_arg7)) shapeCasts_S128_S1x128 := by
  after_results_simp; rfl
theorem mid1_b9 (V : VV F) : StableHlo.after mid1 V (rr main_v30) = shapeCast S1x128 (V (rr main_arg9)) shapeCasts_S128_S1x128 := by
  after_results_simp; rfl
theorem mid1_b11 (V : VV F) : StableHlo.after mid1 V (rr main_v31) = shapeCast S1x128 (V (rr main_arg11)) shapeCasts_S128_S1x128 := by
  after_results_simp; rfl
theorem mid1_b13 (V : VV F) : StableHlo.after mid1 V (rr main_v32) = shapeCast S1x128 (V (rr main_arg13)) shapeCasts_S128_S1x128 := by
  after_results_simp; rfl

theorem C1_arg (r : Ref sig .tc) (h : r ∈ argL) : C1 m d (rr r) = m (d, rr r) :=
  (C1_keep m d r (List.mem_cons_of_mem _ h)).trans (A0_arg m d r h)
theorem B1_arg (r : Ref sig .tc) (h : r ∈ argL) : B1 m d (rr r) = m (d, rr r) :=
  (B1_keep m d r (List.mem_cons_of_mem _ h)).trans (A0_arg m d r h)
theorem A1_arg (r : Ref sig .tc) (h : r ∈ argL) : A1 m d (rr r) = m (d, rr r) := (A1_keep m d r (List.mem_cons_of_mem _ h)).trans (A0_arg m d r h)
theorem D1_arg (r : Ref sig .tc) (h : r ∈ argL) : D1 m d (rr r) = m (d, rr r) :=
  (D1_keep m d r (List.mem_cons_of_mem _ h)).trans (A0_arg m d r h)
theorem C1_rows : C1 m d (rr main_v22_0) = outRows (shapeCast S32x25x64 (extractStridedSlice S256x200 ![256, 0] (m (d, rr main_arg0) : S1024x200.Idx → BitVec 32) slices_S1024x200_S256x200_256_0) shapeCasts_S256x200_S32x25x64)
    (m (d, rr main_arg3) : S100000x128.Idx → Elt F .f32) := by
  unfold C1
  rw [mid1_keep _ main_v22_0 (by decide)]
  unfold B1
  rw [scUp1_out, A1_arg m d main_arg3 (by decide)]
  unfold A1
  rw [pre1_uh, D0_arg m d main_arg0 (by decide)]

theorem C1_items : C1 m d (rr main_v22_1) = itemRows (shapeCast S4x1x64 (extractStridedSlice S256 ![256] (m (d, rr main_arg2) : S1024.Idx → BitVec 32) slices_S1024_S256_256) shapeCasts_S256_S4x1x64)
    (m (d, rr main_arg4) : S100000x128.Idx → Elt F .f32) := by
  unfold C1
  rw [mid1_keep _ main_v22_1 (by decide)]
  unfold B1
  rw [scUp1_item, A1_arg m d main_arg4 (by decide)]
  unfold A1
  rw [pre1_nd, D0_arg m d main_arg2 (by decide)]

theorem C1_rate : C1 m d (rr main_v23) = extractStridedSlice S1x51200 ![0, 51200] (shapeCast S1x204800 (m (d, rr main_arg1) : S1024x200.Idx → BitVec 32) shapeCasts_S1024x200_S1x204800) slices_S1x204800_S1x51200_0_51200 := by
  unfold C1
  rw [mid1_rate, B1_keep m d main_v0 (by decide)]
  unfold A0
  rw [pre0_rate]
theorem C1_b7 : C1 m d (rr main_v29) = shapeCast S1x128 (m (d, rr main_arg7) : S128.Idx → Elt F .f32) shapeCasts_S128_S1x128 := by
  unfold C1
  rw [mid1_b7, B1_arg m d main_arg7 (by decide)]
theorem C1_b9 : C1 m d (rr main_v30) = shapeCast S1x128 (m (d, rr main_arg9) : S128.Idx → Elt F .f32) shapeCasts_S128_S1x128 := by
  unfold C1
  rw [mid1_b9, B1_arg m d main_arg9 (by decide)]
theorem C1_b11 : C1 m d (rr main_v31) = shapeCast S1x128 (m (d, rr main_arg11) : S128.Idx → Elt F .f32) shapeCasts_S128_S1x128 := by
  unfold C1
  rw [mid1_b11, B1_arg m d main_arg11 (by decide)]
theorem C1_b13 : C1 m d (rr main_v32) = shapeCast S1x128 (m (d, rr main_arg13) : S128.Idx → Elt F .f32) shapeCasts_S128_S1x128 := by
  unfold C1
  rw [mid1_b13, B1_arg m d main_arg13 (by decide)]
theorem D1_of (r : Ref sig .tc) (h : r ∈ [main_v17, main_v34, main_v51]) (h' : r ≠ main_v34) : D1 m d (rr r) = D0 m d (rr r) :=
  (tcUp1_keep _ r h').trans ((mid1_keep _ r ((by decide : ∀ r ∈ [main_v17, main_v34, main_v51], r ∉ mid1W) r h)).trans
    ((scUp1_keep _ r ((by decide : ∀ r ∈ [main_v17, main_v34, main_v51], r ≠ main_v22_0) r h) ((by decide : ∀ r ∈ [main_v17, main_v34, main_v51], r ≠ main_v22_1) r h)).trans
      (pre1_keep _ r ((by decide : ∀ r ∈ [main_v17, main_v34, main_v51], r ∉ pre1W) r h))))

theorem mid2_rate (V : VV F) : StableHlo.after mid2 V (rr main_v40)
    = extractStridedSlice S1x51200 ![0, 102400] (V (rr main_v0)) slices_S1x204800_S1x51200_0_102400 := by
  after_results_simp
theorem mid2_b7 (V : VV F) : StableHlo.after mid2 V (rr main_v46) = shapeCast S1x128 (V (rr main_arg7)) shapeCasts_S128_S1x128 := by
  after_results_simp; rfl
theorem mid2_b9 (V : VV F) : StableHlo.after mid2 V (rr main_v47) = shapeCast S1x128 (V (rr main_arg9)) shapeCasts_S128_S1x128 := by
  after_results_simp; rfl
theorem mid2_b11 (V : VV F) : StableHlo.after mid2 V (rr main_v48) = shapeCast S1x128 (V (rr main_arg11)) shapeCasts_S128_S1x128 := by
  after_results_simp; rfl
theorem mid2_b13 (V : VV F) : StableHlo.after mid2 V (rr main_v49) = shapeCast S1x128 (V (rr main_arg13)) shapeCasts_S128_S1x128 := by
  after_results_simp; rfl

theorem C2_arg (r : Ref sig .tc) (h : r ∈ argL) : C2 m d (rr r) = m (d, rr r) :=
  (C2_keep m d r (List.mem_cons_of_mem _ h)).trans (A0_arg m d r h)
theorem B2_arg (r : Ref sig .tc) (h : r ∈ argL) : B2 m d (rr r) = m (d, rr r) :=
  (B2_keep m d r (List.mem_cons_of_mem _ h)).trans (A0_arg m d r h)
theorem A2_arg (r : Ref sig .tc) (h : r ∈ argL) : A2 m d (rr r) = m (d, rr r) := (A2_keep m d r (List.mem_cons_of_mem _ h)).trans (A0_arg m d r h)
theorem D2_arg (r : Ref sig .tc) (h : r ∈ argL) : D2 m d (rr r) = m (d, rr r) :=
  (D2_keep m d r (List.mem_cons_of_mem _ h)).trans (A0_arg m d r h)
theorem C2_rows : C2 m d (rr main_v39_0) = outRows (shapeCast S32x25x64 (extractStridedSlice S256x200 ![512, 0] (m (d, rr main_arg0) : S1024x200.Idx → BitVec 32) slices_S1024x200_S256x200_512_0) shapeCasts_S256x200_S32x25x64)
    (m (d, rr main_arg3) : S100000x128.Idx → Elt F .f32) := by
  unfold C2
  rw [mid2_keep _ main_v39_0 (by decide)]
  unfold B2
  rw [scUp2_out, A2_arg m d main_arg3 (by decide)]
  unfold A2
  rw [pre2_uh, D1_arg m d main_arg0 (by decide)]

theorem C2_items : C2 m d (rr main_v39_1) = itemRows (shapeCast S4x1x64 (extractStridedSlice S256 ![512] (m (d, rr main_arg2) : S1024.Idx → BitVec 32) slices_S1024_S256_512) shapeCasts_S256_S4x1x64)
    (m (d, rr main_arg4) : S100000x128.Idx → Elt F .f32) := by
  unfold C2
  rw [mid2_keep _ main_v39_1 (by decide)]
  unfold B2
  rw [scUp2_item, A2_arg m d main_arg4 (by decide)]
  unfold A2
  rw [pre2_nd, D1_arg m d main_arg2 (by decide)]

theorem C2_rate : C2 m d (rr main_v40) = extractStridedSlice S1x51200 ![0, 102400] (shapeCast S1x204800 (m (d, rr main_arg1) : S1024x200.Idx → BitVec 32) shapeCasts_S1024x200_S1x204800) slices_S1x204800_S1x51200_0_102400 := by
  unfold C2
  rw [mid2_rate, B2_keep m d main_v0 (by decide)]
  unfold A0
  rw [pre0_rate]
theorem C2_b7 : C2 m d (rr main_v46) = shapeCast S1x128 (m (d, rr main_arg7) : S128.Idx → Elt F .f32) shapeCasts_S128_S1x128 := by
  unfold C2
  rw [mid2_b7, B2_arg m d main_arg7 (by decide)]
theorem C2_b9 : C2 m d (rr main_v47) = shapeCast S1x128 (m (d, rr main_arg9) : S128.Idx → Elt F .f32) shapeCasts_S128_S1x128 := by
  unfold C2
  rw [mid2_b9, B2_arg m d main_arg9 (by decide)]
theorem C2_b11 : C2 m d (rr main_v48) = shapeCast S1x128 (m (d, rr main_arg11) : S128.Idx → Elt F .f32) shapeCasts_S128_S1x128 := by
  unfold C2
  rw [mid2_b11, B2_arg m d main_arg11 (by decide)]
theorem C2_b13 : C2 m d (rr main_v49) = shapeCast S1x128 (m (d, rr main_arg13) : S128.Idx → Elt F .f32) shapeCasts_S128_S1x128 := by
  unfold C2
  rw [mid2_b13, B2_arg m d main_arg13 (by decide)]
theorem D2_of (r : Ref sig .tc) (h : r ∈ [main_v17, main_v34, main_v51]) (h' : r ≠ main_v51) : D2 m d (rr r) = D1 m d (rr r) :=
  (tcUp2_keep _ r h').trans ((mid2_keep _ r ((by decide : ∀ r ∈ [main_v17, main_v34, main_v51], r ∉ mid2W) r h)).trans
    ((scUp2_keep _ r ((by decide : ∀ r ∈ [main_v17, main_v34, main_v51], r ≠ main_v39_0) r h) ((by decide : ∀ r ∈ [main_v17, main_v34, main_v51], r ≠ main_v39_1) r h)).trans
      (pre2_keep _ r ((by decide : ∀ r ∈ [main_v17, main_v34, main_v51], r ∉ pre2W) r h))))

theorem mid3_rate (V : VV F) : StableHlo.after mid3 V (rr main_v57)
    = extractStridedSlice S1x51200 ![0, 153600] (V (rr main_v0)) slices_S1x204800_S1x51200_0_153600 := by
  after_results_simp
theorem mid3_b7 (V : VV F) : StableHlo.after mid3 V (rr main_v63) = shapeCast S1x128 (V (rr main_arg7)) shapeCasts_S128_S1x128 := by
  after_results_simp; rfl
theorem mid3_b9 (V : VV F) : StableHlo.after mid3 V (rr main_v64) = shapeCast S1x128 (V (rr main_arg9)) shapeCasts_S128_S1x128 := by
  after_results_simp; rfl
theorem mid3_b11 (V : VV F) : StableHlo.after mid3 V (rr main_v65) = shapeCast S1x128 (V (rr main_arg11)) shapeCasts_S128_S1x128 := by
  after_results_simp; rfl
theorem mid3_b13 (V : VV F) : StableHlo.after mid3 V (rr main_v66) = shapeCast S1x128 (V (rr main_arg13)) shapeCasts_S128_S1x128 := by
  after_results_simp; rfl

theorem C3_arg (r : Ref sig .tc) (h : r ∈ argL) : C3 m d (rr r) = m (d, rr r) :=
  (C3_keep m d r (List.mem_cons_of_mem _ h)).trans (A0_arg m d r h)
theorem B3_arg (r : Ref sig .tc) (h : r ∈ argL) : B3 m d (rr r) = m (d, rr r) :=
  (B3_keep m d r (List.mem_cons_of_mem _ h)).trans (A0_arg m d r h)
theorem A3_arg (r : Ref sig .tc) (h : r ∈ argL) : A3 m d (rr r) = m (d, rr r) := (A3_keep m d r (List.mem_cons_of_mem _ h)).trans (A0_arg m d r h)
theorem D3_arg (r : Ref sig .tc) (h : r ∈ argL) : D3 m d (rr r) = m (d, rr r) :=
  (D3_keep m d r (List.mem_cons_of_mem _ h)).trans (A0_arg m d r h)
theorem C3_rows : C3 m d (rr main_v56_0) = outRows (shapeCast S32x25x64 (extractStridedSlice S256x200 ![768, 0] (m (d, rr main_arg0) : S1024x200.Idx → BitVec 32) slices_S1024x200_S256x200_768_0) shapeCasts_S256x200_S32x25x64)
    (m (d, rr main_arg3) : S100000x128.Idx → Elt F .f32) := by
  unfold C3
  rw [mid3_keep _ main_v56_0 (by decide)]
  unfold B3
  rw [scUp3_out, A3_arg m d main_arg3 (by decide)]
  unfold A3
  rw [pre3_uh, D2_arg m d main_arg0 (by decide)]

theorem C3_items : C3 m d (rr main_v56_1) = itemRows (shapeCast S4x1x64 (extractStridedSlice S256 ![768] (m (d, rr main_arg2) : S1024.Idx → BitVec 32) slices_S1024_S256_768) shapeCasts_S256_S4x1x64)
    (m (d, rr main_arg4) : S100000x128.Idx → Elt F .f32) := by
  unfold C3
  rw [mid3_keep _ main_v56_1 (by decide)]
  unfold B3
  rw [scUp3_item, A3_arg m d main_arg4 (by decide)]
  unfold A3
  rw [pre3_nd, D2_arg m d main_arg2 (by decide)]

theorem C3_rate : C3 m d (rr main_v57) = extractStridedSlice S1x51200 ![0, 153600] (shapeCast S1x204800 (m (d, rr main_arg1) : S1024x200.Idx → BitVec 32) shapeCasts_S1024x200_S1x204800) slices_S1x204800_S1x51200_0_153600 := by
  unfold C3
  rw [mid3_rate, B3_keep m d main_v0 (by decide)]
  unfold A0
  rw [pre0_rate]
theorem C3_b7 : C3 m d (rr main_v63) = shapeCast S1x128 (m (d, rr main_arg7) : S128.Idx → Elt F .f32) shapeCasts_S128_S1x128 := by
  unfold C3
  rw [mid3_b7, B3_arg m d main_arg7 (by decide)]
theorem C3_b9 : C3 m d (rr main_v64) = shapeCast S1x128 (m (d, rr main_arg9) : S128.Idx → Elt F .f32) shapeCasts_S128_S1x128 := by
  unfold C3
  rw [mid3_b9, B3_arg m d main_arg9 (by decide)]
theorem C3_b11 : C3 m d (rr main_v65) = shapeCast S1x128 (m (d, rr main_arg11) : S128.Idx → Elt F .f32) shapeCasts_S128_S1x128 := by
  unfold C3
  rw [mid3_b11, B3_arg m d main_arg11 (by decide)]
theorem C3_b13 : C3 m d (rr main_v66) = shapeCast S1x128 (m (d, rr main_arg13) : S128.Idx → Elt F .f32) shapeCasts_S128_S1x128 := by
  unfold C3
  rw [mid3_b13, B3_arg m d main_arg13 (by decide)]
theorem D3_of (r : Ref sig .tc) (h : r ∈ [main_v17, main_v34, main_v51]) (h' : r ≠ main_v68) : D3 m d (rr r) = D2 m d (rr r) :=
  (tcUp3_keep _ r h').trans ((mid3_keep _ r ((by decide : ∀ r ∈ [main_v17, main_v34, main_v51], r ∉ mid3W) r h)).trans
    ((scUp3_keep _ r ((by decide : ∀ r ∈ [main_v17, main_v34, main_v51], r ≠ main_v56_0) r h) ((by decide : ∀ r ∈ [main_v17, main_v34, main_v51], r ≠ main_v56_1) r h)).trans
      (pre3_keep _ r ((by decide : ∀ r ∈ [main_v17, main_v34, main_v51], r ∉ pre3W) r h))))

theorem last_out (V : VV F) : StableHlo.after last V (rr main_v69) = concatenate S1024x128 0 [⟨S256x128, (V (rr main_v17) : S256x128.Idx → Elt F .f32)⟩, ⟨S256x128, (V (rr main_v34) : S256x128.Idx → Elt F .f32)⟩,
    ⟨S256x128, (V (rr main_v51) : S256x128.Idx → Elt F .f32)⟩, ⟨S256x128, (V (rr main_v68) : S256x128.Idx → Elt F .f32)⟩] concatenates_S256x128_S256x128_S256x128_S256x128_S1024x128_d0 := by
  after_results_simp; rfl

end Host

/-- The arguments on device `d`, real where the claim asks it. -/
structure Good (m : (ℓ : Loc nD τ sig) → Buf (Elt Ideal) ℓ) (d : Dev nD) : Prop where
  rate : ∀ i : S1024x200.Idx, ((m (d, rr main_arg1) : S1024x200.Idx → BitVec 32) i).toNat < 6
  net : (netR (m (d, rr main_arg6)) (m (d, rr main_arg7)) (m (d, rr main_arg8)) (m (d, rr main_arg9)) (m (d, rr main_arg10)) (m (d, rr main_arg11)) (m (d, rr main_arg12)) (m (d, rr main_arg13)) (m (d, rr main_arg14))).Real'
  r3 : ∀ i : S100000x128.Idx, IsReal ((m (d, rr main_arg3) : S100000x128.Idx → EReal) i)
  r4 : ∀ i : S100000x128.Idx, IsReal ((m (d, rr main_arg4) : S100000x128.Idx → EReal) i)
  r5 : ∀ i : S6x128.Idx, IsReal ((m (d, rr main_arg5) : S6x128.Idx → EReal) i)

variable (m : (ℓ : Loc nD τ sig) → Buf (Elt Ideal) ℓ) (d : Dev nD)

/-- A batch row's result, from device `d`'s arguments. -/
def ans (i : Fin 1024) (j : Fin 128) : EReal :=
  answer (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14)) i j

theorem out0 (h : Good m d) (i : Fin 256) (j : Fin 128) : (D0 m d (rr main_v17) : S256x128.Idx → EReal) (ix2 i j) = ans m d (member 0 i) j := by
  unfold D0 tcUp0
  rw [Function.update_self, arr1, C0_rows, C0_items, C0_rate, C0_b7, C0_b9, C0_b11, C0_b13,
    C0_arg m d main_arg5 (by decide), C0_arg m d main_arg6 (by decide), C0_arg m d main_arg8 (by decide), C0_arg m d main_arg10 (by decide), C0_arg m d main_arg12 (by decide), C0_arg m d main_arg14 (by decide)]
  exact piece_apply (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14))
    h.rate h.net h.r3 h.r4 h.r5 0 _ _ _ _ _ _ _
    (outRows_word (m (d, rr main_arg0)) (m (d, rr main_arg3)) 0 0 rfl _ _)
    (rate_word (m (d, rr main_arg1)) 0 0 rfl _ _)
    (itemRows_word (m (d, rr main_arg2)) (m (d, rr main_arg4)) 0 0 rfl _ _)
    (bias_word _ _) (bias_word _ _) (bias_word _ _) (bias_word _ _) i j

theorem out1 (h : Good m d) (i : Fin 256) (j : Fin 128) : (D1 m d (rr main_v34) : S256x128.Idx → EReal) (ix2 i j) = ans m d (member 1 i) j := by
  unfold D1 tcUp1
  rw [Function.update_self, arr3, C1_rows, C1_items, C1_rate, C1_b7, C1_b9, C1_b11, C1_b13,
    C1_arg m d main_arg5 (by decide), C1_arg m d main_arg6 (by decide), C1_arg m d main_arg8 (by decide), C1_arg m d main_arg10 (by decide), C1_arg m d main_arg12 (by decide), C1_arg m d main_arg14 (by decide)]
  exact piece_apply (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14))
    h.rate h.net h.r3 h.r4 h.r5 1 _ _ _ _ _ _ _
    (outRows_word (m (d, rr main_arg0)) (m (d, rr main_arg3)) 1 256 rfl _ _)
    (rate_word (m (d, rr main_arg1)) 1 51200 rfl _ _)
    (itemRows_word (m (d, rr main_arg2)) (m (d, rr main_arg4)) 1 256 rfl _ _)
    (bias_word _ _) (bias_word _ _) (bias_word _ _) (bias_word _ _) i j

theorem out2 (h : Good m d) (i : Fin 256) (j : Fin 128) : (D2 m d (rr main_v51) : S256x128.Idx → EReal) (ix2 i j) = ans m d (member 2 i) j := by
  unfold D2 tcUp2
  rw [Function.update_self, arr5, C2_rows, C2_items, C2_rate, C2_b7, C2_b9, C2_b11, C2_b13,
    C2_arg m d main_arg5 (by decide), C2_arg m d main_arg6 (by decide), C2_arg m d main_arg8 (by decide), C2_arg m d main_arg10 (by decide), C2_arg m d main_arg12 (by decide), C2_arg m d main_arg14 (by decide)]
  exact piece_apply (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14))
    h.rate h.net h.r3 h.r4 h.r5 2 _ _ _ _ _ _ _
    (outRows_word (m (d, rr main_arg0)) (m (d, rr main_arg3)) 2 512 rfl _ _)
    (rate_word (m (d, rr main_arg1)) 2 102400 rfl _ _)
    (itemRows_word (m (d, rr main_arg2)) (m (d, rr main_arg4)) 2 512 rfl _ _)
    (bias_word _ _) (bias_word _ _) (bias_word _ _) (bias_word _ _) i j

theorem out3 (h : Good m d) (i : Fin 256) (j : Fin 128) : (D3 m d (rr main_v68) : S256x128.Idx → EReal) (ix2 i j) = ans m d (member 3 i) j := by
  unfold D3 tcUp3
  rw [Function.update_self, arr7, C3_rows, C3_items, C3_rate, C3_b7, C3_b9, C3_b11, C3_b13,
    C3_arg m d main_arg5 (by decide), C3_arg m d main_arg6 (by decide), C3_arg m d main_arg8 (by decide), C3_arg m d main_arg10 (by decide), C3_arg m d main_arg12 (by decide), C3_arg m d main_arg14 (by decide)]
  exact piece_apply (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14))
    h.rate h.net h.r3 h.r4 h.r5 3 _ _ _ _ _ _ _
    (outRows_word (m (d, rr main_arg0)) (m (d, rr main_arg3)) 3 768 rfl _ _)
    (rate_word (m (d, rr main_arg1)) 3 153600 rfl _ _)
    (itemRows_word (m (d, rr main_arg2)) (m (d, rr main_arg4)) 3 768 rfl _ _)
    (bias_word _ _) (bias_word _ _) (bias_word _ _) (bias_word _ _) i j

/-- The result by element. -/
theorem Zf_apply (h : Good m d) (i : Fin 1024) (j : Fin 128) : (Zf m d (rr main_v69) : S1024x128.Idx → EReal) (ix2 i j) = ans m d i j := by
  unfold Zf
  rw [last_out]
  have e0 : D3 m d (rr main_v17) = D0 m d (rr main_v17) :=
    (D3_of m d main_v17 (by decide) (by decide)).trans ((D2_of m d main_v17 (by decide) (by decide)).trans (D1_of m d main_v17 (by decide) (by decide)))
  have e1 : D3 m d (rr main_v34) = D1 m d (rr main_v34) := (D3_of m d main_v34 (by decide) (by decide)).trans (D2_of m d main_v34 (by decide) (by decide))
  have e2 : D3 m d (rr main_v51) = D2 m d (rr main_v51) := D3_of m d main_v51 (by decide) (by decide)
  rw [e0, e1, e2]
  have h0 := out0 m d h
  have h1 := out1 m d h
  have h2 := out2 m d h
  have h3 := out3 m d h
  generalize (D0 m d (rr main_v17) : S256x128.Idx → EReal) = y0 at *
  generalize (D1 m d (rr main_v34) : S256x128.Idx → EReal) = y1 at *
  generalize (D2 m d (rr main_v51) : S256x128.Idx → EReal) = y2 at *
  generalize (D3 m d (rr main_v68) : S256x128.Idx → EReal) = y3 at *
  have hm : ∀ (o : Fin 4) (n : ℕ) (hn : n < 256), i.val = 256 * o.val + n → ans m d (member o ⟨n, hn⟩) j = ans m d i j := by
    intro o n hn e
    rw [show member o ⟨n, hn⟩ = i from Fin.ext e.symm]
  have hi := i.isLt
  pointwise
  split
  · rw [h0]; exact hm 0 _ _ (by show i.val = 256 * 0 + i.val; omega)
  · split
    · rw [h1]; exact hm 1 _ _ (by show i.val = 256 * 1 + (i.val - 256); omega)
    · split
      · rw [h2]; exact hm 2 _ _ (by show i.val = 256 * 2 + (i.val - 256 - 256); omega)
      · rw [h3]; exact hm 3 _ _ (by show i.val = 256 * 3 + (i.val - 256 - 256 - 256); omega)

end Cert.Proof.Val

end
-- ==== Proof.Meet.lean ====
/-
  The kernel's result and the reference's, from the same arguments, are the same.
-/
module

public import proofs.«01_k».proof.Proof.Result
public import proofs.«01_k».proof.Proof.Pre

@[expose] public section

noncomputable section

namespace Cert.Proof.Val

open Cert.KernelIdeal Cert.KernelIdeal.Gen
open Idealize.ShloMosaic
open Cert.Proof.Ref (netR)

/-- A value whose magnitude compares below infinity is real. -/
theorem real_of {s : Shape} (x : FVec Ideal s .f32) (hb : Cert.Pre_ranges.S_.BroadcastsInDim s (![] : Fin 0 → Fin s.rank)) (i : s.Idx)
    (e : cmpf .olt (Host.absf x) (broadcastInDim s ![] hb (constant Cert.Pre_ranges.S_ .f32 0x7F800000#32)) i = 1#1) : IsReal (x i) := by
  apply isReal_of_abs_lt
  have e' : Ideal.cmp .olt (max (x i) (-(x i))) (Ideal.ofBits .f32 0x7F800000#32) = 1#1 := e
  rw [show Ideal.ofBits .f32 0x7F800000#32 = (⊤ : EReal) from by simp [Ideal.ofBits, Ideal.ieee]] at e'
  by_contra hlt
  have : Ideal.cmp .olt (max (x i) (-(x i))) (⊤ : EReal) = 0#1 := by
    show BitVec.ofBool (decide _) = 0#1
    rw [decide_eq_false hlt]
    rfl
  rw [this] at e'
  exact absurd e' (by decide)

variable (m : (ℓ : Loc nD τ sig) → Buf (Elt Ideal) ℓ) (d : Dev nD)

abbrev Says' : Prop := Pre.Says (F := Ideal) (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14)) (m (d, rr main_arg15))

theorem good_of (h : Says' m d) : Good m d where
  rate := h.rating
  net := ⟨fun i => real_of _ _ _ (h.f6 i), fun i => real_of _ _ _ (h.f7 _), fun i => real_of _ _ _ (h.f12 i), fun i => real_of _ _ _ (h.f13 _), fun i => real_of _ _ _ (h.f14 _)⟩
  r3 := fun i => real_of _ _ _ (h.f3 i)
  r4 := fun i => real_of _ _ _ (h.f4 i)
  r5 := fun i => real_of _ _ _ (h.f5 i)

/-- The reference on device `d`'s arguments. -/
theorem whole_eq (h : Says' m d) : (Ref.whole (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14)) (m (d, rr main_arg15)) : S1024x128.Idx → EReal) = Zf m d (rr main_v69) := by
  funext x
  have g := good_of m d h
  have ex : x = ix2 (x 0 : Fin 1024) (x 1 : Fin 128) := by
    funext a; match a with | ⟨0, _⟩ => rfl | ⟨1, _⟩ => rfl
  rw [ex]
  refine Eq.trans ?_ (Zf_apply m d g (x 0) (x 1)).symm
  exact Ref.whole_apply (m (d, rr main_arg0)) (m (d, rr main_arg1)) (m (d, rr main_arg2)) (m (d, rr main_arg3)) (m (d, rr main_arg4)) (m (d, rr main_arg5)) (m (d, rr main_arg6)) (m (d, rr main_arg7)) (m (d, rr main_arg8)) (m (d, rr main_arg9)) (m (d, rr main_arg10)) (m (d, rr main_arg11)) (m (d, rr main_arg12)) (m (d, rr main_arg13)) (m (d, rr main_arg14)) (m (d, rr main_arg15))
    (fun i l => rowOf ((m (d, rr main_arg0) : S1024x200.Idx → BitVec 32) (ix2 i l))) (fun i l => by rw [rowOf_eq (h.user _)])
    (fun i l => rateOf ((m (d, rr main_arg1) : S1024x200.Idx → BitVec 32) (ix2 i l)))
    (fun i l => by
      have := h.rating (ix2 i l)
      show _ = min _ 5
      omega)
    (fun i => rowOf ((m (d, rr main_arg2) : S1024.Idx → BitVec 32) (ix1 i))) (fun i => by rw [rowOf_eq (h.node _)])
    g.net g.r3 g.r4 g.r5 (fun i => real_of _ _ _ (h.f15 i)) (x 0) (x 1)

theorem whole_congr {a0 b0 : IVec S1024x200 32} {a1 b1 : IVec S1024x200 32} {a2 b2 : IVec S1024 32} {a3 b3 : FVec Ideal S100000x128 .f32} {a4 b4 : FVec Ideal S100000x128 .f32} {a5 b5 : FVec Ideal S6x128 .f32} {a6 b6 : FVec Ideal S128x256 .f32} {a7 b7 : FVec Ideal S128 .f32} {a8 b8 : FVec Ideal S128x128 .f32} {a9 b9 : FVec Ideal S128 .f32} {a10 b10 : FVec Ideal S128x256 .f32} {a11 b11 : FVec Ideal S128 .f32} {a12 b12 : FVec Ideal S128x256 .f32} {a13 b13 : FVec Ideal S128 .f32} {a14 b14 : FVec Ideal S1x128 .f32} {a15 b15 : FVec Ideal S1 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    Ref.whole a0 a1 a2 a3 a4 a5 a6 a7 a8 a9 a10 a11 a12 a13 a14 a15 = Ref.whole b0 b1 b2 b3 b4 b5 b6 b7 b8 b9 b10 b11 b12 b13 b14 b15 := by
  subst h0; subst h1; subst h2; subst h3; subst h4; subst h5; subst h6; subst h7; subst h8; subst h9; subst h10; subst h11; subst h12; subst h13; subst h14; subst h15; rfl

end Cert.Proof.Val

end
-- ==== Proof.Algebraic.lean ====
/-
  The kernel and the reference, at the extended reals, from the same arguments: the same result, the arguments as they were.
-/
module

public import proofs.«01_k».proof.Proof.Frames
public import proofs.«01_k».proof.Proof.Meet

@[expose] public section

noncomputable section

namespace Cert.Proof

open Cert.KernelIdeal Cert.KernelIdeal.Gen
open Idealize.ShloMosaic Idealize.SL.Sem

theorem algebraic : Cert.algebraic_KernelIdeal_ReferenceIdeal_pre_ranges (hKernelIdeal := Cert.KernelIdeal.Gen.facts) (hReferenceIdeal := Cert.ReferenceIdeal.Gen.facts) (hPre_ranges := Cert.Pre_ranges.Gen.facts) := by
  intro m ρ m' ρ' hpre he
  have hS : ∀ c, SaysOf (F := Ideal) m c := fun c => Pre.decoded _ _ _ _ _ _ _ _ _ _ _ _ _ _ _ _ (hpre c)
  refine ⟨fun c => Zf m c (rr main_v69),
    (θ_run (Cert.KernelIdeal.defs (F := Ideal)) _ _).mono (fun r h c => ⟨h.1 c main_v69 rfl, args_kept (F := Ideal) m r h c⟩)
      (run_main (F := Ideal) m ρ (inRange_of (F := Ideal) m hS)),
    (θ_run (Cert.ReferenceIdeal.defs (F := Ideal)) _ _).mono (fun r h c => ⟨(h c).1.trans ?_, (h c).2⟩) (Cert.ReferenceIdeal.Value.run (F := Ideal) m' ρ')⟩
  obtain ⟨e0, e1, e2, e3, e4, e5, e6, e7, e8, e9, e10, e11, e12, e13, e14, e15⟩ := he c
  exact (Ref.res_eq m' c).trans ((Val.whole_congr e0 e1 e2 e3 e4 e5 e6 e7 e8 e9 e10 e11 e12 e13 e14 e15).trans (Val.whole_eq m c (hS c)))

end Cert.Proof

end
-- ==== Proof.lean ====
/-
  The claim: the frames of the three programs, the idealization's rewrites (none), and the kernel's result that of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ranges
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Pre.indexFacts, Cert.Pre_ranges.Gen.facts,
    frame_kernel, frame_ideal, frame_ideal_ranges, frame_reference, frame_reference_ranges, trivial, algebraic⟩

end Cert.Proof

end
